-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x5000x4 : Shape := ⟨3, ![8, 5000, 4]⟩
abbrev S8x5000x21 : Shape := ⟨3, ![8, 5000, 21]⟩
abbrev S5000x4 : Shape := ⟨2, ![5000, 4]⟩
abbrev S8x21x5000 : Shape := ⟨3, ![8, 21, 5000]⟩
abbrev S_ : Shape := ⟨0, ![]⟩
abbrev S8x21x5120 : Shape := ⟨3, ![8, 21, 5120]⟩
abbrev S8x4x5000 : Shape := ⟨3, ![8, 4, 5000]⟩
abbrev S8x4x5120 : Shape := ⟨3, ![8, 4, 5120]⟩
abbrev S4x5000 : Shape := ⟨2, ![4, 5000]⟩
abbrev S4x5120 : Shape := ⟨2, ![4, 5120]⟩
abbrev S1x4x5120 : Shape := ⟨3, ![1, 4, 5120]⟩
abbrev S2x4x200 : Shape := ⟨3, ![2, 4, 200]⟩
abbrev S4x21x5120 : Shape := ⟨3, ![4, 21, 5120]⟩
abbrev S4x4x5120 : Shape := ⟨3, ![4, 4, 5120]⟩
abbrev S1x4x200 : Shape := ⟨3, ![1, 4, 200]⟩
abbrev S4x21x200 : Shape := ⟨3, ![4, 21, 200]⟩
abbrev S1x1x5120 : Shape := ⟨3, ![1, 1, 5120]⟩
abbrev S4x1x5120 : Shape := ⟨3, ![4, 1, 5120]⟩
abbrev S4x21 : Shape := ⟨2, ![4, 21]⟩
abbrev S4x21x1 : Shape := ⟨3, ![4, 21, 1]⟩
abbrev S4x1 : Shape := ⟨2, ![4, 1]⟩
abbrev S4x1x1 : Shape := ⟨3, ![4, 1, 1]⟩
abbrev S4 : Shape := ⟨1, ![4]⟩
abbrev S1x4x1x1 : Shape := ⟨4, ![1, 4, 1, 1]⟩
abbrev S1 : Shape := ⟨1, ![1]⟩
abbrev S1x1x1x1 : Shape := ⟨4, ![1, 1, 1, 1]⟩
abbrev S1x4x1 : Shape := ⟨3, ![1, 4, 1]⟩
abbrev S8x200 : Shape := ⟨2, ![8, 200]⟩
abbrev S8x200x1 : Shape := ⟨3, ![8, 200, 1]⟩
abbrev S8x200x4 : Shape := ⟨3, ![8, 200, 4]⟩

abbrev nBuf : Space → Nat
  | .hbm => 33
  | .vmem => 23
  | .smem => 0
  | _ => 0

abbrev bufTy : (tb : Table) → Fin (tcTables nBuf tb) → BufTy
  | .hbm, ⟨0, _⟩ => ⟨S8x5000x4, .f32⟩
  | .hbm, ⟨1, _⟩ => ⟨S8x5000x21, .f32⟩
  | .hbm, ⟨2, _⟩ => ⟨S5000x4, .f32⟩
  | .hbm, ⟨3, _⟩ => ⟨S8x21x5000, .f32⟩
  | .hbm, ⟨4, _⟩ => ⟨S_, .i32⟩
  | .hbm, ⟨5, _⟩ => ⟨S_, .f32⟩
  | .hbm, ⟨6, _⟩ => ⟨S8x21x5120, .f32⟩
  | .hbm, ⟨7, _⟩ => ⟨S8x4x5000, .f32⟩
  | .hbm, ⟨8, _⟩ => ⟨S_, .i32⟩
  | .hbm, ⟨9, _⟩ => ⟨S_, .f32⟩
  | .hbm, ⟨10, _⟩ => ⟨S8x4x5120, .f32⟩
  | .hbm, ⟨11, _⟩ => ⟨S4x5000, .f32⟩
  | .hbm, ⟨12, _⟩ => ⟨S_, .i32⟩
  | .hbm, ⟨13, _⟩ => ⟨S_, .f32⟩
  | .hbm, ⟨14, _⟩ => ⟨S4x5120, .f32⟩
  | .hbm, ⟨15, _⟩ => ⟨S1x4x5120, .f32⟩
  | .hbm, ⟨16, _⟩ => ⟨S2x4x200, .f32⟩
  | .hbm, ⟨17, _⟩ => ⟨S2x4x200, .f32⟩
  | .hbm, ⟨18, _⟩ => ⟨S2x4x200, .f32⟩
  | .hbm, ⟨19, _⟩ => ⟨S2x4x200, .f32⟩
  | .hbm, ⟨20, _⟩ => ⟨S2x4x200, .f32⟩
  | .hbm, ⟨21, _⟩ => ⟨S2x4x200, .f32⟩
  | .hbm, ⟨22, _⟩ => ⟨S8x200, .f32⟩
  | .hbm, ⟨23, _⟩ => ⟨S8x200, .f32⟩
  | .hbm, ⟨24, _⟩ => ⟨S8x200, .f32⟩
  | .hbm, ⟨25, _⟩ => ⟨S8x200, .f32⟩
  | .hbm, ⟨26, _⟩ => ⟨S8x200, .f32⟩
  | .hbm, ⟨27, _⟩ => ⟨S8x200, .f32⟩
  | .hbm, ⟨28, _⟩ => ⟨S8x200x1, .f32⟩
  | .hbm, ⟨29, _⟩ => ⟨S8x200x1, .f32⟩
  | .hbm, ⟨30, _⟩ => ⟨S8x200x1, .f32⟩
  | .hbm, ⟨31, _⟩ => ⟨S8x200x1, .f32⟩
  | .hbm, ⟨32, _⟩ => ⟨S8x200x4, .f32⟩
  | .local _ .vmem, ⟨0, _⟩ => ⟨S4x21x5120, .f32⟩
  | .local _ .vmem, ⟨1, _⟩ => ⟨S4x21x5120, .f32⟩
  | .local _ .vmem, ⟨2, _⟩ => ⟨S4x4x5120, .f32⟩
  | .local _ .vmem, ⟨3, _⟩ => ⟨S4x4x5120, .f32⟩
  | .local _ .vmem, ⟨4, _⟩ => ⟨S1x4x5120, .f32⟩
  | .local _ .vmem, ⟨5, _⟩ => ⟨S1x4x200, .f32⟩
  | .local _ .vmem, ⟨6, _⟩ => ⟨S1x4x200, .f32⟩
  | .local _ .vmem, ⟨7, _⟩ => ⟨S1x4x200, .f32⟩
  | .local _ .vmem, ⟨8, _⟩ => ⟨S1x4x200, .f32⟩
  | .local _ .vmem, ⟨9, _⟩ => ⟨S1x4x200, .f32⟩
  | .local _ .vmem, ⟨10, _⟩ => ⟨S1x4x200, .f32⟩
  | .local _ .vmem, ⟨11, _⟩ => ⟨S1x4x200, .f32⟩
  | .local _ .vmem, ⟨12, _⟩ => ⟨S1x4x200, .f32⟩
  | .local _ .vmem, ⟨13, _⟩ => ⟨S1x4x200, .f32⟩
  | .local _ .vmem, ⟨14, _⟩ => ⟨S1x4x200, .f32⟩
  | .local _ .vmem, ⟨15, _⟩ => ⟨S1x4x200, .f32⟩
  | .local _ .vmem, ⟨16, _⟩ => ⟨S1x4x200, .f32⟩
  | .local _ .vmem, ⟨17, _⟩ => ⟨S4x21x5120, .f32⟩
  | .local _ .vmem, ⟨18, _⟩ => ⟨S4x21x200, .f32⟩
  | .local _ .vmem, ⟨19, _⟩ => ⟨S4x21x200, .f32⟩
  | .local _ .vmem, ⟨20, _⟩ => ⟨S4x21x200, .f32⟩
  | .local _ .vmem, ⟨21, _⟩ => ⟨S4x21x200, .f32⟩
  | .local _ .vmem, ⟨22, _⟩ => ⟨S4x21x200, .f32⟩
  | _, _ => ⟨S8x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_69 : BitVec 32 := 0#32
  let c50_i32 : BitVec 32 := 50#32
  let v107 : BitVec 32 := Scalar.addi c0_i32_69 c50_i32
  let c1_i32 : BitVec 32 := 1#32
  ⟨c0_i32_69, v107, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x21x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x5000x4 : Shape := ⟨3, ![8, 5000, 4]⟩
abbrev S8x5000x21 : Shape := ⟨3, ![8, 5000, 21]⟩
abbrev S5000x4 : Shape := ⟨2, ![5000, 4]⟩
abbrev S4 : Shape := ⟨1, ![4]⟩
abbrev S1x1x4 : Shape := ⟨3, ![1, 1, 4]⟩
abbrev S5000x1 : Shape := ⟨2, ![5000, 1]⟩
abbrev S5000 : Shape := ⟨1, ![5000]⟩
abbrev S_ : Shape := ⟨0, ![]⟩
abbrev S8x5000x1 : Shape := ⟨3, ![8, 5000, 1]⟩
abbrev S8x5000 : Shape := ⟨2, ![8, 5000]⟩
abbrev S1x5000 : Shape := ⟨2, ![1, 5000]⟩
abbrev S8x21x5000 : Shape := ⟨3, ![8, 21, 5000]⟩
abbrev S200x8x21 : Shape := ⟨3, ![200, 8, 21]⟩
abbrev S8x21 : Shape := ⟨2, ![8, 21]⟩
abbrev S8x21x1 : Shape := ⟨3, ![8, 21, 1]⟩
abbrev S8x21x4 : Shape := ⟨3, ![8, 21, 4]⟩
abbrev S8x21x1x4 : Shape := ⟨4, ![8, 21, 1, 4]⟩
abbrev S8x1x5000x4 : Shape := ⟨4, ![8, 1, 5000, 4]⟩
abbrev S8x21x1x1 : Shape := ⟨4, ![8, 21, 1, 1]⟩
abbrev S8x1x5000x1 : Shape := ⟨4, ![8, 1, 5000, 1]⟩
abbrev S8x1x5000 : Shape := ⟨3, ![8, 1, 5000]⟩
abbrev S1x1x5000 : Shape := ⟨3, ![1, 1, 5000]⟩
abbrev S1x8x21 : Shape := ⟨3, ![1, 8, 21]⟩
abbrev S8x21x200 : Shape := ⟨3, ![8, 21, 200]⟩
abbrev S8x4200 : Shape := ⟨2, ![8, 4200]⟩
abbrev S8x4200x1 : Shape := ⟨3, ![8, 4200, 1]⟩
abbrev S8x4200x4 : Shape := ⟨3, ![8, 4200, 4]⟩
abbrev S8x21x200x1 : Shape := ⟨4, ![8, 21, 200, 1]⟩
abbrev S21 : Shape := ⟨1, ![21]⟩
abbrev S21x1 : Shape := ⟨2, ![21, 1]⟩
abbrev S8x200 : Shape := ⟨2, ![8, 200]⟩
abbrev S8x200x1 : Shape := ⟨3, ![8, 200, 1]⟩
abbrev S8x200x4 : Shape := ⟨3, ![8, 200, 4]⟩

abbrev nBuf : Space → Nat
  | .hbm => 322
  | .vmem => 0
  | .smem => 0
  | _ => 0

abbrev hbmTy0_0 (i : Nat) : BufTy := match i % 128 with
  | 0 => ⟨S8x5000x4, .f32⟩
  | 1 => ⟨S8x5000x21, .f32⟩
  | 2 => ⟨S5000x4, .f32⟩
  | 3 => ⟨S4, .f32⟩
  | 4 => ⟨S1x1x4, .f32⟩
  | 5 => ⟨S8x5000x4, .f32⟩
  | 6 => ⟨S8x5000x4, .f32⟩
  | 7 => ⟨S5000x1, .f32⟩
  | 8 => ⟨S5000, .f32⟩
  | 9 => ⟨S5000x1, .f32⟩
  | 10 => ⟨S5000, .f32⟩
  | 11 => ⟨S5000, .f32⟩
  | 12 => ⟨S5000x1, .f32⟩
  | 13 => ⟨S5000, .f32⟩
  | 14 => ⟨S5000x1, .f32⟩
  | 15 => ⟨S5000, .f32⟩
  | 16 => ⟨S5000, .f32⟩
  | 17 => ⟨S5000x1, .f32⟩
  | 18 => ⟨S5000, .f32⟩
  | 19 => ⟨S_, .f32⟩
  | 20 => ⟨S5000, .f32⟩
  | 21 => ⟨S5000, .f32⟩
  | 22 => ⟨S5000, .f32⟩
  | 23 => ⟨S5000x1, .f32⟩
  | 24 => ⟨S5000, .f32⟩
  | 25 => ⟨S_, .f32⟩
  | 26 => ⟨S5000, .f32⟩
  | 27 => ⟨S5000, .f32⟩
  | 28 => ⟨S5000, .f32⟩
  | 29 => ⟨S8x5000x1, .f32⟩
  | 30 => ⟨S8x5000, .f32⟩
  | 31 => ⟨S8x5000, .f32⟩
  | 32 => ⟨S1x5000, .f32⟩
  | 33 => ⟨S8x5000, .f32⟩
  | 34 => ⟨S8x5000, .f32⟩
  | 35 => ⟨S8x5000x1, .f32⟩
  | 36 => ⟨S8x5000, .f32⟩
  | 37 => ⟨S8x5000, .f32⟩
  | 38 => ⟨S1x5000, .f32⟩
  | 39 => ⟨S8x5000, .f32⟩
  | 40 => ⟨S8x5000, .f32⟩
  | 41 => ⟨S8x5000x1, .f32⟩
  | 42 => ⟨S8x5000, .f32⟩
  | 43 => ⟨S1x5000, .f32⟩
  | 44 => ⟨S8x5000, .f32⟩
  | 45 => ⟨S8x5000, .f32⟩
  | 46 => ⟨S1x5000, .f32⟩
  | 47 => ⟨S8x5000, .f32⟩
  | 48 => ⟨S8x5000, .f32⟩
  | 49 => ⟨S8x5000x1, .f32⟩
  | 50 => ⟨S8x5000, .f32⟩
  | 51 => ⟨S1x5000, .f32⟩
  | 52 => ⟨S8x5000, .f32⟩
  | 53 => ⟨S8x5000, .f32⟩
  | 54 => ⟨S1x5000, .f32⟩
  | 55 => ⟨S8x5000, .f32⟩
  | 56 => ⟨S8x5000, .f32⟩
  | 57 => ⟨S_, .f32⟩
  | 58 => ⟨S8x5000, .f32⟩
  | 59 => ⟨S8x5000, .f32⟩
  | 60 => ⟨S8x5000, .f32⟩
  | 61 => ⟨S_, .f32⟩
  | 62 => ⟨S8x5000, .f32⟩
  | 63 => ⟨S8x5000, .f32⟩
  | 64 => ⟨S8x5000, .f32⟩
  | 65 => ⟨S8x5000, .f32⟩
  | 66 => ⟨S8x5000, .f32⟩
  | 67 => ⟨S8x5000x1, .f32⟩
  | 68 => ⟨S8x5000x1, .f32⟩
  | 69 => ⟨S8x5000x1, .f32⟩
  | 70 => ⟨S8x5000x1, .f32⟩
  | 71 => ⟨S8x5000x4, .f32⟩
  | 72 => ⟨S8x5000x21, .i32⟩
  | 73 => ⟨S_, .f32⟩
  | 74 => ⟨S_, .i32⟩
  | 75 => ⟨S8x5000, .f32⟩
  | 76 => ⟨S8x5000, .i32⟩
  | 77 => ⟨S8x5000x1, .i32⟩
  | 78 => ⟨S_, .i32⟩
  | 79 => ⟨S8x5000x1, .i32⟩
  | 80 => ⟨S8x5000x1, .i1⟩
  | 81 => ⟨S_, .f32⟩
  | 82 => ⟨S_, .f32⟩
  | 83 => ⟨S8x5000x21, .i1⟩
  | 84 => ⟨S8x5000x21, .f32⟩
  | 85 => ⟨S8x5000x21, .f32⟩
  | 86 => ⟨S8x21x5000, .f32⟩
  | 87 => ⟨S_, .f32⟩
  | 88 => ⟨S8x21x5000, .f32⟩
  | 89 => ⟨S8x21x5000, .i1⟩
  | 90 => ⟨S_, .f32⟩
  | 91 => ⟨S_, .f32⟩
  | 92 => ⟨S8x21x5000, .f32⟩
  | 93 => ⟨S8x21x5000, .f32⟩
  | 94 => ⟨S_, .i32⟩
  | 95 => ⟨S200x8x21, .i32⟩
  | 96 => ⟨S_, .i32⟩
  | 97 => ⟨S8x5000x4, .f32⟩
  | 98 => ⟨S_, .i32⟩
  | 99 => ⟨S8x21x5000, .f32⟩
  | 100 => ⟨S200x8x21, .i32⟩
  | 101 => ⟨S_, .i32⟩
  | 102 => ⟨S_, .i1⟩
  | 103 => ⟨S8x21x5000, .i32⟩
  | 104 => ⟨S_, .f32⟩
  | 105 => ⟨S_, .i32⟩
  | 106 => ⟨S8x21, .f32⟩
  | 107 => ⟨S8x21, .i32⟩
  | 108 => ⟨S_, .f32⟩
  | 109 => ⟨S8x21, .f32⟩
  | 110 => ⟨S_, .f32⟩
  | 111 => ⟨S8x21, .f32⟩
  | 112 => ⟨S8x21, .i1⟩
  | 113 => ⟨S8x21x1, .i32⟩
  | 114 => ⟨S_, .i32⟩
  | 115 => ⟨S8x21x1, .i32⟩
  | 116 => ⟨S8x21x1, .i1⟩
  | 117 => ⟨S_, .i32⟩
  | 118 => ⟨S8x21x1, .i32⟩
  | 119 => ⟨S8x21x1, .i32⟩
  | 120 => ⟨S8x21x1, .i32⟩
  | 121 => ⟨S8x21x4, .f32⟩
  | 122 => ⟨S8x21x1x4, .f32⟩
  | 123 => ⟨S8x1x5000x4, .f32⟩
  | 124 => ⟨S8x21x1x1, .f32⟩
  | 125 => ⟨S8x21x1, .f32⟩
  | 126 => ⟨S8x1x5000x1, .f32⟩
  | 127 => ⟨S8x1x5000, .f32⟩
  | _ => ⟨S8x5000x4, .f32⟩

abbrev hbmTy0_1 (i : Nat) : BufTy := match i % 128 with
  | 0 => ⟨S8x21x5000, .f32⟩
  | 1 => ⟨S8x21x5000, .f32⟩
  | 2 => ⟨S8x21x5000, .f32⟩
  | 3 => ⟨S8x21x1x1, .f32⟩
  | 4 => ⟨S8x21x1, .f32⟩
  | 5 => ⟨S8x1x5000x1, .f32⟩
  | 6 => ⟨S8x1x5000, .f32⟩
  | 7 => ⟨S8x21x5000, .f32⟩
  | 8 => ⟨S8x21x5000, .f32⟩
  | 9 => ⟨S8x21x5000, .f32⟩
  | 10 => ⟨S8x21x1x1, .f32⟩
  | 11 => ⟨S8x21x1, .f32⟩
  | 12 => ⟨S8x1x5000x1, .f32⟩
  | 13 => ⟨S8x1x5000, .f32⟩
  | 14 => ⟨S8x21x5000, .f32⟩
  | 15 => ⟨S8x21x5000, .f32⟩
  | 16 => ⟨S8x21x5000, .f32⟩
  | 17 => ⟨S8x21x1x1, .f32⟩
  | 18 => ⟨S8x21x1, .f32⟩
  | 19 => ⟨S8x1x5000x1, .f32⟩
  | 20 => ⟨S8x1x5000, .f32⟩
  | 21 => ⟨S8x21x5000, .f32⟩
  | 22 => ⟨S8x21x5000, .f32⟩
  | 23 => ⟨S8x21x5000, .f32⟩
  | 24 => ⟨S8x21x5000, .f32⟩
  | 25 => ⟨S_, .f32⟩
  | 26 => ⟨S8x21x5000, .f32⟩
  | 27 => ⟨S8x21x5000, .f32⟩
  | 28 => ⟨S8x21x5000, .f32⟩
  | 29 => ⟨S_, .f32⟩
  | 30 => ⟨S8x21x5000, .f32⟩
  | 31 => ⟨S8x21x5000, .f32⟩
  | 32 => ⟨S8x21x5000, .f32⟩
  | 33 => ⟨S8x21x1x1, .f32⟩
  | 34 => ⟨S8x21x1, .f32⟩
  | 35 => ⟨S8x21x1x1, .f32⟩
  | 36 => ⟨S8x21x1, .f32⟩
  | 37 => ⟨S8x21x1, .f32⟩
  | 38 => ⟨S8x21x1x1, .f32⟩
  | 39 => ⟨S8x21x1, .f32⟩
  | 40 => ⟨S8x21x1x1, .f32⟩
  | 41 => ⟨S8x21x1, .f32⟩
  | 42 => ⟨S8x21x1, .f32⟩
  | 43 => ⟨S8x21x1, .f32⟩
  | 44 => ⟨S8x1x5000x1, .f32⟩
  | 45 => ⟨S8x1x5000, .f32⟩
  | 46 => ⟨S8x1x5000x1, .f32⟩
  | 47 => ⟨S8x1x5000, .f32⟩
  | 48 => ⟨S8x1x5000, .f32⟩
  | 49 => ⟨S8x1x5000x1, .f32⟩
  | 50 => ⟨S8x1x5000, .f32⟩
  | 51 => ⟨S8x1x5000x1, .f32⟩
  | 52 => ⟨S8x1x5000, .f32⟩
  | 53 => ⟨S8x1x5000, .f32⟩
  | 54 => ⟨S8x1x5000, .f32⟩
  | 55 => ⟨S8x21x5000, .f32⟩
  | 56 => ⟨S8x21x5000, .f32⟩
  | 57 => ⟨S8x21x5000, .f32⟩
  | 58 => ⟨S8x21x5000, .f32⟩
  | 59 => ⟨S_, .f32⟩
  | 60 => ⟨S8x21x5000, .f32⟩
  | 61 => ⟨S8x21x5000, .f32⟩
  | 62 => ⟨S8x21x5000, .f32⟩
  | 63 => ⟨S_, .f32⟩
  | 64 => ⟨S8x21x5000, .f32⟩
  | 65 => ⟨S8x21x5000, .i1⟩
  | 66 => ⟨S5000, .i32⟩
  | 67 => ⟨S8x21x1, .i32⟩
  | 68 => ⟨S1x1x5000, .i32⟩
  | 69 => ⟨S8x21x5000, .i32⟩
  | 70 => ⟨S8x21x5000, .i32⟩
  | 71 => ⟨S8x21x5000, .i1⟩
  | 72 => ⟨S8x21x5000, .i1⟩
  | 73 => ⟨S_, .f32⟩
  | 74 => ⟨S_, .f32⟩
  | 75 => ⟨S8x21x5000, .f32⟩
  | 76 => ⟨S8x21x5000, .f32⟩
  | 77 => ⟨S8x21x1, .i1⟩
  | 78 => ⟨S8x21x5000, .i1⟩
  | 79 => ⟨S8x21x5000, .f32⟩
  | 80 => ⟨S_, .i32⟩
  | 81 => ⟨S_, .i32⟩
  | 82 => ⟨S8x21, .i32⟩
  | 83 => ⟨S8x21, .i32⟩
  | 84 => ⟨S1x8x21, .i32⟩
  | 85 => ⟨S_, .i32⟩
  | 86 => ⟨S_, .i32⟩
  | 87 => ⟨S200x8x21, .i32⟩
  | 88 => ⟨S_, .i32⟩
  | 89 => ⟨S_, .i32⟩
  | 90 => ⟨S8x21x200, .i32⟩
  | 91 => ⟨S_, .i32⟩
  | 92 => ⟨S8x21x200, .i32⟩
  | 93 => ⟨S8x21x200, .i1⟩
  | 94 => ⟨S8x4200, .i1⟩
  | 95 => ⟨S_, .i32⟩
  | 96 => ⟨S_, .i32⟩
  | 97 => ⟨S8x21x200, .i32⟩
  | 98 => ⟨S8x21x200, .i32⟩
  | 99 => ⟨S8x4200x1, .i1⟩
  | 100 => ⟨S8x4200, .i32⟩
  | 101 => ⟨S8x4200x1, .i32⟩
  | 102 => ⟨S_, .i32⟩
  | 103 => ⟨S8x4200x1, .i32⟩
  | 104 => ⟨S8x4200x1, .i1⟩
  | 105 => ⟨S_, .i32⟩
  | 106 => ⟨S8x4200x1, .i32⟩
  | 107 => ⟨S8x4200x1, .i32⟩
  | 108 => ⟨S8x4200x1, .i32⟩
  | 109 => ⟨S8x4200x4, .f32⟩
  | 110 => ⟨S_, .f32⟩
  | 111 => ⟨S_, .f32⟩
  | 112 => ⟨S8x4200x4, .i1⟩
  | 113 => ⟨S8x4200x4, .f32⟩
  | 114 => ⟨S8x4200x4, .f32⟩
  | 115 => ⟨S_, .i32⟩
  | 116 => ⟨S8x21x200, .i32⟩
  | 117 => ⟨S8x21x200, .i1⟩
  | 118 => ⟨S_, .i32⟩
  | 119 => ⟨S8x21x200, .i32⟩
  | 120 => ⟨S8x21x200, .i32⟩
  | 121 => ⟨S8x21x200, .i32⟩
  | 122 => ⟨S8x21x200x1, .i32⟩
  | 123 => ⟨S8x21x200, .f32⟩
  | 124 => ⟨S8x4200, .f32⟩
  | 125 => ⟨S_, .f32⟩
  | 126 => ⟨S_, .f32⟩
  | 127 => ⟨S8x4200, .f32⟩
  | _ => ⟨S8x5000x4, .f32⟩

abbrev hbmTy0_2 (i : Nat) : BufTy := match i % 128 with
  | 0 => ⟨S8x4200, .f32⟩
  | 1 => ⟨S21, .i32⟩
  | 2 => ⟨S21x1, .i32⟩
  | 3 => ⟨S8x21x200, .i32⟩
  | 4 => ⟨S8x4200, .i32⟩
  | 5 => ⟨S_, .i32⟩
  | 6 => ⟨S_, .i32⟩
  | 7 => ⟨S8x4200, .i32⟩
  | 8 => ⟨S8x4200, .i32⟩
  | 9 => ⟨S8x4200, .f32⟩
  | 10 => ⟨S_, .f32⟩
  | 11 => ⟨S_, .f32⟩
  | 12 => ⟨S8x4200, .f32⟩
  | 13 => ⟨S8x4200, .f32⟩
  | 14 => ⟨S8x200, .f32⟩
  | 15 => ⟨S8x200, .i32⟩
  | 16 => ⟨S_, .i32⟩
  | 17 => ⟨S8x200, .i32⟩
  | 18 => ⟨S8x200, .i1⟩
  | 19 => ⟨S_, .i32⟩
  | 20 => ⟨S8x200, .i32⟩
  | 21 => ⟨S8x200, .i32⟩
  | 22 => ⟨S8x200, .i32⟩
  | 23 => ⟨S8x200x1, .i32⟩
  | 24 => ⟨S8x200, .i1⟩
  | 25 => ⟨S8x200x1, .i1⟩
  | 26 => ⟨S8x200x1, .i32⟩
  | 27 => ⟨S_, .i32⟩
  | 28 => ⟨S8x200x1, .i32⟩
  | 29 => ⟨S8x200x1, .i1⟩
  | 30 => ⟨S_, .i32⟩
  | 31 => ⟨S8x200x1, .i32⟩
  | 32 => ⟨S8x200x1, .i32⟩
  | 33 => ⟨S8x200x1, .i32⟩
  | 34 => ⟨S8x200x4, .f32⟩
  | 35 => ⟨S_, .f32⟩
  | 36 => ⟨S_, .f32⟩
  | 37 => ⟨S8x200x4, .i1⟩
  | 38 => ⟨S8x200x4, .f32⟩
  | 39 => ⟨S8x200x4, .f32⟩
  | 40 => ⟨S_, .i32⟩
  | 41 => ⟨S8x200, .i32⟩
  | 42 => ⟨S8x200, .i1⟩
  | 43 => ⟨S_, .i32⟩
  | 44 => ⟨S8x200, .i32⟩
  | 45 => ⟨S8x200, .i32⟩
  | 46 => ⟨S8x200, .i32⟩
  | 47 => ⟨S8x200x1, .i32⟩
  | 48 => ⟨S8x200, .f32⟩
  | 49 => ⟨S_, .f32⟩
  | 50 => ⟨S_, .f32⟩
  | 51 => ⟨S8x200, .f32⟩
  | 52 => ⟨S8x200, .f32⟩
  | 53 => ⟨S_, .i32⟩
  | 54 => ⟨S8x200, .i32⟩
  | 55 => ⟨S8x200, .i1⟩
  | 56 => ⟨S_, .i32⟩
  | 57 => ⟨S8x200, .i32⟩
  | 58 => ⟨S8x200, .i32⟩
  | 59 => ⟨S8x200, .i32⟩
  | 60 => ⟨S8x200x1, .i32⟩
  | 61 => ⟨S8x200, .f32⟩
  | 62 => ⟨S_, .f32⟩
  | 63 => ⟨S_, .f32⟩
  | 64 => ⟨S8x200, .f32⟩
  | 65 => ⟨S8x200, .f32⟩
  | _ => ⟨S8x5000x4, .f32⟩

abbrev hbmTy (i : Nat) : BufTy := match i / 128 with
  | 0 => hbmTy0_0 i
  | 1 => hbmTy0_1 i
  | 2 => hbmTy0_2 i
  | _ => ⟨S8x5000x4, .f32⟩

abbrev bufTy : (tb : Table) → Fin (tcTables nBuf tb) → BufTy
  | .hbm, ⟨i, _⟩ => hbmTy i
  | _, _ => ⟨S8x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_2 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_call0_v0 : Ref sig .tc := ⟨.hbm, 72, rfl⟩
abbrev main_call0_cst : Ref sig .tc := ⟨.hbm, 73, rfl⟩
abbrev main_call0_c : Ref sig .tc := ⟨.hbm, 74, rfl⟩
abbrev main_call0_v1_0 : Ref sig .tc := ⟨.hbm, 75, rfl⟩
abbrev main_v64 : Ref sig .tc := ⟨.hbm, 76, rfl⟩
abbrev main_v65 : Ref sig .tc := ⟨.hbm, 77, rfl⟩
abbrev main_c : Ref sig .tc := ⟨.hbm, 78, rfl⟩
abbrev main_v66 : Ref sig .tc := ⟨.hbm, 79, rfl⟩
abbrev main_v67 : Ref sig .tc := ⟨.hbm, 80, rfl⟩
abbrev main_cst_4 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v68 : Ref sig .tc := ⟨.hbm, 85, rfl⟩
abbrev main_v69 : Ref sig .tc := ⟨.hbm, 86, rfl⟩
abbrev main_cst_5 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_call2_v0 : Ref sig .tc := ⟨.hbm, 91, rfl⟩
abbrev main_call2_v1 : Ref sig .tc := ⟨.hbm, 92, rfl⟩
abbrev main_v72 : Ref sig .tc := ⟨.hbm, 93, rfl⟩
abbrev main_c_7 : Ref sig .tc := ⟨.hbm, 94, rfl⟩
abbrev main_v73 : Ref sig .tc := ⟨.hbm, 95, rfl⟩
abbrev main_c_8 : Ref sig .tc := ⟨.hbm, 96, rfl⟩
abbrev main_v74_0 : Ref sig .tc := ⟨.hbm, 97, rfl⟩
abbrev main_v74_1 : Ref sig .tc := ⟨.hbm, 98, rfl⟩
abbrev main_v74_2 : Ref sig .tc := ⟨.hbm, 99, rfl⟩
abbrev main_v74_3 : Ref sig .tc := ⟨.hbm, 100, rfl⟩
abbrev main_while0c_c_21 : Ref sig .tc := ⟨.hbm, 101, rfl⟩
abbrev main_while0c_v104 : Ref sig .tc := ⟨.hbm, 102, rfl⟩
abbrev main_while0b_call3_v0 : Ref sig .tc := ⟨.hbm, 103, rfl⟩
abbrev main_while0b_call3_cst : Ref sig .tc := ⟨.hbm, 104, rfl⟩
abbrev main_while0b_call3_c : Ref sig .tc := ⟨.hbm, 105, rfl⟩
abbrev main_while0b_call3_v1_0 : Ref sig .tc := ⟨.hbm, 106, rfl⟩
abbrev main_while0b_v104 : Ref sig .tc := ⟨.hbm, 107, rfl⟩
abbrev main_while0b_cst_21 : Ref sig .tc := ⟨.hbm, 108, rfl⟩
abbrev main_while0b_v105 : Ref sig .tc := ⟨.hbm, 109, rfl⟩
abbrev main_while0b_cst_22 : Ref sig .tc := ⟨.hbm, 110, rfl⟩
abbrev main_while0b_v106 : Ref sig .tc := ⟨.hbm, 111, rfl⟩
abbrev main_while0b_v107 : Ref sig .tc := ⟨.hbm, 112, rfl⟩
abbrev main_while0b_v108 : Ref sig .tc := ⟨.hbm, 113, rfl⟩
abbrev main_while0b_call4_c : Ref sig .tc := ⟨.hbm, 114, rfl⟩
abbrev main_while0b_call4_v0 : Ref sig .tc := ⟨.hbm, 115, rfl⟩
abbrev main_while0b_call4_v1 : Ref sig .tc := ⟨.hbm, 116, rfl⟩
abbrev main_while0b_call4_c_0 : Ref sig .tc := ⟨.hbm, 117, rfl⟩
abbrev main_while0b_call4_v2 : Ref sig .tc := ⟨.hbm, 118, rfl⟩
abbrev main_while0b_call4_v3 : Ref sig .tc := ⟨.hbm, 119, rfl⟩
abbrev main_while0b_call4_v4 : Ref sig .tc := ⟨.hbm, 120, rfl⟩
abbrev main_while0b_v109 : Ref sig .tc := ⟨.hbm, 121, rfl⟩
abbrev main_while0b_v110 : Ref sig .tc := ⟨.hbm, 122, rfl⟩
abbrev main_while0b_v111 : Ref sig .tc := ⟨.hbm, 123, rfl⟩
abbrev main_while0b_v112 : Ref sig .tc := ⟨.hbm, 124, rfl⟩
abbrev main_while0b_v113 : Ref sig .tc := ⟨.hbm, 125, rfl⟩
abbrev main_while0b_v114 : Ref sig .tc := ⟨.hbm, 126, rfl⟩
abbrev main_while0b_v115 : Ref sig .tc := ⟨.hbm, 127, rfl⟩
abbrev main_while0b_v116 : Ref sig .tc := ⟨.hbm, 128, rfl⟩
abbrev main_while0b_v117 : Ref sig .tc := ⟨.hbm, 129, rfl⟩
abbrev main_while0b_v118 : Ref sig .tc := ⟨.hbm, 130, rfl⟩
abbrev main_while0b_v119 : Ref sig .tc := ⟨.hbm, 131, rfl⟩
abbrev main_while0b_v120 : Ref sig .tc := ⟨.hbm, 132, rfl⟩
abbrev main_while0b_v121 : Ref sig .tc := ⟨.hbm, 133, rfl⟩
abbrev main_while0b_v122 : Ref sig .tc := ⟨.hbm, 134, rfl⟩
abbrev main_while0b_v123 : Ref sig .tc := ⟨.hbm, 135, rfl⟩
abbrev main_while0b_v124 : Ref sig .tc := ⟨.hbm, 136, rfl⟩
abbrev main_while0b_v125 : Ref sig .tc := ⟨.hbm, 137, rfl⟩
abbrev main_while0b_v126 : Ref sig .tc := ⟨.hbm, 138, rfl⟩
abbrev main_while0b_v127 : Ref sig .tc := ⟨.hbm, 139, rfl⟩
abbrev main_while0b_v128 : Ref sig .tc := ⟨.hbm, 140, rfl⟩
abbrev main_while0b_v129 : Ref sig .tc := ⟨.hbm, 141, rfl⟩
abbrev main_while0b_v130 : Ref sig .tc := ⟨.hbm, 142, rfl⟩
abbrev main_while0b_v131 : Ref sig .tc := ⟨.hbm, 143, rfl⟩
abbrev main_while0b_v132 : Ref sig .tc := ⟨.hbm, 144, rfl⟩
abbrev main_while0b_v133 : Ref sig .tc := ⟨.hbm, 145, rfl⟩
abbrev main_while0b_v134 : Ref sig .tc := ⟨.hbm, 146, rfl⟩
abbrev main_while0b_v135 : Ref sig .tc := ⟨.hbm, 147, rfl⟩
abbrev main_while0b_v136 : Ref sig .tc := ⟨.hbm, 148, rfl⟩
abbrev main_while0b_v137 : Ref sig .tc := ⟨.hbm, 149, rfl⟩
abbrev main_while0b_v138 : Ref sig .tc := ⟨.hbm, 150, rfl⟩
abbrev main_while0b_v139 : Ref sig .tc := ⟨.hbm, 151, rfl⟩
abbrev main_while0b_v140 : Ref sig .tc := ⟨.hbm, 152, rfl⟩
abbrev main_while0b_cst_23 : Ref sig .tc := ⟨.hbm, 153, rfl⟩
abbrev main_while0b_v141 : Ref sig .tc := ⟨.hbm, 154, rfl⟩
abbrev main_while0b_v142 : Ref sig .tc := ⟨.hbm, 155, rfl⟩
abbrev main_while0b_v143 : Ref sig .tc := ⟨.hbm, 156, rfl⟩
abbrev main_while0b_cst_24 : Ref sig .tc := ⟨.hbm, 157, rfl⟩
abbrev main_while0b_v144 : Ref sig .tc := ⟨.hbm, 158, rfl⟩
abbrev main_while0b_v145 : Ref sig .tc := ⟨.hbm, 159, rfl⟩
abbrev main_while0b_v146 : Ref sig .tc := ⟨.hbm, 160, rfl⟩
abbrev main_while0b_v147 : Ref sig .tc := ⟨.hbm, 161, rfl⟩
abbrev main_while0b_v148 : Ref sig .tc := ⟨.hbm, 162, rfl⟩
abbrev main_while0b_v149 : Ref sig .tc := ⟨.hbm, 163, rfl⟩
abbrev main_while0b_v150 : Ref sig .tc := ⟨.hbm, 164, rfl⟩
abbrev main_while0b_v151 : Ref sig .tc := ⟨.hbm, 165, rfl⟩
abbrev main_while0b_v152 : Ref sig .tc := ⟨.hbm, 166, rfl⟩
abbrev main_while0b_v153 : Ref sig .tc := ⟨.hbm, 167, rfl⟩
abbrev main_while0b_v154 : Ref sig .tc := ⟨.hbm, 168, rfl⟩
abbrev main_while0b_v155 : Ref sig .tc := ⟨.hbm, 169, rfl⟩
abbrev main_while0b_v156 : Ref sig .tc := ⟨.hbm, 170, rfl⟩
abbrev main_while0b_v157 : Ref sig .tc := ⟨.hbm, 171, rfl⟩
abbrev main_while0b_v158 : Ref sig .tc := ⟨.hbm, 172, rfl⟩
abbrev main_while0b_v159 : Ref sig .tc := ⟨.hbm, 173, rfl⟩
abbrev main_while0b_v160 : Ref sig .tc := ⟨.hbm, 174, rfl⟩
abbrev main_while0b_v161 : Ref sig .tc := ⟨.hbm, 175, rfl⟩
abbrev main_while0b_v162 : Ref sig .tc := ⟨.hbm, 176, rfl⟩
abbrev main_while0b_v163 : Ref sig .tc := ⟨.hbm, 177, rfl⟩
abbrev main_while0b_v164 : Ref sig .tc := ⟨.hbm, 178, rfl⟩
abbrev main_while0b_v165 : Ref sig .tc := ⟨.hbm, 179, rfl⟩
abbrev main_while0b_v166 : Ref sig .tc := ⟨.hbm, 180, rfl⟩
abbrev main_while0b_v167 : Ref sig .tc := ⟨.hbm, 181, rfl⟩
abbrev main_while0b_v168 : Ref sig .tc := ⟨.hbm, 182, rfl⟩
abbrev main_while0b_v169 : Ref sig .tc := ⟨.hbm, 183, rfl⟩
abbrev main_while0b_v170 : Ref sig .tc := ⟨.hbm, 184, rfl⟩
abbrev main_while0b_v171 : Ref sig .tc := ⟨.hbm, 185, rfl⟩
abbrev main_while0b_v172 : Ref sig .tc := ⟨.hbm, 186, rfl⟩
abbrev main_while0b_cst_25 : Ref sig .tc := ⟨.hbm, 187, rfl⟩
abbrev main_while0b_v173 : Ref sig .tc := ⟨.hbm, 188, rfl⟩
abbrev main_while0b_v174 : Ref sig .tc := ⟨.hbm, 189, rfl⟩
abbrev main_while0b_v175 : Ref sig .tc := ⟨.hbm, 190, rfl⟩
abbrev main_while0b_cst_26 : Ref sig .tc := ⟨.hbm, 191, rfl⟩
abbrev main_while0b_v176 : Ref sig .tc := ⟨.hbm, 192, rfl⟩
abbrev main_while0b_v177 : Ref sig .tc := ⟨.hbm, 193, rfl⟩
abbrev main_while0b_v178 : Ref sig .tc := ⟨.hbm, 194, rfl⟩
abbrev main_while0b_v179 : Ref sig .tc := ⟨.hbm, 195, rfl⟩
abbrev main_while0b_v180 : Ref sig .tc := ⟨.hbm, 196, rfl⟩
abbrev main_while0b_v181 : Ref sig .tc := ⟨.hbm, 197, rfl⟩
abbrev main_while0b_v182 : Ref sig .tc := ⟨.hbm, 198, rfl⟩
abbrev main_while0b_v183 : Ref sig .tc := ⟨.hbm, 199, rfl⟩
abbrev main_while0b_v184 : Ref sig .tc := ⟨.hbm, 200, rfl⟩
abbrev main_while0b_cst_27 : Ref sig .tc := ⟨.hbm, 201, rfl⟩
abbrev main_while0b_call5_v0 : Ref sig .tc := ⟨.hbm, 202, rfl⟩
abbrev main_while0b_call5_v1 : Ref sig .tc := ⟨.hbm, 203, rfl⟩
abbrev main_while0b_v185 : Ref sig .tc := ⟨.hbm, 204, rfl⟩
abbrev main_while0b_v186 : Ref sig .tc := ⟨.hbm, 205, rfl⟩
abbrev main_while0b_call6_v0 : Ref sig .tc := ⟨.hbm, 206, rfl⟩
abbrev main_while0b_v187 : Ref sig .tc := ⟨.hbm, 207, rfl⟩
abbrev main_while0b_c_28 : Ref sig .tc := ⟨.hbm, 208, rfl⟩
abbrev main_while0b_call7_v0 : Ref sig .tc := ⟨.hbm, 209, rfl⟩
abbrev main_while0b_call7_v1 : Ref sig .tc := ⟨.hbm, 210, rfl⟩
abbrev main_while0b_v188 : Ref sig .tc := ⟨.hbm, 211, rfl⟩
abbrev main_while0b_call8_v0 : Ref sig .tc := ⟨.hbm, 212, rfl⟩
abbrev main_while0b_call8_c : Ref sig .tc := ⟨.hbm, 213, rfl⟩
abbrev main_while0b_call8_c_0 : Ref sig .tc := ⟨.hbm, 214, rfl⟩
abbrev main_while0b_v189 : Ref sig .tc := ⟨.hbm, 215, rfl⟩
abbrev main_while0b_c_29 : Ref sig .tc := ⟨.hbm, 216, rfl⟩
abbrev main_while0b_v190 : Ref sig .tc := ⟨.hbm, 217, rfl⟩
abbrev main_v75 : Ref sig .tc := ⟨.hbm, 218, rfl⟩
abbrev main_c_9 : Ref sig .tc := ⟨.hbm, 219, rfl⟩
abbrev main_v76 : Ref sig .tc := ⟨.hbm, 220, rfl⟩
abbrev main_v77 : Ref sig .tc := ⟨.hbm, 221, rfl⟩
abbrev main_v78 : Ref sig .tc := ⟨.hbm, 222, rfl⟩
abbrev main_c_10 : Ref sig .tc := ⟨.hbm, 223, rfl⟩
abbrev main_call9_v0 : Ref sig .tc := ⟨.hbm, 224, rfl⟩
abbrev main_call9_v1 : Ref sig .tc := ⟨.hbm, 225, rfl⟩
abbrev main_v79 : Ref sig .tc := ⟨.hbm, 226, rfl⟩
abbrev main_v80 : Ref sig .tc := ⟨.hbm, 227, rfl⟩
abbrev main_v81 : Ref sig .tc := ⟨.hbm, 228, rfl⟩
abbrev main_v82 : Ref sig .tc := ⟨.hbm, 229, rfl⟩
abbrev main_call10_c : Ref sig .tc := ⟨.hbm, 230, rfl⟩
abbrev main_call10_v0 : Ref sig .tc := ⟨.hbm, 231, rfl⟩
abbrev main_call10_v1 : Ref sig .tc := ⟨.hbm, 232, rfl⟩
abbrev main_call10_c_0 : Ref sig .tc := ⟨.hbm, 233, rfl⟩
abbrev main_call10_v2 : Ref sig .tc := ⟨.hbm, 234, rfl⟩
abbrev main_call10_v3 : Ref sig .tc := ⟨.hbm, 235, rfl⟩
abbrev main_call10_v4 : Ref sig .tc := ⟨.hbm, 236, rfl⟩
abbrev main_v83 : Ref sig .tc := ⟨.hbm, 237, rfl⟩
abbrev main_cst_11 : Ref sig .tc := ⟨.hbm, 238, rfl⟩
abbrev main_call11_v0 : Ref sig .tc := ⟨.hbm, 239, rfl⟩
abbrev main_call11_v1 : Ref sig .tc := ⟨.hbm, 240, rfl⟩
abbrev main_call11_v2 : Ref sig .tc := ⟨.hbm, 241, rfl⟩
abbrev main_v84 : Ref sig .tc := ⟨.hbm, 242, rfl⟩
abbrev main_call12_c : Ref sig .tc := ⟨.hbm, 243, rfl⟩
abbrev main_call12_v0 : Ref sig .tc := ⟨.hbm, 244, rfl⟩
abbrev main_call12_v1 : Ref sig .tc := ⟨.hbm, 245, rfl⟩
abbrev main_call12_c_0 : Ref sig .tc := ⟨.hbm, 246, rfl⟩
abbrev main_call12_v2 : Ref sig .tc := ⟨.hbm, 247, rfl⟩
abbrev main_call12_v3 : Ref sig .tc := ⟨.hbm, 248, rfl⟩
abbrev main_call12_v4 : Ref sig .tc := ⟨.hbm, 249, rfl⟩
abbrev main_call12_v5 : Ref sig .tc := ⟨.hbm, 250, rfl⟩
abbrev main_v85 : Ref sig .tc := ⟨.hbm, 251, rfl⟩
abbrev main_v86 : Ref sig .tc := ⟨.hbm, 252, rfl⟩
abbrev main_cst_12 : Ref sig .tc := ⟨.hbm, 253, rfl⟩
abbrev main_call13_v0 : Ref sig .tc := ⟨.hbm, 254, rfl⟩
abbrev main_call13_v1 : Ref sig .tc := ⟨.hbm, 255, rfl⟩
abbrev main_v87 : Ref sig .tc := ⟨.hbm, 256, rfl⟩
abbrev main_v88 : Ref sig .tc := ⟨.hbm, 257, rfl⟩
abbrev main_v89 : Ref sig .tc := ⟨.hbm, 258, rfl⟩
abbrev main_v90 : Ref sig .tc := ⟨.hbm, 259, rfl⟩
abbrev main_v91 : Ref sig .tc := ⟨.hbm, 260, rfl⟩
abbrev main_c_13 : Ref sig .tc := ⟨.hbm, 261, rfl⟩
abbrev main_call14_v0 : Ref sig .tc := ⟨.hbm, 262, rfl⟩
abbrev main_call14_v1 : Ref sig .tc := ⟨.hbm, 263, rfl⟩
abbrev main_v92 : Ref sig .tc := ⟨.hbm, 264, rfl⟩
abbrev main_v93 : Ref sig .tc := ⟨.hbm, 265, rfl⟩
abbrev main_cst_14 : Ref sig .tc := ⟨.hbm, 266, rfl⟩
abbrev main_call15_v0 : Ref sig .tc := ⟨.hbm, 267, rfl⟩
abbrev main_call15_v1 : Ref sig .tc := ⟨.hbm, 268, rfl⟩
abbrev main_v94 : Ref sig .tc := ⟨.hbm, 269, rfl⟩
abbrev main_values : Ref sig .tc := ⟨.hbm, 270, rfl⟩
abbrev main_indices : Ref sig .tc := ⟨.hbm, 271, rfl⟩
abbrev main_call16_c : Ref sig .tc := ⟨.hbm, 272, rfl⟩
abbrev main_call16_v0 : Ref sig .tc := ⟨.hbm, 273, rfl⟩
abbrev main_call16_v1 : Ref sig .tc := ⟨.hbm, 274, rfl⟩
abbrev main_call16_c_0 : Ref sig .tc := ⟨.hbm, 275, rfl⟩
abbrev main_call16_v2 : Ref sig .tc := ⟨.hbm, 276, rfl⟩
abbrev main_call16_v3 : Ref sig .tc := ⟨.hbm, 277, rfl⟩
abbrev main_call16_v4 : Ref sig .tc := ⟨.hbm, 278, rfl⟩
abbrev main_call16_v5 : Ref sig .tc := ⟨.hbm, 279, rfl⟩
abbrev main_v95 : Ref sig .tc := ⟨.hbm, 280, rfl⟩
abbrev main_v96 : Ref sig .tc := ⟨.hbm, 281, rfl⟩
abbrev main_v97 : Ref sig .tc := ⟨.hbm, 282, rfl⟩
abbrev main_call17_c : Ref sig .tc := ⟨.hbm, 283, rfl⟩
abbrev main_call17_v0 : Ref sig .tc := ⟨.hbm, 284, rfl⟩
abbrev main_call17_v1 : Ref sig .tc := ⟨.hbm, 285, rfl⟩
abbrev main_call17_c_0 : Ref sig .tc := ⟨.hbm, 286, rfl⟩
abbrev main_call17_v2 : Ref sig .tc := ⟨.hbm, 287, rfl⟩
abbrev main_call17_v3 : Ref sig .tc := ⟨.hbm, 288, rfl⟩
abbrev main_call17_v4 : Ref sig .tc := ⟨.hbm, 289, rfl⟩
abbrev main_v98 : Ref sig .tc := ⟨.hbm, 290, rfl⟩
abbrev main_cst_15 : Ref sig .tc := ⟨.hbm, 291, rfl⟩
abbrev main_call18_v0 : Ref sig .tc := ⟨.hbm, 292, rfl⟩
abbrev main_call18_v1 : Ref sig .tc := ⟨.hbm, 293, rfl⟩
abbrev main_call18_v2 : Ref sig .tc := ⟨.hbm, 294, rfl⟩
abbrev main_v99 : Ref sig .tc := ⟨.hbm, 295, rfl⟩
abbrev main_call19_c : Ref sig .tc := ⟨.hbm, 296, rfl⟩
abbrev main_call19_v0 : Ref sig .tc := ⟨.hbm, 297, rfl⟩
abbrev main_call19_v1 : Ref sig .tc := ⟨.hbm, 298, rfl⟩
abbrev main_call19_c_0 : Ref sig .tc := ⟨.hbm, 299, rfl⟩
abbrev main_call19_v2 : Ref sig .tc := ⟨.hbm, 300, rfl⟩
abbrev main_call19_v3 : Ref sig .tc := ⟨.hbm, 301, rfl⟩
abbrev main_call19_v4 : Ref sig .tc := ⟨.hbm, 302, rfl⟩
abbrev main_call19_v5 : Ref sig .tc := ⟨.hbm, 303, rfl⟩
abbrev main_v100 : Ref sig .tc := ⟨.hbm, 304, rfl⟩
abbrev main_cst_16 : Ref sig .tc := ⟨.hbm, 305, rfl⟩
abbrev main_call20_v0 : Ref sig .tc := ⟨.hbm, 306, rfl⟩
abbrev main_call20_v1 : Ref sig .tc := ⟨.hbm, 307, rfl⟩
abbrev main_v101 : Ref sig .tc := ⟨.hbm, 308, rfl⟩
abbrev main_call21_c : Ref sig .tc := ⟨.hbm, 309, rfl⟩
abbrev main_call21_v0 : Ref sig .tc := ⟨.hbm, 310, rfl⟩
abbrev main_call21_v1 : Ref sig .tc := ⟨.hbm, 311, rfl⟩
abbrev main_call21_c_0 : Ref sig .tc := ⟨.hbm, 312, rfl⟩
abbrev main_call21_v2 : Ref sig .tc := ⟨.hbm, 313, rfl⟩
abbrev main_call21_v3 : Ref sig .tc := ⟨.hbm, 314, rfl⟩
abbrev main_call21_v4 : Ref sig .tc := ⟨.hbm, 315, rfl⟩
abbrev main_call21_v5 : Ref sig .tc := ⟨.hbm, 316, rfl⟩
abbrev main_v102 : Ref sig .tc := ⟨.hbm, 317, rfl⟩
abbrev main_cst_17 : Ref sig .tc := ⟨.hbm, 318, rfl⟩
abbrev main_call22_v0 : Ref sig .tc := ⟨.hbm, 319, rfl⟩
abbrev main_call22_v1 : Ref sig .tc := ⟨.hbm, 320, rfl⟩
abbrev main_v103 : Ref sig .tc := ⟨.hbm, 321, rfl⟩

abbrev nD : Nat := 1
abbrev τ : Topo := Topo.v7x

variable {F : FTy → Type} [FloatOps F]

abbrev main_while0_count : Scf.Loop 32 := ⟨0#32, 200#32, 1#32⟩
-- ==== Proof.Own.lean ====
/-
  Loads and stores of a program that holds its buffers as `owns`: what a memref reads, and nothing of how it lies in its
  buffer. A load of the whole memref continues at the contents, a load of a part at the part, and a store over the whole
  memref leaves the payload.
-/
module

public import Idealize.ShloMosaic.Rules.Step
public import Idealize.ShloMosaic.Lib.Memref
public import Idealize.ShloMosaic.Lib.Tactic

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {α : Type}

local notation "𝕄" => MT nD τ sig Ix Val Name U Lvl

variable (𝒱 : Variants) (c : Thread nD τ) (bd : Option 𝒱.V) (E : Set Name)
variable {cs : CoreSpace} {s : Shape} {e : EltTy} {m : Memref sig c.2.kind cs s e}

/-- A load through any rectangle of a memref that reads `X`: the program continues at `X` at the rectangle's places. -/
theorem own_load {q : PosShare TreeShare} {X : s.Idx → Val e} {r : LoadRect s} {hl : m.view.LoadsAt r}
    {k : (r.shape.Idx → Val e) → Prog (TpuEff nD τ sig Val Λ c.2) α} {Q : α → sProp (MT nD τ sig Ix Val Name U Lvl)} :
    (owns c m q X : sProp 𝕄)
      ⊢ iprop((owns c m q X -∗ wp frame (wpE defs 𝒱 c bd) E (k (fun y => X (r.idx y))) Q)
        -∗ wp frame (wpE defs 𝒱 c bd) E (.op (.load m r hl) k) Q) := by
  unfold owns
  iintro ⟨%f, %hf, H⟩ Hk
  subst hf
  iapply (wp_load 𝒱 c bd E (m := m) (View.setOn_subset_set _ _)) $$ H
  iintro H
  iapply Hk
  iexists f
  isplitr
  · ipureintro; rfl
  iexact H

/-- A load of the whole memref: the program continues at its contents. -/
theorem own_load_whole {q : PosShare TreeShare} {X : s.Idx → Val e} {off : Fin s.rank → Nat} (h : off = fun _ => 0)
    {inb : ∀ a, off a + s.size a ≤ s.size a} {hl : m.view.LoadsAt (Rect.unit off s.size inb).toLoadRect}
    {k : (s.Idx → Val e) → Prog (TpuEff nD τ sig Val Λ c.2) α} {Q : α → sProp (MT nD τ sig Ix Val Name U Lvl)} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  subst h
  have hX : (fun y => X ((Rect.unit (fun _ => 0) s.size inb).toLoadRect.idx y)) = X :=
    funext fun y => congrArg X (Rect.emb_whole_apply _ y)
  iintro H Hk
  iapply (own_load (defs := defs) 𝒱 c bd E) $$ H
  rw [hX]
  iexact Hk

/-- A store over the whole memref: it holds the payload. -/
theorem own_store_whole {X w : s.Idx → Val e} {off : Fin s.rank → Nat} (h : off = fun _ => 0)
    {inb : ∀ a, off a + s.size a ≤ s.size a} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {Q : α → sProp (MT nD τ sig Ix Val Name U Lvl)} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  subst h
  unfold owns
  iintro ⟨%f, %hf, H⟩ Hk
  iapply (wp_store 𝒱 c bd E (m := m) (r := Rect.unit (fun _ => 0) s.size inb) (w := w) (Mk := Finset.univ) (f := f)
    (S := m.view.set) (View.set_slice_subset _ _)) $$ H
  iintro H
  iapply Hk
  iexists _
  isplitr
  swap
  · iexact H
  ipureintro
  funext y
  have h1 := View.read_slice_write_emb (v := m.view) (Val := Val) (Rect.unit (fun _ => 0) s.size inb) f w
    (M := Finset.univ) (x := y) (Finset.mem_univ _)
  rwa [show (Rect.unit (fun _ => 0) s.size inb).emb y = y from Rect.emb_whole_apply _ y] at h1

end Cert.Proof

end
-- ==== Proof.KI.Steps.lean ====
/-
  What the kernel body computes, as functions of contents. `WSt` is what the suppression loop carries in its buffers (the
  live scores, and per class and slot the kept score and the four corners), `wstep` one trip of that loop and `wrun` the
  trips that remain. `MSt` is what the merge carries (the keys and the six result blocks), `mstep` one selection.
-/
module

public import proofs.«01_k».proof.Proof.Gen.KernelIdeal.Loops
public import proofs.«01_k».proof.Proof.Own

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffers of the suppression loop: the live scores, the kept scores and the kept corners. -/
structure WSt (F : FTy → Type) where
  sc : Vec F S4x21x5120 .f32
  ky : Vec F S4x21x200 .f32
  y1 : Vec F S4x21x200 .f32
  x1 : Vec F S4x21x200 .f32
  y2 : Vec F S4x21x200 .f32
  x2 : Vec F S4x21x200 .f32

/-- The decoded boxes of a block: the four corners and the areas. -/
structure Corners (F : FTy → Type) where
  y1 : FVec F S4x1x5120 .f32
  x1 : FVec F S4x1x5120 .f32
  y2 : FVec F S4x1x5120 .f32
  x2 : FVec F S4x1x5120 .f32
  area : FVec F S4x1x5120 .f32

/-- The lane numbers of the score block and the slot numbers of the kept block. -/
abbrev lanes : IVec S4x21x5120 32 := iota .tc S4x21x5120 32 [2] iota_S4x21x5120_d2_w32
abbrev slots : IVec S4x21x200 32 := iota .tc S4x21x200 32 [2] iota_S4x21x200_d2_w32

/-- One trip of the suppression loop at slot `t`. -/
def wstep (B : Corners F) (t : BitVec 32) (s : WSt F) : WSt F where
  sc := k0_pay110 B.y2 B.x2 B.area s.sc (k0_pay100 s.sc) (k0_pay101 lanes s.sc) (k0_pay104 lanes B.y2 s.sc)
    (k0_pay105 lanes B.x2 s.sc) (k0_pay106 lanes B.y1 B.x1 B.y2 B.x2 s.sc) (k0_pay107 lanes B.y1 s.sc)
    (k0_pay108 lanes B.x1 s.sc) (k0_pay109 B.x1)
  ky := k0_pay112 slots t (k0_pay99 s.sc) (k0_pay100 s.sc) s.ky
  y1 := k0_pay113 (k0_pay102 lanes B.y1 s.sc) (k0_pay111 slots t (k0_pay100 s.sc)) s.y1
  x1 := k0_pay114 (k0_pay103 lanes B.x1 s.sc) (k0_pay111 slots t (k0_pay100 s.sc)) s.x1
  y2 := k0_pay115 (k0_pay104 lanes B.y2 s.sc) (k0_pay111 slots t (k0_pay100 s.sc)) s.y2
  x2 := k0_pay116 (k0_pay105 lanes B.x2 s.sc) (k0_pay111 slots t (k0_pay100 s.sc)) s.x2

/-- Whether every image is finished after the trip from `s`. -/
def wdone (t : BitVec 32) (s : WSt F) : BitVec 1 :=
  Scalar.cmpf .ogt (k0_pay1 (k0_pay117 (k0_pay99 s.sc)) (k0_pay112 slots t (k0_pay99 s.sc) (k0_pay100 s.sc) s.ky))
    (Scalar.ofBits .f32 0x00000000#32)

/-- The loop's condition: a slot is left and some image is unfinished. -/
def wcond (t : BitVec 32) (d : BitVec 1) : BitVec 1 :=
  Scalar.andi (Scalar.cmpi .slt t 200#32) (Scalar.xori d 1#1)

/-- The buffers after the remaining trips, at most `k` of them. -/
def wrun (B : Corners F) : ℕ → BitVec 32 → BitVec 1 → WSt F → WSt F
  | 0, _, _, s => s
  | k + 1, t, d, s => if wcond t d = 1#1 then wrun B k (Scalar.addi t 1#32) (wdone t s) (wstep B t s) else s

/-- The buffers of the merge: the keys and the six result blocks. -/
structure MSt (F : FTy → Type) where
  ky : Vec F S4x21x200 .f32
  y1 : Vec F S1x4x200 .f32
  x1 : Vec F S1x4x200 .f32
  y2 : Vec F S1x4x200 .f32
  x2 : Vec F S1x4x200 .f32
  sc : Vec F S1x4x200 .f32
  cl : Vec F S1x4x200 .f32

/-- The result slots' numbers. -/
abbrev oslots : IVec S1x4x200 32 := iota .tc S1x4x200 32 [2] iota_S1x4x200_d2_w32

/-- One selection of the merge, into result slot `t`, over the kept corners `w`. -/
def mstep (w : WSt F) (t : BitVec 32) (s : MSt F) : MSt F where
  ky := k0_pay56 s.ky (k0_pay59 k0_pay98 s.ky)
  y1 := k0_pay70 w.y1 (k0_pay59 k0_pay98 s.ky) (k0_pay61 oslots t) s.y1
  x1 := k0_pay71 (k0_pay61 oslots t) (k0_pay67 w.x1 (k0_pay59 k0_pay98 s.ky)) s.x1
  y2 := k0_pay72 (k0_pay61 oslots t) (k0_pay68 w.y2 (k0_pay59 k0_pay98 s.ky)) s.y2
  x2 := k0_pay73 (k0_pay61 oslots t) (k0_pay69 w.x2 (k0_pay59 k0_pay98 s.ky)) s.x2
  sc := k0_pay62 oslots s.ky t s.sc
  cl := k0_pay66 (k0_pay60 s.ky) (k0_pay61 oslots t) (k0_pay63 k0_pay98 s.ky) (k0_pay64 k0_pay98 s.ky)
    (k0_pay65 k0_pay98 s.ky) 0#32 s.cl

/-- The merge's result slot `4k + j`, as the loop computes it. -/
def mslot (k j : ℕ) : BitVec 32 := Scalar.addi (Scalar.muli (Scf.iv 0#32 1#32 k) 4#32) (BitVec.ofNat 32 j)

/-- One trip of the merge: four selections. -/
def mtrip (w : WSt F) (k : ℕ) (s : MSt F) : MSt F :=
  mstep w (mslot k 3) (mstep w (mslot k 2) (mstep w (mslot k 1) (mstep w (mslot k 0) s)))

/-- The merge after `k` trips. -/
def mrun (w : WSt F) (s : MSt F) : ℕ → MSt F
  | 0 => s
  | k + 1 => mtrip w k (mrun w s k)

/-- The kernel's whole-block rectangles start at the origin. -/
theorem zero3 : (![0, 0, 0] : Fin 3 → ℕ) = fun _ => 0 := by
  funext a; fin_cases a <;> rfl

end Cert.Proof.KI

end
-- ==== Proof.KI.Merge.lean ====
/-
  The merge loop of the kernel body, run: one trip leaves the keys and the six result blocks as `mtrip` says, so the loop
  leaves them as `mrun` says.
-/
module

public import proofs.«01_k».proof.Proof.KI.Steps
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The merge's buffers held at the contents of a state. -/
def MSt.own (c : Dev nD) (arg4 arg5 arg6 arg7 arg8 arg9 : Memref sig .tc .vmem S1x4x200 .f32)
    (arg11 : Memref sig .tc .vmem S4x21x200 .f32) (s : MSt F) : sProp 𝕄 :=
  iprop(owns (c : Thread nD τ) arg4 fullShare s.y1 ∗ owns (c : Thread nD τ) arg5 fullShare s.x1
    ∗ owns (c : Thread nD τ) arg6 fullShare s.y2 ∗ owns (c : Thread nD τ) arg7 fullShare s.x2
    ∗ owns (c : Thread nD τ) arg8 fullShare s.sc ∗ owns (c : Thread nD τ) arg9 fullShare s.cl
    ∗ owns (c : Thread nD τ) arg11 fullShare s.ky)

section Selection

/-! The loop body writes its four selections out one after another: each computes the same functions of the keys it meets. -/

/-- The first selection of a trip, in the last one's terms. -/
theorem sub1 {F : FTy → Type} [FloatOps F] :
    (∀ (k : Fin k0_t1_loop.trips) (ky : Vec F S4x21x200 .f32) (o : Vec F S1x4x200 .f32),
      k0_pay7 oslots 0#32 1#32 k ky o = k0_pay62 oslots ky (mslot k 0) o)
    ∧ (∀ (fi : IVec S4x21x200 32) (ky : Vec F S4x21x200 .f32),
      k0_pay4 fi ky = k0_pay59 fi ky)
    ∧ (∀ (ky : Vec F S4x21x200 .f32),
      k0_pay5 ky = k0_pay60 ky)
    ∧ (∀ (k : Fin k0_t1_loop.trips),
      k0_pay6 oslots 0#32 1#32 k = k0_pay61 oslots (mslot k 0))
    ∧ (∀ (fi : IVec S4x21x200 32) (ky : Vec F S4x21x200 .f32) (om : IVec S1x4x200 1) (o : Vec F S1x4x200 .f32) (v : IVec S4x1x1 1),
      k0_pay10 (k0_pay3 fi ky) v om 200#32 (k0_pay8 fi ky) (k0_pay9 fi ky) (Scalar.extui (Scalar.cmpi .sgt 200#32 0#32)) o
      = k0_pay66 v om (k0_pay63 fi ky) (k0_pay64 fi ky) (k0_pay65 fi ky) 0#32 o)
    ∧ (∀ (B : Vec F S4x21x200 .f32) (oh : IVec S4x21x200 1) (om : IVec S1x4x200 1) (o : Vec F S1x4x200 .f32),
      k0_pay15 om (k0_pay14 B oh) o = k0_pay70 B oh om o)
    ∧ (∀ (B : Vec F S4x21x200 .f32) (oh : IVec S4x21x200 1) (om : IVec S1x4x200 1) (o : Vec F S1x4x200 .f32),
      k0_pay16 om (k0_pay11 B oh) o = k0_pay71 om (k0_pay67 B oh) o)
    ∧ (∀ (B : Vec F S4x21x200 .f32) (oh : IVec S4x21x200 1) (om : IVec S1x4x200 1) (o : Vec F S1x4x200 .f32),
      k0_pay17 om (k0_pay12 B oh) o = k0_pay72 om (k0_pay68 B oh) o)
    ∧ (∀ (B : Vec F S4x21x200 .f32) (oh : IVec S4x21x200 1) (om : IVec S1x4x200 1) (o : Vec F S1x4x200 .f32),
      k0_pay18 om (k0_pay13 B oh) o = k0_pay73 om (k0_pay69 B oh) o) :=
  ⟨by intros; rfl, by intros; rfl, by intros; rfl, by intros; rfl, by intros; rfl, by intros; rfl, by intros; rfl, by intros; rfl, by intros; rfl⟩

/-- The second selection of a trip. -/
theorem sub2 {F : FTy → Type} [FloatOps F] :
    (∀ (ky : Vec F S4x21x200 .f32) (oh : IVec S4x21x200 1),
      k0_pay19 ky oh (Scalar.ofBits .f32 0xC0000000#32) = k0_pay56 ky oh)
    ∧ (∀ (fi : IVec S4x21x200 32) (ky : Vec F S4x21x200 .f32) (oh : IVec S4x21x200 1) (cst : F .f32),
      k0_pay22 fi ky oh cst = k0_pay59 fi (k0_pay19 ky oh cst))
    ∧ (∀ (ky : Vec F S4x21x200 .f32) (oh : IVec S4x21x200 1) (cst : F .f32),
      k0_pay23 ky oh cst = k0_pay60 (k0_pay19 ky oh cst))
    ∧ (∀ (k : Fin k0_t1_loop.trips),
      k0_pay24 oslots (Scf.iv 0#32 1#32 k) = k0_pay61 oslots (mslot k 1))
    ∧ (∀ (k : Fin k0_t1_loop.trips) (ky : Vec F S4x21x200 .f32) (oh : IVec S4x21x200 1) (o : Vec F S1x4x200 .f32) (cst : F .f32),
      k0_pay25 oslots (Scf.iv 0#32 1#32 k) ky oh cst o = k0_pay62 oslots (k0_pay19 ky oh cst) (mslot k 1) o)
    ∧ (∀ (fi : IVec S4x21x200 32) (ky : Vec F S4x21x200 .f32) (oh : IVec S4x21x200 1) (om : IVec S1x4x200 1) (o : Vec F S1x4x200 .f32) (v : IVec S4x1x1 1) (cst : F .f32),
      k0_pay28 (k0_pay21 fi ky oh cst) v om 200#32 (k0_pay26 fi ky oh cst)
        (k0_pay27 fi ky oh cst) (Scalar.extui (Scalar.cmpi .sgt 200#32 0#32)) (Scalar.extui (Scalar.cmpi .slt 200#32 0#32)) o
      = k0_pay66 v om (k0_pay63 fi (k0_pay19 ky oh cst)) (k0_pay64 fi (k0_pay19 ky oh cst)) (k0_pay65 fi (k0_pay19 ky oh cst)) 0#32 o)
    ∧ (∀ (B : Vec F S4x21x200 .f32) (oh : IVec S4x21x200 1) (om : IVec S1x4x200 1) (o : Vec F S1x4x200 .f32),
      k0_pay33 om (k0_pay32 B oh) o = k0_pay70 B oh om o)
    ∧ (∀ (B : Vec F S4x21x200 .f32) (oh : IVec S4x21x200 1) (om : IVec S1x4x200 1) (o : Vec F S1x4x200 .f32),
      k0_pay34 om (k0_pay29 B oh) o = k0_pay71 om (k0_pay67 B oh) o)
    ∧ (∀ (B : Vec F S4x21x200 .f32) (oh : IVec S4x21x200 1) (om : IVec S1x4x200 1) (o : Vec F S1x4x200 .f32),
      k0_pay35 om (k0_pay30 B oh) o = k0_pay72 om (k0_pay68 B oh) o)
    ∧ (∀ (B : Vec F S4x21x200 .f32) (oh : IVec S4x21x200 1) (om : IVec S1x4x200 1) (o : Vec F S1x4x200 .f32),
      k0_pay36 om (k0_pay31 B oh) o = k0_pay73 om (k0_pay69 B oh) o)
    ∧ (∀ (ky : Vec F S4x21x200 .f32) (oh : IVec S4x21x200 1),
      k0_pay37 ky oh = k0_pay56 ky oh) :=
  ⟨by intros; rfl, by intros; rfl, by intros; rfl, by intros; rfl, by intros; rfl, by intros; rfl, by intros; rfl, by intros; rfl, by intros; rfl, by intros; rfl, by intros; rfl⟩

/-- The third selection of a trip. -/
theorem sub3 {F : FTy → Type} [FloatOps F] :
    (∀ (fi : IVec S4x21x200 32) (ky : Vec F S4x21x200 .f32),
      k0_pay40 fi ky = k0_pay59 fi ky)
    ∧ (∀ (ky : Vec F S4x21x200 .f32),
      k0_pay41 ky = k0_pay60 ky)
    ∧ (∀ (k : Fin k0_t1_loop.trips),
      k0_pay42 oslots (Scf.iv 0#32 1#32 k) 4#32 = k0_pay61 oslots (mslot k 2))
    ∧ (∀ (k : Fin k0_t1_loop.trips) (ky : Vec F S4x21x200 .f32) (o : Vec F S1x4x200 .f32),
      k0_pay43 oslots (Scf.iv 0#32 1#32 k) ky 4#32 o = k0_pay62 oslots ky (mslot k 2) o)
    ∧ (∀ (fi : IVec S4x21x200 32) (ky : Vec F S4x21x200 .f32) (om : IVec S1x4x200 1) (o : Vec F S1x4x200 .f32) (v : IVec S4x1x1 1),
      k0_pay46 (k0_pay39 fi ky) v om 200#32 (k0_pay44 fi ky) (k0_pay45 fi ky) o
      = k0_pay66 v om (k0_pay63 fi ky) (k0_pay64 fi ky) (k0_pay65 fi ky) 0#32 o)
    ∧ (∀ (B : Vec F S4x21x200 .f32) (oh : IVec S4x21x200 1) (om : IVec S1x4x200 1) (o : Vec F S1x4x200 .f32),
      k0_pay52 om (k0_pay50 B oh) (k0_pay51 o) = k0_pay70 B oh om o)
    ∧ (∀ (B : Vec F S4x21x200 .f32) (oh : IVec S4x21x200 1) (om : IVec S1x4x200 1) (o : Vec F S1x4x200 .f32),
      k0_pay53 om (k0_pay47 B oh) o = k0_pay71 om (k0_pay67 B oh) o)
    ∧ (∀ (B : Vec F S4x21x200 .f32) (oh : IVec S4x21x200 1) (om : IVec S1x4x200 1) (o : Vec F S1x4x200 .f32),
      k0_pay54 om (k0_pay48 B oh) o = k0_pay72 om (k0_pay68 B oh) o)
    ∧ (∀ (B : Vec F S4x21x200 .f32) (oh : IVec S4x21x200 1) (om : IVec S1x4x200 1) (o : Vec F S1x4x200 .f32),
      k0_pay55 om (k0_pay49 B oh) o = k0_pay73 om (k0_pay69 B oh) o) :=
  ⟨by intros; rfl, by intros; rfl, by intros; rfl, by intros; rfl, by intros; rfl, by intros; rfl, by intros; rfl, by intros; rfl, by intros; rfl⟩

/-- The keys as stored at a trip's end. -/
theorem keys_stored (ky : Vec F S4x21x200 .f32) (oh : IVec S4x21x200 1) : k0_pay74 ky oh = k0_pay56 ky oh := shapeCast_self _ _

end Selection

section Trip

variable (𝒱 : Variants) (c : Dev nD) (i : grid0.Coords)
  (arg1 : Memref sig .tc .vmem S4x21x5120 .f32) (harg1 : arg1.IsWhole) (arg2 : Memref sig .tc .vmem S4x4x5120 .f32) (harg2 : arg2.IsWhole)
  (arg3 : Memref sig .tc .vmem S1x4x5120 .f32) (harg3 : arg3.IsWhole) (arg4 : Memref sig .tc .vmem S1x4x200 .f32) (harg4 : arg4.IsWhole)
  (arg5 : Memref sig .tc .vmem S1x4x200 .f32) (harg5 : arg5.IsWhole) (arg6 : Memref sig .tc .vmem S1x4x200 .f32) (harg6 : arg6.IsWhole)
  (arg7 : Memref sig .tc .vmem S1x4x200 .f32) (harg7 : arg7.IsWhole) (arg8 : Memref sig .tc .vmem S1x4x200 .f32) (harg8 : arg8.IsWhole)
  (arg9 : Memref sig .tc .vmem S1x4x200 .f32) (harg9 : arg9.IsWhole) (arg10 : Memref sig .tc .vmem S4x21x5120 .f32) (harg10 : arg10.IsWhole)
  (arg11 : Memref sig .tc .vmem S4x21x200 .f32) (harg11 : arg11.IsWhole) (arg12 : Memref sig .tc .vmem S4x21x200 .f32) (harg12 : arg12.IsWhole)
  (arg13 : Memref sig .tc .vmem S4x21x200 .f32) (harg13 : arg13.IsWhole) (arg14 : Memref sig .tc .vmem S4x21x200 .f32) (harg14 : arg14.IsWhole)
  (arg15 : Memref sig .tc .vmem S4x21x200 .f32) (harg15 : arg15.IsWhole)

set_option maxHeartbeats 4000000 in
/-- One trip of the merge, from a state to `mtrip` of it. -/
theorem merge_trip (w : WSt F) (k : Fin k0_t1_loop.trips) (s : MSt F) :
    (s.own c arg4 arg5 arg6 arg7 arg8 arg9 arg11 : sProp 𝕄)
      ⊢ wp frame (wpE (defs₀ (F := F)) 𝒱 (c : Thread nD τ) none) Set.univ
          (k0_t1_body (F := F) i arg1 harg1 arg2 harg2 arg3 harg3 arg4 harg4 arg5 harg5 arg6 harg6 arg7 harg7 arg8 harg8 arg9 harg9 arg10 harg10
            arg11 harg11 arg12 harg12 arg13 harg13 arg14 harg14 arg15 harg15 k0_pay98 oslots w.y1 w.x1 w.y2 w.x2 k ())
          (fun _ => (mtrip w k s).own c arg4 arg5 arg6 arg7 arg8 arg9 arg11) := by
  unfold k0_t1_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [Prog.lift, Prog.bind_op, Prog.bind_ret, Prog.pure_eq_ret]
  unfold MSt.own
  iintro ⟨H4, H5, H6, H7, H8, H9, H11⟩
  iapply (own_load_whole 𝒱 (c : Thread nD τ) none Set.univ (m := arg11) zero3) $$ H11; iintro H11
  iterate 4
    iterate 2
      iapply (own_load_whole 𝒱 (c : Thread nD τ) none Set.univ (m := arg8) zero3) $$ H8; iintro H8
    iapply (own_store_whole 𝒱 (c : Thread nD τ) none Set.univ (m := arg8) zero3) $$ H8; iintro H8
    iterate 2
      iapply (own_load_whole 𝒱 (c : Thread nD τ) none Set.univ (m := arg9) zero3) $$ H9; iintro H9
    iapply (own_store_whole 𝒱 (c : Thread nD τ) none Set.univ (m := arg9) zero3) $$ H9; iintro H9
    iterate 2
      iapply (own_load_whole 𝒱 (c : Thread nD τ) none Set.univ (m := arg4) zero3) $$ H4; iintro H4
    iapply (own_store_whole 𝒱 (c : Thread nD τ) none Set.univ (m := arg4) zero3) $$ H4; iintro H4
    iterate 2
      iapply (own_load_whole 𝒱 (c : Thread nD τ) none Set.univ (m := arg5) zero3) $$ H5; iintro H5
    iapply (own_store_whole 𝒱 (c : Thread nD τ) none Set.univ (m := arg5) zero3) $$ H5; iintro H5
    iterate 2
      iapply (own_load_whole 𝒱 (c : Thread nD τ) none Set.univ (m := arg6) zero3) $$ H6; iintro H6
    iapply (own_store_whole 𝒱 (c : Thread nD τ) none Set.univ (m := arg6) zero3) $$ H6; iintro H6
    iterate 2
      iapply (own_load_whole 𝒱 (c : Thread nD τ) none Set.univ (m := arg7) zero3) $$ H7; iintro H7
    iapply (own_store_whole 𝒱 (c : Thread nD τ) none Set.univ (m := arg7) zero3) $$ H7; iintro H7
  iapply (own_load_whole 𝒱 (c : Thread nD τ) none Set.univ (m := arg11) zero3) $$ H11; iintro H11
  iapply (own_store_whole 𝒱 (c : Thread nD τ) none Set.univ (m := arg11) zero3) $$ H11; iintro H11
  simp only [sub1, sub2, sub3, keys_stored, mtrip, mstep, mslot]
  rw [wp_ret]; imodintro
  isplitl [H4]; · iexact H4
  isplitl [H5]; · iexact H5
  isplitl [H6]; · iexact H6
  isplitl [H7]; · iexact H7
  isplitl [H8]; · iexact H8
  isplitl [H9]; · iexact H9
  iexact H11

end Trip

end Cert.Proof.KI

end
-- ==== Proof.KI.While.lean ====
/-
  The suppression loop of the kernel body, run. The loop is a label that calls itself; entered with the buffers at a state
  and with at most `k` trips to go, it returns with them at `wrun` of that state.
-/
module

public import proofs.«01_k».proof.Proof.KI.Merge
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The suppression loop may be entered at any natural number of remaining trips. -/
abbrev variants : Variants := Variants.nat

section Label

variable (c : Dev nD) (i : grid0.Coords) (arg10 : Memref sig .tc .vmem S4x21x5120 .f32) (harg10 : arg10.IsWhole)
  (arg11 : Memref sig .tc .vmem S4x21x200 .f32) (harg11 : arg11.IsWhole) (arg12 : Memref sig .tc .vmem S4x21x200 .f32) (harg12 : arg12.IsWhole)
  (arg13 : Memref sig .tc .vmem S4x21x200 .f32) (harg13 : arg13.IsWhole) (arg14 : Memref sig .tc .vmem S4x21x200 .f32) (harg14 : arg14.IsWhole)
  (arg15 : Memref sig .tc .vmem S4x21x200 .f32) (harg15 : arg15.IsWhole)

/-- The suppression loop's buffers held at the contents of a state. -/
def WSt.own (s : WSt F) : sProp 𝕄 :=
  iprop(owns (c : Thread nD τ) arg10 fullShare s.sc ∗ owns (c : Thread nD τ) arg11 fullShare s.ky
    ∗ owns (c : Thread nD τ) arg12 fullShare s.y1 ∗ owns (c : Thread nD τ) arg13 fullShare s.x1
    ∗ owns (c : Thread nD τ) arg14 fullShare s.y2 ∗ owns (c : Thread nD τ) arg15 fullShare s.x2)

/-- What the label does: from the buffers at `s` to the buffers at `wrun` of it. -/
def spec (B : Corners F) (k : ℕ) (t : BitVec 32) (d : BitVec 1) (s : WSt F) : sWPT 𝕄 (BitVec 32 × BitVec 1) := do
  sWPT.consume (s.own c arg10 arg11 arg12 arg13 arg14 arg15)
  let r ← sWPT.arbitrary
  sWPT.produce ((wrun B k t d s).own c arg10 arg11 arg12 arg13 arg14 arg15)
  pure r

theorem spec_apply (B : Corners F) (k : ℕ) (t : BitVec 32) (d : BitVec 1) (s : WSt F) (K : BitVec 32 × BitVec 1 → sProp 𝕄) :
    spec c arg10 arg11 arg12 arg13 arg14 arg15 B k t d s K
      = iprop(s.own c arg10 arg11 arg12 arg13 arg14 arg15
        ∗ ∀ r : BitVec 32 × BitVec 1, ((wrun B k t d s).own c arg10 arg11 arg12 arg13 arg14 arg15 -∗ K r)) := rfl

/-- The loop goes on when a slot is left and not every image is finished. -/
theorem wcond_iff (t : BitVec 32) (d : BitVec 1) : wcond t d = 1#1 ↔ t.toInt < 200 ∧ d = 0#1 := by
  have e : wcond t d = BitVec.ofBool (decide (t.toInt < 200)) &&& (d ^^^ 1#1) := rfl
  rw [e]
  have hd : d = 0#1 ∨ d = 1#1 := (by decide : ∀ d : BitVec 1, d = 0#1 ∨ d = 1#1) d
  by_cases h : t.toInt < 200 <;> rcases hd with rfl | rfl <;> simp [h]

/-- With no slot left the loop stops. -/
theorem wcond_stop {t : BitVec 32} {d : BitVec 1} (h : 200 ≤ t.toInt) : ¬ wcond t d = 1#1 := fun hc =>
  absurd ((wcond_iff t d).mp hc).1 (by omega)

/-- While it goes on, the next slot is one further. -/
theorem wcond_next {t : BitVec 32} {d : BitVec 1} (h : wcond t d = 1#1) : (Scalar.addi t 1#32).toInt = t.toInt + 1 := by
  have h1 := ((wcond_iff t d).mp h).1
  have h2 := BitVec.le_toInt t
  show (t + 1#32).toInt = _
  rw [BitVec.toInt_add]
  rw [show (1#32 : BitVec 32).toInt = 1 from by decide]
  apply Int.bmod_eq_of_le <;> omega

set_option maxHeartbeats 1000000 in
/-- The label's body does what the specification says, by induction on the trips left. -/
theorem spec_le (B : Corners F) (E : Set ℕ) :
    ∀ (k : ℕ) (t : BitVec 32), 200 ≤ t.toInt + k → ∀ (d : BitVec 1) (s : WSt F) (K : BitVec 32 × BitVec 1 → sProp 𝕄),
      spec c arg10 arg11 arg12 arg13 arg14 arg15 B k t d s K
        ⊢ wp frame (wpE (defs₀ (F := F)) variants (c : Thread nD τ) (some k)) E
            (defs₀ (F := F) .tc 1 ⟨i, arg10, harg10, lanes, B.y1, B.x1, B.y2, B.x2, B.area, slots, arg11, harg11, arg12, harg12,
              arg13, harg13, arg14, harg14, arg15, harg15, t, d⟩) K := by
  intro k
  induction k with
  | zero =>
    intro t ht d s K
    rw [spec_apply]
    show _ ⊢ wp frame (wpE (defs₀ (F := F)) variants (c : Thread nD τ) (some 0)) E
      (cc0_while1 i arg10 harg10 lanes B.y1 B.x1 B.y2 B.x2 B.area slots arg11 harg11 arg12 harg12 arg13 harg13 arg14 harg14
        arg15 harg15 t d) K
    simp only [cc0_while1_eq_skeleton]
    unfold cc0_while1_skel
    have h : ¬ Scalar.andi (Scalar.cmpi .slt t 200#32) (Scalar.xori d 1#1) = 1#1 := wcond_stop (by simpa using ht)
    simp only [h, ↓reduceIte, Prog.pure_eq_ret]
    iintro ⟨H, Hk⟩
    rw [wp_ret]; imodintro
    iapply Hk
    iexact H
  | succ k ih =>
    intro t ht d s K
    rw [spec_apply]
    show _ ⊢ wp frame (wpE (defs₀ (F := F)) variants (c : Thread nD τ) (some (k + 1))) E
      (cc0_while1 i arg10 harg10 lanes B.y1 B.x1 B.y2 B.x2 B.area slots arg11 harg11 arg12 harg12 arg13 harg13 arg14 harg14
        arg15 harg15 t d) K
    simp only [cc0_while1_eq_skeleton]
    unfold cc0_while1_skel
    by_cases h : wcond t d = 1#1
    · have h' : Scalar.andi (Scalar.cmpi .slt t 200#32) (Scalar.xori d 1#1) = 1#1 := h
      simp only [k0_part16_eq_skeleton, k0_part17_eq_skeleton, k0_part18_eq_skeleton]
      unfold k0_part16_skel k0_part17_skel k0_part18_skel
      simp only [h', ↓reduceIte, Prog.lift, Prog.bind_op, Prog.bind_ret, Prog.pure_eq_ret]
      simp only [wrun, h, ↓reduceIte]
      unfold WSt.own
      iintro ⟨⟨H10, H11, H12, H13, H14, H15⟩, Hk⟩
      iterate 2
        iapply (own_load_whole variants (c : Thread nD τ) (some (k + 1)) E (m := arg10) zero3) $$ H10; iintro H10
      iapply (own_store_whole variants (c : Thread nD τ) (some (k + 1)) E (m := arg10) zero3) $$ H10; iintro H10
      iterate 2
        iapply (own_load_whole variants (c : Thread nD τ) (some (k + 1)) E (m := arg11) zero3) $$ H11; iintro H11
      iapply (own_store_whole variants (c : Thread nD τ) (some (k + 1)) E (m := arg11) zero3) $$ H11; iintro H11
      iterate 2
        iapply (own_load_whole variants (c : Thread nD τ) (some (k + 1)) E (m := arg12) zero3) $$ H12; iintro H12
      iapply (own_store_whole variants (c : Thread nD τ) (some (k + 1)) E (m := arg12) zero3) $$ H12; iintro H12
      iterate 2
        iapply (own_load_whole variants (c : Thread nD τ) (some (k + 1)) E (m := arg13) zero3) $$ H13; iintro H13
      iapply (own_store_whole variants (c : Thread nD τ) (some (k + 1)) E (m := arg13) zero3) $$ H13; iintro H13
      iterate 2
        iapply (own_load_whole variants (c : Thread nD τ) (some (k + 1)) E (m := arg14) zero3) $$ H14; iintro H14
      iapply (own_store_whole variants (c : Thread nD τ) (some (k + 1)) E (m := arg14) zero3) $$ H14; iintro H14
      iterate 2
        iapply (own_load_whole variants (c : Thread nD τ) (some (k + 1)) E (m := arg15) zero3) $$ H15; iintro H15
      iapply (own_store_whole variants (c : Thread nD τ) (some (k + 1)) E (m := arg15) zero3) $$ H15; iintro H15
      iapply (own_load_whole variants (c : Thread nD τ) (some (k + 1)) E (m := arg11) zero3) $$ H11; iintro H11
      iapply (wp_call_spec variants (c : Thread nD τ) (some (k + 1)) E
        (spec c arg10 arg11 arg12 arg13 arg14 arg15 B k (Scalar.addi t 1#32) (wdone t s) (wstep B t s)) k
        (fun u hu => by cases hu; exact Nat.lt_succ_self k)
        (ih (Scalar.addi t 1#32) (by rw [wcond_next h]; push_cast at ht; omega) (wdone t s) (wstep B t s)))
      rw [spec_apply]
      unfold WSt.own
      isplitl [H10 H11 H12 H13 H14 H15]
      · isplitl [H10]; · iexact H10
        isplitl [H11]; · iexact H11
        isplitl [H12]; · iexact H12
        isplitl [H13]; · iexact H13
        isplitl [H14]; · iexact H14
        iexact H15
      iintro %r H
      rw [wp_ret]; imodintro
      iapply Hk
      iexact H
    · have h' : ¬ Scalar.andi (Scalar.cmpi .slt t 200#32) (Scalar.xori d 1#1) = 1#1 := h
      simp only [h', ↓reduceIte, Prog.pure_eq_ret]
      simp only [wrun, h, ↓reduceIte]
      iintro ⟨H, Hk⟩
      rw [wp_ret]; imodintro
      iapply Hk
      iexact H

end Label

end Cert.Proof.KI

end
-- ==== Proof.KI.Body.lean ====
/-
  The kernel body, run. From the three input blocks it leaves the six result blocks holding the suppression loop's
  kept scores and corners, merged over what the result blocks held (`mend`; Fresh.lean shows that nothing of it remains).
-/
module

public import proofs.«01_k».proof.Proof.KI.While
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `r` of the prior block, as loaded, and of the delta block. -/
abbrev priRow (P : Vec F S1x4x5120 .f32) (r : ℕ) (h : ∀ a, (![0, r, 0] : Fin 3 → ℕ) a + S1x1x5120.size a ≤ S1x4x5120.size a) : Vec F S1x1x5120 .f32 :=
  fun y => P ((Rect.unit (s := S1x4x5120) ![0, r, 0] S1x1x5120.size h).toLoadRect.idx y)
abbrev delRow (D : Vec F S4x4x5120 .f32) (r : ℕ) (h : ∀ a, (![0, r, 0] : Fin 3 → ℕ) a + S4x1x5120.size a ≤ S4x4x5120.size a) : Vec F S4x1x5120 .f32 :=
  fun y => D ((Rect.unit (s := S4x4x5120) ![0, r, 0] S4x1x5120.size h).toLoadRect.idx y)

/-- The four numbers of each prior box: centre and extent, along the two axes. -/
abbrev p8 (P : Vec F S1x4x5120 .f32) := k0_pay77 (priRow P 0 inb_S1x4x5120_S1x1x5120_0_0_0) (priRow P 2 inb_S1x4x5120_S1x1x5120_0_2_0)
abbrev p9 (P : Vec F S1x4x5120 .f32) := k0_pay78 (priRow P 1 inb_S1x4x5120_S1x1x5120_0_1_0) (priRow P 3 inb_S1x4x5120_S1x1x5120_0_3_0)
abbrev p12 (P : Vec F S1x4x5120 .f32) := k0_pay79 (priRow P 0 inb_S1x4x5120_S1x1x5120_0_0_0) (priRow P 2 inb_S1x4x5120_S1x1x5120_0_2_0)
abbrev p15 (P : Vec F S1x4x5120 .f32) := k0_pay80 (priRow P 1 inb_S1x4x5120_S1x1x5120_0_1_0) (priRow P 3 inb_S1x4x5120_S1x1x5120_0_3_0)
/-- The four deltas of each box, as the kernel scales them. -/
abbrev d19 (D : Vec F S4x4x5120 .f32) := k0_pay81 (delRow D 0 inb_S4x4x5120_S4x1x5120_0_0_0)
abbrev d23 (D : Vec F S4x4x5120 .f32) := k0_pay82 (delRow D 1 inb_S4x4x5120_S4x1x5120_0_1_0)
abbrev d27 (D : Vec F S4x4x5120 .f32) := k0_pay83 (delRow D 2 inb_S4x4x5120_S4x1x5120_0_2_0)
abbrev d29 (D : Vec F S4x4x5120 .f32) := k0_pay84 (delRow D 3 inb_S4x4x5120_S4x1x5120_0_3_0)

/-- The decoded boxes of a block. -/
def corners (D : Vec F S4x4x5120 .f32) (P : Vec F S1x4x5120 .f32) : Corners F where
  y1 := k0_pay87 (p8 P) (p12 P) (d19 D) (d27 D)
  x1 := k0_pay88 (p9 P) (p15 P) (d23 D) (d29 D)
  y2 := k0_pay89 (p8 P) (p12 P) (d19 D) (d27 D)
  x2 := k0_pay90 (p9 P) (p15 P) (d23 D) (d29 D)
  area := k0_pay91 (p8 P) (p9 P) (p12 P) (p15 P) (d19 D) (d23 D) (d27 D) (d29 D)

/-- The suppression loop's buffers as it is entered. -/
def wstart (L : Vec F S4x21x5120 .f32) : WSt F :=
  ⟨k0_pay92 L, k0_pay93, k0_pay94, k0_pay95, k0_pay96, k0_pay97⟩

/-- And as it leaves them. -/
def wend (L : Vec F S4x21x5120 .f32) (B : Corners F) : WSt F := wrun B 200 0#32 0#1 (wstart L)

/-- The merge of what the loop kept, over result blocks holding anything. -/
def mend (w : WSt F) (o : MSt F) : MSt F := mrun w { o with ky := w.ky } 50

section Body

variable (c : Dev nD) (i : grid0.Coords)
  (arg1 : Memref sig .tc .vmem S4x21x5120 .f32) (harg1 : arg1.IsWhole) (arg2 : Memref sig .tc .vmem S4x4x5120 .f32) (harg2 : arg2.IsWhole)
  (arg3 : Memref sig .tc .vmem S1x4x5120 .f32) (harg3 : arg3.IsWhole) (arg4 : Memref sig .tc .vmem S1x4x200 .f32) (harg4 : arg4.IsWhole)
  (arg5 : Memref sig .tc .vmem S1x4x200 .f32) (harg5 : arg5.IsWhole) (arg6 : Memref sig .tc .vmem S1x4x200 .f32) (harg6 : arg6.IsWhole)
  (arg7 : Memref sig .tc .vmem S1x4x200 .f32) (harg7 : arg7.IsWhole) (arg8 : Memref sig .tc .vmem S1x4x200 .f32) (harg8 : arg8.IsWhole)
  (arg9 : Memref sig .tc .vmem S1x4x200 .f32) (harg9 : arg9.IsWhole) (arg10 : Memref sig .tc .vmem S4x21x5120 .f32) (harg10 : arg10.IsWhole)
  (arg11 : Memref sig .tc .vmem S4x21x200 .f32) (harg11 : arg11.IsWhole) (arg12 : Memref sig .tc .vmem S4x21x200 .f32) (harg12 : arg12.IsWhole)
  (arg13 : Memref sig .tc .vmem S4x21x200 .f32) (harg13 : arg13.IsWhole) (arg14 : Memref sig .tc .vmem S4x21x200 .f32) (harg14 : arg14.IsWhole)
  (arg15 : Memref sig .tc .vmem S4x21x200 .f32) (harg15 : arg15.IsWhole)

theorem trips_50 : k0_t1_loop.trips = 50 := by decide

set_option maxHeartbeats 4000000 in
/-- The kernel body, from its input blocks and any contents of the rest. -/
theorem body_run (L : Vec F S4x21x5120 .f32) (D : Vec F S4x4x5120 .f32) (P : Vec F S1x4x5120 .f32) (o : MSt F) (s : WSt F) :
    iprop(owns (c : Thread nD τ) arg1 fullShare L ∗ owns (c : Thread nD τ) arg2 fullShare D ∗ owns (c : Thread nD τ) arg3 fullShare P
        ∗ (owns (c : Thread nD τ) arg4 fullShare o.y1 ∗ owns (c : Thread nD τ) arg5 fullShare o.x1
          ∗ owns (c : Thread nD τ) arg6 fullShare o.y2 ∗ owns (c : Thread nD τ) arg7 fullShare o.x2
          ∗ owns (c : Thread nD τ) arg8 fullShare o.sc ∗ owns (c : Thread nD τ) arg9 fullShare o.cl)
        ∗ s.own c arg10 arg11 arg12 arg13 arg14 arg15)
      ⊢ wp frame (wpE (defs₀ (F := F)) variants (c : Thread nD τ) none) Set.univ
          (cc0__nms_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare L ∗ owns (c : Thread nD τ) arg2 fullShare D ∗ owns (c : Thread nD τ) arg3 fullShare P
            ∗ (mend (wend L (corners D P)) o).own c arg4 arg5 arg6 arg7 arg8 arg9 arg11
            ∗ (∃ d, owns (c : Thread nD τ) arg10 fullShare d) ∗ (∃ d, owns (c : Thread nD τ) arg12 fullShare d)
            ∗ (∃ d, owns (c : Thread nD τ) arg13 fullShare d) ∗ (∃ d, owns (c : Thread nD τ) arg14 fullShare d)
            ∗ (∃ d, owns (c : Thread nD τ) arg15 fullShare d)) : sProp 𝕄)) := by
  simp only [cc0__nms_kernel_eq_skeleton]
  unfold cc0__nms_kernel_skel
  simp only [k0_part13_eq_skeleton, k0_part14_eq_skeleton, k0_part15_eq_skeleton]
  unfold k0_part13_skel k0_part14_skel k0_part15_skel
  simp only [Prog.lift, Prog.bind_op, Prog.bind_ret, Prog.pure_eq_ret]
  unfold WSt.own
  iintro ⟨H1, H2, H3, ⟨H4, H5, H6, H7, H8, H9⟩, H10, H11, H12, H13, H14, H15⟩
  iterate 4
    iapply (own_load variants (c : Thread nD τ) none Set.univ (m := arg3)) $$ H3; iintro H3
  iterate 4
    iapply (own_load variants (c : Thread nD τ) none Set.univ (m := arg2)) $$ H2; iintro H2
  iapply (own_load_whole variants (c : Thread nD τ) none Set.univ (m := arg1) zero3) $$ H1; iintro H1
  iapply (own_load_whole variants (c : Thread nD τ) none Set.univ (m := arg10) zero3) $$ H10; iintro H10
  iapply (own_store_whole variants (c : Thread nD τ) none Set.univ (m := arg10) zero3) $$ H10; iintro H10
  iapply (own_load_whole variants (c : Thread nD τ) none Set.univ (m := arg11) zero3) $$ H11; iintro H11
  iapply (own_store_whole variants (c : Thread nD τ) none Set.univ (m := arg11) zero3) $$ H11; iintro H11
  iapply (own_load_whole variants (c : Thread nD τ) none Set.univ (m := arg12) zero3) $$ H12; iintro H12
  iapply (own_store_whole variants (c : Thread nD τ) none Set.univ (m := arg12) zero3) $$ H12; iintro H12
  iapply (own_load_whole variants (c : Thread nD τ) none Set.univ (m := arg13) zero3) $$ H13; iintro H13
  iapply (own_store_whole variants (c : Thread nD τ) none Set.univ (m := arg13) zero3) $$ H13; iintro H13
  iapply (own_load_whole variants (c : Thread nD τ) none Set.univ (m := arg14) zero3) $$ H14; iintro H14
  iapply (own_store_whole variants (c : Thread nD τ) none Set.univ (m := arg14) zero3) $$ H14; iintro H14
  iapply (own_load_whole variants (c : Thread nD τ) none Set.univ (m := arg15) zero3) $$ H15; iintro H15
  iapply (own_store_whole variants (c : Thread nD τ) none Set.univ (m := arg15) zero3) $$ H15; iintro H15
  iapply (wp_call_spec variants (c : Thread nD τ) none Set.univ
    (spec c arg10 arg11 arg12 arg13 arg14 arg15 (corners D P) 200 0#32 0#1 (wstart L)) 200 (fun u hu => nomatch hu)
    (spec_le c i arg10 harg10 arg11 harg11 arg12 harg12 arg13 harg13 arg14 harg14 arg15 harg15 (corners D P) Set.univ 200 0#32
      (by decide) 0#1 (wstart L)))
  rw [spec_apply]
  unfold WSt.own
  isplitl [H10 H11 H12 H13 H14 H15]
  · isplitl [H10]; · iexact H10
    isplitl [H11]; · iexact H11
    isplitl [H12]; · iexact H12
    isplitl [H13]; · iexact H13
    isplitl [H14]; · iexact H14
    iexact H15
  iintro %r ⟨H10, H11, H12, H13, H14, H15⟩
  iapply (own_load_whole variants (c : Thread nD τ) none Set.univ (m := arg12) zero3) $$ H12; iintro H12
  iapply (own_load_whole variants (c : Thread nD τ) none Set.univ (m := arg13) zero3) $$ H13; iintro H13
  iapply (own_load_whole variants (c : Thread nD τ) none Set.univ (m := arg14) zero3) $$ H14; iintro H14
  iapply (own_load_whole variants (c : Thread nD τ) none Set.univ (m := arg15) zero3) $$ H15; iintro H15
  iapply (Scf.wp_for_bind frame (wpE (defs₀ (F := F)) variants (c : Thread nD τ) none) Set.univ k0_t1_loop.lb k0_t1_loop.ub
    k0_t1_loop.st k0_t1_ok () _
    (fun k _ => (mrun (wend L (corners D P)) { o with ky := (wend L (corners D P)).ky } k).own c arg4 arg5 arg6 arg7 arg8 arg9 arg11)
    (fun k _ => merge_trip variants c i arg1 harg1 arg2 harg2 arg3 harg3 arg4 harg4 arg5 harg5 arg6 harg6 arg7 harg7 arg8 harg8 arg9 harg9 arg10 harg10 arg11 harg11 arg12 harg12 arg13 harg13 arg14 harg14 arg15 harg15 (wend L (corners D P)) k _)) $$ [H4 H5 H6 H7 H8 H9 H11]
  · unfold MSt.own mrun
    isplitl [H4]; · iexact H4
    isplitl [H5]; · iexact H5
    isplitl [H6]; · iexact H6
    isplitl [H7]; · iexact H7
    isplitl [H8]; · iexact H8
    isplitl [H9]; · iexact H9
    iexact H11
  iintro %_ HM
  rw [wp_ret]; imodintro
  isplitl [H1]; · iexact H1
  isplitl [H2]; · iexact H2
  isplitl [H3]; · iexact H3
  isplitl [HM]
  · unfold mend
    rw [show (50 : ℕ) = Scf.trips k0_t1_loop.lb k0_t1_loop.ub k0_t1_loop.st from trips_50.symm]
    iexact HM
  isplitl [H10]; · iexists _; iexact H10
  isplitl [H12]; · iexists _; iexact H12
  isplitl [H13]; · iexists _; iexact H13
  isplitl [H14]; · iexists _; iexact H14
  iexists _; iexact H15

end Body

end Cert.Proof.KI

end
-- ==== Proof.KI.Fresh.lean ====
/-
  What the merge leaves, in closed form. Result slot `j` receives the `j`-th selection and nothing after it, so the six
  result blocks depend on the keys and corners only, and not on what they held before: `mrun_eq`.
-/
module

public import proofs.«01_k».proof.Proof.KI.Body
public import Idealize.ShloMosaic.Lib.WordCmp
public import Idealize.ShloMosaic.Lib.ValueIdxCore
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The best remaining key of each image set to −1, in the class and slot where it stands first. -/
def mnext (ky : Vec F S4x21x200 .f32) : Vec F S4x21x200 .f32 := k0_pay56 ky (k0_pay59 k0_pay98 ky)

/-- The keys after `j` selections. -/
def mkeys (ky : Vec F S4x21x200 .f32) (j : ℕ) : Vec F S4x21x200 .f32 := mnext^[j] ky

theorem mkeys_zero (ky : Vec F S4x21x200 .f32) : mkeys ky 0 = ky := rfl
theorem mkeys_succ (ky : Vec F S4x21x200 .f32) (j : ℕ) : mkeys ky (j + 1) = mnext (mkeys ky j) :=
  Function.iterate_succ_apply' mnext j ky

/-- A state with the keys given and zero results. -/
def zst (ky : Vec F S4x21x200 .f32) : MSt F :=
  ⟨ky, fun _ => Scalar.ofBits .f32 0#32, fun _ => Scalar.ofBits .f32 0#32, fun _ => Scalar.ofBits .f32 0#32,
    fun _ => Scalar.ofBits .f32 0#32, fun _ => Scalar.ofBits .f32 0#32, fun _ => Scalar.ofBits .f32 0#32⟩

/-- The six result blocks of a state, by number. -/
def MSt.get (s : MSt F) : Fin 6 → Vec F S1x4x200 .f32
  | 0 => s.y1 | 1 => s.x1 | 2 => s.y2 | 3 => s.x2 | 4 => s.sc | 5 => s.cl

/-- Two states with the same keys and result blocks are one. -/
theorem MSt.ext_get {s s' : MSt F} (hk : s.ky = s'.ky) (h : ∀ q, s.get q = s'.get q) : s = s' := by
  obtain ⟨k, a, b, c, d, e, f⟩ := s
  obtain ⟨k', a', b', c', d', e', f'⟩ := s'
  obtain rfl : k = k' := hk
  obtain rfl : a = a' := h 0
  obtain rfl : b = b' := h 1
  obtain rfl : c = c' := h 2
  obtain rfl : d = d' := h 3
  obtain rfl : e = e' := h 4
  obtain rfl : f = f' := h 5
  rfl

/-- The mask of result slot `n`. -/
theorem slot_mask (n : ℕ) (hn : n < 200) (y : S1x4x200.Idx) :
    k0_pay61 oslots (BitVec.ofNat 32 n) y = BitVec.ofBool (decide ((y 2).val = n)) := by
  have hy : (y 2).val < 200 := (y 2).isLt
  show IntOp.cmpi .eq (BitVec.ofNat 32 (0 * 200 + (y 2).val)) (BitVec.ofNat 32 n) = _
  rw [Nat.zero_mul, Nat.zero_add]
  show BitVec.ofBool (BitVec.ofNat 32 (y 2).val == BitVec.ofNat 32 n) = _
  congr 1
  rw [Bool.eq_iff_iff, beq_iff_eq, decide_eq_true_iff]
  constructor
  · intro h
    have := congrArg BitVec.toNat h
    simp only [BitVec.toNat_ofNat] at this
    omega
  · intro h; rw [h]

/-- A selection over old contents: at the selected slot the new value, elsewhere the old one. -/
theorem put_at (n : ℕ) (hn : n < 200) (N o o' : S1x4x200.Idx → F .f32) (h : S1x4x200.ShapeCasts S1x4x200) (y : S1x4x200.Idx) :
    select (k0_pay61 oslots (BitVec.ofNat 32 n)) N (shapeCast S1x4x200 o h) y
      = if (y 2).val = n then select (k0_pay61 oslots (BitVec.ofNat 32 n)) N (shapeCast S1x4x200 o' h) y else o y := by
  simp only [Idealize.ShloMosaic.ValueIdx.select_apply, shapeCast_self, slot_mask n hn]
  by_cases hy : (y 2).val = n <;> simp [hy, Scalar.select]

/-- A selection into slot `n` changes slot `n` only, and there to what the keys say. -/
theorem mstep_get (w : WSt F) (s : MSt F) (n : ℕ) (hn : n < 200) (q : Fin 6) (y : S1x4x200.Idx) :
    (mstep w (BitVec.ofNat 32 n) s).get q y
      = if (y 2).val = n then (mstep w (BitVec.ofNat 32 n) (zst s.ky)).get q y else s.get q y := by
  match q with
  | 0 => simp only [MSt.get, mstep, k0_pay70]; exact put_at n hn _ _ _ _ y
  | 1 => simp only [MSt.get, mstep, k0_pay71]; exact put_at n hn _ _ _ _ y
  | 2 => simp only [MSt.get, mstep, k0_pay72]; exact put_at n hn _ _ _ _ y
  | 3 => simp only [MSt.get, mstep, k0_pay73]; exact put_at n hn _ _ _ _ y
  | 4 => simp only [MSt.get, mstep, k0_pay62]; exact put_at n hn _ _ _ _ y
  | 5 => simp only [MSt.get, mstep, k0_pay66]; exact put_at n hn _ _ _ _ y

/-- The merge's results, closed: slot `j` from the keys after `j` selections. -/
def mdone (w : WSt F) (ky : Vec F S4x21x200 .f32) : MSt F where
  ky := mkeys ky 200
  y1 := fun y => (mstep w (BitVec.ofNat 32 (y 2).val) (zst (mkeys ky (y 2).val))).get 0 y
  x1 := fun y => (mstep w (BitVec.ofNat 32 (y 2).val) (zst (mkeys ky (y 2).val))).get 1 y
  y2 := fun y => (mstep w (BitVec.ofNat 32 (y 2).val) (zst (mkeys ky (y 2).val))).get 2 y
  x2 := fun y => (mstep w (BitVec.ofNat 32 (y 2).val) (zst (mkeys ky (y 2).val))).get 3 y
  sc := fun y => (mstep w (BitVec.ofNat 32 (y 2).val) (zst (mkeys ky (y 2).val))).get 4 y
  cl := fun y => (mstep w (BitVec.ofNat 32 (y 2).val) (zst (mkeys ky (y 2).val))).get 5 y

theorem mdone_get (w : WSt F) (ky : Vec F S4x21x200 .f32) (q : Fin 6) (y : S1x4x200.Idx) :
    (mdone w ky).get q y = (mstep w (BitVec.ofNat 32 (y 2).val) (zst (mkeys ky (y 2).val))).get q y := by
  match q with
  | 0 => dsimp only [MSt.get, mdone]
  | 1 => dsimp only [MSt.get, mdone]
  | 2 => dsimp only [MSt.get, mdone]
  | 3 => dsimp only [MSt.get, mdone]
  | 4 => dsimp only [MSt.get, mdone]
  | 5 => dsimp only [MSt.get, mdone]

/-- The keys have had `n` selections and the first `n` result slots are as `mdone` says. -/
structure Upto (w : WSt F) (ky : Vec F S4x21x200 .f32) (n : ℕ) (s : MSt F) : Prop where
  keys : s.ky = mkeys ky n
  slot : ∀ q (y : S1x4x200.Idx), (y 2).val < n → s.get q y = (mdone w ky).get q y

theorem mstep_ky (w : WSt F) (t : BitVec 32) (s : MSt F) : (mstep w t s).ky = mnext s.ky := by
  dsimp only [mstep, mnext]
theorem mdone_ky (w : WSt F) (ky : Vec F S4x21x200 .f32) : (mdone w ky).ky = mkeys ky 200 := by
  dsimp only [mdone]

theorem upto_step {w : WSt F} {ky : Vec F S4x21x200 .f32} {n : ℕ} {s : MSt F} (hn : n < 200) (h : Upto w ky n s) :
    Upto w ky (n + 1) (mstep w (BitVec.ofNat 32 n) s) := by
  refine ⟨?_, fun q y hy => ?_⟩
  · rw [mstep_ky, h.keys, mkeys_succ]
  · rw [mstep_get w s n hn]
    by_cases e : (y 2).val = n
    · rw [if_pos e, mdone_get, e, h.keys]
    · rw [if_neg e]; exact h.slot q y (by omega)

/-- The loop's slot numbers are the numbers `4k + j`. -/
theorem mslot_eq (k j : ℕ) : mslot k j = BitVec.ofNat 32 (4 * k + j) := by
  show (0#32 + BitVec.ofNat 32 k * 1#32) * 4#32 + BitVec.ofNat 32 j = _
  apply BitVec.eq_of_toNat_eq
  have h0 : (0#32).toNat = 0 := rfl
  have h1 : (1#32).toNat = 1 := rfl
  have h4 : (4#32).toNat = 4 := rfl
  simp only [BitVec.toNat_add, BitVec.toNat_mul, BitVec.toNat_ofNat, h0, h1, h4]
  omega

theorem upto_run (w : WSt F) (s : MSt F) : ∀ k, k ≤ 50 → Upto w s.ky (4 * k) (mrun w s k) := by
  intro k
  induction k with
  | zero => exact fun _ => ⟨(mkeys_zero s.ky).symm, fun _ _ h => absurd h (by omega)⟩
  | succ k ih =>
    intro hk
    have h := ih (by omega)
    show Upto w s.ky (4 * k + 4) (mtrip w k (mrun w s k))
    unfold mtrip
    simp only [mslot_eq]
    exact upto_step (by omega) (upto_step (by omega) (upto_step (by omega) (upto_step (by omega) h)))

/-- The merge from any result blocks leaves `mdone`. -/
theorem mrun_eq (w : WSt F) (s : MSt F) : mrun w s 50 = mdone w s.ky := by
  have h : Upto w s.ky 200 (mrun w s 50) := upto_run w s 50 le_rfl
  exact MSt.ext_get (h.keys.trans (mdone_ky w s.ky).symm) fun q => funext fun y => h.slot q y (y 2).isLt

/-- What one grid point leaves, from its three input blocks. -/
def bodyOut (L : Vec F S4x21x5120 .f32) (D : Vec F S4x4x5120 .f32) (P : Vec F S1x4x5120 .f32) : MSt F :=
  mdone (wend L (corners D P)) (wend L (corners D P)).ky

theorem mend_eq (L : Vec F S4x21x5120 .f32) (D : Vec F S4x4x5120 .f32) (P : Vec F S1x4x5120 .f32) (o : MSt F) :
    mend (wend L (corners D P)) o = bodyOut L D P := mrun_eq _ _

end Cert.Proof.KI

end
-- ==== Proof.KI.Launch.lean ====
/-
  The host program around the kernel's launch: what the launch finds (`V`), that the host lines write none of the three
  arguments, and the frame claim read off a run of the whole (`frame_of`).
-/
module

public import proofs.«01_k».proof.Proof.KI.Fresh
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the launch. -/
abbrev before : List (List (HloOp τ sig (Elt F))) :=
  [hostOps0, hostOps0_1, hostOps0_2, hostOps0_3, hostOps0_4, hostOps0_5, hostOps0_6]

/-- A core's buffers as the launch finds them, and the same read at a reference. -/
abbrev V0 (c : Dev nD) : Valuation τ sig (Elt F) := StableHlo.after (List.flatten before) (fun b => m (c, b))
abbrev V (c : Dev nD) (b : Ref sig .tc) : Buf (Elt F) ((c : Thread nD τ).loc b) := V0 m c (Proc.devRef .tc b)

theorem before_fresh : (before : List (List (HloOp τ sig (Elt F)))).Forall fun ops => ops.Forall fun op => op.fresh = ∅ := by
  simp only [List.Forall]; repeat' constructor
theorem after_fresh : (hostOps1 : List (HloOp τ sig (Elt F))).Forall fun op => op.fresh = ∅ := by
  simp only [List.Forall]; repeat' constructor

set_option maxHeartbeats 800000 in
/-- The program is the host lines, the launch, and the host lines after it. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main before [hostOps1]
    (by simp only [List.Forall]; exact ⟨hostOps0_sub, hostOps0_1_sub, hostOps0_2_sub, hostOps0_3_sub, hostOps0_4_sub, hostOps0_5_sub, hostOps0_6_sub⟩)
    (by have h := before_fresh (F := F); simp only [before, List.Forall] at h ⊢; exact h) main_chain

/-- The lines after the launch touch the launch's arrays and the buffers beside it only, allocate nothing, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl := List.mem_singleton.mp hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp after_fresh) op hop
/-- and write none of the launch's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The three arguments. -/
abbrev IsArg (b : Ref sig .tc) : Prop := b = main_arg0 ∨ b = main_arg1 ∨ b = main_arg2

set_option maxHeartbeats 800000 in
/-- No host line before the launch writes an argument, -/
theorem before_keeps (b : Ref sig .tc) (hb : IsArg b) :
    ∀ op ∈ (List.flatten before : List (HloOp τ sig (Elt F))), Proc.devRef .tc b ∉ op.writes :=
  List.forall_iff_forall_mem.mp (by
    rcases hb with rfl | rfl | rfl <;>
    · simp only [before, hostOps0, hostOps0_1, hostOps0_2, hostOps0_3, hostOps0_4, hostOps0_5, hostOps0_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))
/-- nor one after it. -/
theorem after_keeps (b : Ref sig .tc) (hb : IsArg b) :
    ∀ op ∈ (List.flatten [hostOps1] : List (HloOp τ sig (Elt F))), Proc.devRef .tc b ∉ op.writes :=
  List.forall_iff_forall_mem.mp (by
    rcases hb with rfl | rfl | rfl <;>
    · simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))

theorem arr_ne (b : Ref sig .tc) (hb : IsArg b) : ∀ w, Pipeline.arrRef spec0 w ≠ b := by
  rcases hb with rfl | rfl | rfl <;> exact by decide

/-- The launch finds an argument as it was given, and the whole program leaves it so. -/
theorem V_arg (c : Dev nD) (b : Ref sig .tc) (hb : IsArg b) : V m c b = m ((c : Thread nD τ).loc b) :=
  StableHlo.after_of_forall_not_mem (b := Proc.devRef .tc b) _ _ (before_keeps b hb)
theorem W_arg (dats : (p : Fin 1) → (c : Dev nD) → Dat τ (Elt F) Unit ℕ (UR sig nD τ) ℕ ((cfgs (F := F)) p) c) (c : Dev nD)
    (b : Ref sig .tc) (hb : IsArg b) :
    Pipeline.afterTail₀ (cfgs (F := F)) dats 0 (V0 m) [hostOps1] c b = m ((c : Thread nD τ).loc b) := by
  unfold Pipeline.afterTail₀
  rw [StableHlo.after_of_forall_not_mem (b := Proc.devRef .tc b) _ _ (after_keeps b hb),
    Pipeline.withArrays_of_ne _ c (V0 m c) _ b (arr_ne b hb)]
  exact V_arg m c b hb

/-- Window `w`'s block at point `t`, read off its array as the launch finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the arguments hold at the end, from a run of the whole. -/
theorem frame_of (dats : (p : Fin 1) → (c : Dev nD) → Dat τ (Elt F) Unit ℕ (UR sig nD τ) ℕ ((cfgs (F := F)) p) c)
    (r : PUnit × MemSt nD τ sig (Elt F)) (c : Dev nD)
    (h : Pipeline.FramePost (cfgs (F := F)) dats 0 (Pipeline.afterTail₀ (cfgs (F := F)) dats 0 (V0 m) [hostOps1]) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (arr_ne _ (.inl rfl)))).trans (W_arg m dats c _ (.inl rfl)),
    ((h c).2 main_arg1 (Pipeline.mem_restRefs_of main_arg1 (by decide) (arr_ne _ (.inr (.inl rfl))))).trans (W_arg m dats c _ (.inr (.inl rfl))),
    ((h c).2 main_arg2 (Pipeline.mem_restRefs_of main_arg2 (by decide) (arr_ne _ (.inr (.inr rfl))))).trans (W_arg m dats c _ (.inr (.inr rfl)))⟩

/-- Each window's buffer at point `t`, and its wholeness. -/
abbrev ms0_0 (t : Fin (cfg0 (F := F)).N) : Memref sig .tc .vmem S4x21x5120 .f32 := win0_0.stage ((cfg0 (F := F)).slots t 0)
abbrev ms0_1 (t : Fin (cfg0 (F := F)).N) : Memref sig .tc .vmem S4x4x5120 .f32 := win0_1.stage ((cfg0 (F := F)).slots t 1)
abbrev ms0_2 (t : Fin (cfg0 (F := F)).N) : Memref sig .tc .vmem S1x4x5120 .f32 := win0_2.stage ((cfg0 (F := F)).slots t 2)
abbrev ms0_3 (t : Fin (cfg0 (F := F)).N) : Memref sig .tc .vmem S1x4x200 .f32 := win0_3.stage ((cfg0 (F := F)).slots t 3)
abbrev ms0_4 (t : Fin (cfg0 (F := F)).N) : Memref sig .tc .vmem S1x4x200 .f32 := win0_4.stage ((cfg0 (F := F)).slots t 4)
abbrev ms0_5 (t : Fin (cfg0 (F := F)).N) : Memref sig .tc .vmem S1x4x200 .f32 := win0_5.stage ((cfg0 (F := F)).slots t 5)
abbrev ms0_6 (t : Fin (cfg0 (F := F)).N) : Memref sig .tc .vmem S1x4x200 .f32 := win0_6.stage ((cfg0 (F := F)).slots t 6)
abbrev ms0_7 (t : Fin (cfg0 (F := F)).N) : Memref sig .tc .vmem S1x4x200 .f32 := win0_7.stage ((cfg0 (F := F)).slots t 7)
abbrev ms0_8 (t : Fin (cfg0 (F := F)).N) : Memref sig .tc .vmem S1x4x200 .f32 := win0_8.stage ((cfg0 (F := F)).slots t 8)
/-- The kernel's scratch buffers. -/
abbrev scM0_0 : Memref sig .tc .vmem S4x21x5120 .f32 := Memref.whole cc0_scratch0
abbrev scM0_1 : Memref sig .tc .vmem S4x21x200 .f32 := Memref.whole cc0_scratch1
abbrev scM0_2 : Memref sig .tc .vmem S4x21x200 .f32 := Memref.whole cc0_scratch2
abbrev scM0_3 : Memref sig .tc .vmem S4x21x200 .f32 := Memref.whole cc0_scratch3
abbrev scM0_4 : Memref sig .tc .vmem S4x21x200 .f32 := Memref.whole cc0_scratch4
abbrev scM0_5 : Memref sig .tc .vmem S4x21x200 .f32 := Memref.whole cc0_scratch5

/-- What a point hands the body beside its windows: the scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Proof.KI

end
-- ==== Proof.KI.Frame.lean ====
/-
  The launch, run: each grid point's body keeps its input blocks and leaves the six result blocks at `bodyOut` of them;
  so the whole program ends with every array the launch wrote at `bodyOut`, block by block, and every argument unchanged.
-/
module

public import proofs.«01_k».proof.Proof.KI.Launch

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves at point `t`. -/
def outAt (c : Dev nD) (t : Fin (cfg0 (F := F)).N) : MSt F := bodyOut (iblk m c 0 t) (iblk m c 1 t) (iblk m c 2 t)

/-- The launch's arrays and buffers: inputs kept, results at `outAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t).y1
    | ⟨4, _⟩ => (outAt m c t).x1
    | ⟨5, _⟩ => (outAt m c t).y2
    | ⟨6, _⟩ => (outAt m c t).x2
    | ⟨7, _⟩ => (outAt m c t).sc
    | ⟨8, _⟩ => (outAt m c t).cl
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = (outAt m c t).y1 := rfl
theorem after0_4 (c : Dev nD) (t : Fin (cfg0 (F := F)).N) : (dats m 0 c).after 4 t = (outAt m c t).x1 := rfl
theorem after0_5 (c : Dev nD) (t : Fin (cfg0 (F := F)).N) : (dats m 0 c).after 5 t = (outAt m c t).y2 := rfl
theorem after0_6 (c : Dev nD) (t : Fin (cfg0 (F := F)).N) : (dats m 0 c).after 6 t = (outAt m c t).x2 := rfl
theorem after0_7 (c : Dev nD) (t : Fin (cfg0 (F := F)).N) : (dats m 0 c).after 7 t = (outAt m c t).sc := rfl
theorem after0_8 (c : Dev nD) (t : Fin (cfg0 (F := F)).N) : (dats m 0 c).after 8 t = (outAt m c t).cl := rfl

/-- An input's buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; rfl) t d).trans
    (by unfold Dat.fetched Dat.blockOf iblk; rw [A_eq]; try rfl)

/-- What the body is called with at point `t`, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 (F := F) t) fullShare ((dats m 0 c).before 0 t d))
    ∗ (∃ d, owns (c : Thread nD τ) (ms0_1 (F := F) t) fullShare ((dats m 0 c).before 1 t d))
    ∗ (∃ d, owns (c : Thread nD τ) (ms0_2 (F := F) t) fullShare ((dats m 0 c).before 2 t d))
    ∗ (∃ d, owns (c : Thread nD τ) (ms0_3 (F := F) t) fullShare ((dats m 0 c).before 3 t d))
    ∗ (∃ d, owns (c : Thread nD τ) (ms0_4 (F := F) t) fullShare ((dats m 0 c).before 4 t d))
    ∗ (∃ d, owns (c : Thread nD τ) (ms0_5 (F := F) t) fullShare ((dats m 0 c).before 5 t d))
    ∗ (∃ d, owns (c : Thread nD τ) (ms0_6 (F := F) t) fullShare ((dats m 0 c).before 6 t d))
    ∗ (∃ d, owns (c : Thread nD τ) (ms0_7 (F := F) t) fullShare ((dats m 0 c).before 7 t d))
    ∗ (∃ d, owns (c : Thread nD τ) (ms0_8 (F := F) t) fullShare ((dats m 0 c).before 8 t d)))
def bodyPost (c : Dev nD) (t : Fin (cfg0 (F := F)).N) : sProp 𝕄 :=
  iprop((dats m 0 c).Φ t.succ ∗ (dats m 0 c).owesAt () t.succ
    ∗ owns (c : Thread nD τ) (ms0_0 (F := F) t) fullShare ((dats m 0 c).after 0 t)
    ∗ owns (c : Thread nD τ) (ms0_1 (F := F) t) fullShare ((dats m 0 c).after 1 t)
    ∗ owns (c : Thread nD τ) (ms0_2 (F := F) t) fullShare ((dats m 0 c).after 2 t)
    ∗ owns (c : Thread nD τ) (ms0_3 (F := F) t) fullShare ((dats m 0 c).after 3 t)
    ∗ owns (c : Thread nD τ) (ms0_4 (F := F) t) fullShare ((dats m 0 c).after 4 t)
    ∗ owns (c : Thread nD τ) (ms0_5 (F := F) t) fullShare ((dats m 0 c).after 5 t)
    ∗ owns (c : Thread nD τ) (ms0_6 (F := F) t) fullShare ((dats m 0 c).after 6 t)
    ∗ owns (c : Thread nD τ) (ms0_7 (F := F) t) fullShare ((dats m 0 c).after 7 t)
    ∗ owns (c : Thread nD τ) (ms0_8 (F := F) t) fullShare ((dats m 0 c).after 8 t))

/-- The merged blocks are `bodyOut`. -/
theorem own_done (c : Dev nD) (arg4 arg5 arg6 arg7 arg8 arg9 : Memref sig .tc .vmem S1x4x200 .f32) (arg11 : Memref sig .tc .vmem S4x21x200 .f32)
    (L : Vec F S4x21x5120 .f32) (D : Vec F S4x4x5120 .f32) (P : Vec F S1x4x5120 .f32) (o : MSt F) :
    (mend (wend L (corners D P)) o).own c arg4 arg5 arg6 arg7 arg8 arg9 arg11
      ⊢ ((bodyOut L D P).own c arg4 arg5 arg6 arg7 arg8 arg9 arg11 : sProp 𝕄) := by rw [mend_eq]

set_option maxHeartbeats 1200000 in
/-- The body at any point, by `body_run` and `mend_eq`. -/
theorem sound_body (c : Dev nD) (t : Fin (cfg0 (F := F)).N) :
    bodyPre m c t ⊢ wp frame (wpE (defs₀ (F := F)) variants c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) variants (c : Thread nD τ) none) Set.univ)
  isplitl [H0 H1 H2 H3 H4 H5 H6 H7 H8 HS0 HS1 HS2 HS3 HS4 HS5]
  · iapply (body_run c (grid0.coords t) _ _ _ _ _ _ _ _ _ _ _ _ _ _ _ _ _ _ _ _ _ _ _ _ _ _ _ _ _ _ (iblk m c 0 t) (iblk m c 1 t) (iblk m c 2 t)
      ⟨s1, (dats m 0 c).before 3 t d3, (dats m 0 c).before 4 t d4, (dats m 0 c).before 5 t d5, (dats m 0 c).before 6 t d6, (dats m 0 c).before 7 t d7, (dats m 0 c).before 8 t d8⟩
      ⟨s0, s1, s2, s3, s4, s5⟩)
    unfold WSt.own
    isplitl [H0]; · iexact H0
    isplitl [H1]; · iexact H1
    isplitl [H2]; · iexact H2
    isplitl [H3 H4 H5 H6 H7 H8]
    · isplitl [H3]; · iexact H3
      isplitl [H4]; · iexact H4
      isplitl [H5]; · iexact H5
      isplitl [H6]; · iexact H6
      isplitl [H7]; · iexact H7
      iexact H8
    isplitl [HS0]; · iexact HS0
    isplitl [HS1]; · iexact HS1
    isplitl [HS2]; · iexact HS2
    isplitl [HS3]; · iexact HS3
    isplitl [HS4]; · iexact HS4
    iexact HS5
  iintro %u ⟨H0, H1, H2, HM, HS0, HS2, HS3, HS4, HS5⟩
  ihave HM := (own_done c (ms0_3 (F := F) t) (ms0_4 (F := F) t) (ms0_5 (F := F) t) (ms0_6 (F := F) t) (ms0_7 (F := F) t) (ms0_8 (F := F) t) scM0_1
      (iblk m c 0 t) (iblk m c 1 t) (iblk m c 2 t)
      ⟨s1, (dats m 0 c).before 3 t d3, (dats m 0 c).before 4 t d4, (dats m 0 c).before 5 t d5, (dats m 0 c).before 6 t d6, (dats m 0 c).before 7 t d7, (dats m 0 c).before 8 t d8⟩) $$ HM
  unfold outAt MSt.own
  icases HM with ⟨H3, H4, H5, H6, H7, H8, HS1⟩
  isplitl [HS0 HS1 HS2 HS3 HS4 HS5 Hg]
  · isplitl [HS0 HS1 HS2 HS3 HS4 HS5]
    · isplitl [HS0]; · iexact HS0
      isplitl [HS1]; · iexists _; iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The same in the form the launch asks for. -/
theorem body_obligation (c : Dev nD) : BodyObligation (dats (F := F) m 0 c) (defs₀ (F := F)) variants () Set.univ := fun t => by
  rw [bigSep_W0, bigSep_W0, defs₀_row]
  exact triple_restated (sound_body m c t) rfl .rfl fun _ => .rfl

set_option backward.isDefEq.respectTransparency.types false in
set_option maxHeartbeats 800000 in
/-- The whole program, run: every array as the launch and the host lines after it leave it, every counter at zero. -/
theorem run_main : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around (Q' := _) (cfgs (F := F)) (dats m) (0 : Fin 1) launch0 defs₀ variants m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m variants) (hA := A_eq m) (hΦ := fun _ _ => rfl)

/-- The frame claim: the arguments end unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => frame_of m (dats m) r c h.1, h.2⟩) (run_main m ρ)

end Cert.Proof.KI

end
-- ==== Proof.Ref.Ops.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! # The reference's operations

The host operations of the reference, as lists: the straight stretches of `main` before and after its loop, and
the stretches of one trip of the loop. -/

@[expose] public section

set_option maxRecDepth 2440

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

abbrev hostOps0 : List (HloOp τ sig (Elt F)) :=
  ( StableHlo.nullary main_cst (fun i => FloatOps.ofBits .f32 (lit0 (S4.rowMajor i)))
  :: StableHlo.unary main_cst main_v0 (broadcastInDim S1x1x4 ![2] bcast_S4_S1x1x4_2 : (⟨S4, .f32⟩ : BufTy).Contents (Elt F) → (⟨S1x1x4, .f32⟩ : BufTy).Contents (Elt F))
  :: StableHlo.unary main_v0 main_v1 (broadcastInDim S8x5000x4 ![0, 1, 2] bcast_S1x1x4_S8x5000x4_0_1_2 : (⟨S1x1x4, .f32⟩ : BufTy).Contents (Elt F) → (⟨S8x5000x4, .f32⟩ : BufTy).Contents (Elt F))
  :: StableHlo.binary main_arg0 main_v1 main_v2 (mulf : (⟨S8x5000x4, .f32⟩ : BufTy).Contents (Elt F) → (⟨S8x5000x4, .f32⟩ : BufTy).Contents (Elt F) → (⟨S8x5000x4, .f32⟩ : BufTy).Contents (Elt F))
  :: StableHlo.unary main_arg2 main_v3 ((extractStridedSlice S5000x1 ![0, 2] · slices_S5000x4_S5000x1_0_2) : (⟨S5000x4, .f32⟩ : BufTy).Contents (Elt F) → (⟨S5000x1, .f32⟩ : BufTy).Contents (Elt F))
  :: StableHlo.reshape main_v3 main_v4 (rfl : (.f32 : EltTy) = .f32) shapeCasts_S5000x1_S5000
  :: StableHlo.unary main_arg2 main_v5 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_v5 main_v6 (rfl : (.f32 : EltTy) = .f32) shapeCasts_S5000x1_S5000
  :: StableHlo.binary main_v4 main_v6 main_v7 (subf : (⟨S5000, .f32⟩ : BufTy).Contents (Elt F) → (⟨S5000, .f32⟩ : BufTy).Contents (Elt F) → (⟨S5000, .f32⟩ : BufTy).Contents (Elt F))
  :: StableHlo.unary main_arg2 main_v8 ((extractStridedSlice S5000x1 ![0, 3] · slices_S5000x4_S5000x1_0_3) : (⟨S5000x4, .f32⟩ : BufTy).Contents (Elt F) → (⟨S5000x1, .f32⟩ : BufTy).Contents (Elt F))
  :: StableHlo.reshape main_v8 main_v9 (rfl : (.f32 : EltTy) = .f32) shapeCasts_S5000x1_S5000
  :: StableHlo.unary main_arg2 main_v10 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_v10 main_v11 (rfl : (.f32 : EltTy) = .f32) shapeCasts_S5000x1_S5000
  :: StableHlo.binary main_v9 main_v11 main_v12 (subf : (⟨S5000, .f32⟩ : BufTy).Contents (Elt F) → (⟨S5000, .f32⟩ : BufTy).Contents (Elt F) → (⟨S5000, .f32⟩ : BufTy).Contents (Elt F))
  :: StableHlo.unary main_arg2 main_v13 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_v13 main_v14 (rfl : (.f32 : EltTy) = .f32) shapeCasts_S5000x1_S5000
  :: StableHlo.nullary main_cst_0 (constant S_ .f32 0x3F000000#32)
  :: StableHlo.unary main_cst_0 main_v15 (broadcastInDim S5000 ![] bcast_S_S5000 : (⟨S_, .f32⟩ : BufTy).Contents (Elt F) → (⟨S5000, .f32⟩ : BufTy).Contents (Elt F))
  :: StableHlo.binary main_v15 main_v7 main_v16 (mulf : (⟨S5000, .f32⟩ : BufTy).Contents (Elt F) → (⟨S5000, .f32⟩ : BufTy).Contents (Elt F) → (⟨S5000, .f32⟩ : BufTy).Contents (Elt F))
  :: StableHlo.binary main_v14 main_v16 main_v17 (addf : (⟨S5000, .f32⟩ : BufTy).Contents (Elt F) → (⟨S5000, .f32⟩ : BufTy).Contents (Elt F) → (⟨S5000, .f32⟩ : BufTy).Contents (Elt F))
  :: StableHlo.unary main_arg2 main_v18 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_v18 main_v19 (rfl : (.f32 : EltTy) = .f32) shapeCasts_S5000x1_S5000
  :: StableHlo.nullary main_cst_1 (constant S_ .f32 0x3F000000#32)
  :: StableHlo.unary main_cst_1 main_v20 (broadcastInDim S5000 ![] bcast_S_S5000 : (⟨S_, .f32⟩ : BufTy).Contents (Elt F) → (⟨S5000, .f32⟩ : BufTy).Contents (Elt F))
  :: StableHlo.binary main_v20 main_v12 main_v21 (mulf : (⟨S5000, .f32⟩ : BufTy).Contents (Elt F) → (⟨S5000, .f32⟩ : BufTy).Contents (Elt F) → (⟨S5000, .f32⟩ : BufTy).Contents (Elt F))
  :: StableHlo.binary main_v19 main_v21 main_v22 (addf : (⟨S5000, .f32⟩ : BufTy).Contents (Elt F) → (⟨S5000, .f32⟩ : BufTy).Contents (Elt F) → (⟨S5000, .f32⟩ : BufTy).Contents (Elt F))
  :: StableHlo.unary main_v2 main_v23 ((extractStridedSlice S8x5000x1 ![0, 0, 2] · slices_S8x5000x4_S8x5000x1_0_0_2) : (⟨S8x5000x4, .f32⟩ : BufTy).Contents (Elt F) → (⟨S8x5000x1, .f32⟩ : BufTy).Contents (Elt F))
  :: StableHlo.reshape main_v23 main_v24 (rfl : (.f32 : EltTy) = .f32) shapeCasts_S8x5000x1_S8x5000
  :: StableHlo.unary main_v24 main_v25 (Host.exp : (⟨S8x5000, .f32⟩ : BufTy).Contents (Elt F) → (⟨S8x5000, .f32⟩ : BufTy).Contents (Elt F))
  :: StableHlo.unary main_v7 main_v26 (broadcastInDim S1x5000 ![1] bcast_S5000_S1x5000_1 : (⟨S5000, .f32⟩ : BufTy).Contents (Elt F) → (⟨S1x5000, .f32⟩ : BufTy).Contents (Elt F))
  :: StableHlo.unary main_v26 main_v27 (broadcastInDim S8x5000 ![0, 1] bcast_S1x5000_S8x5000_0_1 : (⟨S1x5000, .f32⟩ : BufTy).Contents (Elt F) → (⟨S8x5000, .f32⟩ : BufTy).Contents (Elt F))
  :: StableHlo.binary main_v25 main_v27 main_v28 (mulf : (⟨S8x5000, .f32⟩ : BufTy).Contents (Elt F) → (⟨S8x5000, .f32⟩ : BufTy).Contents (Elt F) → (⟨S8x5000, .f32⟩ : BufTy).Contents (Elt F))
  :: StableHlo.unary main_v2 main_v29 ((extractStridedSlice S8x5000x1 ![0, 0, 3] · slices_S8x5000x4_S8x5000x1_0_0_3) : (⟨S8x5000x4, .f32⟩ : BufTy).Contents (Elt F) → (⟨S8x5000x1, .f32⟩ : BufTy).Contents (Elt F))
  :: StableHlo.reshape main_v29 main_v30 (rfl : (.f32 : EltTy) = .f32) shapeCasts_S8x5000x1_S8x5000
  :: StableHlo.unary main_v30 main_v31 (Host.exp : (⟨S8x5000, .f32⟩ : BufTy).Contents (Elt F) → (⟨S8x5000, .f32⟩ : BufTy).Contents (Elt F))
  :: StableHlo.unary main_v12 main_v32 (broadcastInDim S1x5000 ![1] bcast_S5000_S1x5000_1 : (⟨S5000, .f32⟩ : BufTy).Contents (Elt F) → (⟨S1x5000, .f32⟩ : BufTy).Contents (Elt F))
  :: StableHlo.unary main_v32 main_v33 (broadcastInDim S8x5000 ![0, 1] bcast_S1x5000_S8x5000_0_1 : (⟨S1x5000, .f32⟩ : BufTy).Contents (Elt F) → (⟨S8x5000, .f32⟩ : BufTy).Contents (Elt F))
  :: StableHlo.binary main_v31 main_v33 main_v34 (mulf : (⟨S8x5000, .f32⟩ : BufTy).Contents (Elt F) → (⟨S8x5000, .f32⟩ : BufTy).Contents (Elt F) → (⟨S8x5000, .f32⟩ : BufTy).Contents (Elt F))
  :: StableHlo.unary main_v2 main_v35 ((extractStridedSlice S8x5000x1 ![0, 0, 0] · slices_S8x5000x4_S8x5000x1_0_0_0) : (⟨S8x5000x4, .f32⟩ : BufTy).Contents (Elt F) → (⟨S8x5000x1, .f32⟩ : BufTy).Contents (Elt F))
  :: StableHlo.reshape main_v35 main_v36 (rfl : (.f32 : EltTy) = .f32) shapeCasts_S8x5000x1_S8x5000
  :: StableHlo.unary main_v7 main_v37 (broadcastInDim S1x5000 ![1] bcast_S5000_S1x5000_1 : (⟨S5000, .f32⟩ : BufTy).Contents (Elt F) → (⟨S1x5000, .f32⟩ : BufTy).Contents (Elt F))
  :: StableHlo.unary main_v37 main_v38 (broadcastInDim S8x5000 ![0, 1] bcast_S1x5000_S8x5000_0_1 : (⟨S1x5000, .f32⟩ : BufTy).Contents (Elt F) → (⟨S8x5000, .f32⟩ : BufTy).Contents (Elt F))
  :: StableHlo.binary main_v36 main_v38 main_v39 (mulf : (⟨S8x5000, .f32⟩ : BufTy).Contents (Elt F) → (⟨S8x5000, .f32⟩ : BufTy).Contents (Elt F) → (⟨S8x5000, .f32⟩ : BufTy).Contents (Elt F))
  :: StableHlo.unary main_v17 main_v40 (broadcastInDim S1x5000 ![1] bcast_S5000_S1x5000_1 : (⟨S5000, .f32⟩ : BufTy).Contents (Elt F) → (⟨S1x5000, .f32⟩ : BufTy).Contents (Elt F))
  :: StableHlo.unary main_v40 main_v41 (broadcastInDim S8x5000 ![0, 1] bcast_S1x5000_S8x5000_0_1 : (⟨S1x5000, .f32⟩ : BufTy).Contents (Elt F) → (⟨S8x5000, .f32⟩ : BufTy).Contents (Elt F))
  :: StableHlo.binary main_v39 main_v41 main_v42 (addf : (⟨S8x5000, .f32⟩ : BufTy).Contents (Elt F) → (⟨S8x5000, .f32⟩ : BufTy).Contents (Elt F) → (⟨S8x5000, .f32⟩ : BufTy).Contents (Elt F))
  :: StableHlo.unary main_v2 main_v43 ((extractStridedSlice S8x5000x1 ![0, 0, 1] · slices_S8x5000x4_S8x5000x1_0_0_1) : (⟨S8x5000x4, .f32⟩ : BufTy).Contents (Elt F) → (⟨S8x5000x1, .f32⟩ : BufTy).Contents (Elt F))
  :: StableHlo.reshape main_v43 main_v44 (rfl : (.f32 : EltTy) = .f32) shapeCasts_S8x5000x1_S8x5000
  :: StableHlo.unary main_v12 main_v45 (broadcastInDim S1x5000 ![1] bcast_S5000_S1x5000_1 : (⟨S5000, .f32⟩ : BufTy).Contents (Elt F) → (⟨S1x5000, .f32⟩ : BufTy).Contents (Elt F))
  :: StableHlo.unary main_v45 main_v46 (broadcastInDim S8x5000 ![0, 1] bcast_S1x5000_S8x5000_0_1 : (⟨S1x5000, .f32⟩ : BufTy).Contents (Elt F) → (⟨S8x5000, .f32⟩ : BufTy).Contents (Elt F))
  :: StableHlo.binary main_v44 main_v46 main_v47 (mulf : (⟨S8x5000, .f32⟩ : BufTy).Contents (Elt F) → (⟨S8x5000, .f32⟩ : BufTy).Contents (Elt F) → (⟨S8x5000, .f32⟩ : BufTy).Contents (Elt F))
  :: StableHlo.unary main_v22 main_v48 (broadcastInDim S1x5000 ![1] bcast_S5000_S1x5000_1 : (⟨S5000, .f32⟩ : BufTy).Contents (Elt F) → (⟨S1x5000, .f32⟩ : BufTy).Contents (Elt F))
  :: StableHlo.unary main_v48 main_v49 (broadcastInDim S8x5000 ![0, 1] bcast_S1x5000_S8x5000_0_1 : (⟨S1x5000, .f32⟩ : BufTy).Contents (Elt F) → (⟨S8x5000, .f32⟩ : BufTy).Contents (Elt F))
  :: StableHlo.binary main_v47 main_v49 main_v50 (addf : (⟨S8x5000, .f32⟩ : BufTy).Contents (Elt F) → (⟨S8x5000, .f32⟩ : BufTy).Contents (Elt F) → (⟨S8x5000, .f32⟩ : BufTy).Contents (Elt F))
  :: StableHlo.nullary main_cst_2 (constant S_ .f32 0x3F000000#32)
  :: StableHlo.unary main_cst_2 main_v51 (broadcastInDim S8x5000 ![] bcast_S_S8x5000 : (⟨S_, .f32⟩ : BufTy).Contents (Elt F) → (⟨S8x5000, .f32⟩ : BufTy).Contents (Elt F))
  :: StableHlo.binary main_v51 main_v28 main_v52 (mulf : (⟨S8x5000, .f32⟩ : BufTy).Contents (Elt F) → (⟨S8x5000, .f32⟩ : BufTy).Contents (Elt F) → (⟨S8x5000, .f32⟩ : BufTy).Contents (Elt F))
  :: StableHlo.binary main_v42 main_v52 main_v53 (subf : (⟨S8x5000, .f32⟩ : BufTy).Contents (Elt F) → (⟨S8x5000, .f32⟩ : BufTy).Contents (Elt F) → (⟨S8x5000, .f32⟩ : BufTy).Contents (Elt F))
  :: StableHlo.nullary main_cst_3 (constant S_ .f32 0x3F000000#32)
  :: StableHlo.unary main_cst_3 main_v54 (broadcastInDim S8x5000 ![] bcast_S_S8x5000 : (⟨S_, .f32⟩ : BufTy).Contents (Elt F) → (⟨S8x5000, .f32⟩ : BufTy).Contents (Elt F))
  :: StableHlo.binary main_v54 main_v34 main_v55 (mulf : (⟨S8x5000, .f32⟩ : BufTy).Contents (Elt F) → (⟨S8x5000, .f32⟩ : BufTy).Contents (Elt F) → (⟨S8x5000, .f32⟩ : BufTy).Contents (Elt F))
  :: StableHlo.binary main_v50 main_v55 main_v56 (subf : (⟨S8x5000, .f32⟩ : BufTy).Contents (Elt F) → (⟨S8x5000, .f32⟩ : BufTy).Contents (Elt F) → (⟨S8x5000, .f32⟩ : BufTy).Contents (Elt F))
  :: StableHlo.binary main_v53 main_v28 main_v57 (addf : (⟨S8x5000, .f32⟩ : BufTy).Contents (Elt F) → (⟨S8x5000, .f32⟩ : BufTy).Contents (Elt F) → (⟨S8x5000, .f32⟩ : BufTy).Contents (Elt F))
  :: StableHlo.binary main_v56 main_v34 main_v58 (addf : (⟨S8x5000, .f32⟩ : BufTy).Contents (Elt F) → (⟨S8x5000, .f32⟩ : BufTy).Contents (Elt F) → (⟨S8x5000, .f32⟩ : BufTy).Contents (Elt F))
  :: StableHlo.unary main_v53 main_v59 (broadcastInDim S8x5000x1 ![0, 1] bcast_S8x5000_S8x5000x1_0_1 : (⟨S8x5000, .f32⟩ : BufTy).Contents (Elt F) → (⟨S8x5000x1, .f32⟩ : BufTy).Contents (Elt F))
  :: StableHlo.unary main_v56 main_v60 (broadcastInDim S8x5000x1 ![0, 1] bcast_S8x5000_S8x5000x1_0_1 : (⟨S8x5000, .f32⟩ : BufTy).Contents (Elt F) → (⟨S8x5000x1, .f32⟩ : BufTy).Contents (Elt F))
  :: StableHlo.unary main_v57 main_v61 (broadcastInDim S8x5000x1 ![0, 1] bcast_S8x5000_S8x5000x1_0_1 : (⟨S8x5000, .f32⟩ : BufTy).Contents (Elt F) → (⟨S8x5000x1, .f32⟩ : BufTy).Contents (Elt F))
  :: StableHlo.unary main_v58 main_v62 (broadcastInDim S8x5000x1 ![0, 1] bcast_S8x5000_S8x5000x1_0_1 : (⟨S8x5000, .f32⟩ : BufTy).Contents (Elt F) → (⟨S8x5000x1, .f32⟩ : BufTy).Contents (Elt F))
  :: StableHlo.nary ![main_v59, main_v60, main_v61, main_v62] main_v63 (fun u => (concatenate S8x5000x4 2 [⟨S8x5000x1, (u 0 : (⟨S8x5000x1, .f32⟩ : BufTy).Contents (Elt F))⟩, ⟨S8x5000x1, (u 1 : (⟨S8x5000x1, .f32⟩ : BufTy).Contents (Elt F))⟩, ⟨S8x5000x1, (u 2 : (⟨S8x5000x1, .f32⟩ : BufTy).Contents (Elt F))⟩, ⟨S8x5000x1, (u 3 : (⟨S8x5000x1, .f32⟩ : BufTy).Contents (Elt F))⟩] concatenates_S8x5000x1_S8x5000x1_S8x5000x1_S8x5000x1_S8x5000x4_d2 : (⟨S8x5000x4, .f32⟩ : BufTy).Contents (Elt F)))
  :: [] )
set_option maxHeartbeats 40000000 in
theorem hostOps0_sub : (hostOps0 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub ..⟩
/-- 5 host operations of @argmax (main_call0), in order. -/
abbrev hostOps0_1 : List (HloOp τ sig (Elt F)) :=
  [ StableHlo.TRef.nullary (.of main_call0_v0 : StableHlo.TRef sig ⟨S8x5000x21, .i32⟩) (iotaInDim S8x5000x21 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_arg1 : StableHlo.TRef sig ⟨S8x5000x21, .f32⟩) (.of main_call0_v0 : StableHlo.TRef sig ⟨S8x5000x21, .i32⟩) (.of main_call0_cst : StableHlo.TRef sig ⟨S_, .f32⟩) (.of main_call0_c : StableHlo.TRef sig ⟨S_, .i32⟩) (.of main_call0_v1_0 : StableHlo.TRef sig ⟨S8x5000, .f32⟩) (fun x y u v j => (Host.argReduce reducer_argmax_f32_i32 x y u v reducesTo_S8x5000x21_S8x5000_d2 h_S_ j).1),
    StableHlo.TRef.quaternary (.of main_arg1 : StableHlo.TRef sig ⟨S8x5000x21, .f32⟩) (.of main_call0_v0 : StableHlo.TRef sig ⟨S8x5000x21, .i32⟩) (.of main_call0_cst : StableHlo.TRef sig ⟨S_, .f32⟩) (.of main_call0_c : StableHlo.TRef sig ⟨S_, .i32⟩) (.of main_v64 : StableHlo.TRef sig ⟨S8x5000, .i32⟩) (fun x y u v j => (Host.argReduce reducer_argmax_f32_i32 x y u v reducesTo_S8x5000x21_S8x5000_d2 h_S_ j).2) ]
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 5 host operations of @main, in order. -/
abbrev hostOps0_2 : List (HloOp τ sig (Elt F)) :=
  [ StableHlo.unary main_v64 main_v65 (broadcastInDim S8x5000x1 ![0, 1] bcast_S8x5000_S8x5000x1_0_1 : (⟨S8x5000, .i32⟩ : BufTy).Contents (Elt F) → (⟨S8x5000x1, .i32⟩ : BufTy).Contents (Elt F)),
    StableHlo.nullary main_c (constantI S_ 32 0#32),
    StableHlo.unary main_c main_v66 (broadcastInDim S8x5000x1 ![] bcast_S_S8x5000x1 : (⟨S_, .i32⟩ : BufTy).Contents (Elt F) → (⟨S8x5000x1, .i32⟩ : BufTy).Contents (Elt F)),
    StableHlo.binary main_v65 main_v66 main_v67 (cmpi .ne : (⟨S8x5000x1, .i32⟩ : BufTy).Contents (Elt F) → (⟨S8x5000x1, .i32⟩ : BufTy).Contents (Elt F) → (⟨S8x5000x1, .i1⟩ : BufTy).Contents (Elt F)),
    StableHlo.nullary main_cst_4 (constant S_ .f32 0x00000000#32) ]
theorem hostOps0_2_sub : (hostOps0_2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..⟩
/-- 4 host operations of @_where (main_call1), in order. -/
abbrev hostOps0_3 : List (HloOp τ sig (Elt F)) :=
  [ StableHlo.TRef.unary (.of main_cst_4 : StableHlo.TRef sig ⟨S_, .f32⟩) (.of main_call1_v0 : StableHlo.TRef sig ⟨S_, .f32⟩) id,
    StableHlo.TRef.unary (.of main_v67 : StableHlo.TRef sig ⟨S8x5000x1, .i1⟩) (.of main_call1_v1 : StableHlo.TRef sig ⟨S8x5000x21, .i1⟩) (broadcastInDim S8x5000x21 ![0, 1, 2] bcast_S8x5000x1_S8x5000x21_0_1_2),
    StableHlo.TRef.unary (.of main_call1_v0 : StableHlo.TRef sig ⟨S_, .f32⟩) (.of main_call1_v2 : StableHlo.TRef sig ⟨S8x5000x21, .f32⟩) (broadcastInDim S8x5000x21 ![] bcast_S_S8x5000x21),
    StableHlo.TRef.ternary (.of main_call1_v1 : StableHlo.TRef sig ⟨S8x5000x21, .i1⟩) (.of main_arg1 : StableHlo.TRef sig ⟨S8x5000x21, .f32⟩) (.of main_call1_v2 : StableHlo.TRef sig ⟨S8x5000x21, .f32⟩) (.of main_v68 : StableHlo.TRef sig ⟨S8x5000x21, .f32⟩) select ]
theorem hostOps0_3_sub : (hostOps0_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 5 host operations of @main, in order. -/
abbrev hostOps0_4 : List (HloOp τ sig (Elt F)) :=
  [ StableHlo.unary main_v68 main_v69 ((transpose S8x21x5000 [0, 2, 1] · transposes_S8x5000x21_S8x21x5000_0_2_1) : (⟨S8x5000x21, .f32⟩ : BufTy).Contents (Elt F) → (⟨S8x21x5000, .f32⟩ : BufTy).Contents (Elt F)),
    StableHlo.nullary main_cst_5 (constant S_ .f32 0x3F000000#32),
    StableHlo.unary main_cst_5 main_v70 (broadcastInDim S8x21x5000 ![] bcast_S_S8x21x5000 : (⟨S_, .f32⟩ : BufTy).Contents (Elt F) → (⟨S8x21x5000, .f32⟩ : BufTy).Contents (Elt F)),
    StableHlo.binary main_v69 main_v70 main_v71 (cmpf .ogt : (⟨S8x21x5000, .f32⟩ : BufTy).Contents (Elt F) → (⟨S8x21x5000, .f32⟩ : BufTy).Contents (Elt F) → (⟨S8x21x5000, .i1⟩ : BufTy).Contents (Elt F)),
    StableHlo.nullary main_cst_6 (constant S_ .f32 0xFF800000#32) ]
theorem hostOps0_4_sub : (hostOps0_4 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..⟩
/-- 3 host operations of @_where_0 (main_call2), in order. -/
abbrev hostOps0_5 : List (HloOp τ sig (Elt F)) :=
  [ StableHlo.TRef.unary (.of main_cst_6 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8x21x5000, .f32⟩) (broadcastInDim S8x21x5000 ![] bcast_S_S8x21x5000),
    StableHlo.TRef.ternary (.of main_v71 : StableHlo.TRef sig ⟨S8x21x5000, .i1⟩) (.of main_v69 : StableHlo.TRef sig ⟨S8x21x5000, .f32⟩) (.of main_call2_v1 : StableHlo.TRef sig ⟨S8x21x5000, .f32⟩) (.of main_v72 : StableHlo.TRef sig ⟨S8x21x5000, .f32⟩) select ]
theorem hostOps0_5_sub : (hostOps0_5 : List (HloOp τ sig (Elt F))).Forall fun op => op.bufs ⊆ StableHlo.tcRefs τ sig :=
  ⟨StableHlo.unary_bufs_sub .., StableHlo.unary_bufs_sub .., StableHlo.ternary_bufs_sub ..⟩
/-- 7 host operations of @main, in order. -/
abbrev hostOps0_6 : List (HloOp τ sig (Elt F)) :=
  [ StableHlo.nullary main_c_7 (constantI S_ 32 0#32),
    StableHlo.unary main_c_7 main_v73 (broadcastInDim S200x8x21 ![] bcast_S_S200x8x21 : (⟨S_, .i32⟩ : BufTy).Contents (Elt F) → (⟨S200x8x21, .i32⟩ : BufTy).Contents (Elt F)),
    StableHlo.nullary main_c_8 (constantI S_ 32 0#32),
    StableHlo.unary main_v63 main_v74_0 id,
    StableHlo.unary main_c_8 main_v74_1 id,
    StableHlo.unary main_v72 main_v74_2 id,
    StableHlo.unary main_v73 main_v74_3 id ]
theorem hostOps0_6_sub : (hostOps0_6 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- 6 host operations of @main, in order. -/
abbrev hostOps0_7 : List (HloOp τ sig (Elt F)) :=
  [ StableHlo.unary main_v74_3 main_v75 ((transpose S8x21x200 [1, 2, 0] · transposes_S200x8x21_S8x21x200_1_2_0) : (⟨S200x8x21, .i32⟩ : BufTy).Contents (Elt F) → (⟨S8x21x200, .i32⟩ : BufTy).Contents (Elt F)),
    StableHlo.nullary main_c_9 (constantI S_ 32 0#32),
    StableHlo.unary main_c_9 main_v76 (broadcastInDim S8x21x200 ![] bcast_S_S8x21x200 : (⟨S_, .i32⟩ : BufTy).Contents (Elt F) → (⟨S8x21x200, .i32⟩ : BufTy).Contents (Elt F)),
    StableHlo.binary main_v75 main_v76 main_v77 (cmpi .sge : (⟨S8x21x200, .i32⟩ : BufTy).Contents (Elt F) → (⟨S8x21x200, .i32⟩ : BufTy).Contents (Elt F) → (⟨S8x21x200, .i1⟩ : BufTy).Contents (Elt F)),
    StableHlo.reshape main_v77 main_v78 (rfl : (.i1 : EltTy) = .i1) shapeCasts_S8x21x200_S8x4200,
    StableHlo.nullary main_c_10 (constantI S_ 32 0#32) ]
theorem hostOps0_7_sub : (hostOps0_7 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.reshape_bufs_sub .., StableHlo.nullary_bufs_sub ..⟩
/-- 3 host operations of @clip (main_call9), in order. -/
abbrev hostOps0_8 : List (HloOp τ sig (Elt F)) :=
  [ StableHlo.TRef.unary (.of main_c_10 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S8x21x200, .i32⟩) (broadcastInDim S8x21x200 ![] bcast_S_S8x21x200),
    StableHlo.TRef.binary (.of main_call9_v1 : StableHlo.TRef sig ⟨S8x21x200, .i32⟩) (.of main_v75 : StableHlo.TRef sig ⟨S8x21x200, .i32⟩) (.of main_v79 : StableHlo.TRef sig ⟨S8x21x200, .i32⟩) maxsi ]
theorem hostOps0_8_sub : (hostOps0_8 : List (HloOp τ sig (Elt F))).Forall fun op => op.bufs ⊆ StableHlo.tcRefs τ sig :=
  ⟨StableHlo.unary_bufs_sub .., StableHlo.unary_bufs_sub .., StableHlo.binary_bufs_sub ..⟩
/-- 3 host operations of @main, in order. -/
abbrev hostOps0_9 : List (HloOp τ sig (Elt F)) :=
  [ StableHlo.unary main_v78 main_v80 (broadcastInDim S8x4200x1 ![0, 1] bcast_S8x4200_S8x4200x1_0_1 : (⟨S8x4200, .i1⟩ : BufTy).Contents (Elt F) → (⟨S8x4200x1, .i1⟩ : BufTy).Contents (Elt F)),
    StableHlo.reshape main_v79 main_v81 (rfl : (.i32 : EltTy) = .i32) shapeCasts_S8x21x200_S8x4200,
    StableHlo.unary main_v81 main_v82 (broadcastInDim S8x4200x1 ![0, 1] bcast_S8x4200_S8x4200x1_0_1 : (⟨S8x4200, .i32⟩ : BufTy).Contents (Elt F) → (⟨S8x4200x1, .i32⟩ : BufTy).Contents (Elt F)) ]
theorem hostOps0_9_sub : (hostOps0_9 : List (HloOp τ sig (Elt F))).Forall fun op => op.bufs ⊆ StableHlo.tcRefs τ sig :=
  ⟨StableHlo.unary_bufs_sub .., StableHlo.reshape_bufs_sub .., StableHlo.unary_bufs_sub ..⟩
/-- 8 host operations of @take_along_axis_5 (main_call10), in order. -/
abbrev hostOps0_10 : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S8x4200x1, .i32⟩) (broadcastInDim S8x4200x1 ![] bcast_S_S8x4200x1),
    StableHlo.TRef.binary (.of main_v82 : StableHlo.TRef sig ⟨S8x4200x1, .i32⟩) (.of main_call10_v0 : StableHlo.TRef sig ⟨S8x4200x1, .i32⟩) (.of main_call10_v1 : StableHlo.TRef sig ⟨S8x4200x1, .i1⟩) (cmpi .slt),
    StableHlo.TRef.nullary (.of main_call10_c_0 : StableHlo.TRef sig ⟨S_, .i32⟩) (constantI S_ 32 5000#32),
    StableHlo.TRef.unary (.of main_call10_c_0 : StableHlo.TRef sig ⟨S_, .i32⟩) (.of main_call10_v2 : StableHlo.TRef sig ⟨S8x4200x1, .i32⟩) (broadcastInDim S8x4200x1 ![] bcast_S_S8x4200x1),
    StableHlo.TRef.binary (.of main_v82 : StableHlo.TRef sig ⟨S8x4200x1, .i32⟩) (.of main_call10_v2 : StableHlo.TRef sig ⟨S8x4200x1, .i32⟩) (.of main_call10_v3 : StableHlo.TRef sig ⟨S8x4200x1, .i32⟩) addi,
    StableHlo.TRef.ternary (.of main_call10_v1 : StableHlo.TRef sig ⟨S8x4200x1, .i1⟩) (.of main_call10_v3 : StableHlo.TRef sig ⟨S8x4200x1, .i32⟩) (.of main_v82 : StableHlo.TRef sig ⟨S8x4200x1, .i32⟩) (.of main_call10_v4 : StableHlo.TRef sig ⟨S8x4200x1, .i32⟩) select,
    StableHlo.TRef.binary (.of main_v63 : StableHlo.TRef sig ⟨S8x5000x4, .f32⟩) (.of main_call10_v4 : StableHlo.TRef sig ⟨S8x4200x1, .i32⟩) (.of main_v83 : StableHlo.TRef sig ⟨S8x4200x4, .f32⟩) (fun x i => Host.gather gather_S8x5000x4_S8x4200x1_S8x4200x4_2_1_0_0_1_2_114 x i) ]
theorem hostOps0_10_sub : (hostOps0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 1 host operation of @main, in order. -/
abbrev hostOps0_11 : List (HloOp τ sig (Elt F)) :=
  [ StableHlo.nullary main_cst_11 (constant S_ .f32 0x00000000#32) ]
theorem hostOps0_11_sub : (hostOps0_11 : List (HloOp τ sig (Elt F))).Forall fun op => op.bufs ⊆ StableHlo.tcRefs τ sig :=
  StableHlo.nullary_bufs_sub ..
/-- 4 host operations of @_where_6 (main_call11), in order. -/
abbrev hostOps0_12 : List (HloOp τ sig (Elt F)) :=
  [ StableHlo.TRef.unary (.of main_cst_11 : StableHlo.TRef sig ⟨S_, .f32⟩) (.of main_call11_v0 : StableHlo.TRef sig ⟨S_, .f32⟩) id,
    StableHlo.TRef.unary (.of main_v80 : StableHlo.TRef sig ⟨S8x4200x1, .i1⟩) (.of main_call11_v1 : StableHlo.TRef sig ⟨S8x4200x4, .i1⟩) (broadcastInDim S8x4200x4 ![0, 1, 2] bcast_S8x4200x1_S8x4200x4_0_1_2),
    StableHlo.TRef.unary (.of main_call11_v0 : StableHlo.TRef sig ⟨S_, .f32⟩) (.of main_call11_v2 : StableHlo.TRef sig ⟨S8x4200x4, .f32⟩) (broadcastInDim S8x4200x4 ![] bcast_S_S8x4200x4),
    StableHlo.TRef.ternary (.of main_call11_v1 : StableHlo.TRef sig ⟨S8x4200x4, .i1⟩) (.of main_v83 : StableHlo.TRef sig ⟨S8x4200x4, .f32⟩) (.of main_call11_v2 : StableHlo.TRef sig ⟨S8x4200x4, .f32⟩) (.of main_v84 : StableHlo.TRef sig ⟨S8x4200x4, .f32⟩) select ]
theorem hostOps0_12_sub : (hostOps0_12 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 host operations of @take_along_axis_7 (main_call12), in order. -/
abbrev hostOps0_13 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S8x21x200, .i32⟩) (broadcastInDim S8x21x200 ![] bcast_S_S8x21x200),
    StableHlo.TRef.binary (.of main_v79 : StableHlo.TRef sig ⟨S8x21x200, .i32⟩) (.of main_call12_v0 : StableHlo.TRef sig ⟨S8x21x200, .i32⟩) (.of main_call12_v1 : StableHlo.TRef sig ⟨S8x21x200, .i1⟩) (cmpi .slt),
    StableHlo.TRef.nullary (.of main_call12_c_0 : StableHlo.TRef sig ⟨S_, .i32⟩) (constantI S_ 32 5000#32),
    StableHlo.TRef.unary (.of main_call12_c_0 : StableHlo.TRef sig ⟨S_, .i32⟩) (.of main_call12_v2 : StableHlo.TRef sig ⟨S8x21x200, .i32⟩) (broadcastInDim S8x21x200 ![] bcast_S_S8x21x200),
    StableHlo.TRef.binary (.of main_v79 : StableHlo.TRef sig ⟨S8x21x200, .i32⟩) (.of main_call12_v2 : StableHlo.TRef sig ⟨S8x21x200, .i32⟩) (.of main_call12_v3 : StableHlo.TRef sig ⟨S8x21x200, .i32⟩) addi,
    StableHlo.TRef.ternary (.of main_call12_v1 : StableHlo.TRef sig ⟨S8x21x200, .i1⟩) (.of main_call12_v3 : StableHlo.TRef sig ⟨S8x21x200, .i32⟩) (.of main_v79 : StableHlo.TRef sig ⟨S8x21x200, .i32⟩) (.of main_call12_v4 : StableHlo.TRef sig ⟨S8x21x200, .i32⟩) select,
    StableHlo.TRef.reshape (.of main_call12_v4 : StableHlo.TRef sig ⟨S8x21x200, .i32⟩) (.of main_call12_v5 : StableHlo.TRef sig ⟨S8x21x200x1, .i32⟩) (rfl : (.i32 : EltTy) = .i32) shapeCasts_S8x21x200_S8x21x200x1,
    StableHlo.TRef.binary (.of main_v69 : StableHlo.TRef sig ⟨S8x21x5000, .f32⟩) (.of main_call12_v5 : StableHlo.TRef sig ⟨S8x21x200x1, .i32⟩) (.of main_v85 : StableHlo.TRef sig ⟨S8x21x200, .f32⟩) (fun x i => Host.gather gather_S8x21x5000_S8x21x200x1_S8x21x200_n_2_01_01_2_3_111 x i) ]
theorem hostOps0_13_sub : (hostOps0_13 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 2 host operations of @main, in order. -/
abbrev hostOps0_14 : List (HloOp τ sig (Elt F)) :=
  [ StableHlo.reshape main_v85 main_v86 (rfl : (.f32 : EltTy) = .f32) shapeCasts_S8x21x200_S8x4200,
    StableHlo.nullary main_cst_12 (constant S_ .f32 0x00000000#32) ]
theorem hostOps0_14_sub : (hostOps0_14 : List (HloOp τ sig (Elt F))).Forall fun op => op.bufs ⊆ StableHlo.tcRefs τ sig :=
  ⟨StableHlo.reshape_bufs_sub .., StableHlo.nullary_bufs_sub ..⟩
/-- 3 host operations of @_where_8 (main_call13), in order. -/
abbrev hostOps0_15 : List (HloOp τ sig (Elt F)) :=
  [ StableHlo.TRef.unary (.of main_cst_12 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S8x4200, .f32⟩) (broadcastInDim S8x4200 ![] bcast_S_S8x4200),
    StableHlo.TRef.ternary (.of main_v78 : StableHlo.TRef sig ⟨S8x4200, .i1⟩) (.of main_v86 : StableHlo.TRef sig ⟨S8x4200, .f32⟩) (.of main_call13_v1 : StableHlo.TRef sig ⟨S8x4200, .f32⟩) (.of main_v87 : StableHlo.TRef sig ⟨S8x4200, .f32⟩) select ]
theorem hostOps0_15_sub : (hostOps0_15 : List (HloOp τ sig (Elt F))).Forall fun op => op.bufs ⊆ StableHlo.tcRefs τ sig :=
  ⟨StableHlo.unary_bufs_sub .., StableHlo.unary_bufs_sub .., StableHlo.ternary_bufs_sub ..⟩
/-- 5 host operations of @main, in order. -/
abbrev hostOps0_16 : List (HloOp τ sig (Elt F)) :=
  [ StableHlo.nullary main_v88 (iotaInDim S21 32 0),
    StableHlo.unary main_v88 main_v89 (broadcastInDim S21x1 ![0] bcast_S21_S21x1_0 : (⟨S21, .i32⟩ : BufTy).Contents (Elt F) → (⟨S21x1, .i32⟩ : BufTy).Contents (Elt F)),
    StableHlo.unary main_v89 main_v90 (broadcastInDim S8x21x200 ![1, 2] bcast_S21x1_S8x21x200_1_2 : (⟨S21x1, .i32⟩ : BufTy).Contents (Elt F) → (⟨S8x21x200, .i32⟩ : BufTy).Contents (Elt F)),
    StableHlo.reshape main_v90 main_v91 (rfl : (.i32 : EltTy) = .i32) shapeCasts_S8x21x200_S8x4200,
    StableHlo.nullary main_c_13 (constantI S_ 32 0#32) ]
theorem hostOps0_16_sub : (hostOps0_16 : List (HloOp τ sig (Elt F))).Forall fun op => op.bufs ⊆ StableHlo.tcRefs τ sig :=
  ⟨StableHlo.nullary_bufs_sub .., StableHlo.unary_bufs_sub .., StableHlo.unary_bufs_sub .., StableHlo.reshape_bufs_sub .., StableHlo.nullary_bufs_sub ..⟩
/-- 3 host operations of @_where_9 (main_call14), in order. -/
abbrev hostOps0_17 : List (HloOp τ sig (Elt F)) :=
  [ StableHlo.TRef.unary (.of main_c_13 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S8x4200, .i32⟩) (broadcastInDim S8x4200 ![] bcast_S_S8x4200),
    StableHlo.TRef.ternary (.of main_v78 : StableHlo.TRef sig ⟨S8x4200, .i1⟩) (.of main_v91 : StableHlo.TRef sig ⟨S8x4200, .i32⟩) (.of main_call14_v1 : StableHlo.TRef sig ⟨S8x4200, .i32⟩) (.of main_v92 : StableHlo.TRef sig ⟨S8x4200, .i32⟩) select ]
theorem hostOps0_17_sub : (hostOps0_17 : List (HloOp τ sig (Elt F))).Forall fun op => op.bufs ⊆ StableHlo.tcRefs τ sig :=
  ⟨StableHlo.unary_bufs_sub .., StableHlo.unary_bufs_sub .., StableHlo.ternary_bufs_sub ..⟩
/-- 2 host operations of @main, in order. -/
abbrev hostOps0_18 : List (HloOp τ sig (Elt F)) :=
  [ StableHlo.unary main_v92 main_v93 (sitofp .f32 : (⟨S8x4200, .i32⟩ : BufTy).Contents (Elt F) → (⟨S8x4200, .f32⟩ : BufTy).Contents (Elt F)),
    StableHlo.nullary main_cst_14 (constant S_ .f32 0xBF800000#32) ]
theorem hostOps0_18_sub : (hostOps0_18 : List (HloOp τ sig (Elt F))).Forall fun op => op.bufs ⊆ StableHlo.tcRefs τ sig :=
  ⟨StableHlo.unary_bufs_sub .., StableHlo.nullary_bufs_sub ..⟩
/-- 3 host operations of @_where_8 (main_call15), in order. -/
abbrev hostOps0_19 : List (HloOp τ sig (Elt F)) :=
  [ StableHlo.TRef.unary (.of main_cst_14 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S8x4200, .f32⟩) (broadcastInDim S8x4200 ![] bcast_S_S8x4200),
    StableHlo.TRef.ternary (.of main_v78 : StableHlo.TRef sig ⟨S8x4200, .i1⟩) (.of main_v87 : StableHlo.TRef sig ⟨S8x4200, .f32⟩) (.of main_call15_v1 : StableHlo.TRef sig ⟨S8x4200, .f32⟩) (.of main_v94 : StableHlo.TRef sig ⟨S8x4200, .f32⟩) select ]
theorem hostOps0_19_sub : (hostOps0_19 : List (HloOp τ sig (Elt F))).Forall fun op => op.bufs ⊆ StableHlo.tcRefs τ sig :=
  ⟨StableHlo.unary_bufs_sub .., StableHlo.unary_bufs_sub .., StableHlo.ternary_bufs_sub ..⟩
/-- 2 host operations of @main, in order. -/
abbrev hostOps0_20 : List (HloOp τ sig (Elt F)) :=
  [ StableHlo.unary main_v94 main_values ((fun x => (Host.topK S8x200 1 (FloatOps.cmpfTotal .gt) x sliceFits_S8x4200_S8x200).1) : (⟨S8x4200, .f32⟩ : BufTy).Contents (Elt F) → (⟨S8x200, .f32⟩ : BufTy).Contents (Elt F)),
    StableHlo.unary main_v94 main_indices ((fun x => (Host.topK S8x200 1 (FloatOps.cmpfTotal .gt) x sliceFits_S8x4200_S8x200).2) : (⟨S8x4200, .f32⟩ : BufTy).Contents (Elt F) → (⟨S8x200, .i32⟩ : BufTy).Contents (Elt F)) ]
theorem hostOps0_20_sub : (hostOps0_20 : List (HloOp τ sig (Elt F))).Forall fun op => op.bufs ⊆ StableHlo.tcRefs τ sig :=
  ⟨StableHlo.unary_bufs_sub .., StableHlo.unary_bufs_sub ..⟩
/-- 9 host operations of @take_along_axis_10 (main_call16), in order. -/
abbrev hostOps0_21 : List (HloOp τ sig (Elt F)) :=
  [ StableHlo.TRef.nullary (.of main_call16_c : StableHlo.TRef sig ⟨S_, .i32⟩) (constantI S_ 32 0#32),
    StableHlo.TRef.unary (.of main_call16_c : StableHlo.TRef sig ⟨S_, .i32⟩) (.of main_call16_v0 : StableHlo.TRef sig ⟨S8x200, .i32⟩) (broadcastInDim S8x200 ![] bcast_S_S8x200),
    StableHlo.TRef.binary (.of main_indices : StableHlo.TRef sig ⟨S8x200, .i32⟩) (.of main_call16_v0 : StableHlo.TRef sig ⟨S8x200, .i32⟩) (.of main_call16_v1 : StableHlo.TRef sig ⟨S8x200, .i1⟩) (cmpi .slt),
    StableHlo.TRef.nullary (.of main_call16_c_0 : StableHlo.TRef sig ⟨S_, .i32⟩) (constantI S_ 32 4200#32),
    StableHlo.TRef.unary (.of main_call16_c_0 : StableHlo.TRef sig ⟨S_, .i32⟩) (.of main_call16_v2 : StableHlo.TRef sig ⟨S8x200, .i32⟩) (broadcastInDim S8x200 ![] bcast_S_S8x200),
    StableHlo.TRef.binary (.of main_indices : StableHlo.TRef sig ⟨S8x200, .i32⟩) (.of main_call16_v2 : StableHlo.TRef sig ⟨S8x200, .i32⟩) (.of main_call16_v3 : StableHlo.TRef sig ⟨S8x200, .i32⟩) addi,
    StableHlo.TRef.ternary (.of main_call16_v1 : StableHlo.TRef sig ⟨S8x200, .i1⟩) (.of main_call16_v3 : StableHlo.TRef sig ⟨S8x200, .i32⟩) (.of main_indices : StableHlo.TRef sig ⟨S8x200, .i32⟩) (.of main_call16_v4 : StableHlo.TRef sig ⟨S8x200, .i32⟩) select,
    StableHlo.TRef.reshape (.of main_call16_v4 : StableHlo.TRef sig ⟨S8x200, .i32⟩) (.of main_call16_v5 : StableHlo.TRef sig ⟨S8x200x1, .i32⟩) (rfl : (.i32 : EltTy) = .i32) shapeCasts_S8x200_S8x200x1,
    StableHlo.TRef.binary (.of main_v78 : StableHlo.TRef sig ⟨S8x4200, .i1⟩) (.of main_call16_v5 : StableHlo.TRef sig ⟨S8x200x1, .i32⟩) (.of main_v95 : StableHlo.TRef sig ⟨S8x200, .i1⟩) (fun x i => Host.gather gather_S8x4200_S8x200x1_S8x200_n_1_0_0_1_2_11 x i) ]
theorem hostOps0_21_sub : (hostOps0_21 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 2 host operations of @main, in order. -/
abbrev hostOps0_22 : List (HloOp τ sig (Elt F)) :=
  [ StableHlo.unary main_v95 main_v96 (broadcastInDim S8x200x1 ![0, 1] bcast_S8x200_S8x200x1_0_1 : (⟨S8x200, .i1⟩ : BufTy).Contents (Elt F) → (⟨S8x200x1, .i1⟩ : BufTy).Contents (Elt F)),
    StableHlo.unary main_indices main_v97 (broadcastInDim S8x200x1 ![0, 1] bcast_S8x200_S8x200x1_0_1 : (⟨S8x200, .i32⟩ : BufTy).Contents (Elt F) → (⟨S8x200x1, .i32⟩ : BufTy).Contents (Elt F)) ]
theorem hostOps0_22_sub : (hostOps0_22 : List (HloOp τ sig (Elt F))).Forall fun op => op.bufs ⊆ StableHlo.tcRefs τ sig :=
  ⟨StableHlo.unary_bufs_sub .., StableHlo.unary_bufs_sub ..⟩
/-- 8 host operations of @take_along_axis_11 (main_call17), in order. -/
abbrev hostOps0_23 : List (HloOp τ sig (Elt F)) :=
  [ StableHlo.TRef.nullary (.of main_call17_c : StableHlo.TRef sig ⟨S_, .i32⟩) (constantI S_ 32 0#32),
    StableHlo.TRef.unary (.of main_call17_c : StableHlo.TRef sig ⟨S_, .i32⟩) (.of main_call17_v0 : StableHlo.TRef sig ⟨S8x200x1, .i32⟩) (broadcastInDim S8x200x1 ![] bcast_S_S8x200x1),
    StableHlo.TRef.binary (.of main_v97 : StableHlo.TRef sig ⟨S8x200x1, .i32⟩) (.of main_call17_v0 : StableHlo.TRef sig ⟨S8x200x1, .i32⟩) (.of main_call17_v1 : StableHlo.TRef sig ⟨S8x200x1, .i1⟩) (cmpi .slt),
    StableHlo.TRef.nullary (.of main_call17_c_0 : StableHlo.TRef sig ⟨S_, .i32⟩) (constantI S_ 32 4200#32),
    StableHlo.TRef.unary (.of main_call17_c_0 : StableHlo.TRef sig ⟨S_, .i32⟩) (.of main_call17_v2 : StableHlo.TRef sig ⟨S8x200x1, .i32⟩) (broadcastInDim S8x200x1 ![] bcast_S_S8x200x1),
    StableHlo.TRef.binary (.of main_v97 : StableHlo.TRef sig ⟨S8x200x1, .i32⟩) (.of main_call17_v2 : StableHlo.TRef sig ⟨S8x200x1, .i32⟩) (.of main_call17_v3 : StableHlo.TRef sig ⟨S8x200x1, .i32⟩) addi,
    StableHlo.TRef.ternary (.of main_call17_v1 : StableHlo.TRef sig ⟨S8x200x1, .i1⟩) (.of main_call17_v3 : StableHlo.TRef sig ⟨S8x200x1, .i32⟩) (.of main_v97 : StableHlo.TRef sig ⟨S8x200x1, .i32⟩) (.of main_call17_v4 : StableHlo.TRef sig ⟨S8x200x1, .i32⟩) select,
    StableHlo.TRef.binary (.of main_v84 : StableHlo.TRef sig ⟨S8x4200x4, .f32⟩) (.of main_call17_v4 : StableHlo.TRef sig ⟨S8x200x1, .i32⟩) (.of main_v98 : StableHlo.TRef sig ⟨S8x200x4, .f32⟩) (fun x i => Host.gather gather_S8x4200x4_S8x200x1_S8x200x4_2_1_0_0_1_2_114 x i) ]
theorem hostOps0_23_sub : (hostOps0_23 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 1 host operation of @main, in order. -/
abbrev hostOps0_24 : List (HloOp τ sig (Elt F)) :=
  [ StableHlo.nullary main_cst_15 (constant S_ .f32 0x00000000#32) ]
theorem hostOps0_24_sub : (hostOps0_24 : List (HloOp τ sig (Elt F))).Forall fun op => op.bufs ⊆ StableHlo.tcRefs τ sig :=
  StableHlo.nullary_bufs_sub ..
/-- 4 host operations of @_where_12 (main_call18), in order. -/
abbrev hostOps0_25 : List (HloOp τ sig (Elt F)) :=
  [ StableHlo.TRef.unary (.of main_cst_15 : StableHlo.TRef sig ⟨S_, .f32⟩) (.of main_call18_v0 : StableHlo.TRef sig ⟨S_, .f32⟩) id,
    StableHlo.TRef.unary (.of main_v96 : StableHlo.TRef sig ⟨S8x200x1, .i1⟩) (.of main_call18_v1 : StableHlo.TRef sig ⟨S8x200x4, .i1⟩) (broadcastInDim S8x200x4 ![0, 1, 2] bcast_S8x200x1_S8x200x4_0_1_2),
    StableHlo.TRef.unary (.of main_call18_v0 : StableHlo.TRef sig ⟨S_, .f32⟩) (.of main_call18_v2 : StableHlo.TRef sig ⟨S8x200x4, .f32⟩) (broadcastInDim S8x200x4 ![] bcast_S_S8x200x4),
    StableHlo.TRef.ternary (.of main_call18_v1 : StableHlo.TRef sig ⟨S8x200x4, .i1⟩) (.of main_v98 : StableHlo.TRef sig ⟨S8x200x4, .f32⟩) (.of main_call18_v2 : StableHlo.TRef sig ⟨S8x200x4, .f32⟩) (.of main_v99 : StableHlo.TRef sig ⟨S8x200x4, .f32⟩) select ]
theorem hostOps0_25_sub : (hostOps0_25 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 host operations of @take_along_axis_13 (main_call19), in order. -/
abbrev hostOps0_26 : List (HloOp τ sig (Elt F)) :=
  [ StableHlo.TRef.nullary (.of main_call19_c : StableHlo.TRef sig ⟨S_, .i32⟩) (constantI S_ 32 0#32),
    StableHlo.TRef.unary (.of main_call19_c : StableHlo.TRef sig ⟨S_, .i32⟩) (.of main_call19_v0 : StableHlo.TRef sig ⟨S8x200, .i32⟩) (broadcastInDim S8x200 ![] bcast_S_S8x200),
    StableHlo.TRef.binary (.of main_indices : StableHlo.TRef sig ⟨S8x200, .i32⟩) (.of main_call19_v0 : StableHlo.TRef sig ⟨S8x200, .i32⟩) (.of main_call19_v1 : StableHlo.TRef sig ⟨S8x200, .i1⟩) (cmpi .slt),
    StableHlo.TRef.nullary (.of main_call19_c_0 : StableHlo.TRef sig ⟨S_, .i32⟩) (constantI S_ 32 4200#32),
    StableHlo.TRef.unary (.of main_call19_c_0 : StableHlo.TRef sig ⟨S_, .i32⟩) (.of main_call19_v2 : StableHlo.TRef sig ⟨S8x200, .i32⟩) (broadcastInDim S8x200 ![] bcast_S_S8x200),
    StableHlo.TRef.binary (.of main_indices : StableHlo.TRef sig ⟨S8x200, .i32⟩) (.of main_call19_v2 : StableHlo.TRef sig ⟨S8x200, .i32⟩) (.of main_call19_v3 : StableHlo.TRef sig ⟨S8x200, .i32⟩) addi,
    StableHlo.TRef.ternary (.of main_call19_v1 : StableHlo.TRef sig ⟨S8x200, .i1⟩) (.of main_call19_v3 : StableHlo.TRef sig ⟨S8x200, .i32⟩) (.of main_indices : StableHlo.TRef sig ⟨S8x200, .i32⟩) (.of main_call19_v4 : StableHlo.TRef sig ⟨S8x200, .i32⟩) select,
    StableHlo.TRef.reshape (.of main_call19_v4 : StableHlo.TRef sig ⟨S8x200, .i32⟩) (.of main_call19_v5 : StableHlo.TRef sig ⟨S8x200x1, .i32⟩) (rfl : (.i32 : EltTy) = .i32) shapeCasts_S8x200_S8x200x1,
    StableHlo.TRef.binary (.of main_v87 : StableHlo.TRef sig ⟨S8x4200, .f32⟩) (.of main_call19_v5 : StableHlo.TRef sig ⟨S8x200x1, .i32⟩) (.of main_v100 : StableHlo.TRef sig ⟨S8x200, .f32⟩) (fun x i => Host.gather gather_S8x4200_S8x200x1_S8x200_n_1_0_0_1_2_11 x i) ]
theorem hostOps0_26_sub : (hostOps0_26 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 1 host operation of @main, in order. -/
abbrev hostOps0_27 : List (HloOp τ sig (Elt F)) :=
  [ StableHlo.nullary main_cst_16 (constant S_ .f32 0x00000000#32) ]
theorem hostOps0_27_sub : (hostOps0_27 : List (HloOp τ sig (Elt F))).Forall fun op => op.bufs ⊆ StableHlo.tcRefs τ sig :=
  StableHlo.nullary_bufs_sub ..
/-- 3 host operations of @_where_14 (main_call20), in order. -/
abbrev hostOps0_28 : List (HloOp τ sig (Elt F)) :=
  [ StableHlo.TRef.unary (.of main_cst_16 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S8x200, .f32⟩) (broadcastInDim S8x200 ![] bcast_S_S8x200),
    StableHlo.TRef.ternary (.of main_v95 : StableHlo.TRef sig ⟨S8x200, .i1⟩) (.of main_v100 : StableHlo.TRef sig ⟨S8x200, .f32⟩) (.of main_call20_v1 : StableHlo.TRef sig ⟨S8x200, .f32⟩) (.of main_v101 : StableHlo.TRef sig ⟨S8x200, .f32⟩) select ]
theorem hostOps0_28_sub : (hostOps0_28 : List (HloOp τ sig (Elt F))).Forall fun op => op.bufs ⊆ StableHlo.tcRefs τ sig :=
  ⟨StableHlo.unary_bufs_sub .., StableHlo.unary_bufs_sub .., StableHlo.ternary_bufs_sub ..⟩
/-- 9 host operations of @take_along_axis_13 (main_call21), in order. -/
abbrev hostOps0_29 : List (HloOp τ sig (Elt F)) :=
  [ StableHlo.TRef.nullary (.of main_call21_c : StableHlo.TRef sig ⟨S_, .i32⟩) (constantI S_ 32 0#32),
    StableHlo.TRef.unary (.of main_call21_c : StableHlo.TRef sig ⟨S_, .i32⟩) (.of main_call21_v0 : StableHlo.TRef sig ⟨S8x200, .i32⟩) (broadcastInDim S8x200 ![] bcast_S_S8x200),
    StableHlo.TRef.binary (.of main_indices : StableHlo.TRef sig ⟨S8x200, .i32⟩) (.of main_call21_v0 : StableHlo.TRef sig ⟨S8x200, .i32⟩) (.of main_call21_v1 : StableHlo.TRef sig ⟨S8x200, .i1⟩) (cmpi .slt),
    StableHlo.TRef.nullary (.of main_call21_c_0 : StableHlo.TRef sig ⟨S_, .i32⟩) (constantI S_ 32 4200#32),
    StableHlo.TRef.unary (.of main_call21_c_0 : StableHlo.TRef sig ⟨S_, .i32⟩) (.of main_call21_v2 : StableHlo.TRef sig ⟨S8x200, .i32⟩) (broadcastInDim S8x200 ![] bcast_S_S8x200),
    StableHlo.TRef.binary (.of main_indices : StableHlo.TRef sig ⟨S8x200, .i32⟩) (.of main_call21_v2 : StableHlo.TRef sig ⟨S8x200, .i32⟩) (.of main_call21_v3 : StableHlo.TRef sig ⟨S8x200, .i32⟩) addi,
    StableHlo.TRef.ternary (.of main_call21_v1 : StableHlo.TRef sig ⟨S8x200, .i1⟩) (.of main_call21_v3 : StableHlo.TRef sig ⟨S8x200, .i32⟩) (.of main_indices : StableHlo.TRef sig ⟨S8x200, .i32⟩) (.of main_call21_v4 : StableHlo.TRef sig ⟨S8x200, .i32⟩) select,
    StableHlo.TRef.reshape (.of main_call21_v4 : StableHlo.TRef sig ⟨S8x200, .i32⟩) (.of main_call21_v5 : StableHlo.TRef sig ⟨S8x200x1, .i32⟩) (rfl : (.i32 : EltTy) = .i32) shapeCasts_S8x200_S8x200x1,
    StableHlo.TRef.binary (.of main_v93 : StableHlo.TRef sig ⟨S8x4200, .f32⟩) (.of main_call21_v5 : StableHlo.TRef sig ⟨S8x200x1, .i32⟩) (.of main_v102 : StableHlo.TRef sig ⟨S8x200, .f32⟩) (fun x i => Host.gather gather_S8x4200_S8x200x1_S8x200_n_1_0_0_1_2_11 x i) ]
theorem hostOps0_29_sub : (hostOps0_29 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 1 host operation of @main, in order. -/
abbrev hostOps0_30 : List (HloOp τ sig (Elt F)) :=
  [ StableHlo.nullary main_cst_17 (constant S_ .f32 0x00000000#32) ]
theorem hostOps0_30_sub : (hostOps0_30 : List (HloOp τ sig (Elt F))).Forall fun op => op.bufs ⊆ StableHlo.tcRefs τ sig :=
  StableHlo.nullary_bufs_sub ..
/-- 3 host operations of @_where_14 (main_call22), in order. -/
abbrev hostOps0_31 : List (HloOp τ sig (Elt F)) :=
  [ StableHlo.TRef.unary (.of main_cst_17 : StableHlo.TRef sig ⟨S_, .f32⟩) (.of main_call22_v0 : StableHlo.TRef sig ⟨S_, .f32⟩) id,
    StableHlo.TRef.unary (.of main_call22_v0 : StableHlo.TRef sig ⟨S_, .f32⟩) (.of main_call22_v1 : StableHlo.TRef sig ⟨S8x200, .f32⟩) (broadcastInDim S8x200 ![] bcast_S_S8x200),
    StableHlo.TRef.ternary (.of main_v95 : StableHlo.TRef sig ⟨S8x200, .i1⟩) (.of main_v102 : StableHlo.TRef sig ⟨S8x200, .f32⟩) (.of main_call22_v1 : StableHlo.TRef sig ⟨S8x200, .f32⟩) (.of main_v103 : StableHlo.TRef sig ⟨S8x200, .f32⟩) select ]
theorem hostOps0_31_sub : (hostOps0_31 : List (HloOp τ sig (Elt F))).Forall fun op => op.bufs ⊆ StableHlo.tcRefs τ sig :=
  ⟨StableHlo.unary_bufs_sub .., StableHlo.unary_bufs_sub .., StableHlo.ternary_bufs_sub ..⟩

/-- 5 host operations of @argmax_1 (main_while0b_call3), in order. -/
abbrev while0Ops0 : List (HloOp τ sig (Elt F)) :=
  [ StableHlo.TRef.nullary (.of main_while0b_call3_v0 : StableHlo.TRef sig ⟨S8x21x5000, .i32⟩) (iotaInDim S8x21x5000 32 2),
    StableHlo.TRef.nullary (.of main_while0b_call3_cst : StableHlo.TRef sig ⟨S_, .f32⟩) (constant S_ .f32 0xFF800000#32),
    StableHlo.TRef.nullary (.of main_while0b_call3_c : StableHlo.TRef sig ⟨S_, .i32⟩) (constantI S_ 32 0#32),
    StableHlo.TRef.quaternary (.of main_v74_2 : StableHlo.TRef sig ⟨S8x21x5000, .f32⟩) (.of main_while0b_call3_v0 : StableHlo.TRef sig ⟨S8x21x5000, .i32⟩) (.of main_while0b_call3_cst : StableHlo.TRef sig ⟨S_, .f32⟩) (.of main_while0b_call3_c : StableHlo.TRef sig ⟨S_, .i32⟩) (.of main_while0b_call3_v1_0 : StableHlo.TRef sig ⟨S8x21, .f32⟩) (fun x y u v j => (Host.argReduce reducer_argmax_f32_i32 x y u v reducesTo_S8x21x5000_S8x21_d2 h_S_ j).1),
    StableHlo.TRef.quaternary (.of main_v74_2 : StableHlo.TRef sig ⟨S8x21x5000, .f32⟩) (.of main_while0b_call3_v0 : StableHlo.TRef sig ⟨S8x21x5000, .i32⟩) (.of main_while0b_call3_cst : StableHlo.TRef sig ⟨S_, .f32⟩) (.of main_while0b_call3_c : StableHlo.TRef sig ⟨S_, .i32⟩) (.of main_while0b_v104 : StableHlo.TRef sig ⟨S8x21, .i32⟩) (fun x y u v j => (Host.argReduce reducer_argmax_f32_i32 x y u v reducesTo_S8x21x5000_S8x21_d2 h_S_ j).2) ]
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 6 host operations of host loop 0's body region, in order. -/
abbrev while0Ops0_1 : List (HloOp τ sig (Elt F)) :=
  [ StableHlo.nullary main_while0b_cst_21 (constant S_ .f32 0xFF800000#32),
    StableHlo.binary main_v74_2 main_while0b_cst_21 main_while0b_v105 ((fun x v => Host.reduce FloatOps.maximumf x v reducesTo_S8x21x5000_S8x21_d2 h_S_) : (⟨S8x21x5000, .f32⟩ : BufTy).Contents (Elt F) → (⟨S_, .f32⟩ : BufTy).Contents (Elt F) → (⟨S8x21, .f32⟩ : BufTy).Contents (Elt F)),
    StableHlo.nullary main_while0b_cst_22 (constant S_ .f32 0xFF800000#32),
    StableHlo.unary main_while0b_cst_22 main_while0b_v106 (broadcastInDim S8x21 ![] bcast_S_S8x21 : (⟨S_, .f32⟩ : BufTy).Contents (Elt F) → (⟨S8x21, .f32⟩ : BufTy).Contents (Elt F)),
    StableHlo.binary main_while0b_v105 main_while0b_v106 main_while0b_v107 (cmpf .ogt : (⟨S8x21, .f32⟩ : BufTy).Contents (Elt F) → (⟨S8x21, .f32⟩ : BufTy).Contents (Elt F) → (⟨S8x21, .i1⟩ : BufTy).Contents (Elt F)),
    StableHlo.unary main_while0b_v104 main_while0b_v108 (broadcastInDim S8x21x1 ![0, 1] bcast_S8x21_S8x21x1_0_1 : (⟨S8x21, .i32⟩ : BufTy).Contents (Elt F) → (⟨S8x21x1, .i32⟩ : BufTy).Contents (Elt F)) ]
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub ..⟩
/-- 8 host operations of @take_along_axis (main_while0b_call4), in order. -/
abbrev while0Ops0_2 : List (HloOp τ sig (Elt F)) :=
  [ StableHlo.TRef.nullary (.of main_while0b_call4_c : StableHlo.TRef sig ⟨S_, .i32⟩) (constantI S_ 32 0#32),
    StableHlo.TRef.unary (.of main_while0b_call4_c : StableHlo.TRef sig ⟨S_, .i32⟩) (.of main_while0b_call4_v0 : StableHlo.TRef sig ⟨S8x21x1, .i32⟩) (broadcastInDim S8x21x1 ![] bcast_S_S8x21x1),
    StableHlo.TRef.binary (.of main_while0b_v108 : StableHlo.TRef sig ⟨S8x21x1, .i32⟩) (.of main_while0b_call4_v0 : StableHlo.TRef sig ⟨S8x21x1, .i32⟩) (.of main_while0b_call4_v1 : StableHlo.TRef sig ⟨S8x21x1, .i1⟩) (cmpi .slt),
    StableHlo.TRef.nullary (.of main_while0b_call4_c_0 : StableHlo.TRef sig ⟨S_, .i32⟩) (constantI S_ 32 5000#32),
    StableHlo.TRef.unary (.of main_while0b_call4_c_0 : StableHlo.TRef sig ⟨S_, .i32⟩) (.of main_while0b_call4_v2 : StableHlo.TRef sig ⟨S8x21x1, .i32⟩) (broadcastInDim S8x21x1 ![] bcast_S_S8x21x1),
    StableHlo.TRef.binary (.of main_while0b_v108 : StableHlo.TRef sig ⟨S8x21x1, .i32⟩) (.of main_while0b_call4_v2 : StableHlo.TRef sig ⟨S8x21x1, .i32⟩) (.of main_while0b_call4_v3 : StableHlo.TRef sig ⟨S8x21x1, .i32⟩) addi,
    StableHlo.TRef.ternary (.of main_while0b_call4_v1 : StableHlo.TRef sig ⟨S8x21x1, .i1⟩) (.of main_while0b_call4_v3 : StableHlo.TRef sig ⟨S8x21x1, .i32⟩) (.of main_while0b_v108 : StableHlo.TRef sig ⟨S8x21x1, .i32⟩) (.of main_while0b_call4_v4 : StableHlo.TRef sig ⟨S8x21x1, .i32⟩) select,
    StableHlo.TRef.binary (.of main_v74_0 : StableHlo.TRef sig ⟨S8x5000x4, .f32⟩) (.of main_while0b_call4_v4 : StableHlo.TRef sig ⟨S8x21x1, .i32⟩) (.of main_while0b_v109 : StableHlo.TRef sig ⟨S8x21x4, .f32⟩) (fun x i => Host.gather gather_S8x5000x4_S8x21x1_S8x21x4_2_1_0_0_1_2_114 x i) ]
theorem while0Ops0_2_sub : (while0Ops0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
set_option maxHeartbeats 40000000 in
/-- 80 host operations of host loop 0's body region, in order. -/
abbrev while0Ops0_3 : List (HloOp τ sig (Elt F)) :=
  ( StableHlo.unary main_while0b_v109 main_while0b_v110 (broadcastInDim S8x21x1x4 ![0, 1, 3] bcast_S8x21x4_S8x21x1x4_0_1_3 : (⟨S8x21x4, .f32⟩ : BufTy).Contents (Elt F) → (⟨S8x21x1x4, .f32⟩ : BufTy).Contents (Elt F))
  :: StableHlo.unary main_v74_0 main_while0b_v111 (broadcastInDim S8x1x5000x4 ![0, 2, 3] bcast_S8x5000x4_S8x1x5000x4_0_2_3 : (⟨S8x5000x4, .f32⟩ : BufTy).Contents (Elt F) → (⟨S8x1x5000x4, .f32⟩ : BufTy).Contents (Elt F))
  :: StableHlo.unary main_while0b_v110 main_while0b_v112 ((extractStridedSlice S8x21x1x1 ![0, 0, 0, 0] · slices_S8x21x1x4_S8x21x1x1_0_0_0_0) : (⟨S8x21x1x4, .f32⟩ : BufTy).Contents (Elt F) → (⟨S8x21x1x1, .f32⟩ : BufTy).Contents (Elt F))
  :: StableHlo.reshape main_while0b_v112 main_while0b_v113 (rfl : (.f32 : EltTy) = .f32) shapeCasts_S8x21x1x1_S8x21x1
  :: StableHlo.unary main_while0b_v111 main_while0b_v114 ((extractStridedSlice S8x1x5000x1 ![0, 0, 0, 0] · slices_S8x1x5000x4_S8x1x5000x1_0_0_0_0) : (⟨S8x1x5000x4, .f32⟩ : BufTy).Contents (Elt F) → (⟨S8x1x5000x1, .f32⟩ : BufTy).Contents (Elt F))
  :: StableHlo.reshape main_while0b_v114 main_while0b_v115 (rfl : (.f32 : EltTy) = .f32) shapeCasts_S8x1x5000x1_S8x1x5000
  :: StableHlo.unary main_while0b_v113 main_while0b_v116 (broadcastInDim S8x21x5000 ![0, 1, 2] bcast_S8x21x1_S8x21x5000_0_1_2 : (⟨S8x21x1, .f32⟩ : BufTy).Contents (Elt F) → (⟨S8x21x5000, .f32⟩ : BufTy).Contents (Elt F))
  :: StableHlo.unary main_while0b_v115 main_while0b_v117 (broadcastInDim S8x21x5000 ![0, 1, 2] bcast_S8x1x5000_S8x21x5000_0_1_2 : (⟨S8x1x5000, .f32⟩ : BufTy).Contents (Elt F) → (⟨S8x21x5000, .f32⟩ : BufTy).Contents (Elt F))
  :: StableHlo.binary main_while0b_v116 main_while0b_v117 main_while0b_v118 (maximumf : (⟨S8x21x5000, .f32⟩ : BufTy).Contents (Elt F) → (⟨S8x21x5000, .f32⟩ : BufTy).Contents (Elt F) → (⟨S8x21x5000, .f32⟩ : BufTy).Contents (Elt F))
  :: StableHlo.unary main_while0b_v110 main_while0b_v119 ((extractStridedSlice S8x21x1x1 ![0, 0, 0, 1] · slices_S8x21x1x4_S8x21x1x1_0_0_0_1) : (⟨S8x21x1x4, .f32⟩ : BufTy).Contents (Elt F) → (⟨S8x21x1x1, .f32⟩ : BufTy).Contents (Elt F))
  :: StableHlo.reshape main_while0b_v119 main_while0b_v120 (rfl : (.f32 : EltTy) = .f32) shapeCasts_S8x21x1x1_S8x21x1
  :: StableHlo.unary main_while0b_v111 main_while0b_v121 ((extractStridedSlice S8x1x5000x1 ![0, 0, 0, 1] · slices_S8x1x5000x4_S8x1x5000x1_0_0_0_1) : (⟨S8x1x5000x4, .f32⟩ : BufTy).Contents (Elt F) → (⟨S8x1x5000x1, .f32⟩ : BufTy).Contents (Elt F))
  :: StableHlo.reshape main_while0b_v121 main_while0b_v122 (rfl : (.f32 : EltTy) = .f32) shapeCasts_S8x1x5000x1_S8x1x5000
  :: StableHlo.unary main_while0b_v120 main_while0b_v123 (broadcastInDim S8x21x5000 ![0, 1, 2] bcast_S8x21x1_S8x21x5000_0_1_2 : (⟨S8x21x1, .f32⟩ : BufTy).Contents (Elt F) → (⟨S8x21x5000, .f32⟩ : BufTy).Contents (Elt F))
  :: StableHlo.unary main_while0b_v122 main_while0b_v124 (broadcastInDim S8x21x5000 ![0, 1, 2] bcast_S8x1x5000_S8x21x5000_0_1_2 : (⟨S8x1x5000, .f32⟩ : BufTy).Contents (Elt F) → (⟨S8x21x5000, .f32⟩ : BufTy).Contents (Elt F))
  :: StableHlo.binary main_while0b_v123 main_while0b_v124 main_while0b_v125 (maximumf : (⟨S8x21x5000, .f32⟩ : BufTy).Contents (Elt F) → (⟨S8x21x5000, .f32⟩ : BufTy).Contents (Elt F) → (⟨S8x21x5000, .f32⟩ : BufTy).Contents (Elt F))
  :: StableHlo.unary main_while0b_v110 main_while0b_v126 ((extractStridedSlice S8x21x1x1 ![0, 0, 0, 2] · slices_S8x21x1x4_S8x21x1x1_0_0_0_2) : (⟨S8x21x1x4, .f32⟩ : BufTy).Contents (Elt F) → (⟨S8x21x1x1, .f32⟩ : BufTy).Contents (Elt F))
  :: StableHlo.reshape main_while0b_v126 main_while0b_v127 (rfl : (.f32 : EltTy) = .f32) shapeCasts_S8x21x1x1_S8x21x1
  :: StableHlo.unary main_while0b_v111 main_while0b_v128 ((extractStridedSlice S8x1x5000x1 ![0, 0, 0, 2] · slices_S8x1x5000x4_S8x1x5000x1_0_0_0_2) : (⟨S8x1x5000x4, .f32⟩ : BufTy).Contents (Elt F) → (⟨S8x1x5000x1, .f32⟩ : BufTy).Contents (Elt F))
  :: StableHlo.reshape main_while0b_v128 main_while0b_v129 (rfl : (.f32 : EltTy) = .f32) shapeCasts_S8x1x5000x1_S8x1x5000
  :: StableHlo.unary main_while0b_v127 main_while0b_v130 (broadcastInDim S8x21x5000 ![0, 1, 2] bcast_S8x21x1_S8x21x5000_0_1_2 : (⟨S8x21x1, .f32⟩ : BufTy).Contents (Elt F) → (⟨S8x21x5000, .f32⟩ : BufTy).Contents (Elt F))
  :: StableHlo.unary main_while0b_v129 main_while0b_v131 (broadcastInDim S8x21x5000 ![0, 1, 2] bcast_S8x1x5000_S8x21x5000_0_1_2 : (⟨S8x1x5000, .f32⟩ : BufTy).Contents (Elt F) → (⟨S8x21x5000, .f32⟩ : BufTy).Contents (Elt F))
  :: StableHlo.binary main_while0b_v130 main_while0b_v131 main_while0b_v132 (minimumf : (⟨S8x21x5000, .f32⟩ : BufTy).Contents (Elt F) → (⟨S8x21x5000, .f32⟩ : BufTy).Contents (Elt F) → (⟨S8x21x5000, .f32⟩ : BufTy).Contents (Elt F))
  :: StableHlo.unary main_while0b_v110 main_while0b_v133 ((extractStridedSlice S8x21x1x1 ![0, 0, 0, 3] · slices_S8x21x1x4_S8x21x1x1_0_0_0_3) : (⟨S8x21x1x4, .f32⟩ : BufTy).Contents (Elt F) → (⟨S8x21x1x1, .f32⟩ : BufTy).Contents (Elt F))
  :: StableHlo.reshape main_while0b_v133 main_while0b_v134 (rfl : (.f32 : EltTy) = .f32) shapeCasts_S8x21x1x1_S8x21x1
  :: StableHlo.unary main_while0b_v111 main_while0b_v135 ((extractStridedSlice S8x1x5000x1 ![0, 0, 0, 3] · slices_S8x1x5000x4_S8x1x5000x1_0_0_0_3) : (⟨S8x1x5000x4, .f32⟩ : BufTy).Contents (Elt F) → (⟨S8x1x5000x1, .f32⟩ : BufTy).Contents (Elt F))
  :: StableHlo.reshape main_while0b_v135 main_while0b_v136 (rfl : (.f32 : EltTy) = .f32) shapeCasts_S8x1x5000x1_S8x1x5000
  :: StableHlo.unary main_while0b_v134 main_while0b_v137 (broadcastInDim S8x21x5000 ![0, 1, 2] bcast_S8x21x1_S8x21x5000_0_1_2 : (⟨S8x21x1, .f32⟩ : BufTy).Contents (Elt F) → (⟨S8x21x5000, .f32⟩ : BufTy).Contents (Elt F))
  :: StableHlo.unary main_while0b_v136 main_while0b_v138 (broadcastInDim S8x21x5000 ![0, 1, 2] bcast_S8x1x5000_S8x21x5000_0_1_2 : (⟨S8x1x5000, .f32⟩ : BufTy).Contents (Elt F) → (⟨S8x21x5000, .f32⟩ : BufTy).Contents (Elt F))
  :: StableHlo.binary main_while0b_v137 main_while0b_v138 main_while0b_v139 (minimumf : (⟨S8x21x5000, .f32⟩ : BufTy).Contents (Elt F) → (⟨S8x21x5000, .f32⟩ : BufTy).Contents (Elt F) → (⟨S8x21x5000, .f32⟩ : BufTy).Contents (Elt F))
  :: StableHlo.binary main_while0b_v132 main_while0b_v118 main_while0b_v140 (subf : (⟨S8x21x5000, .f32⟩ : BufTy).Contents (Elt F) → (⟨S8x21x5000, .f32⟩ : BufTy).Contents (Elt F) → (⟨S8x21x5000, .f32⟩ : BufTy).Contents (Elt F))
  :: StableHlo.nullary main_while0b_cst_23 (constant S_ .f32 0x00000000#32)
  :: StableHlo.unary main_while0b_cst_23 main_while0b_v141 (broadcastInDim S8x21x5000 ![] bcast_S_S8x21x5000 : (⟨S_, .f32⟩ : BufTy).Contents (Elt F) → (⟨S8x21x5000, .f32⟩ : BufTy).Contents (Elt F))
  :: StableHlo.binary main_while0b_v140 main_while0b_v141 main_while0b_v142 (maximumf : (⟨S8x21x5000, .f32⟩ : BufTy).Contents (Elt F) → (⟨S8x21x5000, .f32⟩ : BufTy).Contents (Elt F) → (⟨S8x21x5000, .f32⟩ : BufTy).Contents (Elt F))
  :: StableHlo.binary main_while0b_v139 main_while0b_v125 main_while0b_v143 (subf : (⟨S8x21x5000, .f32⟩ : BufTy).Contents (Elt F) → (⟨S8x21x5000, .f32⟩ : BufTy).Contents (Elt F) → (⟨S8x21x5000, .f32⟩ : BufTy).Contents (Elt F))
  :: StableHlo.nullary main_while0b_cst_24 (constant S_ .f32 0x00000000#32)
  :: StableHlo.unary main_while0b_cst_24 main_while0b_v144 (broadcastInDim S8x21x5000 ![] bcast_S_S8x21x5000 : (⟨S_, .f32⟩ : BufTy).Contents (Elt F) → (⟨S8x21x5000, .f32⟩ : BufTy).Contents (Elt F))
  :: StableHlo.binary main_while0b_v143 main_while0b_v144 main_while0b_v145 (maximumf : (⟨S8x21x5000, .f32⟩ : BufTy).Contents (Elt F) → (⟨S8x21x5000, .f32⟩ : BufTy).Contents (Elt F) → (⟨S8x21x5000, .f32⟩ : BufTy).Contents (Elt F))
  :: StableHlo.binary main_while0b_v142 main_while0b_v145 main_while0b_v146 (mulf : (⟨S8x21x5000, .f32⟩ : BufTy).Contents (Elt F) → (⟨S8x21x5000, .f32⟩ : BufTy).Contents (Elt F) → (⟨S8x21x5000, .f32⟩ : BufTy).Contents (Elt F))
  :: StableHlo.unary main_while0b_v110 main_while0b_v147 ((extractStridedSlice S8x21x1x1 ![0, 0, 0, 2] · slices_S8x21x1x4_S8x21x1x1_0_0_0_2) : (⟨S8x21x1x4, .f32⟩ : BufTy).Contents (Elt F) → (⟨S8x21x1x1, .f32⟩ : BufTy).Contents (Elt F))
  :: StableHlo.reshape main_while0b_v147 main_while0b_v148 (rfl : (.f32 : EltTy) = .f32) shapeCasts_S8x21x1x1_S8x21x1
  :: StableHlo.unary main_while0b_v110 main_while0b_v149 ((extractStridedSlice S8x21x1x1 ![0, 0, 0, 0] · slices_S8x21x1x4_S8x21x1x1_0_0_0_0) : (⟨S8x21x1x4, .f32⟩ : BufTy).Contents (Elt F) → (⟨S8x21x1x1, .f32⟩ : BufTy).Contents (Elt F))
  :: StableHlo.reshape main_while0b_v149 main_while0b_v150 (rfl : (.f32 : EltTy) = .f32) shapeCasts_S8x21x1x1_S8x21x1
  :: StableHlo.binary main_while0b_v148 main_while0b_v150 main_while0b_v151 (subf : (⟨S8x21x1, .f32⟩ : BufTy).Contents (Elt F) → (⟨S8x21x1, .f32⟩ : BufTy).Contents (Elt F) → (⟨S8x21x1, .f32⟩ : BufTy).Contents (Elt F))
  :: StableHlo.unary main_while0b_v110 main_while0b_v152 ((extractStridedSlice S8x21x1x1 ![0, 0, 0, 3] · slices_S8x21x1x4_S8x21x1x1_0_0_0_3) : (⟨S8x21x1x4, .f32⟩ : BufTy).Contents (Elt F) → (⟨S8x21x1x1, .f32⟩ : BufTy).Contents (Elt F))
  :: StableHlo.reshape main_while0b_v152 main_while0b_v153 (rfl : (.f32 : EltTy) = .f32) shapeCasts_S8x21x1x1_S8x21x1
  :: StableHlo.unary main_while0b_v110 main_while0b_v154 ((extractStridedSlice S8x21x1x1 ![0, 0, 0, 1] · slices_S8x21x1x4_S8x21x1x1_0_0_0_1) : (⟨S8x21x1x4, .f32⟩ : BufTy).Contents (Elt F) → (⟨S8x21x1x1, .f32⟩ : BufTy).Contents (Elt F))
  :: StableHlo.reshape main_while0b_v154 main_while0b_v155 (rfl : (.f32 : EltTy) = .f32) shapeCasts_S8x21x1x1_S8x21x1
  :: StableHlo.binary main_while0b_v153 main_while0b_v155 main_while0b_v156 (subf : (⟨S8x21x1, .f32⟩ : BufTy).Contents (Elt F) → (⟨S8x21x1, .f32⟩ : BufTy).Contents (Elt F) → (⟨S8x21x1, .f32⟩ : BufTy).Contents (Elt F))
  :: StableHlo.binary main_while0b_v151 main_while0b_v156 main_while0b_v157 (mulf : (⟨S8x21x1, .f32⟩ : BufTy).Contents (Elt F) → (⟨S8x21x1, .f32⟩ : BufTy).Contents (Elt F) → (⟨S8x21x1, .f32⟩ : BufTy).Contents (Elt F))
  :: StableHlo.unary main_while0b_v111 main_while0b_v158 ((extractStridedSlice S8x1x5000x1 ![0, 0, 0, 2] · slices_S8x1x5000x4_S8x1x5000x1_0_0_0_2) : (⟨S8x1x5000x4, .f32⟩ : BufTy).Contents (Elt F) → (⟨S8x1x5000x1, .f32⟩ : BufTy).Contents (Elt F))
  :: StableHlo.reshape main_while0b_v158 main_while0b_v159 (rfl : (.f32 : EltTy) = .f32) shapeCasts_S8x1x5000x1_S8x1x5000
  :: StableHlo.unary main_while0b_v111 main_while0b_v160 ((extractStridedSlice S8x1x5000x1 ![0, 0, 0, 0] · slices_S8x1x5000x4_S8x1x5000x1_0_0_0_0) : (⟨S8x1x5000x4, .f32⟩ : BufTy).Contents (Elt F) → (⟨S8x1x5000x1, .f32⟩ : BufTy).Contents (Elt F))
  :: StableHlo.reshape main_while0b_v160 main_while0b_v161 (rfl : (.f32 : EltTy) = .f32) shapeCasts_S8x1x5000x1_S8x1x5000
  :: StableHlo.binary main_while0b_v159 main_while0b_v161 main_while0b_v162 (subf : (⟨S8x1x5000, .f32⟩ : BufTy).Contents (Elt F) → (⟨S8x1x5000, .f32⟩ : BufTy).Contents (Elt F) → (⟨S8x1x5000, .f32⟩ : BufTy).Contents (Elt F))
  :: StableHlo.unary main_while0b_v111 main_while0b_v163 ((extractStridedSlice S8x1x5000x1 ![0, 0, 0, 3] · slices_S8x1x5000x4_S8x1x5000x1_0_0_0_3) : (⟨S8x1x5000x4, .f32⟩ : BufTy).Contents (Elt F) → (⟨S8x1x5000x1, .f32⟩ : BufTy).Contents (Elt F))
  :: StableHlo.reshape main_while0b_v163 main_while0b_v164 (rfl : (.f32 : EltTy) = .f32) shapeCasts_S8x1x5000x1_S8x1x5000
  :: StableHlo.unary main_while0b_v111 main_while0b_v165 ((extractStridedSlice S8x1x5000x1 ![0, 0, 0, 1] · slices_S8x1x5000x4_S8x1x5000x1_0_0_0_1) : (⟨S8x1x5000x4, .f32⟩ : BufTy).Contents (Elt F) → (⟨S8x1x5000x1, .f32⟩ : BufTy).Contents (Elt F))
  :: StableHlo.reshape main_while0b_v165 main_while0b_v166 (rfl : (.f32 : EltTy) = .f32) shapeCasts_S8x1x5000x1_S8x1x5000
  :: StableHlo.binary main_while0b_v164 main_while0b_v166 main_while0b_v167 (subf : (⟨S8x1x5000, .f32⟩ : BufTy).Contents (Elt F) → (⟨S8x1x5000, .f32⟩ : BufTy).Contents (Elt F) → (⟨S8x1x5000, .f32⟩ : BufTy).Contents (Elt F))
  :: StableHlo.binary main_while0b_v162 main_while0b_v167 main_while0b_v168 (mulf : (⟨S8x1x5000, .f32⟩ : BufTy).Contents (Elt F) → (⟨S8x1x5000, .f32⟩ : BufTy).Contents (Elt F) → (⟨S8x1x5000, .f32⟩ : BufTy).Contents (Elt F))
  :: StableHlo.unary main_while0b_v157 main_while0b_v169 (broadcastInDim S8x21x5000 ![0, 1, 2] bcast_S8x21x1_S8x21x5000_0_1_2 : (⟨S8x21x1, .f32⟩ : BufTy).Contents (Elt F) → (⟨S8x21x5000, .f32⟩ : BufTy).Contents (Elt F))
  :: StableHlo.unary main_while0b_v168 main_while0b_v170 (broadcastInDim S8x21x5000 ![0, 1, 2] bcast_S8x1x5000_S8x21x5000_0_1_2 : (⟨S8x1x5000, .f32⟩ : BufTy).Contents (Elt F) → (⟨S8x21x5000, .f32⟩ : BufTy).Contents (Elt F))
  :: StableHlo.binary main_while0b_v169 main_while0b_v170 main_while0b_v171 (addf : (⟨S8x21x5000, .f32⟩ : BufTy).Contents (Elt F) → (⟨S8x21x5000, .f32⟩ : BufTy).Contents (Elt F) → (⟨S8x21x5000, .f32⟩ : BufTy).Contents (Elt F))
  :: StableHlo.binary main_while0b_v171 main_while0b_v146 main_while0b_v172 (subf : (⟨S8x21x5000, .f32⟩ : BufTy).Contents (Elt F) → (⟨S8x21x5000, .f32⟩ : BufTy).Contents (Elt F) → (⟨S8x21x5000, .f32⟩ : BufTy).Contents (Elt F))
  :: StableHlo.nullary main_while0b_cst_25 (constant S_ .f32 0x322BCC77#32)
  :: StableHlo.unary main_while0b_cst_25 main_while0b_v173 (broadcastInDim S8x21x5000 ![] bcast_S_S8x21x5000 : (⟨S_, .f32⟩ : BufTy).Contents (Elt F) → (⟨S8x21x5000, .f32⟩ : BufTy).Contents (Elt F))
  :: StableHlo.binary main_while0b_v172 main_while0b_v173 main_while0b_v174 (addf : (⟨S8x21x5000, .f32⟩ : BufTy).Contents (Elt F) → (⟨S8x21x5000, .f32⟩ : BufTy).Contents (Elt F) → (⟨S8x21x5000, .f32⟩ : BufTy).Contents (Elt F))
  :: StableHlo.binary main_while0b_v146 main_while0b_v174 main_while0b_v175 (Host.divf : (⟨S8x21x5000, .f32⟩ : BufTy).Contents (Elt F) → (⟨S8x21x5000, .f32⟩ : BufTy).Contents (Elt F) → (⟨S8x21x5000, .f32⟩ : BufTy).Contents (Elt F))
  :: StableHlo.nullary main_while0b_cst_26 (constant S_ .f32 0x3F000000#32)
  :: StableHlo.unary main_while0b_cst_26 main_while0b_v176 (broadcastInDim S8x21x5000 ![] bcast_S_S8x21x5000 : (⟨S_, .f32⟩ : BufTy).Contents (Elt F) → (⟨S8x21x5000, .f32⟩ : BufTy).Contents (Elt F))
  :: StableHlo.binary main_while0b_v175 main_while0b_v176 main_while0b_v177 (cmpf .ogt : (⟨S8x21x5000, .f32⟩ : BufTy).Contents (Elt F) → (⟨S8x21x5000, .f32⟩ : BufTy).Contents (Elt F) → (⟨S8x21x5000, .i1⟩ : BufTy).Contents (Elt F))
  :: StableHlo.nullary main_while0b_v178 (iotaInDim S5000 32 0)
  :: StableHlo.unary main_while0b_v104 main_while0b_v179 (broadcastInDim S8x21x1 ![0, 1] bcast_S8x21_S8x21x1_0_1 : (⟨S8x21, .i32⟩ : BufTy).Contents (Elt F) → (⟨S8x21x1, .i32⟩ : BufTy).Contents (Elt F))
  :: StableHlo.unary main_while0b_v178 main_while0b_v180 (broadcastInDim S1x1x5000 ![2] bcast_S5000_S1x1x5000_2 : (⟨S5000, .i32⟩ : BufTy).Contents (Elt F) → (⟨S1x1x5000, .i32⟩ : BufTy).Contents (Elt F))
  :: StableHlo.unary main_while0b_v180 main_while0b_v181 (broadcastInDim S8x21x5000 ![0, 1, 2] bcast_S1x1x5000_S8x21x5000_0_1_2 : (⟨S1x1x5000, .i32⟩ : BufTy).Contents (Elt F) → (⟨S8x21x5000, .i32⟩ : BufTy).Contents (Elt F))
  :: StableHlo.unary main_while0b_v179 main_while0b_v182 (broadcastInDim S8x21x5000 ![0, 1, 2] bcast_S8x21x1_S8x21x5000_0_1_2 : (⟨S8x21x1, .i32⟩ : BufTy).Contents (Elt F) → (⟨S8x21x5000, .i32⟩ : BufTy).Contents (Elt F))
  :: StableHlo.binary main_while0b_v181 main_while0b_v182 main_while0b_v183 (cmpi .eq : (⟨S8x21x5000, .i32⟩ : BufTy).Contents (Elt F) → (⟨S8x21x5000, .i32⟩ : BufTy).Contents (Elt F) → (⟨S8x21x5000, .i1⟩ : BufTy).Contents (Elt F))
  :: StableHlo.binary main_while0b_v177 main_while0b_v183 main_while0b_v184 (ori : (⟨S8x21x5000, .i1⟩ : BufTy).Contents (Elt F) → (⟨S8x21x5000, .i1⟩ : BufTy).Contents (Elt F) → (⟨S8x21x5000, .i1⟩ : BufTy).Contents (Elt F))
  :: StableHlo.nullary main_while0b_cst_27 (constant S_ .f32 0xFF800000#32)
  :: [] )
set_option maxHeartbeats 40000000 in
theorem while0Ops0_3_sub : (while0Ops0_3 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- 3 host operations of @_where_2 (main_while0b_call5), in order. -/
abbrev while0Ops0_4 : List (HloOp τ sig (Elt F)) :=
  [ StableHlo.TRef.unary (.of main_while0b_cst_27 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S8x21x5000, .f32⟩) (broadcastInDim S8x21x5000 ![] bcast_S_S8x21x5000),
    StableHlo.TRef.ternary (.of main_while0b_v184 : StableHlo.TRef sig ⟨S8x21x5000, .i1⟩) (.of main_while0b_call5_v1 : StableHlo.TRef sig ⟨S8x21x5000, .f32⟩) (.of main_v74_2 : StableHlo.TRef sig ⟨S8x21x5000, .f32⟩) (.of main_while0b_v185 : StableHlo.TRef sig ⟨S8x21x5000, .f32⟩) select ]
theorem while0Ops0_4_sub : (while0Ops0_4 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of host loop 0's body region, in order. -/
abbrev while0Ops0_5 : List (HloOp τ sig (Elt F)) :=
  [ StableHlo.unary main_while0b_v107 main_while0b_v186 (broadcastInDim S8x21x1 ![0, 1] bcast_S8x21_S8x21x1_0_1 : (⟨S8x21, .i1⟩ : BufTy).Contents (Elt F) → (⟨S8x21x1, .i1⟩ : BufTy).Contents (Elt F)) ]
theorem while0Ops0_5_sub : (while0Ops0_5 : List (HloOp τ sig (Elt F))).Forall fun op => op.bufs ⊆ StableHlo.tcRefs τ sig :=
  StableHlo.unary_bufs_sub ..
/-- 2 host operations of @_where_3 (main_while0b_call6), in order. -/
abbrev while0Ops0_6 : List (HloOp τ sig (Elt F)) :=
  [ StableHlo.TRef.unary (.of main_while0b_v186 : StableHlo.TRef sig ⟨S8x21x1, .i1⟩) (.of main_while0b_call6_v0 : StableHlo.TRef sig ⟨S8x21x5000, .i1⟩) (broadcastInDim S8x21x5000 ![0, 1, 2] bcast_S8x21x1_S8x21x5000_0_1_2),
    StableHlo.TRef.ternary (.of main_while0b_call6_v0 : StableHlo.TRef sig ⟨S8x21x5000, .i1⟩) (.of main_while0b_v185 : StableHlo.TRef sig ⟨S8x21x5000, .f32⟩) (.of main_v74_2 : StableHlo.TRef sig ⟨S8x21x5000, .f32⟩) (.of main_while0b_v187 : StableHlo.TRef sig ⟨S8x21x5000, .f32⟩) select ]
theorem while0Ops0_6_sub : (while0Ops0_6 : List (HloOp τ sig (Elt F))).Forall fun op => op.bufs ⊆ StableHlo.tcRefs τ sig :=
  ⟨StableHlo.unary_bufs_sub .., StableHlo.ternary_bufs_sub ..⟩
/-- 1 host operation of host loop 0's body region, in order. -/
abbrev while0Ops0_7 : List (HloOp τ sig (Elt F)) :=
  [ StableHlo.nullary main_while0b_c_28 (constantI S_ 32 4294967295#32) ]
theorem while0Ops0_7_sub : (while0Ops0_7 : List (HloOp τ sig (Elt F))).Forall fun op => op.bufs ⊆ StableHlo.tcRefs τ sig :=
  StableHlo.nullary_bufs_sub ..
/-- 3 host operations of @_where_4 (main_while0b_call7), in order. -/
abbrev while0Ops0_8 : List (HloOp τ sig (Elt F)) :=
  [ StableHlo.TRef.unary (.of main_while0b_c_28 : StableHlo.TRef sig ⟨S_, .i32⟩) (.of main_while0b_call7_v0 : StableHlo.TRef sig ⟨S_, .i32⟩) id,
    StableHlo.TRef.unary (.of main_while0b_call7_v0 : StableHlo.TRef sig ⟨S_, .i32⟩) (.of main_while0b_call7_v1 : StableHlo.TRef sig ⟨S8x21, .i32⟩) (broadcastInDim S8x21 ![] bcast_S_S8x21),
    StableHlo.TRef.ternary (.of main_while0b_v107 : StableHlo.TRef sig ⟨S8x21, .i1⟩) (.of main_while0b_v104 : StableHlo.TRef sig ⟨S8x21, .i32⟩) (.of main_while0b_call7_v1 : StableHlo.TRef sig ⟨S8x21, .i32⟩) (.of main_while0b_v188 : StableHlo.TRef sig ⟨S8x21, .i32⟩) select ]
theorem while0Ops0_8_sub : (while0Ops0_8 : List (HloOp τ sig (Elt F))).Forall fun op => op.bufs ⊆ StableHlo.tcRefs τ sig :=
  ⟨StableHlo.unary_bufs_sub .., StableHlo.unary_bufs_sub .., StableHlo.ternary_bufs_sub ..⟩
/-- 4 host operations of @dynamic_update_index_in_dim (main_while0b_call8), in order. -/
abbrev while0Ops0_9 : List (HloOp τ sig (Elt F)) :=
  [ StableHlo.TRef.unary (.of main_while0b_v188 : StableHlo.TRef sig ⟨S8x21, .i32⟩) (.of main_while0b_call8_v0 : StableHlo.TRef sig ⟨S1x8x21, .i32⟩) (broadcastInDim S1x8x21 ![1, 2] bcast_S8x21_S1x8x21_1_2),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.binaryIndexed (.of main_v74_3 : StableHlo.TRef sig ⟨S200x8x21, .i32⟩) (.of main_while0b_call8_v0 : StableHlo.TRef sig ⟨S1x8x21, .i32⟩) ![(.of main_v74_1 : StableHlo.TRef sig ⟨S_, .i32⟩), (.of main_while0b_call8_c : StableHlo.TRef sig ⟨S_, .i32⟩), (.of main_while0b_call8_c_0 : StableHlo.TRef sig ⟨S_, .i32⟩)] (.of main_while0b_v189 : StableHlo.TRef sig ⟨S200x8x21, .i32⟩) (fun x u i => Host.dynamicUpdateSlice x u (fun k => (i k (Shape.Idx.first h_S_)).toInt) updateFits_S200x8x21_S1x8x21) ]
theorem while0Ops0_9_sub : (while0Ops0_9 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of host loop 0's body region, in order. -/
abbrev while0Ops0_10 : List (HloOp τ sig (Elt F)) :=
  [ StableHlo.nullary main_while0b_c_29 (constantI S_ 32 1#32),
    StableHlo.binary main_v74_1 main_while0b_c_29 main_while0b_v190 (addi : (⟨S_, .i32⟩ : BufTy).Contents (Elt F) → (⟨S_, .i32⟩ : BufTy).Contents (Elt F) → (⟨S_, .i32⟩ : BufTy).Contents (Elt F)),
    StableHlo.unary main_while0b_v190 main_v74_1 id,
    StableHlo.unary main_while0b_v187 main_v74_2 id,
    StableHlo.unary main_while0b_v189 main_v74_3 id ]
theorem while0Ops0_10_sub : (while0Ops0_10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

end Cert.Proof.Ref
-- ==== Proof.Ref.Chain.lean ====
module

public import proofs.«01_k».proof.Proof.Ref.Ops

/-! # The reference as a chain of its stretches

`main` is the chain of its stretches around one counted loop, and the loop's body is the chain of its own. -/

@[expose] public section

set_option maxRecDepth 2440

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- 60 host operations of @main, window 0 (statements 1 … 60), in order. -/
abbrev main_part0_ops0 : List (HloOp τ sig (Elt F)) :=
  ( StableHlo.nullary main_cst (fun i => FloatOps.ofBits .f32 (lit0 (S4.rowMajor i)))
  :: StableHlo.unary main_cst main_v0 (broadcastInDim S1x1x4 ![2] bcast_S4_S1x1x4_2 : (⟨S4, .f32⟩ : BufTy).Contents (Elt F) → (⟨S1x1x4, .f32⟩ : BufTy).Contents (Elt F))
  :: StableHlo.unary main_v0 main_v1 (broadcastInDim S8x5000x4 ![0, 1, 2] bcast_S1x1x4_S8x5000x4_0_1_2 : (⟨S1x1x4, .f32⟩ : BufTy).Contents (Elt F) → (⟨S8x5000x4, .f32⟩ : BufTy).Contents (Elt F))
  :: StableHlo.binary main_arg0 main_v1 main_v2 (mulf : (⟨S8x5000x4, .f32⟩ : BufTy).Contents (Elt F) → (⟨S8x5000x4, .f32⟩ : BufTy).Contents (Elt F) → (⟨S8x5000x4, .f32⟩ : BufTy).Contents (Elt F))
  :: StableHlo.unary main_arg2 main_v3 ((extractStridedSlice S5000x1 ![0, 2] · slices_S5000x4_S5000x1_0_2) : (⟨S5000x4, .f32⟩ : BufTy).Contents (Elt F) → (⟨S5000x1, .f32⟩ : BufTy).Contents (Elt F))
  :: StableHlo.reshape main_v3 main_v4 (rfl : (.f32 : EltTy) = .f32) shapeCasts_S5000x1_S5000
  :: StableHlo.unary main_arg2 main_v5 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_v5 main_v6 (rfl : (.f32 : EltTy) = .f32) shapeCasts_S5000x1_S5000
  :: StableHlo.binary main_v4 main_v6 main_v7 (subf : (⟨S5000, .f32⟩ : BufTy).Contents (Elt F) → (⟨S5000, .f32⟩ : BufTy).Contents (Elt F) → (⟨S5000, .f32⟩ : BufTy).Contents (Elt F))
  :: StableHlo.unary main_arg2 main_v8 ((extractStridedSlice S5000x1 ![0, 3] · slices_S5000x4_S5000x1_0_3) : (⟨S5000x4, .f32⟩ : BufTy).Contents (Elt F) → (⟨S5000x1, .f32⟩ : BufTy).Contents (Elt F))
  :: StableHlo.reshape main_v8 main_v9 (rfl : (.f32 : EltTy) = .f32) shapeCasts_S5000x1_S5000
  :: StableHlo.unary main_arg2 main_v10 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_v10 main_v11 (rfl : (.f32 : EltTy) = .f32) shapeCasts_S5000x1_S5000
  :: StableHlo.binary main_v9 main_v11 main_v12 (subf : (⟨S5000, .f32⟩ : BufTy).Contents (Elt F) → (⟨S5000, .f32⟩ : BufTy).Contents (Elt F) → (⟨S5000, .f32⟩ : BufTy).Contents (Elt F))
  :: StableHlo.unary main_arg2 main_v13 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_v13 main_v14 (rfl : (.f32 : EltTy) = .f32) shapeCasts_S5000x1_S5000
  :: StableHlo.nullary main_cst_0 (constant S_ .f32 0x3F000000#32)
  :: StableHlo.unary main_cst_0 main_v15 (broadcastInDim S5000 ![] bcast_S_S5000 : (⟨S_, .f32⟩ : BufTy).Contents (Elt F) → (⟨S5000, .f32⟩ : BufTy).Contents (Elt F))
  :: StableHlo.binary main_v15 main_v7 main_v16 (mulf : (⟨S5000, .f32⟩ : BufTy).Contents (Elt F) → (⟨S5000, .f32⟩ : BufTy).Contents (Elt F) → (⟨S5000, .f32⟩ : BufTy).Contents (Elt F))
  :: StableHlo.binary main_v14 main_v16 main_v17 (addf : (⟨S5000, .f32⟩ : BufTy).Contents (Elt F) → (⟨S5000, .f32⟩ : BufTy).Contents (Elt F) → (⟨S5000, .f32⟩ : BufTy).Contents (Elt F))
  :: StableHlo.unary main_arg2 main_v18 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_v18 main_v19 (rfl : (.f32 : EltTy) = .f32) shapeCasts_S5000x1_S5000
  :: StableHlo.nullary main_cst_1 (constant S_ .f32 0x3F000000#32)
  :: StableHlo.unary main_cst_1 main_v20 (broadcastInDim S5000 ![] bcast_S_S5000 : (⟨S_, .f32⟩ : BufTy).Contents (Elt F) → (⟨S5000, .f32⟩ : BufTy).Contents (Elt F))
  :: StableHlo.binary main_v20 main_v12 main_v21 (mulf : (⟨S5000, .f32⟩ : BufTy).Contents (Elt F) → (⟨S5000, .f32⟩ : BufTy).Contents (Elt F) → (⟨S5000, .f32⟩ : BufTy).Contents (Elt F))
  :: StableHlo.binary main_v19 main_v21 main_v22 (addf : (⟨S5000, .f32⟩ : BufTy).Contents (Elt F) → (⟨S5000, .f32⟩ : BufTy).Contents (Elt F) → (⟨S5000, .f32⟩ : BufTy).Contents (Elt F))
  :: StableHlo.unary main_v2 main_v23 ((extractStridedSlice S8x5000x1 ![0, 0, 2] · slices_S8x5000x4_S8x5000x1_0_0_2) : (⟨S8x5000x4, .f32⟩ : BufTy).Contents (Elt F) → (⟨S8x5000x1, .f32⟩ : BufTy).Contents (Elt F))
  :: StableHlo.reshape main_v23 main_v24 (rfl : (.f32 : EltTy) = .f32) shapeCasts_S8x5000x1_S8x5000
  :: StableHlo.unary main_v24 main_v25 (Host.exp : (⟨S8x5000, .f32⟩ : BufTy).Contents (Elt F) → (⟨S8x5000, .f32⟩ : BufTy).Contents (Elt F))
  :: StableHlo.unary main_v7 main_v26 (broadcastInDim S1x5000 ![1] bcast_S5000_S1x5000_1 : (⟨S5000, .f32⟩ : BufTy).Contents (Elt F) → (⟨S1x5000, .f32⟩ : BufTy).Contents (Elt F))
  :: StableHlo.unary main_v26 main_v27 (broadcastInDim S8x5000 ![0, 1] bcast_S1x5000_S8x5000_0_1 : (⟨S1x5000, .f32⟩ : BufTy).Contents (Elt F) → (⟨S8x5000, .f32⟩ : BufTy).Contents (Elt F))
  :: StableHlo.binary main_v25 main_v27 main_v28 (mulf : (⟨S8x5000, .f32⟩ : BufTy).Contents (Elt F) → (⟨S8x5000, .f32⟩ : BufTy).Contents (Elt F) → (⟨S8x5000, .f32⟩ : BufTy).Contents (Elt F))
  :: StableHlo.unary main_v2 main_v29 ((extractStridedSlice S8x5000x1 ![0, 0, 3] · slices_S8x5000x4_S8x5000x1_0_0_3) : (⟨S8x5000x4, .f32⟩ : BufTy).Contents (Elt F) → (⟨S8x5000x1, .f32⟩ : BufTy).Contents (Elt F))
  :: StableHlo.reshape main_v29 main_v30 (rfl : (.f32 : EltTy) = .f32) shapeCasts_S8x5000x1_S8x5000
  :: StableHlo.unary main_v30 main_v31 (Host.exp : (⟨S8x5000, .f32⟩ : BufTy).Contents (Elt F) → (⟨S8x5000, .f32⟩ : BufTy).Contents (Elt F))
  :: StableHlo.unary main_v12 main_v32 (broadcastInDim S1x5000 ![1] bcast_S5000_S1x5000_1 : (⟨S5000, .f32⟩ : BufTy).Contents (Elt F) → (⟨S1x5000, .f32⟩ : BufTy).Contents (Elt F))
  :: StableHlo.unary main_v32 main_v33 (broadcastInDim S8x5000 ![0, 1] bcast_S1x5000_S8x5000_0_1 : (⟨S1x5000, .f32⟩ : BufTy).Contents (Elt F) → (⟨S8x5000, .f32⟩ : BufTy).Contents (Elt F))
  :: StableHlo.binary main_v31 main_v33 main_v34 (mulf : (⟨S8x5000, .f32⟩ : BufTy).Contents (Elt F) → (⟨S8x5000, .f32⟩ : BufTy).Contents (Elt F) → (⟨S8x5000, .f32⟩ : BufTy).Contents (Elt F))
  :: StableHlo.unary main_v2 main_v35 ((extractStridedSlice S8x5000x1 ![0, 0, 0] · slices_S8x5000x4_S8x5000x1_0_0_0) : (⟨S8x5000x4, .f32⟩ : BufTy).Contents (Elt F) → (⟨S8x5000x1, .f32⟩ : BufTy).Contents (Elt F))
  :: StableHlo.reshape main_v35 main_v36 (rfl : (.f32 : EltTy) = .f32) shapeCasts_S8x5000x1_S8x5000
  :: StableHlo.unary main_v7 main_v37 (broadcastInDim S1x5000 ![1] bcast_S5000_S1x5000_1 : (⟨S5000, .f32⟩ : BufTy).Contents (Elt F) → (⟨S1x5000, .f32⟩ : BufTy).Contents (Elt F))
  :: StableHlo.unary main_v37 main_v38 (broadcastInDim S8x5000 ![0, 1] bcast_S1x5000_S8x5000_0_1 : (⟨S1x5000, .f32⟩ : BufTy).Contents (Elt F) → (⟨S8x5000, .f32⟩ : BufTy).Contents (Elt F))
  :: StableHlo.binary main_v36 main_v38 main_v39 (mulf : (⟨S8x5000, .f32⟩ : BufTy).Contents (Elt F) → (⟨S8x5000, .f32⟩ : BufTy).Contents (Elt F) → (⟨S8x5000, .f32⟩ : BufTy).Contents (Elt F))
  :: StableHlo.unary main_v17 main_v40 (broadcastInDim S1x5000 ![1] bcast_S5000_S1x5000_1 : (⟨S5000, .f32⟩ : BufTy).Contents (Elt F) → (⟨S1x5000, .f32⟩ : BufTy).Contents (Elt F))
  :: StableHlo.unary main_v40 main_v41 (broadcastInDim S8x5000 ![0, 1] bcast_S1x5000_S8x5000_0_1 : (⟨S1x5000, .f32⟩ : BufTy).Contents (Elt F) → (⟨S8x5000, .f32⟩ : BufTy).Contents (Elt F))
  :: StableHlo.binary main_v39 main_v41 main_v42 (addf : (⟨S8x5000, .f32⟩ : BufTy).Contents (Elt F) → (⟨S8x5000, .f32⟩ : BufTy).Contents (Elt F) → (⟨S8x5000, .f32⟩ : BufTy).Contents (Elt F))
  :: StableHlo.unary main_v2 main_v43 ((extractStridedSlice S8x5000x1 ![0, 0, 1] · slices_S8x5000x4_S8x5000x1_0_0_1) : (⟨S8x5000x4, .f32⟩ : BufTy).Contents (Elt F) → (⟨S8x5000x1, .f32⟩ : BufTy).Contents (Elt F))
  :: StableHlo.reshape main_v43 main_v44 (rfl : (.f32 : EltTy) = .f32) shapeCasts_S8x5000x1_S8x5000
  :: StableHlo.unary main_v12 main_v45 (broadcastInDim S1x5000 ![1] bcast_S5000_S1x5000_1 : (⟨S5000, .f32⟩ : BufTy).Contents (Elt F) → (⟨S1x5000, .f32⟩ : BufTy).Contents (Elt F))
  :: StableHlo.unary main_v45 main_v46 (broadcastInDim S8x5000 ![0, 1] bcast_S1x5000_S8x5000_0_1 : (⟨S1x5000, .f32⟩ : BufTy).Contents (Elt F) → (⟨S8x5000, .f32⟩ : BufTy).Contents (Elt F))
  :: StableHlo.binary main_v44 main_v46 main_v47 (mulf : (⟨S8x5000, .f32⟩ : BufTy).Contents (Elt F) → (⟨S8x5000, .f32⟩ : BufTy).Contents (Elt F) → (⟨S8x5000, .f32⟩ : BufTy).Contents (Elt F))
  :: StableHlo.unary main_v22 main_v48 (broadcastInDim S1x5000 ![1] bcast_S5000_S1x5000_1 : (⟨S5000, .f32⟩ : BufTy).Contents (Elt F) → (⟨S1x5000, .f32⟩ : BufTy).Contents (Elt F))
  :: StableHlo.unary main_v48 main_v49 (broadcastInDim S8x5000 ![0, 1] bcast_S1x5000_S8x5000_0_1 : (⟨S1x5000, .f32⟩ : BufTy).Contents (Elt F) → (⟨S8x5000, .f32⟩ : BufTy).Contents (Elt F))
  :: StableHlo.binary main_v47 main_v49 main_v50 (addf : (⟨S8x5000, .f32⟩ : BufTy).Contents (Elt F) → (⟨S8x5000, .f32⟩ : BufTy).Contents (Elt F) → (⟨S8x5000, .f32⟩ : BufTy).Contents (Elt F))
  :: StableHlo.nullary main_cst_2 (constant S_ .f32 0x3F000000#32)
  :: StableHlo.unary main_cst_2 main_v51 (broadcastInDim S8x5000 ![] bcast_S_S8x5000 : (⟨S_, .f32⟩ : BufTy).Contents (Elt F) → (⟨S8x5000, .f32⟩ : BufTy).Contents (Elt F))
  :: StableHlo.binary main_v51 main_v28 main_v52 (mulf : (⟨S8x5000, .f32⟩ : BufTy).Contents (Elt F) → (⟨S8x5000, .f32⟩ : BufTy).Contents (Elt F) → (⟨S8x5000, .f32⟩ : BufTy).Contents (Elt F))
  :: StableHlo.binary main_v42 main_v52 main_v53 (subf : (⟨S8x5000, .f32⟩ : BufTy).Contents (Elt F) → (⟨S8x5000, .f32⟩ : BufTy).Contents (Elt F) → (⟨S8x5000, .f32⟩ : BufTy).Contents (Elt F))
  :: StableHlo.nullary main_cst_3 (constant S_ .f32 0x3F000000#32)
  :: StableHlo.unary main_cst_3 main_v54 (broadcastInDim S8x5000 ![] bcast_S_S8x5000 : (⟨S_, .f32⟩ : BufTy).Contents (Elt F) → (⟨S8x5000, .f32⟩ : BufTy).Contents (Elt F))
  :: [] )
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub ..⟩
/-- Window 0 of `main` (`main_part0`, statements 1 … 60) is the chain of its items. -/
theorem main_part0_chain (c : Dev nD) : main_part0 (F := F) c = (Pipeline.chainK
  [  ]
  (StableHlo.seq main_part0_ops0) : Prog (TpuEff nD τ sig (Elt F) (HostLoop.Sig (Pipeline.Sig Λ₀ (Fin 0) fun p => (pcfgs (F := F) p).Adm) 1) .tc) PUnit) := by
  chain_rfl

/-- 9 host operations of @main, window 1 (statements 61 … 120), in order. -/
abbrev main_part1_ops0 : List (HloOp τ sig (Elt F)) :=
  [ StableHlo.binary main_v54 main_v34 main_v55 (mulf : (⟨S8x5000, .f32⟩ : BufTy).Contents (Elt F) → (⟨S8x5000, .f32⟩ : BufTy).Contents (Elt F) → (⟨S8x5000, .f32⟩ : BufTy).Contents (Elt F)),
    StableHlo.binary main_v50 main_v55 main_v56 (subf : (⟨S8x5000, .f32⟩ : BufTy).Contents (Elt F) → (⟨S8x5000, .f32⟩ : BufTy).Contents (Elt F) → (⟨S8x5000, .f32⟩ : BufTy).Contents (Elt F)),
    StableHlo.binary main_v53 main_v28 main_v57 (addf : (⟨S8x5000, .f32⟩ : BufTy).Contents (Elt F) → (⟨S8x5000, .f32⟩ : BufTy).Contents (Elt F) → (⟨S8x5000, .f32⟩ : BufTy).Contents (Elt F)),
    StableHlo.binary main_v56 main_v34 main_v58 (addf : (⟨S8x5000, .f32⟩ : BufTy).Contents (Elt F) → (⟨S8x5000, .f32⟩ : BufTy).Contents (Elt F) → (⟨S8x5000, .f32⟩ : BufTy).Contents (Elt F)),
    StableHlo.unary main_v53 main_v59 (broadcastInDim S8x5000x1 ![0, 1] bcast_S8x5000_S8x5000x1_0_1 : (⟨S8x5000, .f32⟩ : BufTy).Contents (Elt F) → (⟨S8x5000x1, .f32⟩ : BufTy).Contents (Elt F)),
    StableHlo.unary main_v56 main_v60 (broadcastInDim S8x5000x1 ![0, 1] bcast_S8x5000_S8x5000x1_0_1 : (⟨S8x5000, .f32⟩ : BufTy).Contents (Elt F) → (⟨S8x5000x1, .f32⟩ : BufTy).Contents (Elt F)),
    StableHlo.unary main_v57 main_v61 (broadcastInDim S8x5000x1 ![0, 1] bcast_S8x5000_S8x5000x1_0_1 : (⟨S8x5000, .f32⟩ : BufTy).Contents (Elt F) → (⟨S8x5000x1, .f32⟩ : BufTy).Contents (Elt F)),
    StableHlo.unary main_v58 main_v62 (broadcastInDim S8x5000x1 ![0, 1] bcast_S8x5000_S8x5000x1_0_1 : (⟨S8x5000, .f32⟩ : BufTy).Contents (Elt F) → (⟨S8x5000x1, .f32⟩ : BufTy).Contents (Elt F)),
    StableHlo.nary ![main_v59, main_v60, main_v61, main_v62] main_v63 (fun u => (concatenate S8x5000x4 2 [⟨S8x5000x1, (u 0 : (⟨S8x5000x1, .f32⟩ : BufTy).Contents (Elt F))⟩, ⟨S8x5000x1, (u 1 : (⟨S8x5000x1, .f32⟩ : BufTy).Contents (Elt F))⟩, ⟨S8x5000x1, (u 2 : (⟨S8x5000x1, .f32⟩ : BufTy).Contents (Elt F))⟩, ⟨S8x5000x1, (u 3 : (⟨S8x5000x1, .f32⟩ : BufTy).Contents (Elt F))⟩] concatenates_S8x5000x1_S8x5000x1_S8x5000x1_S8x5000x1_S8x5000x4_d2 : (⟨S8x5000x4, .f32⟩ : BufTy).Contents (Elt F))) ]
theorem main_part1_ops0_sub : (main_part1_ops0 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub ..⟩
/-- 5 host operations of @argmax (main_call0), window 1 (statements 61 … 120), in order. -/
abbrev main_part1_ops1 : List (HloOp τ sig (Elt F)) :=
  [ StableHlo.TRef.nullary (.of main_call0_v0 : StableHlo.TRef sig ⟨S8x5000x21, .i32⟩) (iotaInDim S8x5000x21 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_arg1 : StableHlo.TRef sig ⟨S8x5000x21, .f32⟩) (.of main_call0_v0 : StableHlo.TRef sig ⟨S8x5000x21, .i32⟩) (.of main_call0_cst : StableHlo.TRef sig ⟨S_, .f32⟩) (.of main_call0_c : StableHlo.TRef sig ⟨S_, .i32⟩) (.of main_call0_v1_0 : StableHlo.TRef sig ⟨S8x5000, .f32⟩) (fun x y u v j => (Host.argReduce reducer_argmax_f32_i32 x y u v reducesTo_S8x5000x21_S8x5000_d2 h_S_ j).1),
    StableHlo.TRef.quaternary (.of main_arg1 : StableHlo.TRef sig ⟨S8x5000x21, .f32⟩) (.of main_call0_v0 : StableHlo.TRef sig ⟨S8x5000x21, .i32⟩) (.of main_call0_cst : StableHlo.TRef sig ⟨S_, .f32⟩) (.of main_call0_c : StableHlo.TRef sig ⟨S_, .i32⟩) (.of main_v64 : StableHlo.TRef sig ⟨S8x5000, .i32⟩) (fun x y u v j => (Host.argReduce reducer_argmax_f32_i32 x y u v reducesTo_S8x5000x21_S8x5000_d2 h_S_ j).2) ]
theorem main_part1_ops1_sub : (main_part1_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 5 host operations of @main, window 1 (statements 61 … 120), in order. -/
abbrev main_part1_ops2 : List (HloOp τ sig (Elt F)) :=
  [ StableHlo.unary main_v64 main_v65 (broadcastInDim S8x5000x1 ![0, 1] bcast_S8x5000_S8x5000x1_0_1 : (⟨S8x5000, .i32⟩ : BufTy).Contents (Elt F) → (⟨S8x5000x1, .i32⟩ : BufTy).Contents (Elt F)),
    StableHlo.nullary main_c (constantI S_ 32 0#32),
    StableHlo.unary main_c main_v66 (broadcastInDim S8x5000x1 ![] bcast_S_S8x5000x1 : (⟨S_, .i32⟩ : BufTy).Contents (Elt F) → (⟨S8x5000x1, .i32⟩ : BufTy).Contents (Elt F)),
    StableHlo.binary main_v65 main_v66 main_v67 (cmpi .ne : (⟨S8x5000x1, .i32⟩ : BufTy).Contents (Elt F) → (⟨S8x5000x1, .i32⟩ : BufTy).Contents (Elt F) → (⟨S8x5000x1, .i1⟩ : BufTy).Contents (Elt F)),
    StableHlo.nullary main_cst_4 (constant S_ .f32 0x00000000#32) ]
theorem main_part1_ops2_sub : (main_part1_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..⟩
/-- 4 host operations of @_where (main_call1), window 1 (statements 61 … 120), in order. -/
abbrev main_part1_ops3 : List (HloOp τ sig (Elt F)) :=
  [ StableHlo.TRef.unary (.of main_cst_4 : StableHlo.TRef sig ⟨S_, .f32⟩) (.of main_call1_v0 : StableHlo.TRef sig ⟨S_, .f32⟩) id,
    StableHlo.TRef.unary (.of main_v67 : StableHlo.TRef sig ⟨S8x5000x1, .i1⟩) (.of main_call1_v1 : StableHlo.TRef sig ⟨S8x5000x21, .i1⟩) (broadcastInDim S8x5000x21 ![0, 1, 2] bcast_S8x5000x1_S8x5000x21_0_1_2),
    StableHlo.TRef.unary (.of main_call1_v0 : StableHlo.TRef sig ⟨S_, .f32⟩) (.of main_call1_v2 : StableHlo.TRef sig ⟨S8x5000x21, .f32⟩) (broadcastInDim S8x5000x21 ![] bcast_S_S8x5000x21),
    StableHlo.TRef.ternary (.of main_call1_v1 : StableHlo.TRef sig ⟨S8x5000x21, .i1⟩) (.of main_arg1 : StableHlo.TRef sig ⟨S8x5000x21, .f32⟩) (.of main_call1_v2 : StableHlo.TRef sig ⟨S8x5000x21, .f32⟩) (.of main_v68 : StableHlo.TRef sig ⟨S8x5000x21, .f32⟩) select ]
theorem main_part1_ops3_sub : (main_part1_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 5 host operations of @main, window 1 (statements 61 … 120), in order. -/
abbrev main_part1_ops4 : List (HloOp τ sig (Elt F)) :=
  [ StableHlo.unary main_v68 main_v69 ((transpose S8x21x5000 [0, 2, 1] · transposes_S8x5000x21_S8x21x5000_0_2_1) : (⟨S8x5000x21, .f32⟩ : BufTy).Contents (Elt F) → (⟨S8x21x5000, .f32⟩ : BufTy).Contents (Elt F)),
    StableHlo.nullary main_cst_5 (constant S_ .f32 0x3F000000#32),
    StableHlo.unary main_cst_5 main_v70 (broadcastInDim S8x21x5000 ![] bcast_S_S8x21x5000 : (⟨S_, .f32⟩ : BufTy).Contents (Elt F) → (⟨S8x21x5000, .f32⟩ : BufTy).Contents (Elt F)),
    StableHlo.binary main_v69 main_v70 main_v71 (cmpf .ogt : (⟨S8x21x5000, .f32⟩ : BufTy).Contents (Elt F) → (⟨S8x21x5000, .f32⟩ : BufTy).Contents (Elt F) → (⟨S8x21x5000, .i1⟩ : BufTy).Contents (Elt F)),
    StableHlo.nullary main_cst_6 (constant S_ .f32 0xFF800000#32) ]
theorem main_part1_ops4_sub : (main_part1_ops4 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..⟩
/-- 3 host operations of @_where_0 (main_call2), window 1 (statements 61 … 120), in order. -/
abbrev main_part1_ops5 : List (HloOp τ sig (Elt F)) :=
  [ StableHlo.TRef.unary (.of main_cst_6 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8x21x5000, .f32⟩) (broadcastInDim S8x21x5000 ![] bcast_S_S8x21x5000),
    StableHlo.TRef.ternary (.of main_v71 : StableHlo.TRef sig ⟨S8x21x5000, .i1⟩) (.of main_v69 : StableHlo.TRef sig ⟨S8x21x5000, .f32⟩) (.of main_call2_v1 : StableHlo.TRef sig ⟨S8x21x5000, .f32⟩) (.of main_v72 : StableHlo.TRef sig ⟨S8x21x5000, .f32⟩) select ]
theorem main_part1_ops5_sub : (main_part1_ops5 : List (HloOp τ sig (Elt F))).Forall fun op => op.bufs ⊆ StableHlo.tcRefs τ sig :=
  ⟨StableHlo.unary_bufs_sub .., StableHlo.unary_bufs_sub .., StableHlo.ternary_bufs_sub ..⟩
/-- 7 host operations of @main, window 1 (statements 61 … 120), in order. -/
abbrev main_part1_ops6 : List (HloOp τ sig (Elt F)) :=
  [ StableHlo.nullary main_c_7 (constantI S_ 32 0#32),
    StableHlo.unary main_c_7 main_v73 (broadcastInDim S200x8x21 ![] bcast_S_S200x8x21 : (⟨S_, .i32⟩ : BufTy).Contents (Elt F) → (⟨S200x8x21, .i32⟩ : BufTy).Contents (Elt F)),
    StableHlo.nullary main_c_8 (constantI S_ 32 0#32),
    StableHlo.unary main_v63 main_v74_0 id,
    StableHlo.unary main_c_8 main_v74_1 id,
    StableHlo.unary main_v72 main_v74_2 id,
    StableHlo.unary main_v73 main_v74_3 id ]
theorem main_part1_ops6_sub : (main_part1_ops6 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- 6 host operations of @main, window 1 (statements 61 … 120), in order. -/
abbrev main_part1_ops7 : List (HloOp τ sig (Elt F)) :=
  [ StableHlo.unary main_v74_3 main_v75 ((transpose S8x21x200 [1, 2, 0] · transposes_S200x8x21_S8x21x200_1_2_0) : (⟨S200x8x21, .i32⟩ : BufTy).Contents (Elt F) → (⟨S8x21x200, .i32⟩ : BufTy).Contents (Elt F)),
    StableHlo.nullary main_c_9 (constantI S_ 32 0#32),
    StableHlo.unary main_c_9 main_v76 (broadcastInDim S8x21x200 ![] bcast_S_S8x21x200 : (⟨S_, .i32⟩ : BufTy).Contents (Elt F) → (⟨S8x21x200, .i32⟩ : BufTy).Contents (Elt F)),
    StableHlo.binary main_v75 main_v76 main_v77 (cmpi .sge : (⟨S8x21x200, .i32⟩ : BufTy).Contents (Elt F) → (⟨S8x21x200, .i32⟩ : BufTy).Contents (Elt F) → (⟨S8x21x200, .i1⟩ : BufTy).Contents (Elt F)),
    StableHlo.reshape main_v77 main_v78 (rfl : (.i1 : EltTy) = .i1) shapeCasts_S8x21x200_S8x4200,
    StableHlo.nullary main_c_10 (constantI S_ 32 0#32) ]
theorem main_part1_ops7_sub : (main_part1_ops7 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.reshape_bufs_sub .., StableHlo.nullary_bufs_sub ..⟩
/-- 3 host operations of @clip (main_call9), window 1 (statements 61 … 120), in order. -/
abbrev main_part1_ops8 : List (HloOp τ sig (Elt F)) :=
  [ StableHlo.TRef.unary (.of main_c_10 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S8x21x200, .i32⟩) (broadcastInDim S8x21x200 ![] bcast_S_S8x21x200),
    StableHlo.TRef.binary (.of main_call9_v1 : StableHlo.TRef sig ⟨S8x21x200, .i32⟩) (.of main_v75 : StableHlo.TRef sig ⟨S8x21x200, .i32⟩) (.of main_v79 : StableHlo.TRef sig ⟨S8x21x200, .i32⟩) maxsi ]
theorem main_part1_ops8_sub : (main_part1_ops8 : List (HloOp τ sig (Elt F))).Forall fun op => op.bufs ⊆ StableHlo.tcRefs τ sig :=
  ⟨StableHlo.unary_bufs_sub .., StableHlo.unary_bufs_sub .., StableHlo.binary_bufs_sub ..⟩
/-- 3 host operations of @main, window 1 (statements 61 … 120), in order. -/
abbrev main_part1_ops9 : List (HloOp τ sig (Elt F)) :=
  [ StableHlo.unary main_v78 main_v80 (broadcastInDim S8x4200x1 ![0, 1] bcast_S8x4200_S8x4200x1_0_1 : (⟨S8x4200, .i1⟩ : BufTy).Contents (Elt F) → (⟨S8x4200x1, .i1⟩ : BufTy).Contents (Elt F)),
    StableHlo.reshape main_v79 main_v81 (rfl : (.i32 : EltTy) = .i32) shapeCasts_S8x21x200_S8x4200,
    StableHlo.unary main_v81 main_v82 (broadcastInDim S8x4200x1 ![0, 1] bcast_S8x4200_S8x4200x1_0_1 : (⟨S8x4200, .i32⟩ : BufTy).Contents (Elt F) → (⟨S8x4200x1, .i32⟩ : BufTy).Contents (Elt F)) ]
theorem main_part1_ops9_sub : (main_part1_ops9 : List (HloOp τ sig (Elt F))).Forall fun op => op.bufs ⊆ StableHlo.tcRefs τ sig :=
  ⟨StableHlo.unary_bufs_sub .., StableHlo.reshape_bufs_sub .., StableHlo.unary_bufs_sub ..⟩
/-- 8 host operations of @take_along_axis_5 (main_call10), window 1 (statements 61 … 120), in order. -/
abbrev main_part1_ops10 : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S8x4200x1, .i32⟩) (broadcastInDim S8x4200x1 ![] bcast_S_S8x4200x1),
    StableHlo.TRef.binary (.of main_v82 : StableHlo.TRef sig ⟨S8x4200x1, .i32⟩) (.of main_call10_v0 : StableHlo.TRef sig ⟨S8x4200x1, .i32⟩) (.of main_call10_v1 : StableHlo.TRef sig ⟨S8x4200x1, .i1⟩) (cmpi .slt),
    StableHlo.TRef.nullary (.of main_call10_c_0 : StableHlo.TRef sig ⟨S_, .i32⟩) (constantI S_ 32 5000#32),
    StableHlo.TRef.unary (.of main_call10_c_0 : StableHlo.TRef sig ⟨S_, .i32⟩) (.of main_call10_v2 : StableHlo.TRef sig ⟨S8x4200x1, .i32⟩) (broadcastInDim S8x4200x1 ![] bcast_S_S8x4200x1),
    StableHlo.TRef.binary (.of main_v82 : StableHlo.TRef sig ⟨S8x4200x1, .i32⟩) (.of main_call10_v2 : StableHlo.TRef sig ⟨S8x4200x1, .i32⟩) (.of main_call10_v3 : StableHlo.TRef sig ⟨S8x4200x1, .i32⟩) addi,
    StableHlo.TRef.ternary (.of main_call10_v1 : StableHlo.TRef sig ⟨S8x4200x1, .i1⟩) (.of main_call10_v3 : StableHlo.TRef sig ⟨S8x4200x1, .i32⟩) (.of main_v82 : StableHlo.TRef sig ⟨S8x4200x1, .i32⟩) (.of main_call10_v4 : StableHlo.TRef sig ⟨S8x4200x1, .i32⟩) select,
    StableHlo.TRef.binary (.of main_v63 : StableHlo.TRef sig ⟨S8x5000x4, .f32⟩) (.of main_call10_v4 : StableHlo.TRef sig ⟨S8x4200x1, .i32⟩) (.of main_v83 : StableHlo.TRef sig ⟨S8x4200x4, .f32⟩) (fun x i => Host.gather gather_S8x5000x4_S8x4200x1_S8x4200x4_2_1_0_0_1_2_114 x i) ]
theorem main_part1_ops10_sub : (main_part1_ops10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 1 host operation of @main, window 1 (statements 61 … 120), in order. -/
abbrev main_part1_ops11 : List (HloOp τ sig (Elt F)) :=
  [ StableHlo.nullary main_cst_11 (constant S_ .f32 0x00000000#32) ]
theorem main_part1_ops11_sub : (main_part1_ops11 : List (HloOp τ sig (Elt F))).Forall fun op => op.bufs ⊆ StableHlo.tcRefs τ sig :=
  StableHlo.nullary_bufs_sub ..
/-- 4 host operations of @_where_6 (main_call11), window 1 (statements 61 … 120), in order. -/
abbrev main_part1_ops12 : List (HloOp τ sig (Elt F)) :=
  [ StableHlo.TRef.unary (.of main_cst_11 : StableHlo.TRef sig ⟨S_, .f32⟩) (.of main_call11_v0 : StableHlo.TRef sig ⟨S_, .f32⟩) id,
    StableHlo.TRef.unary (.of main_v80 : StableHlo.TRef sig ⟨S8x4200x1, .i1⟩) (.of main_call11_v1 : StableHlo.TRef sig ⟨S8x4200x4, .i1⟩) (broadcastInDim S8x4200x4 ![0, 1, 2] bcast_S8x4200x1_S8x4200x4_0_1_2),
    StableHlo.TRef.unary (.of main_call11_v0 : StableHlo.TRef sig ⟨S_, .f32⟩) (.of main_call11_v2 : StableHlo.TRef sig ⟨S8x4200x4, .f32⟩) (broadcastInDim S8x4200x4 ![] bcast_S_S8x4200x4),
    StableHlo.TRef.ternary (.of main_call11_v1 : StableHlo.TRef sig ⟨S8x4200x4, .i1⟩) (.of main_v83 : StableHlo.TRef sig ⟨S8x4200x4, .f32⟩) (.of main_call11_v2 : StableHlo.TRef sig ⟨S8x4200x4, .f32⟩) (.of main_v84 : StableHlo.TRef sig ⟨S8x4200x4, .f32⟩) select ]
theorem main_part1_ops12_sub : (main_part1_ops12 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 host operations of @take_along_axis_7 (main_call12), window 1 (statements 61 … 120), in order. -/
abbrev main_part1_ops13 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S8x21x200, .i32⟩) (broadcastInDim S8x21x200 ![] bcast_S_S8x21x200),
    StableHlo.TRef.binary (.of main_v79 : StableHlo.TRef sig ⟨S8x21x200, .i32⟩) (.of main_call12_v0 : StableHlo.TRef sig ⟨S8x21x200, .i32⟩) (.of main_call12_v1 : StableHlo.TRef sig ⟨S8x21x200, .i1⟩) (cmpi .slt),
    StableHlo.TRef.nullary (.of main_call12_c_0 : StableHlo.TRef sig ⟨S_, .i32⟩) (constantI S_ 32 5000#32),
    StableHlo.TRef.unary (.of main_call12_c_0 : StableHlo.TRef sig ⟨S_, .i32⟩) (.of main_call12_v2 : StableHlo.TRef sig ⟨S8x21x200, .i32⟩) (broadcastInDim S8x21x200 ![] bcast_S_S8x21x200),
    StableHlo.TRef.binary (.of main_v79 : StableHlo.TRef sig ⟨S8x21x200, .i32⟩) (.of main_call12_v2 : StableHlo.TRef sig ⟨S8x21x200, .i32⟩) (.of main_call12_v3 : StableHlo.TRef sig ⟨S8x21x200, .i32⟩) addi,
    StableHlo.TRef.ternary (.of main_call12_v1 : StableHlo.TRef sig ⟨S8x21x200, .i1⟩) (.of main_call12_v3 : StableHlo.TRef sig ⟨S8x21x200, .i32⟩) (.of main_v79 : StableHlo.TRef sig ⟨S8x21x200, .i32⟩) (.of main_call12_v4 : StableHlo.TRef sig ⟨S8x21x200, .i32⟩) select,
    StableHlo.TRef.reshape (.of main_call12_v4 : StableHlo.TRef sig ⟨S8x21x200, .i32⟩) (.of main_call12_v5 : StableHlo.TRef sig ⟨S8x21x200x1, .i32⟩) (rfl : (.i32 : EltTy) = .i32) shapeCasts_S8x21x200_S8x21x200x1,
    StableHlo.TRef.binary (.of main_v69 : StableHlo.TRef sig ⟨S8x21x5000, .f32⟩) (.of main_call12_v5 : StableHlo.TRef sig ⟨S8x21x200x1, .i32⟩) (.of main_v85 : StableHlo.TRef sig ⟨S8x21x200, .f32⟩) (fun x i => Host.gather gather_S8x21x5000_S8x21x200x1_S8x21x200_n_2_01_01_2_3_111 x i) ]
theorem main_part1_ops13_sub : (main_part1_ops13 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 2 host operations of @main, window 1 (statements 61 … 120), in order. -/
abbrev main_part1_ops14 : List (HloOp τ sig (Elt F)) :=
  [ StableHlo.reshape main_v85 main_v86 (rfl : (.f32 : EltTy) = .f32) shapeCasts_S8x21x200_S8x4200,
    StableHlo.nullary main_cst_12 (constant S_ .f32 0x00000000#32) ]
theorem main_part1_ops14_sub : (main_part1_ops14 : List (HloOp τ sig (Elt F))).Forall fun op => op.bufs ⊆ StableHlo.tcRefs τ sig :=
  ⟨StableHlo.reshape_bufs_sub .., StableHlo.nullary_bufs_sub ..⟩
/-- 3 host operations of @_where_8 (main_call13), window 1 (statements 61 … 120), in order. -/
abbrev main_part1_ops15 : List (HloOp τ sig (Elt F)) :=
  [ StableHlo.TRef.unary (.of main_cst_12 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S8x4200, .f32⟩) (broadcastInDim S8x4200 ![] bcast_S_S8x4200),
    StableHlo.TRef.ternary (.of main_v78 : StableHlo.TRef sig ⟨S8x4200, .i1⟩) (.of main_v86 : StableHlo.TRef sig ⟨S8x4200, .f32⟩) (.of main_call13_v1 : StableHlo.TRef sig ⟨S8x4200, .f32⟩) (.of main_v87 : StableHlo.TRef sig ⟨S8x4200, .f32⟩) select ]
theorem main_part1_ops15_sub : (main_part1_ops15 : List (HloOp τ sig (Elt F))).Forall fun op => op.bufs ⊆ StableHlo.tcRefs τ sig :=
  ⟨StableHlo.unary_bufs_sub .., StableHlo.unary_bufs_sub .., StableHlo.ternary_bufs_sub ..⟩
/-- 5 host operations of @main, window 1 (statements 61 … 120), in order. -/
abbrev main_part1_ops16 : List (HloOp τ sig (Elt F)) :=
  [ StableHlo.nullary main_v88 (iotaInDim S21 32 0),
    StableHlo.unary main_v88 main_v89 (broadcastInDim S21x1 ![0] bcast_S21_S21x1_0 : (⟨S21, .i32⟩ : BufTy).Contents (Elt F) → (⟨S21x1, .i32⟩ : BufTy).Contents (Elt F)),
    StableHlo.unary main_v89 main_v90 (broadcastInDim S8x21x200 ![1, 2] bcast_S21x1_S8x21x200_1_2 : (⟨S21x1, .i32⟩ : BufTy).Contents (Elt F) → (⟨S8x21x200, .i32⟩ : BufTy).Contents (Elt F)),
    StableHlo.reshape main_v90 main_v91 (rfl : (.i32 : EltTy) = .i32) shapeCasts_S8x21x200_S8x4200,
    StableHlo.nullary main_c_13 (constantI S_ 32 0#32) ]
theorem main_part1_ops16_sub : (main_part1_ops16 : List (HloOp τ sig (Elt F))).Forall fun op => op.bufs ⊆ StableHlo.tcRefs τ sig :=
  ⟨StableHlo.nullary_bufs_sub .., StableHlo.unary_bufs_sub .., StableHlo.unary_bufs_sub .., StableHlo.reshape_bufs_sub .., StableHlo.nullary_bufs_sub ..⟩
/-- 3 host operations of @_where_9 (main_call14), window 1 (statements 61 … 120), in order. -/
abbrev main_part1_ops17 : List (HloOp τ sig (Elt F)) :=
  [ StableHlo.TRef.unary (.of main_c_13 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S8x4200, .i32⟩) (broadcastInDim S8x4200 ![] bcast_S_S8x4200),
    StableHlo.TRef.ternary (.of main_v78 : StableHlo.TRef sig ⟨S8x4200, .i1⟩) (.of main_v91 : StableHlo.TRef sig ⟨S8x4200, .i32⟩) (.of main_call14_v1 : StableHlo.TRef sig ⟨S8x4200, .i32⟩) (.of main_v92 : StableHlo.TRef sig ⟨S8x4200, .i32⟩) select ]
theorem main_part1_ops17_sub : (main_part1_ops17 : List (HloOp τ sig (Elt F))).Forall fun op => op.bufs ⊆ StableHlo.tcRefs τ sig :=
  ⟨StableHlo.unary_bufs_sub .., StableHlo.unary_bufs_sub .., StableHlo.ternary_bufs_sub ..⟩
/-- 2 host operations of @main, window 1 (statements 61 … 120), in order. -/
abbrev main_part1_ops18 : List (HloOp τ sig (Elt F)) :=
  [ StableHlo.unary main_v92 main_v93 (sitofp .f32 : (⟨S8x4200, .i32⟩ : BufTy).Contents (Elt F) → (⟨S8x4200, .f32⟩ : BufTy).Contents (Elt F)),
    StableHlo.nullary main_cst_14 (constant S_ .f32 0xBF800000#32) ]
theorem main_part1_ops18_sub : (main_part1_ops18 : List (HloOp τ sig (Elt F))).Forall fun op => op.bufs ⊆ StableHlo.tcRefs τ sig :=
  ⟨StableHlo.unary_bufs_sub .., StableHlo.nullary_bufs_sub ..⟩
/-- 3 host operations of @_where_8 (main_call15), window 1 (statements 61 … 120), in order. -/
abbrev main_part1_ops19 : List (HloOp τ sig (Elt F)) :=
  [ StableHlo.TRef.unary (.of main_cst_14 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S8x4200, .f32⟩) (broadcastInDim S8x4200 ![] bcast_S_S8x4200),
    StableHlo.TRef.ternary (.of main_v78 : StableHlo.TRef sig ⟨S8x4200, .i1⟩) (.of main_v87 : StableHlo.TRef sig ⟨S8x4200, .f32⟩) (.of main_call15_v1 : StableHlo.TRef sig ⟨S8x4200, .f32⟩) (.of main_v94 : StableHlo.TRef sig ⟨S8x4200, .f32⟩) select ]
theorem main_part1_ops19_sub : (main_part1_ops19 : List (HloOp τ sig (Elt F))).Forall fun op => op.bufs ⊆ StableHlo.tcRefs τ sig :=
  ⟨StableHlo.unary_bufs_sub .., StableHlo.unary_bufs_sub .., StableHlo.ternary_bufs_sub ..⟩
/-- 2 host operations of @main, window 1 (statements 61 … 120), in order. -/
abbrev main_part1_ops20 : List (HloOp τ sig (Elt F)) :=
  [ StableHlo.unary main_v94 main_values ((fun x => (Host.topK S8x200 1 (FloatOps.cmpfTotal .gt) x sliceFits_S8x4200_S8x200).1) : (⟨S8x4200, .f32⟩ : BufTy).Contents (Elt F) → (⟨S8x200, .f32⟩ : BufTy).Contents (Elt F)),
    StableHlo.unary main_v94 main_indices ((fun x => (Host.topK S8x200 1 (FloatOps.cmpfTotal .gt) x sliceFits_S8x4200_S8x200).2) : (⟨S8x4200, .f32⟩ : BufTy).Contents (Elt F) → (⟨S8x200, .i32⟩ : BufTy).Contents (Elt F)) ]
theorem main_part1_ops20_sub : (main_part1_ops20 : List (HloOp τ sig (Elt F))).Forall fun op => op.bufs ⊆ StableHlo.tcRefs τ sig :=
  ⟨StableHlo.unary_bufs_sub .., StableHlo.unary_bufs_sub ..⟩
/-- 9 host operations of @take_along_axis_10 (main_call16), window 1 (statements 61 … 120), in order. -/
abbrev main_part1_ops21 : List (HloOp τ sig (Elt F)) :=
  [ StableHlo.TRef.nullary (.of main_call16_c : StableHlo.TRef sig ⟨S_, .i32⟩) (constantI S_ 32 0#32),
    StableHlo.TRef.unary (.of main_call16_c : StableHlo.TRef sig ⟨S_, .i32⟩) (.of main_call16_v0 : StableHlo.TRef sig ⟨S8x200, .i32⟩) (broadcastInDim S8x200 ![] bcast_S_S8x200),
    StableHlo.TRef.binary (.of main_indices : StableHlo.TRef sig ⟨S8x200, .i32⟩) (.of main_call16_v0 : StableHlo.TRef sig ⟨S8x200, .i32⟩) (.of main_call16_v1 : StableHlo.TRef sig ⟨S8x200, .i1⟩) (cmpi .slt),
    StableHlo.TRef.nullary (.of main_call16_c_0 : StableHlo.TRef sig ⟨S_, .i32⟩) (constantI S_ 32 4200#32),
    StableHlo.TRef.unary (.of main_call16_c_0 : StableHlo.TRef sig ⟨S_, .i32⟩) (.of main_call16_v2 : StableHlo.TRef sig ⟨S8x200, .i32⟩) (broadcastInDim S8x200 ![] bcast_S_S8x200),
    StableHlo.TRef.binary (.of main_indices : StableHlo.TRef sig ⟨S8x200, .i32⟩) (.of main_call16_v2 : StableHlo.TRef sig ⟨S8x200, .i32⟩) (.of main_call16_v3 : StableHlo.TRef sig ⟨S8x200, .i32⟩) addi,
    StableHlo.TRef.ternary (.of main_call16_v1 : StableHlo.TRef sig ⟨S8x200, .i1⟩) (.of main_call16_v3 : StableHlo.TRef sig ⟨S8x200, .i32⟩) (.of main_indices : StableHlo.TRef sig ⟨S8x200, .i32⟩) (.of main_call16_v4 : StableHlo.TRef sig ⟨S8x200, .i32⟩) select,
    StableHlo.TRef.reshape (.of main_call16_v4 : StableHlo.TRef sig ⟨S8x200, .i32⟩) (.of main_call16_v5 : StableHlo.TRef sig ⟨S8x200x1, .i32⟩) (rfl : (.i32 : EltTy) = .i32) shapeCasts_S8x200_S8x200x1,
    StableHlo.TRef.binary (.of main_v78 : StableHlo.TRef sig ⟨S8x4200, .i1⟩) (.of main_call16_v5 : StableHlo.TRef sig ⟨S8x200x1, .i32⟩) (.of main_v95 : StableHlo.TRef sig ⟨S8x200, .i1⟩) (fun x i => Host.gather gather_S8x4200_S8x200x1_S8x200_n_1_0_0_1_2_11 x i) ]
theorem main_part1_ops21_sub : (main_part1_ops21 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 1 host operation of @main, window 1 (statements 61 … 120), in order. -/
abbrev main_part1_ops22 : List (HloOp τ sig (Elt F)) :=
  [ StableHlo.unary main_v95 main_v96 (broadcastInDim S8x200x1 ![0, 1] bcast_S8x200_S8x200x1_0_1 : (⟨S8x200, .i1⟩ : BufTy).Contents (Elt F) → (⟨S8x200x1, .i1⟩ : BufTy).Contents (Elt F)) ]
theorem main_part1_ops22_sub : (main_part1_ops22 : List (HloOp τ sig (Elt F))).Forall fun op => op.bufs ⊆ StableHlo.tcRefs τ sig :=
  StableHlo.unary_bufs_sub ..
/-- Window 1 of `main` (`main_part1`, statements 61 … 120) is the chain of its items. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    HostLoop.enter 0,
    StableHlo.seq main_part1_ops7,
    StableHlo.seq main_part1_ops8,
    StableHlo.seq main_part1_ops9,
    StableHlo.seq main_part1_ops10,
    StableHlo.seq main_part1_ops11,
    StableHlo.seq main_part1_ops12,
    StableHlo.seq main_part1_ops13,
    StableHlo.seq main_part1_ops14,
    StableHlo.seq main_part1_ops15,
    StableHlo.seq main_part1_ops16,
    StableHlo.seq main_part1_ops17,
    StableHlo.seq main_part1_ops18,
    StableHlo.seq main_part1_ops19,
    StableHlo.seq main_part1_ops20,
    StableHlo.seq main_part1_ops21 ]
  (StableHlo.seq main_part1_ops22) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 1 host operation of @main, window 2 (statements 121 … 131), in order. -/
abbrev main_part2_ops0 : List (HloOp τ sig (Elt F)) :=
  [ StableHlo.unary main_indices main_v97 (broadcastInDim S8x200x1 ![0, 1] bcast_S8x200_S8x200x1_0_1 : (⟨S8x200, .i32⟩ : BufTy).Contents (Elt F) → (⟨S8x200x1, .i32⟩ : BufTy).Contents (Elt F)) ]
theorem main_part2_ops0_sub : (main_part2_ops0 : List (HloOp τ sig (Elt F))).Forall fun op => op.bufs ⊆ StableHlo.tcRefs τ sig :=
  StableHlo.unary_bufs_sub ..
/-- 8 host operations of @take_along_axis_11 (main_call17), window 2 (statements 121 … 131), in order. -/
abbrev main_part2_ops1 : List (HloOp τ sig (Elt F)) :=
  [ StableHlo.TRef.nullary (.of main_call17_c : StableHlo.TRef sig ⟨S_, .i32⟩) (constantI S_ 32 0#32),
    StableHlo.TRef.unary (.of main_call17_c : StableHlo.TRef sig ⟨S_, .i32⟩) (.of main_call17_v0 : StableHlo.TRef sig ⟨S8x200x1, .i32⟩) (broadcastInDim S8x200x1 ![] bcast_S_S8x200x1),
    StableHlo.TRef.binary (.of main_v97 : StableHlo.TRef sig ⟨S8x200x1, .i32⟩) (.of main_call17_v0 : StableHlo.TRef sig ⟨S8x200x1, .i32⟩) (.of main_call17_v1 : StableHlo.TRef sig ⟨S8x200x1, .i1⟩) (cmpi .slt),
    StableHlo.TRef.nullary (.of main_call17_c_0 : StableHlo.TRef sig ⟨S_, .i32⟩) (constantI S_ 32 4200#32),
    StableHlo.TRef.unary (.of main_call17_c_0 : StableHlo.TRef sig ⟨S_, .i32⟩) (.of main_call17_v2 : StableHlo.TRef sig ⟨S8x200x1, .i32⟩) (broadcastInDim S8x200x1 ![] bcast_S_S8x200x1),
    StableHlo.TRef.binary (.of main_v97 : StableHlo.TRef sig ⟨S8x200x1, .i32⟩) (.of main_call17_v2 : StableHlo.TRef sig ⟨S8x200x1, .i32⟩) (.of main_call17_v3 : StableHlo.TRef sig ⟨S8x200x1, .i32⟩) addi,
    StableHlo.TRef.ternary (.of main_call17_v1 : StableHlo.TRef sig ⟨S8x200x1, .i1⟩) (.of main_call17_v3 : StableHlo.TRef sig ⟨S8x200x1, .i32⟩) (.of main_v97 : StableHlo.TRef sig ⟨S8x200x1, .i32⟩) (.of main_call17_v4 : StableHlo.TRef sig ⟨S8x200x1, .i32⟩) select,
    StableHlo.TRef.binary (.of main_v84 : StableHlo.TRef sig ⟨S8x4200x4, .f32⟩) (.of main_call17_v4 : StableHlo.TRef sig ⟨S8x200x1, .i32⟩) (.of main_v98 : StableHlo.TRef sig ⟨S8x200x4, .f32⟩) (fun x i => Host.gather gather_S8x4200x4_S8x200x1_S8x200x4_2_1_0_0_1_2_114 x i) ]
theorem main_part2_ops1_sub : (main_part2_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 1 host operation of @main, window 2 (statements 121 … 131), in order. -/
abbrev main_part2_ops2 : List (HloOp τ sig (Elt F)) :=
  [ StableHlo.nullary main_cst_15 (constant S_ .f32 0x00000000#32) ]
theorem main_part2_ops2_sub : (main_part2_ops2 : List (HloOp τ sig (Elt F))).Forall fun op => op.bufs ⊆ StableHlo.tcRefs τ sig :=
  StableHlo.nullary_bufs_sub ..
/-- 4 host operations of @_where_12 (main_call18), window 2 (statements 121 … 131), in order. -/
abbrev main_part2_ops3 : List (HloOp τ sig (Elt F)) :=
  [ StableHlo.TRef.unary (.of main_cst_15 : StableHlo.TRef sig ⟨S_, .f32⟩) (.of main_call18_v0 : StableHlo.TRef sig ⟨S_, .f32⟩) id,
    StableHlo.TRef.unary (.of main_v96 : StableHlo.TRef sig ⟨S8x200x1, .i1⟩) (.of main_call18_v1 : StableHlo.TRef sig ⟨S8x200x4, .i1⟩) (broadcastInDim S8x200x4 ![0, 1, 2] bcast_S8x200x1_S8x200x4_0_1_2),
    StableHlo.TRef.unary (.of main_call18_v0 : StableHlo.TRef sig ⟨S_, .f32⟩) (.of main_call18_v2 : StableHlo.TRef sig ⟨S8x200x4, .f32⟩) (broadcastInDim S8x200x4 ![] bcast_S_S8x200x4),
    StableHlo.TRef.ternary (.of main_call18_v1 : StableHlo.TRef sig ⟨S8x200x4, .i1⟩) (.of main_v98 : StableHlo.TRef sig ⟨S8x200x4, .f32⟩) (.of main_call18_v2 : StableHlo.TRef sig ⟨S8x200x4, .f32⟩) (.of main_v99 : StableHlo.TRef sig ⟨S8x200x4, .f32⟩) select ]
theorem main_part2_ops3_sub : (main_part2_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 host operations of @take_along_axis_13 (main_call19), window 2 (statements 121 … 131), in order. -/
abbrev main_part2_ops4 : List (HloOp τ sig (Elt F)) :=
  [ StableHlo.TRef.nullary (.of main_call19_c : StableHlo.TRef sig ⟨S_, .i32⟩) (constantI S_ 32 0#32),
    StableHlo.TRef.unary (.of main_call19_c : StableHlo.TRef sig ⟨S_, .i32⟩) (.of main_call19_v0 : StableHlo.TRef sig ⟨S8x200, .i32⟩) (broadcastInDim S8x200 ![] bcast_S_S8x200),
    StableHlo.TRef.binary (.of main_indices : StableHlo.TRef sig ⟨S8x200, .i32⟩) (.of main_call19_v0 : StableHlo.TRef sig ⟨S8x200, .i32⟩) (.of main_call19_v1 : StableHlo.TRef sig ⟨S8x200, .i1⟩) (cmpi .slt),
    StableHlo.TRef.nullary (.of main_call19_c_0 : StableHlo.TRef sig ⟨S_, .i32⟩) (constantI S_ 32 4200#32),
    StableHlo.TRef.unary (.of main_call19_c_0 : StableHlo.TRef sig ⟨S_, .i32⟩) (.of main_call19_v2 : StableHlo.TRef sig ⟨S8x200, .i32⟩) (broadcastInDim S8x200 ![] bcast_S_S8x200),
    StableHlo.TRef.binary (.of main_indices : StableHlo.TRef sig ⟨S8x200, .i32⟩) (.of main_call19_v2 : StableHlo.TRef sig ⟨S8x200, .i32⟩) (.of main_call19_v3 : StableHlo.TRef sig ⟨S8x200, .i32⟩) addi,
    StableHlo.TRef.ternary (.of main_call19_v1 : StableHlo.TRef sig ⟨S8x200, .i1⟩) (.of main_call19_v3 : StableHlo.TRef sig ⟨S8x200, .i32⟩) (.of main_indices : StableHlo.TRef sig ⟨S8x200, .i32⟩) (.of main_call19_v4 : StableHlo.TRef sig ⟨S8x200, .i32⟩) select,
    StableHlo.TRef.reshape (.of main_call19_v4 : StableHlo.TRef sig ⟨S8x200, .i32⟩) (.of main_call19_v5 : StableHlo.TRef sig ⟨S8x200x1, .i32⟩) (rfl : (.i32 : EltTy) = .i32) shapeCasts_S8x200_S8x200x1,
    StableHlo.TRef.binary (.of main_v87 : StableHlo.TRef sig ⟨S8x4200, .f32⟩) (.of main_call19_v5 : StableHlo.TRef sig ⟨S8x200x1, .i32⟩) (.of main_v100 : StableHlo.TRef sig ⟨S8x200, .f32⟩) (fun x i => Host.gather gather_S8x4200_S8x200x1_S8x200_n_1_0_0_1_2_11 x i) ]
theorem main_part2_ops4_sub : (main_part2_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 1 host operation of @main, window 2 (statements 121 … 131), in order. -/
abbrev main_part2_ops5 : List (HloOp τ sig (Elt F)) :=
  [ StableHlo.nullary main_cst_16 (constant S_ .f32 0x00000000#32) ]
theorem main_part2_ops5_sub : (main_part2_ops5 : List (HloOp τ sig (Elt F))).Forall fun op => op.bufs ⊆ StableHlo.tcRefs τ sig :=
  StableHlo.nullary_bufs_sub ..
/-- 3 host operations of @_where_14 (main_call20), window 2 (statements 121 … 131), in order. -/
abbrev main_part2_ops6 : List (HloOp τ sig (Elt F)) :=
  [ StableHlo.TRef.unary (.of main_cst_16 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S8x200, .f32⟩) (broadcastInDim S8x200 ![] bcast_S_S8x200),
    StableHlo.TRef.ternary (.of main_v95 : StableHlo.TRef sig ⟨S8x200, .i1⟩) (.of main_v100 : StableHlo.TRef sig ⟨S8x200, .f32⟩) (.of main_call20_v1 : StableHlo.TRef sig ⟨S8x200, .f32⟩) (.of main_v101 : StableHlo.TRef sig ⟨S8x200, .f32⟩) select ]
theorem main_part2_ops6_sub : (main_part2_ops6 : List (HloOp τ sig (Elt F))).Forall fun op => op.bufs ⊆ StableHlo.tcRefs τ sig :=
  ⟨StableHlo.unary_bufs_sub .., StableHlo.unary_bufs_sub .., StableHlo.ternary_bufs_sub ..⟩
/-- 9 host operations of @take_along_axis_13 (main_call21), window 2 (statements 121 … 131), in order. -/
abbrev main_part2_ops7 : List (HloOp τ sig (Elt F)) :=
  [ StableHlo.TRef.nullary (.of main_call21_c : StableHlo.TRef sig ⟨S_, .i32⟩) (constantI S_ 32 0#32),
    StableHlo.TRef.unary (.of main_call21_c : StableHlo.TRef sig ⟨S_, .i32⟩) (.of main_call21_v0 : StableHlo.TRef sig ⟨S8x200, .i32⟩) (broadcastInDim S8x200 ![] bcast_S_S8x200),
    StableHlo.TRef.binary (.of main_indices : StableHlo.TRef sig ⟨S8x200, .i32⟩) (.of main_call21_v0 : StableHlo.TRef sig ⟨S8x200, .i32⟩) (.of main_call21_v1 : StableHlo.TRef sig ⟨S8x200, .i1⟩) (cmpi .slt),
    StableHlo.TRef.nullary (.of main_call21_c_0 : StableHlo.TRef sig ⟨S_, .i32⟩) (constantI S_ 32 4200#32),
    StableHlo.TRef.unary (.of main_call21_c_0 : StableHlo.TRef sig ⟨S_, .i32⟩) (.of main_call21_v2 : StableHlo.TRef sig ⟨S8x200, .i32⟩) (broadcastInDim S8x200 ![] bcast_S_S8x200),
    StableHlo.TRef.binary (.of main_indices : StableHlo.TRef sig ⟨S8x200, .i32⟩) (.of main_call21_v2 : StableHlo.TRef sig ⟨S8x200, .i32⟩) (.of main_call21_v3 : StableHlo.TRef sig ⟨S8x200, .i32⟩) addi,
    StableHlo.TRef.ternary (.of main_call21_v1 : StableHlo.TRef sig ⟨S8x200, .i1⟩) (.of main_call21_v3 : StableHlo.TRef sig ⟨S8x200, .i32⟩) (.of main_indices : StableHlo.TRef sig ⟨S8x200, .i32⟩) (.of main_call21_v4 : StableHlo.TRef sig ⟨S8x200, .i32⟩) select,
    StableHlo.TRef.reshape (.of main_call21_v4 : StableHlo.TRef sig ⟨S8x200, .i32⟩) (.of main_call21_v5 : StableHlo.TRef sig ⟨S8x200x1, .i32⟩) (rfl : (.i32 : EltTy) = .i32) shapeCasts_S8x200_S8x200x1,
    StableHlo.TRef.binary (.of main_v93 : StableHlo.TRef sig ⟨S8x4200, .f32⟩) (.of main_call21_v5 : StableHlo.TRef sig ⟨S8x200x1, .i32⟩) (.of main_v102 : StableHlo.TRef sig ⟨S8x200, .f32⟩) (fun x i => Host.gather gather_S8x4200_S8x200x1_S8x200_n_1_0_0_1_2_11 x i) ]
theorem main_part2_ops7_sub : (main_part2_ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 1 host operation of @main, window 2 (statements 121 … 131), in order. -/
abbrev main_part2_ops8 : List (HloOp τ sig (Elt F)) :=
  [ StableHlo.nullary main_cst_17 (constant S_ .f32 0x00000000#32) ]
theorem main_part2_ops8_sub : (main_part2_ops8 : List (HloOp τ sig (Elt F))).Forall fun op => op.bufs ⊆ StableHlo.tcRefs τ sig :=
  StableHlo.nullary_bufs_sub ..
/-- 3 host operations of @_where_14 (main_call22), window 2 (statements 121 … 131), in order. -/
abbrev main_part2_ops9 : List (HloOp τ sig (Elt F)) :=
  [ StableHlo.TRef.unary (.of main_cst_17 : StableHlo.TRef sig ⟨S_, .f32⟩) (.of main_call22_v0 : StableHlo.TRef sig ⟨S_, .f32⟩) id,
    StableHlo.TRef.unary (.of main_call22_v0 : StableHlo.TRef sig ⟨S_, .f32⟩) (.of main_call22_v1 : StableHlo.TRef sig ⟨S8x200, .f32⟩) (broadcastInDim S8x200 ![] bcast_S_S8x200),
    StableHlo.TRef.ternary (.of main_v95 : StableHlo.TRef sig ⟨S8x200, .i1⟩) (.of main_v102 : StableHlo.TRef sig ⟨S8x200, .f32⟩) (.of main_call22_v1 : StableHlo.TRef sig ⟨S8x200, .f32⟩) (.of main_v103 : StableHlo.TRef sig ⟨S8x200, .f32⟩) select ]
theorem main_part2_ops9_sub : (main_part2_ops9 : List (HloOp τ sig (Elt F))).Forall fun op => op.bufs ⊆ StableHlo.tcRefs τ sig :=
  ⟨StableHlo.unary_bufs_sub .., StableHlo.unary_bufs_sub .., StableHlo.ternary_bufs_sub ..⟩
/-- The last window of `main` (`main_part2`) is the chain of its items. -/
theorem main_part2_chain (c : Dev nD) : main_part2 (F := F) c = (Pipeline.chain
  [ StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part2_ops9 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons, Pipeline.chain_cons, Pipeline.chain_cons, StableHlo.chain_seq_cons, Pipeline.chain_cons]
  chain_rfl

/-- `main` is the chain of its windows' items, one window after another. -/
theorem main_chain_windows (c : Dev nD) : main (F := F) c = (Pipeline.chain
  [ StableHlo.seq main_part0_ops0,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    HostLoop.enter 0,
    StableHlo.seq main_part1_ops7,
    StableHlo.seq main_part1_ops8,
    StableHlo.seq main_part1_ops9,
    StableHlo.seq main_part1_ops10,
    StableHlo.seq main_part1_ops11,
    StableHlo.seq main_part1_ops12,
    StableHlo.seq main_part1_ops13,
    StableHlo.seq main_part1_ops14,
    StableHlo.seq main_part1_ops15,
    StableHlo.seq main_part1_ops16,
    StableHlo.seq main_part1_ops17,
    StableHlo.seq main_part1_ops18,
    StableHlo.seq main_part1_ops19,
    StableHlo.seq main_part1_ops20,
    StableHlo.seq main_part1_ops21,
    StableHlo.seq main_part1_ops22,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part2_ops9 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The items of `main`, each with the window lists that make it up. -/
abbrev main_groups (c : Dev nD) : List (StableHlo.Group nD τ sig (Elt F) (HostLoop.Sig (Pipeline.Sig Λ₀ (Fin 0) fun p => (pcfgs (F := F) p).Adm) 1)) :=
  [ .ops [main_part0_ops0, main_part1_ops0],
    .ops [main_part1_ops1],
    .ops [main_part1_ops2],
    .ops [main_part1_ops3],
    .ops [main_part1_ops4],
    .ops [main_part1_ops5],
    .ops [main_part1_ops6],
    .prog (HostLoop.enter 0),
    .ops [main_part1_ops7],
    .ops [main_part1_ops8],
    .ops [main_part1_ops9],
    .ops [main_part1_ops10],
    .ops [main_part1_ops11],
    .ops [main_part1_ops12],
    .ops [main_part1_ops13],
    .ops [main_part1_ops14],
    .ops [main_part1_ops15],
    .ops [main_part1_ops16],
    .ops [main_part1_ops17],
    .ops [main_part1_ops18],
    .ops [main_part1_ops19],
    .ops [main_part1_ops20],
    .ops [main_part1_ops21],
    .ops [main_part1_ops22, main_part2_ops0],
    .ops [main_part2_ops1],
    .ops [main_part2_ops2],
    .ops [main_part2_ops3],
    .ops [main_part2_ops4],
    .ops [main_part2_ops5],
    .ops [main_part2_ops6],
    .ops [main_part2_ops7],
    .ops [main_part2_ops8],
    .ops [main_part2_ops9] ]

/-- Cut into its window lists, the item list is the windows' one. -/
theorem main_chain_cut (c : Dev nD) : (Pipeline.chain
  [ StableHlo.seq main_part0_ops0,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    HostLoop.enter 0,
    StableHlo.seq main_part1_ops7,
    StableHlo.seq main_part1_ops8,
    StableHlo.seq main_part1_ops9,
    StableHlo.seq main_part1_ops10,
    StableHlo.seq main_part1_ops11,
    StableHlo.seq main_part1_ops12,
    StableHlo.seq main_part1_ops13,
    StableHlo.seq main_part1_ops14,
    StableHlo.seq main_part1_ops15,
    StableHlo.seq main_part1_ops16,
    StableHlo.seq main_part1_ops17,
    StableHlo.seq main_part1_ops18,
    StableHlo.seq main_part1_ops19,
    StableHlo.seq main_part1_ops20,
    StableHlo.seq main_part1_ops21,
    StableHlo.seq main_part1_ops22,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part2_ops9 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- With each stretch's window lists joined, it is the list of the stretches. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    HostLoop.enter 0,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31 ] : Prog (TpuEff nD τ sig (Elt F) (HostLoop.Sig (Pipeline.Sig Λ₀ (Fin 0) fun p => (pcfgs (F := F) p).Adm) 1) .tc) PUnit) := by
  chain_rfl

/-- `main` is the chain of its stretches around the loop. -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    HostLoop.enter 0,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

/-- `main_while0_body` is the chain of its items: the ten stretches of one trip, in order. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

end Cert.Proof.Ref
-- ==== Proof.Ref.Loop.lean ====
module

public import proofs.«01_k».proof.Proof.Ref.Chain

/-! # What the reference's run ends at

Every buffer ends at the fold of the stretches before the loop, 200 trips of the body, and the stretches after it. -/

@[expose] public section

set_option maxRecDepth 2440

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_v1, main_v2, main_v3, main_v4, main_v5, main_v6, main_v7, main_v8, main_v9, main_v10, main_v11, main_v12, main_v13, main_v14, main_cst_0, main_v15, main_v16, main_v17, main_v18, main_v19, main_cst_1, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_cst_2, main_v51, main_v52, main_v53, main_cst_3, main_v54, main_v55, main_v56, main_v57, main_v58, main_v59, main_v60, main_v61, main_v62, main_v63]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_cst, main_call0_c, main_call0_v1_0, main_v64]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v65, main_c, main_v66, main_v67, main_cst_4]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_call1_v2, main_v68]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v69, main_cst_5, main_v70, main_v71, main_cst_6]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_call2_v0, main_call2_v1, main_v72]
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- The reference each operation of `hostOps0_6` writes, in order. -/
abbrev hostOps0_6_W : List (Ref sig .tc) := [main_c_7, main_v73, main_c_8, main_v74_0, main_v74_1, main_v74_2, main_v74_3]
theorem hostOps0_6_writes : (hostOps0_6 : List (HloOp τ sig (Elt F))).Forall fun op => op.writes ⊆ (hostOps0_6_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call3_v0, main_while0b_call3_cst, main_while0b_call3_c, main_while0b_call3_v1_0, main_while0b_v104]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_cst_21, main_while0b_v105, main_while0b_cst_22, main_while0b_v106, main_while0b_v107, main_while0b_v108]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call4_c, main_while0b_call4_v0, main_while0b_call4_v1, main_while0b_call4_c_0, main_while0b_call4_v2, main_while0b_call4_v3, main_while0b_call4_v4, main_while0b_v109]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v110, main_while0b_v111, main_while0b_v112, main_while0b_v113, main_while0b_v114, main_while0b_v115, main_while0b_v116, main_while0b_v117, main_while0b_v118, main_while0b_v119, main_while0b_v120, main_while0b_v121, main_while0b_v122, main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_cst_23, main_while0b_v141, main_while0b_v142, main_while0b_v143, main_while0b_cst_24, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157, main_while0b_v158, main_while0b_v159, main_while0b_v160, main_while0b_v161, main_while0b_v162, main_while0b_v163, main_while0b_v164, main_while0b_v165, main_while0b_v166, main_while0b_v167, main_while0b_v168, main_while0b_v169, main_while0b_v170, main_while0b_v171, main_while0b_v172, main_while0b_cst_25, main_while0b_v173, main_while0b_v174, main_while0b_v175, main_while0b_cst_26, main_while0b_v176, main_while0b_v177, main_while0b_v178, main_while0b_v179, main_while0b_v180, main_while0b_v181, main_while0b_v182, main_while0b_v183, main_while0b_v184, main_while0b_cst_27]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call5_v0, main_while0b_call5_v1, main_while0b_v185]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v186]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call6_v0, main_while0b_v187]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_c_28]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call7_v0, main_while0b_call7_v1, main_while0b_v188]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_call8_v0, main_while0b_call8_c, main_while0b_call8_c_0, main_while0b_v189]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_c_29, main_while0b_v190, main_v74_1, main_v74_2, main_v74_3]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- No operation of `hostOps0_11` allocates a buffer. -/
theorem hostOps0_11_fresh : (hostOps0_11 : List (HloOp τ sig (Elt F))).Forall fun op => op.fresh = ∅ :=
  StableHlo.forall_fresh_of_map rfl
/-- No operation of `hostOps0_12` allocates a buffer. -/
theorem hostOps0_12_fresh : (hostOps0_12 : List (HloOp τ sig (Elt F))).Forall fun op => op.fresh = ∅ :=
  StableHlo.forall_fresh_of_map rfl
/-- No operation of `hostOps0_13` allocates a buffer. -/
theorem hostOps0_13_fresh : (hostOps0_13 : List (HloOp τ sig (Elt F))).Forall fun op => op.fresh = ∅ :=
  StableHlo.forall_fresh_of_map rfl
/-- No operation of `hostOps0_14` allocates a buffer. -/
theorem hostOps0_14_fresh : (hostOps0_14 : List (HloOp τ sig (Elt F))).Forall fun op => op.fresh = ∅ :=
  StableHlo.forall_fresh_of_map rfl
/-- No operation of `hostOps0_15` allocates a buffer. -/
theorem hostOps0_15_fresh : (hostOps0_15 : List (HloOp τ sig (Elt F))).Forall fun op => op.fresh = ∅ :=
  StableHlo.forall_fresh_of_map rfl
/-- No operation of `hostOps0_16` allocates a buffer. -/
theorem hostOps0_16_fresh : (hostOps0_16 : List (HloOp τ sig (Elt F))).Forall fun op => op.fresh = ∅ :=
  StableHlo.forall_fresh_of_map rfl
/-- No operation of `hostOps0_17` allocates a buffer. -/
theorem hostOps0_17_fresh : (hostOps0_17 : List (HloOp τ sig (Elt F))).Forall fun op => op.fresh = ∅ :=
  StableHlo.forall_fresh_of_map rfl
/-- No operation of `hostOps0_18` allocates a buffer. -/
theorem hostOps0_18_fresh : (hostOps0_18 : List (HloOp τ sig (Elt F))).Forall fun op => op.fresh = ∅ :=
  StableHlo.forall_fresh_of_map rfl
/-- No operation of `hostOps0_19` allocates a buffer. -/
theorem hostOps0_19_fresh : (hostOps0_19 : List (HloOp τ sig (Elt F))).Forall fun op => op.fresh = ∅ :=
  StableHlo.forall_fresh_of_map rfl
/-- No operation of `hostOps0_20` allocates a buffer. -/
theorem hostOps0_20_fresh : (hostOps0_20 : List (HloOp τ sig (Elt F))).Forall fun op => op.fresh = ∅ :=
  StableHlo.forall_fresh_of_map rfl
/-- No operation of `hostOps0_21` allocates a buffer. -/
theorem hostOps0_21_fresh : (hostOps0_21 : List (HloOp τ sig (Elt F))).Forall fun op => op.fresh = ∅ :=
  StableHlo.forall_fresh_of_map rfl
/-- No operation of `hostOps0_22` allocates a buffer. -/
theorem hostOps0_22_fresh : (hostOps0_22 : List (HloOp τ sig (Elt F))).Forall fun op => op.fresh = ∅ :=
  StableHlo.forall_fresh_of_map rfl
/-- No operation of `hostOps0_23` allocates a buffer. -/
theorem hostOps0_23_fresh : (hostOps0_23 : List (HloOp τ sig (Elt F))).Forall fun op => op.fresh = ∅ :=
  StableHlo.forall_fresh_of_map rfl
/-- No operation of `hostOps0_24` allocates a buffer. -/
theorem hostOps0_24_fresh : (hostOps0_24 : List (HloOp τ sig (Elt F))).Forall fun op => op.fresh = ∅ :=
  StableHlo.forall_fresh_of_map rfl
/-- No operation of `hostOps0_25` allocates a buffer. -/
theorem hostOps0_25_fresh : (hostOps0_25 : List (HloOp τ sig (Elt F))).Forall fun op => op.fresh = ∅ :=
  StableHlo.forall_fresh_of_map rfl
/-- No operation of `hostOps0_26` allocates a buffer. -/
theorem hostOps0_26_fresh : (hostOps0_26 : List (HloOp τ sig (Elt F))).Forall fun op => op.fresh = ∅ :=
  StableHlo.forall_fresh_of_map rfl
/-- No operation of `hostOps0_27` allocates a buffer. -/
theorem hostOps0_27_fresh : (hostOps0_27 : List (HloOp τ sig (Elt F))).Forall fun op => op.fresh = ∅ :=
  StableHlo.forall_fresh_of_map rfl
/-- No operation of `hostOps0_28` allocates a buffer. -/
theorem hostOps0_28_fresh : (hostOps0_28 : List (HloOp τ sig (Elt F))).Forall fun op => op.fresh = ∅ :=
  StableHlo.forall_fresh_of_map rfl
/-- No operation of `hostOps0_29` allocates a buffer. -/
theorem hostOps0_29_fresh : (hostOps0_29 : List (HloOp τ sig (Elt F))).Forall fun op => op.fresh = ∅ :=
  StableHlo.forall_fresh_of_map rfl
/-- No operation of `hostOps0_30` allocates a buffer. -/
theorem hostOps0_30_fresh : (hostOps0_30 : List (HloOp τ sig (Elt F))).Forall fun op => op.fresh = ∅ :=
  StableHlo.forall_fresh_of_map rfl
/-- No operation of `hostOps0_31` allocates a buffer. -/
theorem hostOps0_31_fresh : (hostOps0_31 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_21 (constantI S_ 32 200#32),
    StableHlo.binary main_v74_1 main_while0c_c_21 main_while0c_v104 (cmpi .slt) ]

/-- @main's stretches before the loop, the loop body's, and @main's after the loop. -/
abbrev preI : List (List (HloOp τ sig (Elt F))) := [hostOps0, hostOps0_1, hostOps0_2, hostOps0_3, hostOps0_4, hostOps0_5, hostOps0_6]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10]
abbrev postI : List (List (HloOp τ sig (Elt F))) := [hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.nil)))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.nil)))))))))))
theorem hpost : Plain (postI (F := F)) := .cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.cons hostOps0_12_sub (hf := List.forall_iff_forall_mem.mp hostOps0_12_fresh) (.cons hostOps0_13_sub (hf := List.forall_iff_forall_mem.mp hostOps0_13_fresh) (.cons hostOps0_14_sub (hf := List.forall_iff_forall_mem.mp hostOps0_14_fresh) (.cons hostOps0_15_sub (hf := List.forall_iff_forall_mem.mp hostOps0_15_fresh) (.cons hostOps0_16_sub (hf := List.forall_iff_forall_mem.mp hostOps0_16_fresh) (.cons hostOps0_17_sub (hf := List.forall_iff_forall_mem.mp hostOps0_17_fresh) (.cons hostOps0_18_sub (hf := List.forall_iff_forall_mem.mp hostOps0_18_fresh) (.cons hostOps0_19_sub (hf := List.forall_iff_forall_mem.mp hostOps0_19_fresh) (.cons hostOps0_20_sub (hf := List.forall_iff_forall_mem.mp hostOps0_20_fresh) (.cons hostOps0_21_sub (hf := List.forall_iff_forall_mem.mp hostOps0_21_fresh) (.cons hostOps0_22_sub (hf := List.forall_iff_forall_mem.mp hostOps0_22_fresh) (.cons hostOps0_23_sub (hf := List.forall_iff_forall_mem.mp hostOps0_23_fresh) (.cons hostOps0_24_sub (hf := List.forall_iff_forall_mem.mp hostOps0_24_fresh) (.cons hostOps0_25_sub (hf := List.forall_iff_forall_mem.mp hostOps0_25_fresh) (.cons hostOps0_26_sub (hf := List.forall_iff_forall_mem.mp hostOps0_26_fresh) (.cons hostOps0_27_sub (hf := List.forall_iff_forall_mem.mp hostOps0_27_fresh) (.cons hostOps0_28_sub (hf := List.forall_iff_forall_mem.mp hostOps0_28_fresh) (.cons hostOps0_29_sub (hf := List.forall_iff_forall_mem.mp hostOps0_29_fresh) (.cons hostOps0_30_sub (hf := List.forall_iff_forall_mem.mp hostOps0_30_fresh) (.cons hostOps0_31_sub (hf := List.forall_iff_forall_mem.mp hostOps0_31_fresh) (.nil)))))))))))))))))))))))))

/-- The reference each operation of `condOps` writes, in order. -/
abbrev condOps_W : List (Ref sig .tc) := [main_while0c_c_21, main_while0c_v104]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v74_1`) is written by one stretch of the body, `while0Ops0_10`: not by the condition, nor by the
    body's other stretches. -/
theorem ctr_cond (V : Valuation τ sig (Elt F)) : after condOps V (Proc.devRef .tc main_v74_1) = V (Proc.devRef .tc main_v74_1) :=
  after_of_writes_sub condOps V condOps_writes (by decide +kernel)
theorem ctr_while0Ops0 (V : Valuation τ sig (Elt F)) : after while0Ops0 V (Proc.devRef .tc main_v74_1) = V (Proc.devRef .tc main_v74_1) :=
  after_of_writes_sub while0Ops0 V while0Ops0_writes (by decide +kernel)
theorem ctr_while0Ops0_1 (V : Valuation τ sig (Elt F)) : after while0Ops0_1 V (Proc.devRef .tc main_v74_1) = V (Proc.devRef .tc main_v74_1) :=
  after_of_writes_sub while0Ops0_1 V while0Ops0_1_writes (by decide +kernel)
theorem ctr_while0Ops0_2 (V : Valuation τ sig (Elt F)) : after while0Ops0_2 V (Proc.devRef .tc main_v74_1) = V (Proc.devRef .tc main_v74_1) :=
  after_of_writes_sub while0Ops0_2 V while0Ops0_2_writes (by decide +kernel)
theorem ctr_while0Ops0_3 (V : Valuation τ sig (Elt F)) : after while0Ops0_3 V (Proc.devRef .tc main_v74_1) = V (Proc.devRef .tc main_v74_1) :=
  after_of_writes_sub while0Ops0_3 V while0Ops0_3_writes (by decide +kernel)
theorem ctr_while0Ops0_4 (V : Valuation τ sig (Elt F)) : after while0Ops0_4 V (Proc.devRef .tc main_v74_1) = V (Proc.devRef .tc main_v74_1) :=
  after_of_writes_sub while0Ops0_4 V while0Ops0_4_writes (by decide +kernel)
theorem ctr_while0Ops0_5 (V : Valuation τ sig (Elt F)) : after while0Ops0_5 V (Proc.devRef .tc main_v74_1) = V (Proc.devRef .tc main_v74_1) :=
  after_of_writes_sub while0Ops0_5 V while0Ops0_5_writes (by decide +kernel)
theorem ctr_while0Ops0_6 (V : Valuation τ sig (Elt F)) : after while0Ops0_6 V (Proc.devRef .tc main_v74_1) = V (Proc.devRef .tc main_v74_1) :=
  after_of_writes_sub while0Ops0_6 V while0Ops0_6_writes (by decide +kernel)
theorem ctr_while0Ops0_7 (V : Valuation τ sig (Elt F)) : after while0Ops0_7 V (Proc.devRef .tc main_v74_1) = V (Proc.devRef .tc main_v74_1) :=
  after_of_writes_sub while0Ops0_7 V while0Ops0_7_writes (by decide +kernel)
theorem ctr_while0Ops0_8 (V : Valuation τ sig (Elt F)) : after while0Ops0_8 V (Proc.devRef .tc main_v74_1) = V (Proc.devRef .tc main_v74_1) :=
  after_of_writes_sub while0Ops0_8 V while0Ops0_8_writes (by decide +kernel)
theorem ctr_while0Ops0_9 (V : Valuation τ sig (Elt F)) : after while0Ops0_9 V (Proc.devRef .tc main_v74_1) = V (Proc.devRef .tc main_v74_1) :=
  after_of_writes_sub while0Ops0_9 V while0Ops0_9_writes (by decide +kernel)

set_option maxRecDepth 100000 in
/-- `while0Ops0_10` leaves the counter one step on. -/
theorem ctr_step (X : Valuation τ sig (Elt F)) :
    after while0Ops0_10 X (Proc.devRef .tc main_v74_1) = addi (X (Proc.devRef .tc main_v74_1)) (constantI S_ 32 1#32) := by
  after_results
  rfl

/-- The counter is the loop's lower bound at the loop's entry: its last writer before the loop read back. -/
theorem ctr_entry (c : Dev nD) : entryContents preI m c (Proc.devRef .tc main_v74_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v74_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 200 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v74_1 HostLoop.idx0)
        (HloOp.result _ (atK m k c) main_while0c_c_21 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 200 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 200 m ρ (cond_spec m)

end Cert.Proof.Ref
-- ==== Proof.Ref.Frame.lean ====
module

public import proofs.«01_k».proof.Proof.Ref.Loop
public import Idealize.ShloMosaic.Lib.Quiescent

/-! # The reference's frame

No operation of the reference writes an argument, and the reference has no semaphore: every weakly fair execution
terminates with the arguments as they were and all counters at zero. -/

@[expose] public section

set_option maxRecDepth 2440

noncomputable section

namespace Cert.Proof.Ref

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-- The references that the operations after the loop write, in order. -/
abbrev postW : List (Ref sig .tc) :=
  [main_v75, main_c_9, main_v76, main_v77, main_v78, main_c_10, main_call9_v0, main_call9_v1, main_v79, main_v80,
   main_v81, main_v82, main_call10_c, main_call10_v0, main_call10_v1, main_call10_c_0, main_call10_v2,
   main_call10_v3, main_call10_v4, main_v83, main_cst_11, main_call11_v0, main_call11_v1, main_call11_v2, main_v84,
   main_call12_c, main_call12_v0, main_call12_v1, main_call12_c_0, main_call12_v2, main_call12_v3, main_call12_v4,
   main_call12_v5, main_v85, main_v86, main_cst_12, main_call13_v0, main_call13_v1, main_v87, main_v88, main_v89,
   main_v90, main_v91, main_c_13, main_call14_v0, main_call14_v1, main_v92, main_v93, main_cst_14, main_call15_v0,
   main_call15_v1, main_v94, main_values, main_indices, main_call16_c, main_call16_v0, main_call16_v1,
   main_call16_c_0, main_call16_v2, main_call16_v3, main_call16_v4, main_call16_v5, main_v95, main_v96, main_v97,
   main_call17_c, main_call17_v0, main_call17_v1, main_call17_c_0, main_call17_v2, main_call17_v3, main_call17_v4,
   main_v98, main_cst_15, main_call18_v0, main_call18_v1, main_call18_v2, main_v99, main_call19_c, main_call19_v0,
   main_call19_v1, main_call19_c_0, main_call19_v2, main_call19_v3, main_call19_v4, main_call19_v5, main_v100,
   main_cst_16, main_call20_v0, main_call20_v1, main_v101, main_call21_c, main_call21_v0, main_call21_v1,
   main_call21_c_0, main_call21_v2, main_call21_v3, main_call21_v4, main_call21_v5, main_v102, main_cst_17,
   main_call22_v0, main_call22_v1, main_v103]

theorem post_writes : (postI (F := F)).flatten.Forall fun op => op.writes ⊆ (postW.map (Proc.devRef (τ := τ) .tc)).toFinset :=
  StableHlo.forall_writes_sub_of_map rfl

/-- The references that the operations before the loop write, and those that one trip writes. -/
abbrev preW : List (Ref sig .tc) :=
  hostOps0_W ++ hostOps0_1_W ++ hostOps0_2_W ++ hostOps0_3_W ++ hostOps0_4_W ++ hostOps0_5_W ++ hostOps0_6_W
abbrev bodyW : List (Ref sig .tc) :=
  while0Ops0_W ++ while0Ops0_1_W ++ while0Ops0_2_W ++ while0Ops0_3_W ++ while0Ops0_4_W ++ while0Ops0_5_W
    ++ while0Ops0_6_W ++ while0Ops0_7_W ++ while0Ops0_8_W ++ while0Ops0_9_W ++ while0Ops0_10_W

theorem pre_writes : (preI (F := F)).flatten.Forall fun op => op.writes ⊆ (preW.map (Proc.devRef (τ := τ) .tc)).toFinset :=
  StableHlo.forall_writes_sub_of_map rfl
theorem body_writes : (bodyI (F := F)).flatten.Forall fun op => op.writes ⊆ (bodyW.map (Proc.devRef (τ := τ) .tc)).toFinset :=
  StableHlo.forall_writes_sub_of_map rfl

/-- A reference that one trip does not write is, before every trip, as at the loop's entry. -/
theorem atK_keep (m : (ℓ : Loc nD τ sig) → Buf (Elt F) ℓ) (c : Dev nD) {b : Ref sig .tc} (hb : b ∉ bodyW) (hc : b ∉ condOps_W) :
    ∀ k, atK m k c (Proc.devRef .tc b) = entryContents preI m c (Proc.devRef .tc b)
  | 0 => rfl
  | k + 1 => by
    rw [show atK m (k + 1) c = afterL bodyI (after condOps (atK m k c)) from rfl, afterL_eq_after_flatten,
      after_of_writes_sub _ _ body_writes hb, after_of_writes_sub _ _ condOps_writes hc, atK_keep m c hb hc k]

/-- A reference that the program does not write ends as it started. -/
theorem final_keep (m : (ℓ : Loc nD τ sig) → Buf (Elt F) ℓ) (c : Dev nD) {b : Ref sig .tc} (h₀ : b ∉ preW) (hb : b ∉ bodyW)
    (hc : b ∉ condOps_W) (h₁ : b ∉ postW) :
    finalContents condOps preI bodyI postI 200 m c (Proc.devRef .tc b) = m ((c.tc : Thread nD τ).loc b) := by
  have h := atK_keep m c hb hc 200
  rw [finalContents, afterL_eq_after_flatten, after_of_writes_sub _ _ post_writes h₁,
    after_of_writes_sub _ _ condOps_writes hc]
  refine h.trans ?_
  rw [entryContents, afterL_eq_after_flatten, after_of_writes_sub _ _ pre_writes h₀]

/-- So does an argument. -/
theorem final_args (m : (ℓ : Loc nD τ sig) → Buf (Elt F) ℓ) (c : Dev nD) {b : Ref sig .tc} (hb : b ∈ [main_arg0, main_arg1, main_arg2]) :
    finalContents condOps preI bodyI postI 200 m c (Proc.devRef .tc b) = m ((c.tc : Thread nD τ).loc b) := by
  have h : ∀ b ∈ [main_arg0, main_arg1, main_arg2], b ∉ preW ∧ b ∉ bodyW ∧ b ∉ condOps_W ∧ b ∉ postW := by decide +kernel
  exact final_keep m c (h b hb).1 (h b hb).2.1 (h b hb).2.2.1 (h b hb).2.2.2

/-- The arguments are unchanged and every counter is at zero. -/
theorem frame_claim (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs (onTc main) _).mono (fun r h => ⟨fun c =>
    ⟨(h c main_arg0 rfl).trans (final_args m c (by simp)), (h c main_arg1 rfl).trans (final_args m c (by simp)),
     (h c main_arg2 rfl).trans (final_args m c (by simp))⟩,
    sem_eq_zero_of_no_sems rfl _⟩) (run_fold m ρ)

end Cert.Proof.Ref
-- ==== Proof.KI.Arrays.lean ====
/-
  The kernel's blocks at coordinates: each grid point's input blocks as the padded arguments, and the launch's result arrays from the blocks.
-/
module

public import proofs.«01_k».proof.Proof.KI.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-- Image `b` of block `t` among all images. -/
abbrev img (t : Fin (cfg0 (F := Ideal)).N) (b : Fin 4) : Fin 8 := ⟨4 * t.val + b.val, by have := t.isLt; have h : (cfg0 (F := Ideal)).N = 2 := N_0; omega⟩

theorem index0 (t : Fin (cfg0 (F := Ideal)).N) : win0_0.index t = ![t.val, 0, 0] := (by decide +kernel : ∀ t : Fin grid0.N, win0_0.index t = ![t.val, 0, 0]) t
theorem index1 (t : Fin (cfg0 (F := Ideal)).N) : win0_1.index t = ![t.val, 0, 0] := (by decide +kernel : ∀ t : Fin grid0.N, win0_1.index t = ![t.val, 0, 0]) t
theorem index2 (t : Fin (cfg0 (F := Ideal)).N) : win0_2.index t = ![0, 0, 0] := (by decide +kernel : ∀ t : Fin grid0.N, win0_2.index t = ![0, 0, 0]) t

/-- The label block. -/
theorem iblk_lab (t : Fin (cfg0 (F := Ideal)).N) (b : Fin 4) (x : Fin 21) (l : Fin 5120) :
    iblk m c 0 t (ix3 b x l) = V m c main_v1 (ix3 (img t b) x l) := by
  blk_simp [iblk]
  refine congrArg _ (funext fun a => Fin.ext ?_)
  fin_cases a <;> blk_simp [index0] <;> simp [ix3, Nat.mul_comm]

theorem iblk_del (t : Fin (cfg0 (F := Ideal)).N) (b : Fin 4) (x : Fin 4) (l : Fin 5120) :
    iblk m c 1 t (ix3 b x l) = V m c main_v3 (ix3 (img t b) x l) := by
  blk_simp [iblk]
  refine congrArg _ (funext fun a => Fin.ext ?_)
  fin_cases a <;> blk_simp [index1] <;> simp [ix3, Nat.mul_comm]

theorem iblk_pri (t : Fin (cfg0 (F := Ideal)).N) (z : Fin 1) (x : Fin 4) (l : Fin 5120) :
    iblk m c 2 t (ix3 z x l) = V m c main_v6 (ix3 z x l) := by
  blk_simp [iblk]
  refine congrArg _ (funext fun a => Fin.ext ?_)
  fin_cases a <;> blk_simp [index2] <;> simp [ix3]

/-- The padded labels: zero past the last place. -/
theorem pad_lab_at (x : Vec Ideal S8x5000x21 .f32) (b : Fin 8) (k : Fin 21) (l : Fin 5120) :
    (pad S8x21x5120 ![0, 0, 0] ![0, 0, 120] ![0, 0, 0] (transpose S8x21x5000 [0, 2, 1] x transposes_S8x5000x21_S8x21x5000_0_2_1)
      (sitofp (F := Ideal) .f32 (constantI S_ 32 0#32)) pads_S8x21x5000_S8x21x5120_000_000_01200 h_S_ (ix3 b k l) : EReal)
      = if h : l.val < 5000 then x (ix3 b ⟨l.val, h⟩ k) else (0 : EReal) := by
  pointwise
  by_cases h : l.val < 5000
  · rw [dif_pos h, dif_pos h]
  · rw [dif_neg h, dif_neg h]
    show (((0#32 : BitVec 32).toInt : ℝ) : EReal) = 0
    simp

theorem pad_lab (b : Fin 8) (x : Fin 21) (l : Fin 5120) :
    (V m c main_v1 : S8x21x5120.Idx → EReal) (ix3 b x l)
      = if h : l.val < 5000 then (m ((c : Thread nD τ).loc main_arg1) : S8x5000x21.Idx → EReal) (ix3 b ⟨l.val, h⟩ x) else (0 : EReal) := by
  unfold V V0 before
  after_reads_simp
  exact pad_lab_at (m ((c : Thread nD τ).loc main_arg1)) b x l

theorem pad_del_at (x : Vec Ideal S8x5000x4 .f32) (b : Fin 8) (k : Fin 4) (l : Fin 5120) (h : l.val < 5000) :
    (pad S8x4x5120 ![0, 0, 0] ![0, 0, 120] ![0, 0, 0] (transpose S8x4x5000 [0, 2, 1] x transposes_S8x5000x4_S8x4x5000_0_2_1)
      (sitofp (F := Ideal) .f32 (constantI S_ 32 0#32)) pads_S8x4x5000_S8x4x5120_000_000_01200 h_S_ (ix3 b k l) : EReal)
      = x (ix3 b ⟨l.val, h⟩ k) := by
  pointwise
  rw [dif_pos h]

theorem pad_del (b : Fin 8) (x : Fin 4) (l : Fin 5120) (h : l.val < 5000) :
    (V m c main_v3 : S8x4x5120.Idx → EReal) (ix3 b x l) = (m ((c : Thread nD τ).loc main_arg0) : S8x5000x4.Idx → EReal) (ix3 b ⟨l.val, h⟩ x) := by
  unfold V V0 before
  after_reads_simp
  exact pad_del_at (m ((c : Thread nD τ).loc main_arg0)) b x l h

theorem pad_pri_at (x : Vec Ideal S5000x4 .f32) (k : Fin 4) (l : Fin 5120) (h : l.val < 5000) :
    (pad S4x5120 ![0, 0] ![0, 120] ![0, 0] (transpose S4x5000 [1, 0] x transposes_S5000x4_S4x5000_1_0)
      (sitofp (F := Ideal) .f32 (constantI S_ 32 0#32)) pads_S4x5000_S4x5120_000_01200 h_S_ (ix2 k l) : EReal)
      = x (ix2 ⟨l.val, h⟩ k) := by
  pointwise
  rw [dif_pos h]

theorem pad_pri (z : Fin 1) (x : Fin 4) (l : Fin 5120) (h : l.val < 5000) :
    (V m c main_v6 : S1x4x5120.Idx → EReal) (ix3 z x l) = (m ((c : Thread nD τ).loc main_arg2) : S5000x4.Idx → EReal) (ix2 ⟨l.val, h⟩ x) := by
  unfold V V0 before
  after_reads_simp
  pointwise
  exact pad_pri_at (m ((c : Thread nD τ).loc main_arg2)) x l h

end Cert.Proof.KI

end
-- ==== Proof.KI.Tail.lean ====
/-
  The launch's result arrays from its blocks, and the host lines after the launch.
-/
module

public import proofs.«01_k».proof.Proof.KI.Arrays

@[expose] public section

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-- The grid point that writes row `i` of a result array. -/
abbrev pt (i : Fin 2) : Fin (cfg0 (F := Ideal)).N := ⟨i.val, by have h : (cfg0 (F := Ideal)).N = 2 := N_0; omega⟩

/-- A result array whose blocks are `f`. -/
abbrev rows (f : Fin (cfg0 (F := Ideal)).N → S1x4x200.Idx → EReal) : S2x4x200.Idx → EReal := fun i => f (pt (i 0)) (ix3 0 (i 1) (i 2))

/-- Such an array at an index of block `t`. -/
theorem rows_at (f : Fin (cfg0 (F := Ideal)).N → S1x4x200.Idx → EReal) (t : Fin (cfg0 (F := Ideal)).N) (y : S1x4x200.Idx) (i : S2x4x200.Idx)
    (h : ∀ a : Fin 3, (i a).val = (![t.val, (y 1).val, (y 2).val] : Fin 3 → ℕ) a) : f t y = rows f i := by
  have e0 : pt (i 0) = t := Fin.ext (h 0)
  have e1 : y = ix3 0 (i 1) (i 2) := funext fun a => by
    fin_cases a
    · exact Fin.ext (by have := (y 0).isLt; have e : S1x4x200.size 0 = 1 := rfl; show (y 0).val = 0; omega)
    · exact Fin.ext (h 1).symm
    · exact Fin.ext (h 2).symm
  show f t y = f (pt (i 0)) (ix3 0 (i 1) (i 2))
  rw [e0]
  exact congrArg (f t) e1

theorem index3 (t : Fin (cfg0 (F := Ideal)).N) : win0_3.index t = ![t.val, 0, 0] := (by decide +kernel : ∀ t : Fin grid0.N, win0_3.index t = ![t.val, 0, 0]) t
theorem arr3 : ((dats m 0 c).arrAt 3 (cfg0 (F := Ideal)).N : S2x4x200.Idx → EReal) = rows fun t => (outAt m c t).y1 := by
  refine (dats m 0 c).arrAt_eq_of_covers 3 _ (by decide +kernel) fun t hf y => ?_
  blk_simp
  rw [after0_3]
  exact rows_at (fun t => (outAt m c t).y1) t y _ (fun a => by fin_cases a <;> blk_simp [index3] <;> simp [Nat.mul_comm])

theorem index4 (t : Fin (cfg0 (F := Ideal)).N) : win0_4.index t = ![t.val, 0, 0] := (by decide +kernel : ∀ t : Fin grid0.N, win0_4.index t = ![t.val, 0, 0]) t
theorem arr4 : ((dats m 0 c).arrAt 4 (cfg0 (F := Ideal)).N : S2x4x200.Idx → EReal) = rows fun t => (outAt m c t).x1 := by
  refine (dats m 0 c).arrAt_eq_of_covers 4 _ (by decide +kernel) fun t hf y => ?_
  blk_simp
  rw [after0_4]
  exact rows_at (fun t => (outAt m c t).x1) t y _ (fun a => by fin_cases a <;> blk_simp [index4] <;> simp [Nat.mul_comm])

theorem index5 (t : Fin (cfg0 (F := Ideal)).N) : win0_5.index t = ![t.val, 0, 0] := (by decide +kernel : ∀ t : Fin grid0.N, win0_5.index t = ![t.val, 0, 0]) t
theorem arr5 : ((dats m 0 c).arrAt 5 (cfg0 (F := Ideal)).N : S2x4x200.Idx → EReal) = rows fun t => (outAt m c t).y2 := by
  refine (dats m 0 c).arrAt_eq_of_covers 5 _ (by decide +kernel) fun t hf y => ?_
  blk_simp
  rw [after0_5]
  exact rows_at (fun t => (outAt m c t).y2) t y _ (fun a => by fin_cases a <;> blk_simp [index5] <;> simp [Nat.mul_comm])

theorem index6 (t : Fin (cfg0 (F := Ideal)).N) : win0_6.index t = ![t.val, 0, 0] := (by decide +kernel : ∀ t : Fin grid0.N, win0_6.index t = ![t.val, 0, 0]) t
theorem arr6 : ((dats m 0 c).arrAt 6 (cfg0 (F := Ideal)).N : S2x4x200.Idx → EReal) = rows fun t => (outAt m c t).x2 := by
  refine (dats m 0 c).arrAt_eq_of_covers 6 _ (by decide +kernel) fun t hf y => ?_
  blk_simp
  rw [after0_6]
  exact rows_at (fun t => (outAt m c t).x2) t y _ (fun a => by fin_cases a <;> blk_simp [index6] <;> simp [Nat.mul_comm])

theorem index7 (t : Fin (cfg0 (F := Ideal)).N) : win0_7.index t = ![t.val, 0, 0] := (by decide +kernel : ∀ t : Fin grid0.N, win0_7.index t = ![t.val, 0, 0]) t
theorem arr7 : ((dats m 0 c).arrAt 7 (cfg0 (F := Ideal)).N : S2x4x200.Idx → EReal) = rows fun t => (outAt m c t).sc := by
  refine (dats m 0 c).arrAt_eq_of_covers 7 _ (by decide +kernel) fun t hf y => ?_
  blk_simp
  rw [after0_7]
  exact rows_at (fun t => (outAt m c t).sc) t y _ (fun a => by fin_cases a <;> blk_simp [index7] <;> simp [Nat.mul_comm])

theorem index8 (t : Fin (cfg0 (F := Ideal)).N) : win0_8.index t = ![t.val, 0, 0] := (by decide +kernel : ∀ t : Fin grid0.N, win0_8.index t = ![t.val, 0, 0]) t
theorem arr8 : ((dats m 0 c).arrAt 8 (cfg0 (F := Ideal)).N : S2x4x200.Idx → EReal) = rows fun t => (outAt m c t).cl := by
  refine (dats m 0 c).arrAt_eq_of_covers 8 _ (by decide +kernel) fun t hf y => ?_
  blk_simp
  rw [after0_8]
  exact rows_at (fun t => (outAt m c t).cl) t y _ (fun a => by fin_cases a <;> blk_simp [index8] <;> simp [Nat.mul_comm])

variable (W : Valuation τ sig (Elt Ideal))

abbrev hi (b : Fin 8) : Fin 2 := ⟨b.val / 4, by have := b.isLt; omega⟩
abbrev lo (b : Fin 8) : Fin 4 := ⟨b.val % 4, by omega⟩

/-- The results from the launch's arrays. -/
theorem tail_score (b : Fin 8) (j : Fin 200) : (after hostOps1 W (Proc.devRef .tc main_v12) : S8x200.Idx → EReal) (ix2 b j)
    = (W (Proc.devRef .tc main_v7_4) : S2x4x200.Idx → EReal) (ix3 (hi b) (lo b) j) := by
  after_reads_simp
  pointwise

theorem tail_class (b : Fin 8) (j : Fin 200) : (after hostOps1 W (Proc.devRef .tc main_v13) : S8x200.Idx → EReal) (ix2 b j)
    = (W (Proc.devRef .tc main_v7_5) : S2x4x200.Idx → EReal) (ix3 (hi b) (lo b) j) := by
  after_reads_simp
  pointwise

theorem tail_box0 (b : Fin 8) (j : Fin 200) : (after hostOps1 W (Proc.devRef .tc main_v18) : S8x200x4.Idx → EReal) (ix3 b j 0)
    = (W (Proc.devRef .tc main_v7_0) : S2x4x200.Idx → EReal) (ix3 (hi b) (lo b) j) := by
  after_reads_simp
  pointwise
  after_reads_simp
  pointwise

theorem tail_box1 (b : Fin 8) (j : Fin 200) : (after hostOps1 W (Proc.devRef .tc main_v18) : S8x200x4.Idx → EReal) (ix3 b j 1)
    = (W (Proc.devRef .tc main_v7_1) : S2x4x200.Idx → EReal) (ix3 (hi b) (lo b) j) := by
  after_reads_simp
  pointwise
  after_reads_simp
  pointwise

theorem tail_box2 (b : Fin 8) (j : Fin 200) : (after hostOps1 W (Proc.devRef .tc main_v18) : S8x200x4.Idx → EReal) (ix3 b j 2)
    = (W (Proc.devRef .tc main_v7_2) : S2x4x200.Idx → EReal) (ix3 (hi b) (lo b) j) := by
  after_reads_simp
  pointwise
  after_reads_simp
  pointwise

theorem tail_box3 (b : Fin 8) (j : Fin 200) : (after hostOps1 W (Proc.devRef .tc main_v18) : S8x200x4.Idx → EReal) (ix3 b j 3)
    = (W (Proc.devRef .tc main_v7_3) : S2x4x200.Idx → EReal) (ix3 (hi b) (lo b) j) := by
  after_reads_simp
  pointwise
  after_reads_simp
  pointwise

end Cert.Proof.KI

end
-- ==== Proof.Greedy.lean ====
/-
  The mathematics both programs rest on, with no program in it: rows of extended reals indexed by the naturals and `⊥`
  past their end, the first place of a row's maximum, the greedy suppression of a row, and the repeated extraction of the
  greatest key. Padding a row changes nothing here, since a padded place already holds `⊥`.
-/
module

public import Mathlib.Data.EReal.Operations
public import Mathlib.Data.Finset.Card
public import Mathlib.Data.Finset.Max
public import Mathlib.Order.Interval.Finset.Nat

@[expose] public section

noncomputable section

namespace Cert.Proof.Greedy

/-- `i` is the first place where the row `x` has its maximum. -/
def IsFirst (x : ℕ → EReal) (i : ℕ) : Prop := (∀ j, x j ≤ x i) ∧ ∀ j, j < i → x j < x i

/-- The row `x` holds `⊥` from place `n` on. -/
def Ends (n : ℕ) (x : ℕ → EReal) : Prop := ∀ j, n ≤ j → x j = ⊥

/-- A row has at most one first maximum. -/
theorem IsFirst.unique {x : ℕ → EReal} {i j : ℕ} (hi : IsFirst x i) (hj : IsFirst x j) : i = j := by
  rcases lt_trichotomy i j with h | h | h
  · exact absurd (hi.1 j) (not_le.mpr (hj.2 i h))
  · exact h
  · exact absurd (hj.1 i) (not_le.mpr (hi.2 j h))

/-- A row that ends has a first maximum. -/
theorem exists_isFirst {n : ℕ} {x : ℕ → EReal} (h : Ends n x) : ∃ i, IsFirst x i := by
  classical
  obtain ⟨m, -, hm⟩ := Finset.exists_max_image (Finset.range (n + 1)) x ⟨0, by simp⟩
  have hall : ∀ j, x j ≤ x m := fun j => by
    by_cases hj : j < n + 1
    · exact hm j (Finset.mem_range.mpr hj)
    · rw [h j (by omega)]; exact bot_le
  have hex : ∃ i, ∀ j, x j ≤ x i := ⟨m, hall⟩
  refine ⟨Nat.find hex, Nat.find_spec hex, fun j hj => ?_⟩
  have h1 := Nat.find_min hex hj
  push Not at h1
  obtain ⟨k, hk⟩ := h1
  exact lt_of_lt_of_le hk (Nat.find_spec hex k)

/-- The first place of the row's maximum. -/
def pick (x : ℕ → EReal) : ℕ := Classical.epsilon (IsFirst x)

theorem pick_isFirst {n : ℕ} {x : ℕ → EReal} (h : Ends n x) : IsFirst x (pick x) :=
  Classical.epsilon_spec (exists_isFirst h)

theorem pick_eq {x : ℕ → EReal} {i : ℕ} (h : IsFirst x i) : pick x = i :=
  (Classical.epsilon_spec (p := IsFirst x) ⟨i, h⟩).unique h

/-- The first maximum of a row that ends at `n` lies before `n`. -/
theorem pick_lt {n : ℕ} (hn : 0 < n) {x : ℕ → EReal} (h : Ends n x) : pick x < n := by
  by_contra hc
  have h1 := (pick_isFirst h).2 0 (by omega)
  rw [h (pick x) (by omega)] at h1
  exact not_lt_bot h1

/-! ## Suppression -/

/-- One trip on a row: if anything is live, the first maximum and all that it suppresses become `⊥`. -/
def nstep (sup : ℕ → ℕ → Prop) (x : ℕ → EReal) : ℕ → EReal := by
  classical
  exact fun j => if ⊥ < x (pick x) ∧ (sup (pick x) j ∨ j = pick x) then ⊥ else x j

/-- The row after `t` trips. -/
def live (sup : ℕ → ℕ → Prop) (x : ℕ → EReal) : ℕ → ℕ → EReal
  | 0 => x
  | t + 1 => nstep sup (live sup x t)

/-- The place chosen at trip `t`, and its score: `⊥` where nothing is live. -/
def pickAt (sup : ℕ → ℕ → Prop) (x : ℕ → EReal) (t : ℕ) : ℕ := pick (live sup x t)
def top (sup : ℕ → ℕ → Prop) (x : ℕ → EReal) (t : ℕ) : EReal := live sup x t (pickAt sup x t)

/-- The key of slot `s` after `T` trips: the score chosen there, or `-1`. -/
def kept (sup : ℕ → ℕ → Prop) (x : ℕ → EReal) (T s : ℕ) : EReal := by
  classical
  exact if s < T ∧ ⊥ < top sup x s then top sup x s else -1

section
variable {sup : ℕ → ℕ → Prop} {x : ℕ → EReal}

theorem nstep_cases (y : ℕ → EReal) (j : ℕ) : nstep sup y j = ⊥ ∨ nstep sup y j = y j := by
  classical
  unfold nstep
  split
  · exact .inl rfl
  · exact .inr rfl

theorem nstep_eq {y : ℕ → EReal} {j : ℕ} {P : Prop} [Decidable P] (h : (⊥ < y (pick y) ∧ (sup (pick y) j ∨ j = pick y)) ↔ P) :
    nstep sup y j = if P then ⊥ else y j := by
  classical
  exact if_congr h rfl rfl

theorem nstep_le (y : ℕ → EReal) (j : ℕ) : nstep sup y j ≤ y j := by
  rcases nstep_cases (sup := sup) y j with h | h
  · rw [h]; exact bot_le
  · exact h.le

/-- A live place still holds its first score. -/
theorem live_cases (t j : ℕ) : live sup x t j = ⊥ ∨ live sup x t j = x j := by
  induction t with
  | zero => exact .inr rfl
  | succ t ih =>
    rcases nstep_cases (sup := sup) (live sup x t) j with h | h
    · exact .inl h
    · rcases ih with h2 | h2
      · exact .inl (h.trans h2)
      · exact .inr (h.trans h2)

theorem live_anti {s t : ℕ} (h : s ≤ t) (j : ℕ) : live sup x t j ≤ live sup x s j := by
  induction t, h using Nat.le_induction with
  | base => exact le_rfl
  | succ t _ ih => exact (nstep_le _ j).trans ih

theorem live_ends {n : ℕ} (h : Ends n x) (t : ℕ) : Ends n (live sup x t) := fun j hj => by
  rcases live_cases (sup := sup) (x := x) t j with h1 | h1
  · exact h1
  · exact h1.trans (h j hj)

theorem pickAt_isFirst {n : ℕ} (h : Ends n x) (t : ℕ) : IsFirst (live sup x t) (pickAt sup x t) :=
  pick_isFirst (live_ends h t)

/-- The chosen scores fall from trip to trip. -/
theorem top_anti {n : ℕ} (h : Ends n x) {s t : ℕ} (hst : s ≤ t) : top sup x t ≤ top sup x s :=
  (live_anti hst _).trans ((pickAt_isFirst h s).1 _)

/-- Where something is live, the chosen score is the place's first score. -/
theorem top_eq {t : ℕ} (h : ⊥ < top sup x t) : top sup x t = x (pickAt sup x t) := by
  rcases live_cases (sup := sup) (x := x) t (pickAt sup x t) with h1 | h1
  · exact absurd (show top sup x t = ⊥ from h1) h.ne'
  · exact h1

/-- Scores all `⊥` or above `θ` stay so. -/
theorem top_above {θ : EReal} (hx : ∀ j, x j = ⊥ ∨ θ < x j) (t : ℕ) : top sup x t = ⊥ ∨ θ < top sup x t := by
  rcases live_cases (sup := sup) (x := x) t (pickAt sup x t) with h1 | h1
  · exact .inl h1
  · exact (hx _).imp h1.trans (fun h => h.trans_eq h1.symm)

end

/-! ## Extraction -/

/-- The keys with the first maximum struck out. -/
def ext (K : ℕ → EReal) : ℕ → EReal := by
  classical
  exact fun i => if i = pick K then -2 else K i

/-- The keys after `j` extractions. -/
def exts (K : ℕ → EReal) : ℕ → ℕ → EReal
  | 0 => K
  | j + 1 => ext (exts K j)

/-- Keys laid out class by class, 200 slots to a class, `⊥` past the last class. -/
def flat (C : ℕ) (K : ℕ → ℕ → EReal) : ℕ → EReal := by
  classical
  exact fun i => if i < C * 200 then K (i / 200) (i % 200) else ⊥

theorem flat_ends (C : ℕ) (K : ℕ → ℕ → EReal) : Ends (C * 200) (flat C K) := fun j hj => by
  classical
  exact if_neg (by omega)

theorem ext_ends {n : ℕ} (hn : 0 < n) {K : ℕ → EReal} (h : Ends n K) : Ends n (ext K) := fun j hj => by
  classical
  have h1 : pick K < n := pick_lt hn h
  exact (if_neg (show ¬ j = pick K by omega)).trans (h j hj)

theorem exts_ends {n : ℕ} (hn : 0 < n) {K : ℕ → EReal} (h : Ends n K) (j : ℕ) : Ends n (exts K j) := by
  induction j with
  | zero => exact h
  | succ j ih => exact ext_ends hn ih

/-- Two key rows that agree wherever one is above `β`, the other being at most `β` elsewhere, give the same extractions
    for as long as there are keys above `β`. -/
theorem exts_agree {n : ℕ} (hn : 0 < n) {K K' : ℕ → EReal} (h : Ends n K) (h' : Ends n K') {β : EReal} (hβ : -2 ≤ β)
    (hK : ∀ i, β < K i → K' i = K i) (hK' : ∀ i, K i ≤ β → K' i ≤ β) {m : ℕ} (A : Finset ℕ) (hA : ∀ i ∈ A, β < K i)
    (hm : m ≤ A.card) (j : ℕ) (hj : j < m) :
    pick (exts K j) = pick (exts K' j) ∧ exts K j (pick (exts K j)) = exts K' j (pick (exts K j))
      ∧ exts K j (pick (exts K j)) = K (pick (exts K j)) ∧ β < K (pick (exts K j)) := by
  classical
  have inv : ∀ j, j ≤ m → (∀ i, β < exts K j i → exts K' j i = exts K j i) ∧ (∀ i, exts K j i ≤ β → exts K' j i ≤ β)
      ∧ (∀ i, β < exts K j i → exts K j i = K i) ∧ ∃ B : Finset ℕ, (∀ i ∈ B, β < exts K j i) ∧ m ≤ B.card + j := by
    intro j
    induction j with
    | zero => exact fun _ => ⟨hK, hK', fun _ _ => rfl, A, hA, hm⟩
    | succ j ih =>
      intro hj
      obtain ⟨h1, h2, h3, B, hB, hc⟩ := ih (by omega)
      obtain ⟨b, hb⟩ : B.Nonempty := Finset.card_pos.mp (by omega)
      have hp := pick_isFirst (exts_ends hn h j)
      have hpβ : β < exts K j (pick (exts K j)) := lt_of_lt_of_le (hB b hb) (hp.1 b)
      have hp' : pick (exts K' j) = pick (exts K j) := by
        refine pick_eq ⟨fun i => ?_, fun i hi => ?_⟩
        · rw [h1 _ hpβ]
          by_cases hi : β < exts K j i
          · rw [h1 i hi]; exact hp.1 i
          · exact (h2 i (not_lt.mp hi)).trans hpβ.le
        · rw [h1 _ hpβ]
          by_cases hb : β < exts K j i
          · rw [h1 i hb]; exact hp.2 i hi
          · exact lt_of_le_of_lt (h2 i (not_lt.mp hb)) hpβ
      have e : ∀ i, exts K (j + 1) i = if i = pick (exts K j) then -2 else exts K j i := fun _ => rfl
      have e' : ∀ i, exts K' (j + 1) i = if i = pick (exts K j) then -2 else exts K' j i := fun i => by
        rw [← hp']; rfl
      refine ⟨fun i hi => ?_, fun i hi => ?_, fun i hi => ?_, B.erase (pick (exts K j)), fun i hi => ?_, ?_⟩
      · rw [e] at hi ⊢; rw [e']
        split_ifs at hi ⊢ with hc
        · rfl
        · exact h1 i hi
      · rw [e] at hi; rw [e']
        split_ifs at hi ⊢ with hc
        · exact hβ
        · exact h2 i hi
      · rw [e] at hi ⊢
        split_ifs at hi ⊢ with hc
        · exact absurd hi (not_lt.mpr hβ)
        · exact h3 i hi
      · rw [e, if_neg (Finset.ne_of_mem_erase hi)]
        exact hB i (Finset.mem_of_mem_erase hi)
      · have := Finset.pred_card_le_card_erase (s := B) (a := pick (exts K j))
        omega
  obtain ⟨h1, h2, h3, B, hB, hc⟩ := inv j hj.le
  obtain ⟨b, hb⟩ : B.Nonempty := Finset.card_pos.mp (by omega)
  have hp := pick_isFirst (exts_ends hn h j)
  have hpβ : β < exts K j (pick (exts K j)) := lt_of_lt_of_le (hB b hb) (hp.1 b)
  have hp' : pick (exts K' j) = pick (exts K j) := by
    refine pick_eq ⟨fun i => ?_, fun i hi => ?_⟩
    · rw [h1 _ hpβ]
      by_cases hi : β < exts K j i
      · rw [h1 i hi]; exact hp.1 i
      · exact (h2 i (not_lt.mp hi)).trans hpβ.le
    · rw [h1 _ hpβ]
      by_cases hb : β < exts K j i
      · rw [h1 i hb]; exact hp.2 i hi
      · exact lt_of_le_of_lt (h2 i (not_lt.mp hb)) hpβ
  exact ⟨hp'.symm, (h1 _ hpβ).symm, h3 _ hpβ, (h3 _ hpβ) ▸ hpβ⟩

/-- Extractions follow any listing of the places by falling key, equal keys by rising place: the `j`-th extracted place
    is the listing's `j`-th, while the keys stay above what strikes them out. -/
theorem pick_exts_listing {n : ℕ} (hn : 0 < n) {K : ℕ → EReal} (h : Ends n K) (hlow : ∀ i, i < n → -2 < K i) (L : ℕ → ℕ)
    (hL : ∀ a, a < n → L a < n) (hsurj : ∀ i, i < n → ∃ a, a < n ∧ L a = i)
    (hord : ∀ a b, a < b → b < n → K (L b) < K (L a) ∨ (K (L b) = K (L a) ∧ L a < L b)) (j : ℕ) (hj : j < n) :
    pick (exts K j) = L j ∧ exts K j (L j) = K (L j) := by
  classical
  have hne : ∀ a b, a < b → b < n → L b ≠ L a := fun a b hab hb he => by
    rcases hord a b hab hb with h1 | ⟨-, h1⟩
    · rw [he] at h1; exact lt_irrefl _ h1
    · omega
  have key : ∀ j, j ≤ n → ∀ i, i < n → ∀ a, a < n → L a = i → exts K j i = if a < j then -2 else K i := by
    intro j
    induction j with
    | zero => intro _ i _ a _ _; rw [if_neg (by omega)]; rfl
    | succ j ih =>
      intro hj i hi a ha hai
      have hLj := hL j (by omega)
      have hj2 : exts K j (L j) = K (L j) := by rw [ih (by omega) (L j) hLj j (by omega) rfl, if_neg (by omega)]
      have hp : pick (exts K j) = L j := by
        refine pick_eq ⟨fun i' => ?_, fun i' hi' => ?_⟩
        · by_cases hi' : i' < n
          · obtain ⟨b, hb, rfl⟩ := hsurj i' hi'
            rw [hj2, ih (by omega) _ hi' b hb rfl]
            split_ifs with hbj
            · exact (hlow _ hLj).le
            · rcases Nat.lt_or_ge j b with hlt | hge
              · rcases hord j b hlt hb with h1 | ⟨h1, -⟩
                · exact h1.le
                · exact h1.le
              · rw [show b = j by omega]
          · rw [exts_ends hn h j i' (by omega)]; exact bot_le
        · obtain ⟨b, hb, rfl⟩ := hsurj i' (by omega)
          rw [hj2, ih (by omega) _ (by omega) b hb rfl]
          split_ifs with hbj
          · exact hlow _ hLj
          · rcases Nat.lt_or_ge j b with hlt | hge
            · rcases hord j b hlt hb with h1 | ⟨-, h1⟩
              · exact h1
              · omega
            · rw [show b = j by omega] at hi'; omega
      show (if i = pick (exts K j) then -2 else exts K j i) = _
      rw [hp, ih (by omega) i hi a ha hai]
      by_cases haj : a = j
      · subst haj; rw [if_pos hai.symm, if_pos (by omega)]
      · have : i ≠ L j := by
          rcases Nat.lt_or_ge a j with h1 | h1
          · exact fun he => hne a j h1 (by omega) (by rw [hai, he])
          · exact fun he => hne j a (by omega) ha (by rw [hai, he])
        rw [if_neg this]
        by_cases h1 : a < j
        · rw [if_pos h1, if_pos (by omega)]
        · rw [if_neg h1, if_neg (by omega)]
  have hLj := hL j hj
  have hj2 : exts K j (L j) = K (L j) := by rw [key j hj.le (L j) hLj j hj rfl, if_neg (by omega)]
  refine ⟨pick_eq ⟨fun i' => ?_, fun i' hi' => ?_⟩, hj2⟩
  · by_cases hi' : i' < n
    · obtain ⟨b, hb, rfl⟩ := hsurj i' hi'
      rw [hj2, key j hj.le _ hi' b hb rfl]
      split_ifs with hbj
      · exact (hlow _ hLj).le
      · rcases Nat.lt_or_ge j b with hlt | hge
        · rcases hord j b hlt hb with h1 | ⟨h1, -⟩
          · exact h1.le
          · exact h1.le
        · rw [show b = j by omega]
    · rw [exts_ends hn h j i' (by omega)]; exact bot_le
  · obtain ⟨b, hb, rfl⟩ := hsurj i' (by omega)
    rw [hj2, key j hj.le _ (by omega) b hb rfl]
    split_ifs with hbj
    · exact hlow _ hLj
    · rcases Nat.lt_or_ge j b with hlt | hge
      · rcases hord j b hlt hb with h1 | ⟨-, h1⟩
        · exact h1
        · omega
      · rw [show b = j by omega] at hi'; omega

end Cert.Proof.Greedy

end
-- ==== Proof.Picks.lean ====
/-
  What reductions are worth on finite families: a fold of a selecting operation that one member absorbs is that member, so
  a maximum is the chosen score, a least place among equals is the place chosen, and a sum masked to one place is the
  member there. `row` and `grid` read a finite family as a row of `Greedy`. The literals of both programs in `EReal`.
-/
module

public import proofs.«01_k».proof.Proof.Greedy
public import Idealize.ShloMosaic.Lib.Pointwise

@[expose] public section

noncomputable section

namespace Cert.Proof.Picks

open Idealize.ShloMosaic Cert.Proof.Greedy

/-! ## Literals -/

theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_neg_one : Ideal.ofBits .f32 0xBF800000#32 = -1 := by
  have h : Ideal.ofBits .f32 0xBF800000#32 = ((-(1 : ℝ)) : EReal) := by
    simp [Ideal.ofBits, Ideal.ieee, ← EReal.coe_mul]; norm_num
  exact h
theorem lit_neg_two : Ideal.ofBits .f32 0xC0000000#32 = -2 := by
  have h : Ideal.ofBits .f32 0xC0000000#32 = ((-(2 : ℝ)) : EReal) := by
    simp [Ideal.ofBits, Ideal.ieee, ← EReal.coe_mul]; norm_num
  exact h
theorem lit_half_pos : 0 < Ideal.ofBits .f32 0x3F000000#32 := by
  have h : Ideal.ofBits .f32 0x3F000000#32 = (((1 : ℝ) / 2 : ℝ) : EReal) := by
    simp [Ideal.ofBits, Ideal.ieee, ← EReal.coe_mul]; norm_num
  rw [h]
  exact EReal.coe_pos.mpr (by norm_num)

/-! ## Folds -/

/-- A fold that one member absorbs is that member. -/
theorem fold_absorb {ι α : Type*} [DecidableEq ι] (op : α → α → α) [Std.Commutative op] [Std.Associative op] (e : α) (f : ι → α)
    (S : Finset ι) (p : ι) (hp : p ∈ S) (he : op e (f p) = f p) (h : ∀ i ∈ S, i ≠ p → op (f i) (f p) = f p) :
    S.fold op e f = f p := by
  have key : ∀ T : Finset ι, (∀ i ∈ T, i ∈ S ∧ i ≠ p) → op (T.fold op e f) (f p) = f p := fun T => by
    induction T using Finset.induction_on with
    | empty => intro _; simpa using he
    | insert a T ha ih =>
      intro hT
      rw [Finset.fold_insert ha, Std.Associative.assoc (op := op), ih fun i hi => hT i (Finset.mem_insert_of_mem hi)]
      exact h a (hT a (Finset.mem_insert_self a T)).1 (hT a (Finset.mem_insert_self a T)).2
  rw [← Finset.insert_erase hp, Finset.fold_insert (Finset.notMem_erase p S), Std.Commutative.comm (op := op)]
  exact key _ fun i hi => ⟨Finset.mem_of_mem_erase hi, Finset.ne_of_mem_erase hi⟩

/-- A maximum over a finite family is its greatest member. -/
theorem fold_max {ι : Type*} [Fintype ι] [DecidableEq ι] (f : ι → EReal) (p : ι) (h : ∀ i, f i ≤ f p) :
    Finset.univ.fold max ⊥ f = f p :=
  fold_absorb max ⊥ f _ p (Finset.mem_univ p) (max_eq_right bot_le) fun i _ _ => max_eq_right (h i)

/-- A small word reads back as what it counts, signed. -/
theorem word_int {a : ℕ} (ha : a < 2 ^ 31) : (BitVec.ofNat 32 a).toInt = a := by
  rw [BitVec.toInt_eq_toNat_cond, BitVec.toNat_ofNat, Nat.mod_eq_of_lt (by omega), if_pos (by omega)]

/-- The lesser of two small words is the word of the lesser. -/
theorem minsi_right {a b : ℕ} (ha : a < 2 ^ 31) (h : b ≤ a) : IntOp.minsi (BitVec.ofNat 32 a) (BitVec.ofNat 32 b) = BitVec.ofNat 32 b := by
  unfold IntOp.minsi
  rw [if_neg]
  rw [BitVec.slt_eq_decide, word_int ha, word_int (by omega)]
  simpa using h

/-- The least word among the places that carry a value is the word of the first of them. -/
theorem fold_min {ι : Type*} [Fintype ι] [DecidableEq ι] (w : ι → ℕ) (hw : ∀ i, w i < 2 ^ 31) (n : ℕ) (hn : n < 2 ^ 31)
    (P : ι → Prop) [DecidablePred P] (p : ι) (hp : P p) (hpn : w p ≤ n) (h : ∀ i, P i → w p ≤ w i) :
    Finset.univ.fold IntOp.minsi 2147483647#32 (fun i => if P i then BitVec.ofNat 32 (w i) else BitVec.ofNat 32 n) = BitVec.ofNat 32 (w p) := by
  have e := fold_absorb IntOp.minsi 2147483647#32 (fun i => if P i then BitVec.ofNat 32 (w i) else BitVec.ofNat 32 n) Finset.univ p
    (Finset.mem_univ p) (by rw [if_pos hp]; exact minsi_right (a := 2147483647) (by omega) (by have := hw p; omega)) fun i _ _ => by
      rw [if_pos hp]
      split
      · exact minsi_right (hw i) (h i ‹_›)
      · exact minsi_right hn hpn
  rw [e, if_pos hp]

/-- Small words are told apart by what they count. -/
theorem word_eq {a b : ℕ} (ha : a < 2 ^ 32) (hb : b < 2 ^ 32) : BitVec.ofNat 32 a = BitVec.ofNat 32 b ↔ a = b :=
  ⟨fun h => by
    have := congrArg BitVec.toNat h
    rwa [BitVec.toNat_ofNat, BitVec.toNat_ofNat, Nat.mod_eq_of_lt ha, Nat.mod_eq_of_lt hb] at this, fun h => h ▸ rfl⟩

theorem word_beq {a b : ℕ} (ha : a < 2 ^ 32) (hb : b < 2 ^ 32) : (BitVec.ofNat 32 a == BitVec.ofNat 32 b) = decide (a = b) := by
  rw [Bool.eq_iff_iff, beq_iff_eq, decide_eq_true_iff, word_eq ha hb]

/-! ## Masks -/

/-- A selection under two masks, and under a mask and one of two others. -/
theorem select_and {α : Type} (P Q : Prop) [Decidable P] [Decidable Q] [Decidable (P ∧ Q)] (x y : α) :
    Scalar.select (IntOp.andi (BitVec.ofBool (decide P)) (BitVec.ofBool (decide Q))) x y = if P ∧ Q then x else y := by
  by_cases hP : P <;> by_cases hQ : Q <;> simp [hP, hQ, Scalar.select, IntOp.andi]
theorem select_mask {α : Type} (P Q R : Prop) [Decidable P] [Decidable Q] [Decidable R] [Decidable (P ∧ (Q ∨ R))] (x y : α) :
    Scalar.select (IntOp.andi (BitVec.ofBool (decide P)) (IntOp.ori (BitVec.ofBool (decide Q)) (BitVec.ofBool (decide R)))) x y
      = if P ∧ (Q ∨ R) then x else y := by
  by_cases hP : P <;> by_cases hQ : Q <;> by_cases hR : R <;> simp [hP, hQ, hR, Scalar.select, IntOp.andi, IntOp.ori]

/-! ## Rows -/

/-- A finite family as a row, `⊥` past its end. -/
def row {n : ℕ} (f : Fin n → EReal) : ℕ → EReal := fun i => if h : i < n then f ⟨i, h⟩ else ⊥

theorem row_ends {n : ℕ} (f : Fin n → EReal) : Ends n (row f) := fun _ hj => dif_neg (by omega)

@[simp] theorem row_val {n : ℕ} (f : Fin n → EReal) (i : Fin n) : row f i.val = f i := dif_pos i.isLt

theorem row_ext {n : ℕ} {f : Fin n → EReal} {x : ℕ → EReal} (hx : Ends n x) (h : ∀ i : Fin n, f i = x i.val) : row f = x := by
  funext i
  by_cases hi : i < n
  · exact (row_val f ⟨i, hi⟩).trans (h ⟨i, hi⟩)
  · rw [hx i (by omega)]; exact row_ends f i (by omega)

/-- The place a row's choice falls on. -/
def pickFin {n : ℕ} (hn : 0 < n) (f : Fin n → EReal) : Fin n := ⟨pick (row f), pick_lt hn (row_ends f)⟩

theorem pickFin_max {n : ℕ} (hn : 0 < n) (f : Fin n → EReal) (i : Fin n) : f i ≤ f (pickFin hn f) := by
  have := (pick_isFirst (row_ends f)).1 i.val
  rw [row_val] at this
  exact this.trans_eq (row_val f (pickFin hn f))

theorem pickFin_first {n : ℕ} (hn : 0 < n) (f : Fin n → EReal) (i : Fin n) (h : f i = f (pickFin hn f)) :
    (pickFin hn f).val ≤ i.val := by
  by_contra hc
  have := (pick_isFirst (row_ends f)).2 i.val (not_le.mp hc)
  rw [row_val, show row f (pick (row f)) = f (pickFin hn f) from row_val f (pickFin hn f), h] at this
  exact lt_irrefl _ this

end Cert.Proof.Picks

end
-- ==== Proof.Spec.lean ====
/-
  What both programs compute for one image, in the words of `Greedy`: boxes by their corners, when one box suppresses
  another, and the results in order. An image is its boxes and, per class, its row of start scores.
-/
module

public import proofs.«01_k».proof.Proof.Picks

@[expose] public section

noncomputable section

namespace Cert.Proof.Spec

open Idealize.ShloMosaic Cert.Proof.Greedy

/-- A box by its corners. -/
@[ext] structure Quad where
  y1 : EReal
  x1 : EReal
  y2 : EReal
  x2 : EReal

/-- The box with every corner zero. -/
def Quad.none : Quad := ⟨0, 0, 0, 0⟩

/-- A box's area, and the area two boxes share. -/
def Quad.area (q : Quad) : EReal := (q.y2 - q.y1) * (q.x2 - q.x1)
def Quad.inter (p q : Quad) : EReal := max (min p.y2 q.y2 - max p.y1 q.y1) 0 * max (min p.x2 q.x2 - max p.x1 q.x1) 0

/-- `p` suppresses `q`: their intersection over their union is above the threshold. -/
def Quad.over (p q : Quad) : Prop :=
  Ideal.ofBits .f32 0x3F000000#32 < Ideal.div (p.inter q) (p.area + q.area - p.inter q + Ideal.ofBits .f32 0x322BCC77#32)

/-- A box decoded from its deltas and its prior: the centre moved by the scaled deltas, the sides scaled by exponentials. -/
def side (d e lo hi : EReal) : EReal × EReal :=
  let n := hi - lo
  let len := Ideal.exp (e * Ideal.ofBits .f32 0x3E4CCCCD#32) * n
  let start := d * Ideal.ofBits .f32 0x3DCCCCCD#32 * n + (lo + Ideal.ofBits .f32 0x3F000000#32 * n) - Ideal.ofBits .f32 0x3F000000#32 * len
  (start, start + len)
def decode (d p : Fin 4 → EReal) : Quad :=
  ⟨(side (d 0) (d 2) (p 0) (p 2)).1, (side (d 1) (d 3) (p 1) (p 3)).1, (side (d 0) (d 2) (p 0) (p 2)).2, (side (d 1) (d 3) (p 1) (p 3)).2⟩

/-- The score a class starts from at one place: the place's label score where it is above the threshold and no class 0 wins. -/
def begin (row : Fin 21 → EReal) (c : Fin 21) : EReal := by
  classical
  exact if Ideal.ofBits .f32 0x3F000000#32 < (if ∀ x, row x ≤ row 0 then 0 else row c) then row c else ⊥

/-- Suppression between places of an image. -/
def sup (Q : ℕ → Quad) (i j : ℕ) : Prop := (Q i).over (Q j)

/-- One image: its boxes, and per class the scores the suppression starts from. -/
structure Image where
  box : ℕ → Quad
  score : ℕ → ℕ → EReal

variable (I : Image)

/-- The box place and the score that class `c` keeps in slot `s`. -/
def Image.at (c s : ℕ) : ℕ := pickAt (sup I.box) (I.score c) s
def Image.top (c s : ℕ) : EReal := Greedy.top (sup I.box) (I.score c) s

/-- The keys after `T` trips, laid out class by class. -/
def Image.keys (T : ℕ) : ℕ → EReal := flat 21 fun c => kept (sup I.box) (I.score c) T

/-- The corner block's entry for class `c` and slot `s` after `T` trips. -/
def Image.kbox (T c s : ℕ) : Quad := by
  classical
  exact if s < T ∧ ⊥ < I.top c s then I.box (I.at c s) else Quad.none

/-- The place of result `j` among class and slot, its key, and its box, score and class. -/
def Image.place (j : ℕ) : ℕ := pick (exts (I.keys 200) j)
def Image.key (j : ℕ) : EReal := I.keys 200 (I.place j)
def Image.outBox (j : ℕ) : Quad := I.kbox 200 (I.place j / 200) (I.place j % 200)
def Image.outScore (j : ℕ) : EReal := if 0 < I.key j then I.key j else 0
def Image.outClass (j : ℕ) : EReal :=
  if 0 < I.key j then FloatOps.sitofp (F := Ideal) .f32 (BitVec.ofNat 32 (I.place j / 200)) else 0

end Cert.Proof.Spec

end
-- ==== Proof.KI.Read.lean ====
/-
  One trip of the suppression loop, read image by image and class by class: on the row of live scores it is one step of
  `Greedy`, and it writes the chosen score and the chosen box's corners into the trip's slot where something was live.
-/
module

public import proofs.«01_k».proof.Proof.KI.Body
public import proofs.«01_k».proof.Proof.Spec

@[expose] public section

noncomputable section

namespace Cert.Proof.KI

open Cert.KernelIdeal Cert.KernelIdeal.Gen
open Idealize.ShloMosaic Idealize.ShloMosaic.TcCoe Idealize.ShloMosaic.Tactic
open Cert.Proof.Greedy Cert.Proof.Picks Cert.Proof.Spec

/-- The boxes of image `b` of a block. -/
def boxes (B : Corners Ideal) (b : Fin 4) : ℕ → Quad := fun i =>
  if h : i < 5120 then ⟨B.y1 (ix3 b 0 ⟨i, h⟩), B.x1 (ix3 b 0 ⟨i, h⟩), B.y2 (ix3 b 0 ⟨i, h⟩), B.x2 (ix3 b 0 ⟨i, h⟩)⟩ else Quad.none

theorem boxes_val (B : Corners Ideal) (b : Fin 4) (l : Fin 5120) :
    boxes B b l.val = ⟨B.y1 (ix3 b 0 l), B.x1 (ix3 b 0 l), B.y2 (ix3 b 0 l), B.x2 (ix3 b 0 l)⟩ := dif_pos l.isLt

/-- The scores of image `b` and class `c`, over the lanes and as a row. -/
abbrev lane (S : Vec Ideal S4x21x5120 .f32) (b : Fin 4) (c : Fin 21) : Fin 5120 → EReal := fun l => S (ix3 b c l)
abbrev srow (S : Vec Ideal S4x21x5120 .f32) (b : Fin 4) (c : Fin 21) : ℕ → EReal := row (lane S b c)

/-- The lane chosen. -/
abbrev chosen (S : Vec Ideal S4x21x5120 .f32) (b : Fin 4) (c : Fin 21) : Fin 5120 := pickFin (by omega) (lane S b c)

section
variable (S : Vec Ideal S4x21x5120 .f32) (b : Fin 4) (c : Fin 21)

/-- The maximum over the lanes is the chosen lane's score. -/
theorem pay99_apply (z : Fin 1) : k0_pay99 S (ix3 b c z) = S (ix3 b c (chosen S b c)) := by
  pointwise [k0_pay99, lit_bot]
  exact fold_max (lane S b c) (chosen S b c) (pickFin_max _ _)

/-- Something is live when the chosen score is above `⊥`. -/
theorem pay100_apply (z : Fin 1) : k0_pay100 S (ix3 b c z) = BitVec.ofBool (decide (⊥ < S (ix3 b c (chosen S b c)))) := by
  pointwise [k0_pay100, pay99_apply, lit_bot]

/-- The mask of the chosen lane. -/
theorem pay101_apply (l : Fin 5120) : k0_pay101 lanes S (ix3 b c l) = BitVec.ofBool (decide (l = chosen S b c)) := by
  pointwise [k0_pay101, pay99_apply]
  rw [fold_min (fun x : Fin 5120 => x.val) (fun x => by have := x.isLt; omega) 5120 (by omega)
    (fun x : Fin 5120 => S (ix3 b c x) = S (ix3 b c (chosen S b c))) (chosen S b c) rfl (chosen S b c).isLt.le
    (fun i h => pickFin_first _ _ i h)]
  have h1 := l.isLt
  have h2 := (chosen S b c).isLt
  simp only [IntOp.cmpi]
  rw [word_beq (by omega) (by omega)]
  simp only [Fin.ext_iff]

/-- A sum masked to the chosen lane is the entry there. -/
theorem masked_sum (f : Fin 5120 → EReal) :
    (∑ x, Scalar.select (k0_pay101 lanes S (ix3 b c x)) (f x) 0) = f (chosen S b c) := by
  rw [Finset.sum_eq_single (chosen S b c)]
  · rw [pay101_apply]; simp [Scalar.select]
  · intro x _ hx; rw [pay101_apply]; simp [Scalar.select, hx]
  · intro h; exact absurd (Finset.mem_univ _) h

theorem pay102_apply (y : FVec Ideal S4x1x5120 .f32) (z : Fin 1) : k0_pay102 lanes y S (ix3 b c z) = y (ix3 b 0 (chosen S b c)) := by
  pointwise [k0_pay102]; exact masked_sum S b c fun x => y (ix3 b 0 x)
theorem pay103_apply (y : FVec Ideal S4x1x5120 .f32) (z : Fin 1) : k0_pay103 lanes y S (ix3 b c z) = y (ix3 b 0 (chosen S b c)) := by
  pointwise [k0_pay103]; exact masked_sum S b c fun x => y (ix3 b 0 x)
theorem pay104_apply (y : FVec Ideal S4x1x5120 .f32) (z : Fin 1) : k0_pay104 lanes y S (ix3 b c z) = y (ix3 b 0 (chosen S b c)) := by
  pointwise [k0_pay104]; exact masked_sum S b c fun x => y (ix3 b 0 x)
theorem pay105_apply (y : FVec Ideal S4x1x5120 .f32) (z : Fin 1) : k0_pay105 lanes y S (ix3 b c z) = y (ix3 b 0 (chosen S b c)) := by
  pointwise [k0_pay105]; exact masked_sum S b c fun x => y (ix3 b 0 x)

end

section
variable (B : Corners Ideal) (t : ℕ) (s : WSt Ideal) (b : Fin 4) (c : Fin 21)

/-- A trip suppresses: the live scores go one step on. -/
theorem wstep_sc (hB : ∀ l : Fin 5120, B.area (ix3 b 0 l) = (boxes B b l.val).area) (w : BitVec 32) :
    srow (wstep B w s).sc b c = nstep (sup (boxes B b)) (srow s.sc b c) := by
  classical
  refine row_ext (fun j hj => ?_) fun l => ?_
  · rcases nstep_cases (sup := sup (boxes B b)) (srow s.sc b c) j with h | h
    · exact h
    · exact h.trans (row_ends _ j hj)
  have e1 : boxes B b (pick (srow s.sc b c)) = _ := boxes_val B b (chosen s.sc b c)
  have e2 : srow s.sc b c (pick (srow s.sc b c)) = _ := row_val (lane s.sc b c) (chosen s.sc b c)
  have e3 : (l.val = pick (srow s.sc b c)) ↔ l = chosen s.sc b c := by rw [Fin.ext_iff]; exact Iff.rfl
  have e : (⊥ < srow s.sc b c (pick (srow s.sc b c)) ∧ (sup (boxes B b) (pick (srow s.sc b c)) l.val ∨ l.val = pick (srow s.sc b c)))
      ↔ (⊥ < s.sc (ix3 b c (chosen s.sc b c)) ∧ ((⟨B.y1 (ix3 b 0 (chosen s.sc b c)), B.x1 (ix3 b 0 (chosen s.sc b c)),
          B.y2 (ix3 b 0 (chosen s.sc b c)), B.x2 (ix3 b 0 (chosen s.sc b c))⟩ : Quad).over
          ⟨B.y1 (ix3 b 0 l), B.x1 (ix3 b 0 l), B.y2 (ix3 b 0 l), B.x2 (ix3 b 0 l)⟩ ∨ l = chosen s.sc b c)) := by
    unfold sup
    rw [e1, e2, e3, boxes_val]
  rw [nstep_eq e]
  show (wstep B w s).sc (ix3 b c l) = _
  pointwise [wstep, k0_pay110, k0_pay107, k0_pay108, k0_pay109, k0_pay106, pay100_apply, pay101_apply, pay102_apply, pay103_apply,
    pay104_apply, pay105_apply, hB, boxes_val, lit_bot]
  rw [select_mask]
  exact if_congr Iff.rfl rfl (row_val (lane s.sc b c) l).symm

/-- The slot mask. -/
theorem slot_eq (ht : t < 200) (σ : Fin 200) : IntOp.cmpi .eq (BitVec.ofNat 32 σ.val) (BitVec.ofNat 32 t) = BitVec.ofBool (decide (σ.val = t)) := by
  have := σ.isLt
  simp only [IntOp.cmpi]
  rw [word_beq (by omega) (by omega)]

/-- A trip keeps the chosen score in its slot. -/
theorem wstep_ky (ht : t < 200) (σ : Fin 200) : (wstep B (BitVec.ofNat 32 t) s).ky (ix3 b c σ)
    = if σ.val = t ∧ ⊥ < s.sc (ix3 b c (chosen s.sc b c)) then s.sc (ix3 b c (chosen s.sc b c)) else s.ky (ix3 b c σ) := by
  pointwise [wstep, k0_pay112, k0_pay111, pay99_apply, pay100_apply, slot_eq t ht]
  rw [select_and]

/-- A trip keeps the chosen box's corners in its slot. -/
theorem wstep_box (ht : t < 200) (σ : Fin 200) :
    (⟨(wstep B (BitVec.ofNat 32 t) s).y1 (ix3 b c σ), (wstep B (BitVec.ofNat 32 t) s).x1 (ix3 b c σ),
      (wstep B (BitVec.ofNat 32 t) s).y2 (ix3 b c σ), (wstep B (BitVec.ofNat 32 t) s).x2 (ix3 b c σ)⟩ : Quad)
    = if σ.val = t ∧ ⊥ < s.sc (ix3 b c (chosen s.sc b c)) then boxes B b (chosen s.sc b c).val
      else ⟨s.y1 (ix3 b c σ), s.x1 (ix3 b c σ), s.y2 (ix3 b c σ), s.x2 (ix3 b c σ)⟩ := by
  rw [boxes_val]
  pointwise [wstep, k0_pay113, k0_pay114, k0_pay115, k0_pay116, k0_pay111, pay100_apply, pay102_apply, pay103_apply,
    pay104_apply, pay105_apply, slot_eq t ht, select_and]
  split <;> rfl

end

end Cert.Proof.KI

end
-- ==== Proof.KI.Keep.lean ====
/-
  The suppression loop as a whole: after `T` trips the buffers hold what `Greedy` says of `T` trips, and the loop ends
  after a `T` from which on the results no longer change: all slots done, or in every image nothing live or enough keys
  above everything still live.
-/
module

public import proofs.«01_k».proof.Proof.KI.Read

@[expose] public section

noncomputable section

namespace Cert.Proof.KI

open Cert.KernelIdeal Cert.KernelIdeal.Gen
open Idealize.ShloMosaic Idealize.ShloMosaic.TcCoe Idealize.ShloMosaic.Tactic
open Cert.Proof.Greedy Cert.Proof.Picks Cert.Proof.Spec

/-- Image `b` of a block: its boxes and its start scores. -/
def imageOf (B : Corners Ideal) (S : Vec Ideal S4x21x5120 .f32) (b : Fin 4) : Image where
  box := boxes B b
  score := fun c => if h : c < 21 then srow S b ⟨c, h⟩ else fun _ => ⊥

theorem imageOf_score (B : Corners Ideal) (S : Vec Ideal S4x21x5120 .f32) (b : Fin 4) (c : Fin 21) :
    (imageOf B S b).score c.val = srow S b c := dif_pos c.isLt

/-- Every row of scores of an image ends. -/
theorem imageOf_ends (B : Corners Ideal) (S : Vec Ideal S4x21x5120 .f32) (b : Fin 4) (c : ℕ) : Ends 5120 ((imageOf B S b).score c) := by
  unfold imageOf
  dsimp only
  split
  · exact row_ends _
  · exact fun _ _ => rfl

/-- The areas of a block are those of its corners. -/
def AreaOk (B : Corners Ideal) : Prop := ∀ (b : Fin 4) (l : Fin 5120), B.area (ix3 b 0 l) = (boxes B b l.val).area

/-- The buffers hold what `T` trips leave. -/
structure Holds (B : Corners Ideal) (S : Vec Ideal S4x21x5120 .f32) (T : ℕ) (s : WSt Ideal) : Prop where
  sc : ∀ b c, srow s.sc b c = live (sup (boxes B b)) (srow S b c) T
  ky : ∀ b c (σ : Fin 200), s.ky (ix3 b c σ) = kept (sup (boxes B b)) (srow S b c) T σ.val
  box : ∀ b c (σ : Fin 200), (⟨s.y1 (ix3 b c σ), s.x1 (ix3 b c σ), s.y2 (ix3 b c σ), s.x2 (ix3 b c σ)⟩ : Quad)
    = (imageOf B S b).kbox T c.val σ.val

section
variable {B : Corners Ideal} {S : Vec Ideal S4x21x5120 .f32} {T : ℕ} {s : WSt Ideal}

/-- The score of the chosen lane is what `Greedy` chooses. -/
theorem Holds.top (h : Holds B S T s) (b : Fin 4) (c : Fin 21) :
    s.sc (ix3 b c (chosen s.sc b c)) = Greedy.top (sup (boxes B b)) (srow S b c) T := by
  unfold Greedy.top pickAt
  rw [← h.sc b c]
  exact (row_val (lane s.sc b c) (chosen s.sc b c)).symm

theorem Holds.place (h : Holds B S T s) (b : Fin 4) (c : Fin 21) :
    (chosen s.sc b c).val = pickAt (sup (boxes B b)) (srow S b c) T := by
  unfold pickAt
  rw [← h.sc b c]
  rfl

/-- One trip more. -/
theorem Holds.step (hB : AreaOk B) (hT : T < 200) (h : Holds B S T s) : Holds B S (T + 1) (wstep B (BitVec.ofNat 32 T) s) where
  sc b c := by rw [wstep_sc B s b c (hB b), h.sc b c]; rfl
  ky b c σ := by
    rw [wstep_ky B T s b c hT σ, h.top b c, h.ky b c σ]
    unfold kept
    by_cases e : σ.val = T
    · simp [e]
    · have : (σ.val < T + 1) ↔ (σ.val < T) := by omega
      simp [e, this]
  box b c σ := by
    rw [wstep_box B T s b c hT σ, h.top b c, h.box b c σ, h.place b c]
    unfold Image.kbox Image.at Image.top
    rw [imageOf_score]
    by_cases e : σ.val = T
    · simp [e, imageOf]
    · have : (σ.val < T + 1) ↔ (σ.val < T) := by omega
      simp only [e, this, imageOf, false_and, if_false]
      exact if_congr Iff.rfl rfl rfl

/-- Before the first trip. -/
theorem Holds.start (L : Vec Ideal S4x21x5120 .f32) : Holds B (k0_pay92 L) 0 (wstart L) where
  sc b c := by simp only [wstart, live]
  ky b c σ := by
    pointwise [wstart, k0_pay93, lit_neg_one]
    simp [kept]
  box b c σ := by
    pointwise [wstart, k0_pay94, k0_pay95, k0_pay96, k0_pay97]
    simp [Image.kbox, Quad.none]

end

/-- The loop ends in the buffers of `T` trips, `T` being all of them or the last a trip after which the loop is done. -/
theorem wrun_holds {B : Corners Ideal} {S : Vec Ideal S4x21x5120 .f32} (hB : AreaOk B) (k : ℕ) : ∀ (T : ℕ) (d : BitVec 1) (s : WSt Ideal),
    T + k = 200 → Holds B S T s
    → (d ≠ 0#1 → ∃ t s', T = t + 1 ∧ Holds B S t s' ∧ wdone (BitVec.ofNat 32 t) s' = 1#1)
    → ∃ T', Holds B S T' (wrun B k (BitVec.ofNat 32 T) d s)
      ∧ (T' = 200 ∨ ∃ t s', T' = t + 1 ∧ t < 200 ∧ Holds B S t s' ∧ wdone (BitVec.ofNat 32 t) s' = 1#1) := by
  induction k with
  | zero => intro T d s hT h _; exact ⟨T, h, .inl (by omega)⟩
  | succ k ih =>
    intro T d s hT h hd
    unfold wrun
    by_cases hc : wcond (BitVec.ofNat 32 T) d = 1#1
    · rw [if_pos hc]
      have e : Scalar.addi (BitVec.ofNat 32 T) 1#32 = BitVec.ofNat 32 (T + 1) := by
        simp [Scalar.addi, IntOp.addi, BitVec.ofNat_add]
      rw [e]
      refine ih (T + 1) _ _ (by omega) (h.step hB (by omega)) fun hn => ⟨T, s, rfl, h, ?_⟩
      exact ((by decide : ∀ d : BitVec 1, d ≠ 0#1 → d = 1#1) _ hn)
    · rw [if_neg hc]
      refine ⟨T, h, .inr ?_⟩
      have hd0 : d ≠ 0#1 := fun e0 => hc ((wcond_iff _ _).mpr ⟨by rw [word_int (by omega)]; omega, e0⟩)
      obtain ⟨t, s', e1, e2, e3⟩ := hd hd0
      exact ⟨t, s', e1, by omega, e2, e3⟩

/-- The whole loop. -/
theorem wend_holds {B : Corners Ideal} (hB : AreaOk B) (L : Vec Ideal S4x21x5120 .f32) :
    ∃ T, Holds B (k0_pay92 L) T (wend L B)
      ∧ (T = 200 ∨ ∃ t s', T = t + 1 ∧ t < 200 ∧ Holds B (k0_pay92 L) t s' ∧ wdone (BitVec.ofNat 32 t) s' = 1#1) :=
  wrun_holds hB 200 0 0#1 (wstart L) rfl (Holds.start L) fun h => absurd rfl h

end Cert.Proof.KI

end
-- ==== Proof.KI.Start.lean ====
/-
  What one block's corners and start scores are, entry by entry: the decoded boxes, and the scores the suppression starts from.
-/
module

public import proofs.«01_k».proof.Proof.KI.Keep

@[expose] public section

noncomputable section

namespace Cert.Proof.KI

open Cert.KernelIdeal Cert.KernelIdeal.Gen
open Idealize.ShloMosaic Idealize.ShloMosaic.TcCoe Idealize.ShloMosaic.Tactic
open Cert.Proof.Greedy Cert.Proof.Picks Cert.Proof.Spec

/-- The areas a block keeps are its corners' areas. -/
theorem corners_area (D : Vec Ideal S4x4x5120 .f32) (P : Vec Ideal S1x4x5120 .f32) : AreaOk (corners D P) := by
  intro b l
  rw [boxes_val]
  pointwise [corners, k0_pay91, k0_pay90, k0_pay89, k0_pay88, k0_pay87]
  rfl

section
variable (D : Vec Ideal S4x4x5120 .f32) (P : Vec Ideal S1x4x5120 .f32) (b : Fin 4) (l : Fin 5120)

/-- A block's box is decoded from its deltas and its prior. -/
theorem corners_box : boxes (corners D P) b l.val = decode (fun k => D (ix3 b k l)) (fun k => P (ix3 0 k l)) := by
  rw [boxes_val]
  refine Quad.ext ?_ ?_ ?_ ?_
  · pointwise [corners, k0_pay91, k0_pay90, k0_pay89, k0_pay88, k0_pay87, k0_pay86, k0_pay85, k0_pay84, k0_pay83, k0_pay82, k0_pay81, k0_pay80,
      k0_pay79, k0_pay78, k0_pay77, k0_pay76, k0_pay75, p8, p9, p12, p15, d19, d23, d27, d29, delRow, priRow]
    rfl
  · pointwise [corners, k0_pay91, k0_pay90, k0_pay89, k0_pay88, k0_pay87, k0_pay86, k0_pay85, k0_pay84, k0_pay83, k0_pay82, k0_pay81, k0_pay80,
      k0_pay79, k0_pay78, k0_pay77, k0_pay76, k0_pay75, p8, p9, p12, p15, d19, d23, d27, d29, delRow, priRow]
    rfl
  · pointwise [corners, k0_pay91, k0_pay90, k0_pay89, k0_pay88, k0_pay87, k0_pay86, k0_pay85, k0_pay84, k0_pay83, k0_pay82, k0_pay81, k0_pay80,
      k0_pay79, k0_pay78, k0_pay77, k0_pay76, k0_pay75, p8, p9, p12, p15, d19, d23, d27, d29, delRow, priRow]
    rfl
  · pointwise [corners, k0_pay91, k0_pay90, k0_pay89, k0_pay88, k0_pay87, k0_pay86, k0_pay85, k0_pay84, k0_pay83, k0_pay82, k0_pay81, k0_pay80,
      k0_pay79, k0_pay78, k0_pay77, k0_pay76, k0_pay75, p8, p9, p12, p15, d19, d23, d27, d29, delRow, priRow]
    rfl

end

/-- A class's start score at a lane. -/
theorem start_score (L : Vec Ideal S4x21x5120 .f32) (b : Fin 4) (c : Fin 21) (l : Fin 5120) :
    (k0_pay92 (F := Ideal) L (ix3 b c l) : EReal) = begin (fun x => L (ix3 b x l)) c := by
  classical
  pointwise [k0_pay92]
  have e : (Finset.fold max ⊥ (fun x => L (ix3 b x l)) Finset.univ ≤ L (ix3 b 0 l)) ↔ ∀ x : Fin 21, L (ix3 b x l) ≤ L (ix3 b 0 l) :=
    ⟨fun h x => ((Finset.fold_max_le _).mp h).2 x (Finset.mem_univ x), fun h => (Finset.fold_max_le _).mpr ⟨bot_le, fun x _ => h x⟩⟩
  rw [lit_bot]
  simp only [begin]
  by_cases h : ∀ x : Fin 21, L (ix3 b x l) ≤ L (ix3 b 0 l)
  · rw [if_pos (e.mpr h), if_pos h, if_neg lit_half_pos.not_gt, if_neg lit_half_pos.not_gt]
  · rw [if_neg (fun h' => h (e.mp h')), if_neg h]

end Cert.Proof.KI

end
-- ==== Proof.Stop.lean ====
/-
  When an image's results are settled: from some trip on, more trips change nothing in its 200 results. That is so when
  nothing is live any more, or when 200 kept keys are above everything still live.
-/
module

public import proofs.«01_k».proof.Proof.Spec

@[expose] public section

noncomputable section

namespace Cert.Proof.Spec

open Cert.Proof.Greedy Cert.Proof.Picks
open Idealize.ShloMosaic

variable (I : Image)

/-- Scores end, and each is `⊥` or above zero. -/
structure Image.Good (n : ℕ) : Prop where
  ends : ∀ c, Ends n (I.score c)
  pos : ∀ c i, I.score c i = ⊥ ∨ 0 < I.score c i

variable {I}

theorem Image.keys_at (T c s : ℕ) (hc : c < 21) (hs : s < 200) : I.keys T (c * 200 + s) = kept (sup I.box) (I.score c) T s := by
  classical
  have e1 : (c * 200 + s) / 200 = c := by omega
  have e2 : (c * 200 + s) % 200 = s := by omega
  exact (if_pos (by omega)).trans (by rw [e1, e2])

theorem Image.keys_lt (T i : ℕ) (hi : i < 4200) : I.keys T i = kept (sup I.box) (I.score (i / 200)) T (i % 200) := by
  classical
  exact if_pos (by omega)

theorem Image.keys_ends (T : ℕ) : Ends 4200 (I.keys T) := flat_ends 21 _

theorem kept_pos {S : ℕ → ℕ → Prop} {x : ℕ → EReal} {T s : ℕ} (h : s < T ∧ ⊥ < Greedy.top S x s) : kept S x T s = Greedy.top S x s := by
  classical
  exact if_pos h
theorem kept_neg {S : ℕ → ℕ → Prop} {x : ℕ → EReal} {T s : ℕ} (h : ¬ (s < T ∧ ⊥ < Greedy.top S x s)) : kept S x T s = -1 := by
  classical
  exact if_neg h

theorem neg_two_lt_neg_one : (-2 : EReal) < -1 := by
  rw [EReal.neg_lt_neg_iff]
  exact_mod_cast (by norm_num : (1 : ℝ) < 2)
theorem neg_one_lt_zero : (-1 : EReal) < 0 := by
  have : -(1 : EReal) < -0 := EReal.neg_lt_neg_iff.mpr zero_lt_one
  rwa [neg_zero] at this

theorem Image.Good.top_pos {n : ℕ} (h : I.Good n) (c s : ℕ) : I.top c s = ⊥ ∨ 0 < I.top c s := top_above (h.pos c) s

/-- Every key is above `-2`, and is `-1` or above zero. -/
theorem Image.Good.key_cases {n : ℕ} (h : I.Good n) (T i : ℕ) (hi : i < 4200) : I.keys T i = -1 ∨ 0 < I.keys T i := by
  rw [Image.keys_lt T i hi]
  by_cases q : i % 200 < T ∧ ⊥ < I.top (i / 200) (i % 200)
  · rw [kept_pos q]
    exact .inr ((h.top_pos _ _).resolve_left q.2.ne')
  · exact .inl (kept_neg q)

theorem Image.Good.key_low {n : ℕ} (h : I.Good n) (T i : ℕ) (hi : i < 4200) : -2 < I.keys T i := by
  rcases h.key_cases T i hi with e | e
  · rw [e]; exact neg_two_lt_neg_one
  · exact (neg_two_lt_neg_one.trans neg_one_lt_zero).trans e

theorem Image.place_lt (j : ℕ) : I.place j < 4200 := pick_lt (by omega) (exts_ends (by omega) (Image.keys_ends 200) j)

/-- After `T` trips the 200 results are what they are after all trips. -/
structure Image.Settled (I : Image) (T : ℕ) : Prop where
  place : ∀ j, j < 200 → pick (exts (I.keys T) j) = I.place j
  key : ∀ j, j < 200 → exts (I.keys T) j (I.place j) = I.key j
  box : ∀ j, j < 200 → I.kbox T (I.place j / 200) (I.place j % 200) = I.kbox 200 (I.place j / 200) (I.place j % 200)

/-- All trips: settled. -/
theorem Image.Good.settled_all {n : ℕ} (h : I.Good n) : I.Settled 200 where
  place j _ := rfl
  key j hj := by
    have := exts_agree (n := 4200) (by omega) (Image.keys_ends (I := I) 200) (Image.keys_ends (I := I) 200) (β := -2) le_rfl
      (fun _ _ => rfl) (fun _ hi => hi) (m := 4200) (Finset.range 4200) (fun i hi => h.key_low 200 i (Finset.mem_range.mp hi))
      (by simp) j (by omega)
    exact this.2.2.1
  box j _ := rfl

theorem kbox_congr {T T' c s : ℕ} (h : (s < T ∧ ⊥ < I.top c s) ↔ (s < T' ∧ ⊥ < I.top c s)) : I.kbox T c s = I.kbox T' c s := by
  classical
  exact if_congr h rfl rfl

/-- Nothing live after trip `t`: settled. -/
theorem Image.Good.settled_of_bot {n : ℕ} (h : I.Good n) {t : ℕ} (ht : t < 200) (hb : ∀ c, c < 21 → I.top c t = ⊥) : I.Settled (t + 1) := by
  have key : ∀ c, c < 21 → ∀ s, s < 200 → ((s < t + 1 ∧ ⊥ < I.top c s) ↔ (s < 200 ∧ ⊥ < I.top c s)) := fun c hc s hs => by
    constructor
    · rintro ⟨-, q⟩; exact ⟨hs, q⟩
    · rintro ⟨-, q⟩
      refine ⟨?_, q⟩
      by_contra hn
      have := top_anti (sup := sup I.box) (h.ends c) (show t ≤ s by omega)
      exact absurd (q.trans_le this) (by rw [show Greedy.top (sup I.box) (I.score c) t = ⊥ from hb c hc]; exact lt_irrefl _)
  have hk : I.keys (t + 1) = I.keys 200 := by
    funext i
    by_cases hi : i < 4200
    · rw [Image.keys_lt _ i hi, Image.keys_lt _ i hi]
      have := key (i / 200) (by omega) (i % 200) (by omega)
      by_cases q : i % 200 < 200 ∧ ⊥ < I.top (i / 200) (i % 200)
      · rw [kept_pos q, kept_pos (this.mpr q)]
      · rw [kept_neg q, kept_neg (fun r => q (this.mp r))]
    · rw [Image.keys_ends _ i (by omega), Image.keys_ends _ i (by omega)]
  refine ⟨fun j hj => ?_, fun j hj => ?_, fun j hj => ?_⟩
  · rw [hk]; exact h.settled_all.place j hj
  · rw [hk]; exact h.settled_all.key j hj
  · have := Image.place_lt (I := I) j
    exact kbox_congr (key _ (by omega) _ (by omega))

/-- 200 kept keys above `β`, which is above everything live after trip `t`: settled. -/
theorem Image.Good.settled_of_count {n : ℕ} (h : I.Good n) {t : ℕ} (ht : t < 200) {β : EReal} (hβ : 0 < β)
    (hb : ∀ c, c < 21 → I.top c t ≤ β) (A : Finset ℕ) (hA : ∀ i ∈ A, β < I.keys (t + 1) i) (hc : 200 ≤ A.card) : I.Settled (t + 1) := by
  have h1 : ∀ i, i < 4200 → β < I.keys (t + 1) i → i % 200 < t + 1 ∧ ⊥ < I.top (i / 200) (i % 200) := fun i hi q => by
    by_contra hn
    rw [Image.keys_lt _ i hi, kept_neg hn] at q
    exact absurd ((q.trans neg_one_lt_zero).trans hβ) (lt_irrefl _)
  have h2 : ∀ i, β < I.keys (t + 1) i → i < 4200 := fun i q => by
    by_contra hn
    rw [Image.keys_ends _ i (by omega)] at q
    exact not_lt_bot q
  have e := exts_agree (n := 4200) (by omega) (Image.keys_ends (I := I) (t + 1)) (Image.keys_ends (I := I) 200) (β := β)
    ((neg_two_lt_neg_one.trans neg_one_lt_zero).trans hβ).le
    (fun i q => by
      have hi := h2 i q
      have := h1 i hi q
      rw [Image.keys_lt _ i hi, Image.keys_lt _ i hi, kept_pos this, kept_pos ⟨by omega, this.2⟩])
    (fun i q => by
      by_cases hi : i < 4200
      · rw [Image.keys_lt _ i hi] at q ⊢
        by_cases r : i % 200 < 200 ∧ ⊥ < I.top (i / 200) (i % 200)
        · by_cases r' : i % 200 < t + 1
          · rw [kept_pos r]; rw [kept_pos ⟨r', r.2⟩] at q; exact q
          · rw [kept_pos r]
            exact (top_anti (h.ends _) (show t ≤ i % 200 by omega)).trans (hb _ (by omega))
        · rw [kept_neg r]; exact (neg_one_lt_zero.trans hβ).le
      · rw [Image.keys_ends _ i (by omega)]; exact bot_le)
    A hA hc
  refine ⟨fun j hj => (e j hj).1, fun j hj => ?_, fun j hj => ?_⟩
  · have p := (e j hj).1
    have q := (e j hj).2.1
    rw [p] at q
    exact q.trans (h.settled_all.key j hj)
  · have p := (e j hj).1
    have q := (e j hj).2.2.2
    rw [p] at q
    have l := h2 _ q
    have := h1 _ l q
    exact kbox_congr ⟨fun r => ⟨by omega, r.2⟩, fun r => ⟨this.1, r.2⟩⟩

end Cert.Proof.Spec

end
-- ==== Proof.KI.Exit.lean ====
/-
  The loop's own test for stopping, read: when it says done after a trip, every image of the block is settled.
-/
module

public import proofs.«01_k».proof.Proof.KI.Keep
public import proofs.«01_k».proof.Proof.Stop

@[expose] public section

noncomputable section

namespace Cert.Proof.KI

open Cert.KernelIdeal Cert.KernelIdeal.Gen
open Idealize.ShloMosaic Idealize.ShloMosaic.TcCoe Idealize.ShloMosaic.Tactic
open Cert.Proof.Greedy Cert.Proof.Picks Cert.Proof.Spec

/-- A sum of bits in words counts. -/
theorem fold_count {ι : Type} (P : ι → Prop) [DecidablePred P] (A : Finset ι) :
    A.fold IntOp.addi 0#32 (fun x => BitVec.setWidth 32 (BitVec.ofBool (decide (P x)))) = BitVec.ofNat 32 (A.filter P).card := by
  classical
  induction A using Finset.induction_on with
  | empty => rfl
  | insert a A ha ih =>
    rw [Finset.fold_insert ha, ih, Finset.filter_insert]
    by_cases h : P a
    · rw [if_pos h, Finset.card_insert_of_notMem (by simp [ha])]
      simp [h, IntOp.addi, BitVec.ofNat_add, BitVec.add_comm]
    · rw [if_neg h]; simp [h, IntOp.addi]

/-- The start scores are `⊥` or above zero. -/
theorem start_pos (L : Vec Ideal S4x21x5120 .f32) (b : Fin 4) (c : Fin 21) (l : Fin 5120) :
    (k0_pay92 L (ix3 b c l) : EReal) = ⊥ ∨ (0 : EReal) < k0_pay92 L (ix3 b c l) := by
  pointwise [k0_pay92, lit_bot]
  split_ifs with h1 h2
  all_goals first
    | exact .inl rfl
    | exact .inr (lit_half_pos.trans (by assumption))

theorem imageOf_good (B : Corners Ideal) (L : Vec Ideal S4x21x5120 .f32) (b : Fin 4) : (imageOf B (k0_pay92 L) b).Good 5120 where
  ends c := imageOf_ends B _ b c
  pos c i := by
    by_cases hc : c < 21
    · have e := imageOf_score B (k0_pay92 L) b ⟨c, hc⟩
      dsimp only at e
      rw [e]
      by_cases hi : i < 5120
      · rw [show srow (k0_pay92 L) b ⟨c, hc⟩ i = k0_pay92 L (ix3 b ⟨c, hc⟩ ⟨i, hi⟩) from
          row_val (lane (k0_pay92 L) b ⟨c, hc⟩) ⟨i, hi⟩]
        exact start_pos L b ⟨c, hc⟩ ⟨i, hi⟩
      · exact .inl (row_ends _ i (by omega))
    · exact .inl (by unfold imageOf; dsimp only; rw [dif_neg hc])

variable {B : Corners Ideal} {S : Vec Ideal S4x21x5120 .f32} {t : ℕ} {s : WSt Ideal}

/-- A maximum over finitely many bounds each. -/
theorem le_fold {ι : Type} [Fintype ι] (f : ι → EReal) (i : ι) : f i ≤ Finset.univ.fold max ⊥ f :=
  (Finset.le_fold_max _).mpr (.inr ⟨i, Finset.mem_univ i, le_rfl⟩)
theorem fold_bot {ι : Type} [Fintype ι] (f : ι → EReal) (h : Finset.univ.fold max ⊥ f ≤ ⊥) (i : ι) : f i = ⊥ :=
  le_bot_iff.mp ((le_fold f i).trans h)

theorem of_bit {P : Prop} [Decidable P] (h : BitVec.ofBool (decide P) = 1#1) : P := by
  by_contra hn
  rw [decide_eq_false hn] at h
  exact absurd h (by decide)

/-- What the test says of one image. -/
theorem wdone_read (h : wdone (BitVec.ofNat 32 t) s = 1#1) (b : Fin 4) :
    (200 ≤ (Finset.univ.filter fun x : Fin 21 × Fin 200 =>
        Finset.univ.fold max (⊥ : EReal) (fun c => s.sc (ix3 b c (chosen s.sc b c))) < (wstep B (BitVec.ofNat 32 t) s).ky (ix3 b x.1 x.2)).card)
      ∨ Finset.univ.fold max (⊥ : EReal) (fun c => s.sc (ix3 b c (chosen s.sc b c))) ≤ ⊥ := by
  have hky : (wstep B (BitVec.ofNat 32 t) s).ky = k0_pay112 slots (BitVec.ofNat 32 t) (k0_pay99 s.sc) (k0_pay100 s.sc) s.ky := by
    dsimp only [wstep]
  rw [hky]
  unfold wdone at h
  pointwise [k0_pay1, k0_pay117, pay99_apply, lit_bot, lit_top] at h
  have h1 := of_bit h
  have h2 := ((Finset.lt_fold_min _).mp h1).2 (ix4 0 b 0 0) (by
    rw [Finset.mem_filter]
    refine ⟨Finset.mem_univ _, ?_⟩
    have one : ∀ i j : S1.Idx, i = j := fun i j => funext fun a => by
      match a with | ⟨0, _⟩ => exact Subsingleton.elim (α := Fin 1) _ _
    exact one _ _)
  have e : (ix4 (0 : Fin 1) b (0 : Fin 1) (0 : Fin 1)) 1 = b := rfl
  rw [e] at h2
  rw [fold_count] at h2
  by_contra hn
  rw [not_or, not_le] at hn
  have c1 := hn.1
  have hw : ∀ n : ℕ, n < 200 → IntOp.cmpi .sge (BitVec.ofNat 32 n) 200#32 = 0#1 := fun n hn => by
    have e200 : (200#32).toInt = 200 := rfl
    simp only [IntOp.cmpi, BitVec.sle_eq_decide]
    rw [e200, word_int (a := n) (by omega), decide_eq_false (by omega)]
    rfl
  rw [hw _ c1, decide_eq_false hn.2] at h2
  exact absurd h2 (by simp [Scalar.select, IntOp.ori])

/-- When the test says done, every image of the block is settled. -/
theorem wdone_settled {L : Vec Ideal S4x21x5120 .f32} (hB : AreaOk B) (ht : t < 200) (h : Holds B (k0_pay92 L) t s)
    (hd : wdone (BitVec.ofNat 32 t) s = 1#1) (b : Fin 4) : (imageOf B (k0_pay92 L) b).Settled (t + 1) := by
  classical
  have G := imageOf_good B L b
  have htop : ∀ c : Fin 21, s.sc (ix3 b c (chosen s.sc b c)) = (imageOf B (k0_pay92 L) b).top c.val t := fun c => by
    rw [h.top b c]; unfold Image.top; rw [imageOf_score]; rfl
  have hkey : ∀ (c : Fin 21) (σ : Fin 200), (wstep B (BitVec.ofNat 32 t) s).ky (ix3 b c σ)
      = (imageOf B (k0_pay92 L) b).keys (t + 1) (c.val * 200 + σ.val) := fun c σ => by
    rw [(h.step hB ht).ky b c σ, Image.keys_at _ _ _ c.isLt σ.isLt, imageOf_score]; rfl
  have hr := wdone_read (B := B) hd b
  set β := Finset.univ.fold max (⊥ : EReal) (fun c => s.sc (ix3 b c (chosen s.sc b c))) with hβ
  have hle : ∀ c, c < 21 → (imageOf B (k0_pay92 L) b).top c t ≤ β := fun c hc => by
    rw [← htop ⟨c, hc⟩]; exact le_fold (fun c => s.sc (ix3 b c (chosen s.sc b c))) ⟨c, hc⟩
  by_cases hb : β ≤ ⊥
  · exact G.settled_of_bot ht fun c hc => le_bot_iff.mp ((hle c hc).trans hb)
  · have hc := hr.resolve_right hb
    have hp : 0 < β := by
      by_contra hn
      refine hb (Finset.fold_max_le _ |>.mpr ⟨le_rfl, fun c _ => ?_⟩)
      rcases G.top_pos c.val t with q | q
      · rw [htop c, q]
      · exact absurd (q.trans_le (hle c.val c.isLt)) hn
    refine G.settled_of_count ht hp hle
      ((Finset.univ.filter fun x : Fin 21 × Fin 200 => β < (wstep B (BitVec.ofNat 32 t) s).ky (ix3 b x.1 x.2)).image
        fun x => x.1.val * 200 + x.2.val) ?_ ?_
    · intro i hi
      obtain ⟨x, hx, rfl⟩ := Finset.mem_image.mp hi
      rw [← hkey]
      exact (Finset.mem_filter.mp hx).2
    · rw [Finset.card_image_of_injective]
      · exact hc
      · rintro ⟨a, b⟩ ⟨a', b'⟩ q
        have := b.isLt
        have := b'.isLt
        dsimp only at q
        exact Prod.ext (Fin.ext (by show a.val = a'.val; omega)) (Fin.ext (by show b.val = b'.val; omega))

/-- The loop leaves every image settled. -/
theorem wend_settled (hB : AreaOk B) (L : Vec Ideal S4x21x5120 .f32) :
    ∃ T, Holds B (k0_pay92 L) T (wend L B) ∧ ∀ b, (imageOf B (k0_pay92 L) b).Settled T := by
  obtain ⟨T, h, h'⟩ := wend_holds hB L
  refine ⟨T, h, fun b => ?_⟩
  rcases h' with rfl | ⟨t, s', rfl, ht, hs, hd⟩
  · exact (imageOf_good B L b).settled_all
  · exact wdone_settled hB ht hs hd b

end Cert.Proof.KI

end
-- ==== Proof.KI.ReadMerge.lean ====
/-
  The merge, read: the keys after `j` selections are the extractions of the laid-out keys, and result slot `j` holds what
  the best remaining key says.
-/
module

public import proofs.«01_k».proof.Proof.KI.Keep
public import proofs.«01_k».proof.Proof.Stop
public import proofs.«01_k».proof.Proof.KI.Fresh

@[expose] public section

noncomputable section

namespace Cert.Proof.KI

open Cert.KernelIdeal Cert.KernelIdeal.Gen
open Idealize.ShloMosaic Idealize.ShloMosaic.TcCoe Idealize.ShloMosaic.Tactic
open Cert.Proof.Greedy Cert.Proof.Picks Cert.Proof.Spec

/-- The class and slot of place `p < 4200`. -/
def pair (p : ℕ) (hp : p < 4200) : Fin 21 × Fin 200 := (⟨p / 200, by omega⟩, ⟨p % 200, by omega⟩)

/-- The keys of image `b`, laid out. -/
def lay (ky : Vec Ideal S4x21x200 .f32) (b : Fin 4) : ℕ → EReal := fun i =>
  if h : i < 4200 then ky (ix3 b (pair i h).1 (pair i h).2) else ⊥

theorem lay_ends (ky : Vec Ideal S4x21x200 .f32) (b : Fin 4) : Ends 4200 (lay ky b) := fun _ hj => dif_neg (by omega)

theorem lay_at (ky : Vec Ideal S4x21x200 .f32) (b : Fin 4) (x : Fin 21 × Fin 200) : lay ky b (x.1.val * 200 + x.2.val) = ky (ix3 b x.1 x.2) := by
  have h1 := x.1.isLt
  have h2 := x.2.isLt
  have hi : x.1.val * 200 + x.2.val < 4200 := by omega
  have e : pair (x.1.val * 200 + x.2.val) hi = x := by
    refine Prod.ext (Fin.ext ?_) (Fin.ext ?_)
    · show (x.1.val * 200 + x.2.val) / 200 = x.1.val; omega
    · show (x.1.val * 200 + x.2.val) % 200 = x.2.val; omega
  refine (dif_pos hi).trans ?_
  rw [e]

section
variable (ky : Vec Ideal S4x21x200 .f32) (b : Fin 4)

/-- The place of the best key. -/
abbrev best : ℕ := pick (lay ky b)

theorem best_lt : best ky b < 4200 := pick_lt (by omega) (lay_ends ky b)

/-- Its class and slot. -/
abbrev bestPair : Fin 21 × Fin 200 := pair (best ky b) (best_lt ky b)

theorem bestPair_val : (bestPair ky b).1.val * 200 + (bestPair ky b).2.val = best ky b := by
  show best ky b / 200 * 200 + best ky b % 200 = best ky b; omega

theorem best_key : ky (ix3 b (bestPair ky b).1 (bestPair ky b).2) = lay ky b (best ky b) := by
  rw [← lay_at ky b (bestPair ky b), bestPair_val]

/-- The best key. -/
theorem pay57_apply (z z' : Fin 1) : (k0_pay57 (F := Ideal) ky (ix3 b z z') : EReal) = lay ky b (best ky b) := by
  pointwise [k0_pay57, lit_bot]
  rw [← best_key ky b]
  refine fold_max (fun x : Fin 21 × Fin 200 => ky (ix3 b x.1 x.2)) (bestPair ky b) fun x => ?_
  rw [best_key ky b, ← lay_at ky b x]
  exact (pick_isFirst (lay_ends ky b)).1 _

/-- The numbering of the places. -/
theorem pay98_apply (x : Fin 21 × Fin 200) : k0_pay98 (ix3 b x.1 x.2) = BitVec.ofNat 32 (x.1.val * 200 + x.2.val) := by
  pointwise [k0_pay98]
  simp [IntOp.addi, IntOp.muli, BitVec.ofNat_add, BitVec.ofNat_mul]

/-- The word of the best key's place. -/
theorem pay58_apply (z z' : Fin 1) : k0_pay58 (F := Ideal) k0_pay98 ky (ix3 b z z') = BitVec.ofNat 32 (best ky b) := by
  have h98 := pay98_apply b
  pointwise [k0_pay58, pay57_apply, h98]
  have h1 : ∀ x : Fin 21 × Fin 200, ky (ix3 b x.1 x.2) = lay ky b (best ky b) →
      (bestPair ky b).1.val * 200 + (bestPair ky b).2.val ≤ x.1.val * 200 + x.2.val := fun x hx => by
    rw [bestPair_val]
    by_contra hn
    have := (pick_isFirst (lay_ends ky b)).2 _ (not_le.mp hn)
    rw [lay_at] at this
    exact this.ne hx
  have h2 : (bestPair ky b).1.val * 200 + (bestPair ky b).2.val ≤ 4200 := by rw [bestPair_val]; exact (best_lt ky b).le
  have h3 := best_key ky b
  generalize lay ky b (best ky b) = q at *
  rw [← bestPair_val ky b]
  generalize bestPair ky b = p at *
  rw [fold_min (fun x : Fin 21 × Fin 200 => x.1.val * 200 + x.2.val) (fun x => by
    have h1 := x.1.isLt
    have h2 := x.2.isLt
    omega) 4200 (by omega) (fun x => ky (ix3 b x.1 x.2) = q) p h3 h2 h1]

/-- The mask of the best key's place. -/
theorem pay59_apply (x : Fin 21 × Fin 200) : k0_pay59 (F := Ideal) k0_pay98 ky (ix3 b x.1 x.2) = BitVec.ofBool (decide (x = bestPair ky b)) := by
  have h98 := pay98_apply b x
  have h1 := x.1.isLt
  have h2 := x.2.isLt
  have h3 := best_lt ky b
  pointwise [k0_pay59, pay58_apply, h98]
  simp only [IntOp.cmpi]
  rw [word_beq (by omega) (by omega)]
  congr 2
  rw [eq_iff_iff]
  constructor
  · intro h
    refine Prod.ext (Fin.ext ?_) (Fin.ext ?_)
    · show x.1.val = best ky b / 200; omega
    · show x.2.val = best ky b % 200; omega
  · rintro rfl; exact bestPair_val ky b

/-- A sum masked to the best key's place is the entry there. -/
theorem masked_pair (f : Fin 21 → Fin 200 → EReal) :
    (∑ x, ∑ y, Scalar.select (k0_pay59 (F := Ideal) k0_pay98 ky (ix3 b x y)) (f x y) 0) = f (bestPair ky b).1 (bestPair ky b).2 := by
  rw [Finset.sum_eq_single (bestPair ky b).1, Finset.sum_eq_single (bestPair ky b).2]
  · rw [pay59_apply ky b (bestPair ky b)]; simp [Scalar.select]
  · intro y _ hy
    rw [pay59_apply ky b ((bestPair ky b).1, y), decide_eq_false (fun h => hy (congrArg Prod.snd h))]; simp [Scalar.select]
  · intro h; exact absurd (Finset.mem_univ _) h
  · intro x _ hx
    refine Finset.sum_eq_zero fun y _ => ?_
    rw [pay59_apply ky b (x, y), decide_eq_false (fun h => hx (congrArg Prod.fst h))]; simp [Scalar.select]
  · intro h; exact absurd (Finset.mem_univ _) h

/-- One selection takes the best key out. -/
theorem mnext_lay : lay (mnext ky) b = ext (lay ky b) := by
  classical
  funext i
  unfold ext
  by_cases hi : i < 4200
  · have e : (pair i hi).1.val * 200 + (pair i hi).2.val = i := by show i / 200 * 200 + i % 200 = i; omega
    have e1 := lay_at (mnext ky) b (pair i hi)
    have e2 := lay_at ky b (pair i hi)
    have e3 := pay59_apply ky b (pair i hi)
    rw [e] at e1 e2
    rw [e1, e2]
    pointwise [mnext, k0_pay56, e3, lit_neg_two]
    have e4 : (pair i hi = bestPair ky b) ↔ i = pick (lay ky b) := by
      constructor
      · intro h; rw [← e, h]; exact bestPair_val ky b
      · intro h
        refine Prod.ext (Fin.ext ?_) (Fin.ext ?_)
        · show i / 200 = best ky b / 200; rw [h]
        · show i % 200 = best ky b % 200; rw [h]
    exact if_congr e4 rfl rfl
  · have := best_lt ky b
    rw [if_neg (by show ¬ i = best ky b; omega), lay_ends _ b i (by omega), lay_ends _ b i (by omega)]

theorem mkeys_lay (j : ℕ) : lay (mkeys ky j) b = exts (lay ky b) j := by
  induction j with
  | zero => rw [mkeys_zero]; rfl
  | succ j ih => rw [mkeys_succ, mnext_lay, ih]; rfl

end

/-- The slot mask is on. -/
theorem pay61_on (j : Fin 200) (z : Fin 1) (b : Fin 4) : k0_pay61 oslots (BitVec.ofNat 32 j.val) (ix3 z b j) = 1#1 := by
  rw [slot_mask j.val j.isLt]
  have : ((ix3 z b j) 2).val = j.val := rfl
  rw [this]; simp

section
variable (w : WSt Ideal) (s : MSt Ideal) (b : Fin 4) (j : Fin 200) (z : Fin 1)

/-- The corners selected. -/
theorem mstep_box : (⟨(mstep w (BitVec.ofNat 32 j.val) s).y1 (ix3 z b j), (mstep w (BitVec.ofNat 32 j.val) s).x1 (ix3 z b j),
      (mstep w (BitVec.ofNat 32 j.val) s).y2 (ix3 z b j), (mstep w (BitVec.ofNat 32 j.val) s).x2 (ix3 z b j)⟩ : Quad)
    = ⟨w.y1 (ix3 b (bestPair s.ky b).1 (bestPair s.ky b).2), w.x1 (ix3 b (bestPair s.ky b).1 (bestPair s.ky b).2),
      w.y2 (ix3 b (bestPair s.ky b).1 (bestPair s.ky b).2), w.x2 (ix3 b (bestPair s.ky b).1 (bestPair s.ky b).2)⟩ := by
  have h61 := pay61_on j z b
  refine Quad.ext ?_ ?_ ?_ ?_
  · pointwise [mstep, k0_pay70, h61]
    exact masked_pair s.ky b fun x y => w.y1 (ix3 b x y)
  · pointwise [mstep, k0_pay71, k0_pay67, h61]
    exact masked_pair s.ky b fun x y => w.x1 (ix3 b x y)
  · pointwise [mstep, k0_pay72, k0_pay68, h61]
    exact masked_pair s.ky b fun x y => w.y2 (ix3 b x y)
  · pointwise [mstep, k0_pay73, k0_pay69, h61]
    exact masked_pair s.ky b fun x y => w.x2 (ix3 b x y)

/-- The score selected. -/
theorem mstep_sc : (mstep w (BitVec.ofNat 32 j.val) s).sc (ix3 z b j)
    = if 0 < lay s.ky b (best s.ky b) then lay s.ky b (best s.ky b) else 0 := by
  have h61 := pay61_on j z b
  pointwise [mstep, k0_pay62, k0_pay60, pay57_apply, h61]

/-- The class of a place, in words: the quotient by 200, as the kernel rounds it. -/
theorem class_word (n : ℕ) (hn : n < 4200) :
    Scalar.select (IntOp.andi (IntOp.cmpi .ne (IntOp.subi (BitVec.setWidth 32 (IntOp.cmpi .sgt (BitVec.ofNat 32 n) 0#32))
      (BitVec.setWidth 32 (IntOp.cmpi .slt (BitVec.ofNat 32 n) 0#32))) 1#32) (IntOp.cmpi .ne (IntOp.remsi .vector (BitVec.ofNat 32 n) 200#32) 0#32))
      (IntOp.subi (IntOp.divsi .vector (BitVec.ofNat 32 n) 200#32) 1#32) (IntOp.divsi .vector (BitVec.ofNat 32 n) 200#32) = BitVec.ofNat 32 (n / 200) := by
  have hc : ∀ x : BitVec 32, ¬ IntOp.SDivCorner x 200#32 := fun x => by
    unfold IntOp.SDivCorner
    rintro (h | ⟨-, h⟩)
    · exact absurd h (by decide)
    · exact absurd h (by decide)
  have hm : (BitVec.ofNat 32 n).msb = false := by
    rw [BitVec.msb_eq_false_iff_two_mul_lt, BitVec.toNat_ofNat, Nat.mod_eq_of_lt (by omega)]; omega
  have hd : IntOp.divsi .vector (BitVec.ofNat 32 n) 200#32 = BitVec.ofNat 32 (n / 200) := by
    unfold IntOp.divsi
    rw [if_neg (hc _), BitVec.sdiv_eq, hm]
    have : (200#32).msb = false := by decide
    rw [this]
    apply BitVec.eq_of_toNat_eq
    have e200 : (200#32).toNat = 200 := rfl
    simp only [BitVec.udiv_eq, BitVec.toNat_udiv, BitVec.toNat_ofNat, e200]
    rw [Nat.mod_eq_of_lt (by omega), Nat.mod_eq_of_lt (by omega)]
  rw [hd]
  have hs : IntOp.cmpi .slt (BitVec.ofNat 32 n) 0#32 = 0#1 := by
    have e0 : (0#32).toInt = 0 := rfl
    simp only [IntOp.cmpi, BitVec.slt_eq_decide]
    rw [e0, word_int (a := n) (by omega), decide_eq_false (by omega)]; rfl
  rw [hs]
  rcases Nat.eq_zero_or_pos n with rfl | hn0
  · have hr : IntOp.remsi .vector (BitVec.ofNat 32 0) 200#32 = 0#32 := by
      unfold IntOp.remsi; rw [if_neg (hc _)]; decide
    rw [hr]
    decide
  · have hg : IntOp.cmpi .sgt (BitVec.ofNat 32 n) 0#32 = 1#1 := by
      have e0 : (0#32).toInt = 0 := rfl
      simp only [IntOp.cmpi, BitVec.slt_eq_decide]
      rw [e0, word_int (a := n) (by omega), decide_eq_true (by omega)]; rfl
    rw [hg]
    have : IntOp.cmpi .ne (IntOp.subi (BitVec.setWidth 32 (1#1)) (BitVec.setWidth 32 (0#1))) 1#32 = 0#1 := by decide
    rw [this]
    generalize IntOp.cmpi .ne (IntOp.remsi .vector (BitVec.ofNat 32 n) 200#32) 0#32 = r
    have hr : IntOp.andi 0#1 r = 0#1 := by revert r; decide
    rw [hr]
    rfl

/-- The class selected. -/
theorem mstep_cl : (mstep w (BitVec.ofNat 32 j.val) s).cl (ix3 z b j)
    = if 0 < lay s.ky b (best s.ky b) then FloatOps.sitofp (F := Ideal) .f32 (BitVec.ofNat 32 (best s.ky b / 200)) else 0 := by
  have h61 := pay61_on j z b
  have hc := class_word (best s.ky b) (best_lt s.ky b)
  pointwise [mstep, k0_pay66, k0_pay60, k0_pay63, k0_pay64, k0_pay65, pay57_apply, pay58_apply, h61]
  rw [show Scalar.subi (Scalar.extui (Scalar.cmpi .sgt 200#32 0#32)) (Scalar.extui (Scalar.cmpi .slt 200#32 0#32)) = 1#32 by decide, hc]

end

end Cert.Proof.KI

end
-- ==== Proof.KI.Result.lean ====
/-
  What one block's results are: slot by slot the boxes, scores and classes that the specification gives each image.
-/
module

public import proofs.«01_k».proof.Proof.KI.Exit
public import proofs.«01_k».proof.Proof.KI.ReadMerge
public import proofs.«01_k».proof.Proof.KI.Start

@[expose] public section

noncomputable section

namespace Cert.Proof.KI

open Cert.KernelIdeal Cert.KernelIdeal.Gen
open Idealize.ShloMosaic Idealize.ShloMosaic.TcCoe Idealize.ShloMosaic.Tactic
open Cert.Proof.Greedy Cert.Proof.Picks Cert.Proof.Spec

/-- The keys the loop leaves, laid out class by class. -/
theorem Holds.lay {B : Corners Ideal} {S : Vec Ideal S4x21x5120 .f32} {T : ℕ} {s : WSt Ideal} (h : Holds B S T s) (b : Fin 4) :
    lay s.ky b = (imageOf B S b).keys T := by
  funext i
  by_cases hi : i < 4200
  · have e : (pair i hi).1.val * 200 + (pair i hi).2.val = i := by show i / 200 * 200 + i % 200 = i; omega
    rw [← e, lay_at, h.ky, Image.keys_at _ _ _ (pair i hi).1.isLt (pair i hi).2.isLt, imageOf_score]
    rfl
  · rw [lay_ends s.ky b i (by omega), (imageOf B S b).keys_ends T i (by omega)]

variable (L : Vec Ideal S4x21x5120 .f32) (D : Vec Ideal S4x4x5120 .f32) (P : Vec Ideal S1x4x5120 .f32) (b : Fin 4) (j : Fin 200) (z : Fin 1)

/-- Image `b` of a block. -/
abbrev blockImage : Image := imageOf (corners D P) (k0_pay92 L) b

/-- The place the merge selects for slot `j`, its key and its corners. -/
theorem merge_place : best (mkeys (wend L (corners D P)).ky j.val) b = (blockImage L D P b).place j.val
    ∧ lay (mkeys (wend L (corners D P)).ky j.val) b ((blockImage L D P b).place j.val) = (blockImage L D P b).key j.val
    ∧ ∀ x : Fin 21 × Fin 200, x.1.val = (blockImage L D P b).place j.val / 200 → x.2.val = (blockImage L D P b).place j.val % 200 →
      (⟨(wend L (corners D P)).y1 (ix3 b x.1 x.2), (wend L (corners D P)).x1 (ix3 b x.1 x.2),
        (wend L (corners D P)).y2 (ix3 b x.1 x.2), (wend L (corners D P)).x2 (ix3 b x.1 x.2)⟩ : Quad) = (blockImage L D P b).outBox j.val := by
  obtain ⟨T, h, hs⟩ := wend_settled (corners_area D P) L
  have e : lay (mkeys (wend L (corners D P)).ky j.val) b = exts ((blockImage L D P b).keys T) j.val := by rw [mkeys_lay, h.lay]
  have hj := j.isLt
  refine ⟨?_, ?_, fun x e1 e2 => ?_⟩
  · show pick (lay (mkeys (wend L (corners D P)).ky j.val) b) = _
    rw [e]; exact (hs b).place j.val hj
  · rw [e]; exact (hs b).key j.val hj
  · rw [h.box, e1, e2]; exact (hs b).box j.val hj

/-- The box of slot `j`. -/
theorem body_box : (⟨(bodyOut L D P).y1 (ix3 z b j), (bodyOut L D P).x1 (ix3 z b j), (bodyOut L D P).y2 (ix3 z b j),
      (bodyOut L D P).x2 (ix3 z b j)⟩ : Quad) = (blockImage L D P b).outBox j.val := by
  obtain ⟨h1, _, h3⟩ := merge_place L D P b j
  have e := mstep_box (wend L (corners D P)) (zst (mkeys (wend L (corners D P)).ky j.val)) b j z
  have ek : (zst (mkeys (wend L (corners D P)).ky j.val)).ky = mkeys (wend L (corners D P)).ky j.val := by dsimp only [zst]
  rw [ek] at e
  refine Eq.trans ?_ (e.trans (h3 (bestPair (mkeys (wend L (corners D P)).ky j.val) b) ?_ ?_))
  · simp only [bodyOut, mdone, MSt.get]
    rfl
  · rw [← h1]; rfl
  · rw [← h1]; rfl

/-- The score of slot `j`. -/
theorem body_score : (bodyOut L D P).sc (ix3 z b j) = (blockImage L D P b).outScore j.val := by
  obtain ⟨h1, h2, _⟩ := merge_place L D P b j
  have e := mstep_sc (wend L (corners D P)) (zst (mkeys (wend L (corners D P)).ky j.val)) b j z
  have ek : (zst (mkeys (wend L (corners D P)).ky j.val)).ky = mkeys (wend L (corners D P)).ky j.val := by dsimp only [zst]
  rw [ek, h1, h2] at e
  refine Eq.trans ?_ e
  simp only [bodyOut, mdone, MSt.get]
  rfl

/-- The class of slot `j`. -/
theorem body_class : (bodyOut L D P).cl (ix3 z b j) = (blockImage L D P b).outClass j.val := by
  obtain ⟨h1, h2, _⟩ := merge_place L D P b j
  have e := mstep_cl (wend L (corners D P)) (zst (mkeys (wend L (corners D P)).ky j.val)) b j z
  have ek : (zst (mkeys (wend L (corners D P)).ky j.val)).ky = mkeys (wend L (corners D P)).ky j.val := by dsimp only [zst]
  rw [ek, h1, h2] at e
  refine Eq.trans ?_ e
  simp only [bodyOut, mdone, MSt.get]
  rfl

end Cert.Proof.KI

end
-- ==== Proof.Agree.lean ====
/-
  Two images with the same scores, whose boxes agree at the places the scores reach, have the same results.
-/
module

public import proofs.«01_k».proof.Proof.Stop

@[expose] public section

noncomputable section

namespace Cert.Proof.Greedy

/-- The live rows depend on suppression only before the row's end. -/
theorem live_congr {n : ℕ} (hn : 0 < n) {x : ℕ → EReal} (hx : Ends n x) {sup sup' : ℕ → ℕ → Prop}
    (h : ∀ i j, i < n → j < n → (sup i j ↔ sup' i j)) (t : ℕ) : live sup x t = live sup' x t := by
  classical
  induction t with
  | zero => rfl
  | succ t ih =>
    funext j
    by_cases hj : j < n
    · show nstep sup (live sup x t) j = nstep sup' (live sup' x t) j
      rw [ih]
      have hp : pick (live sup' x t) < n := pick_lt hn (live_ends hx t)
      exact if_congr (and_congr Iff.rfl (or_congr (h _ _ hp hj) Iff.rfl)) rfl rfl
    · rw [live_ends hx (t + 1) j (by omega), live_ends hx (t + 1) j (by omega)]

end Cert.Proof.Greedy

namespace Cert.Proof.Spec

open Cert.Proof.Greedy

/-- Two images agree up to place `n`. -/
structure Image.Agree (n : ℕ) (I J : Image) : Prop where
  score : I.score = J.score
  ends : ∀ c, Ends n (I.score c)
  box : ∀ i, i < n → I.box i = J.box i

section
variable {n : ℕ} {I J : Image}

theorem Image.Agree.live (h : Image.Agree n I J) (hn : 0 < n) (c t : ℕ) :
    live (sup I.box) (I.score c) t = Greedy.live (sup J.box) (J.score c) t := by
  rw [← h.score]
  exact live_congr hn (h.ends c) (fun i j hi hj => by unfold sup; rw [h.box i hi, h.box j hj]) t

theorem Image.Agree.at_eq (h : Image.Agree n I J) (hn : 0 < n) (c s : ℕ) : I.at c s = J.at c s := by
  unfold Image.at pickAt; rw [h.live hn]

theorem Image.Agree.top_eq (h : Image.Agree n I J) (hn : 0 < n) (c s : ℕ) : I.top c s = J.top c s := by
  unfold Image.top Greedy.top pickAt; rw [h.live hn]

theorem Image.Agree.at_lt (h : Image.Agree n I J) (hn : 0 < n) (c s : ℕ) : I.at c s < n :=
  pick_lt hn (live_ends (h.ends c) s)

theorem Image.Agree.keys (h : Image.Agree n I J) (hn : 0 < n) (T : ℕ) : I.keys T = J.keys T := by
  unfold Image.keys
  congr 1
  funext c s
  unfold kept Greedy.top pickAt
  rw [h.live hn]

theorem Image.Agree.place (h : Image.Agree n I J) (hn : 0 < n) (j : ℕ) : I.place j = J.place j := by
  unfold Image.place; rw [h.keys hn]

theorem Image.Agree.key (h : Image.Agree n I J) (hn : 0 < n) (j : ℕ) : I.key j = J.key j := by
  unfold Image.key; rw [h.keys hn, h.place hn]

theorem Image.Agree.outBox (h : Image.Agree n I J) (hn : 0 < n) (j : ℕ) : I.outBox j = J.outBox j := by
  unfold Image.outBox Image.kbox
  rw [h.place hn, h.top_eq hn, h.box _ (h.at_lt hn _ _), h.at_eq hn]

theorem Image.Agree.outScore (h : Image.Agree n I J) (hn : 0 < n) (j : ℕ) : I.outScore j = J.outScore j := by
  unfold Image.outScore; rw [h.key hn]

theorem Image.Agree.outClass (h : Image.Agree n I J) (hn : 0 < n) (j : ℕ) : I.outClass j = J.outClass j := by
  unfold Image.outClass; rw [h.key hn, h.place hn]

end

end Cert.Proof.Spec

end
-- ==== Proof.Whole.lean ====
/-
  The three results as mathematics: for each image of the batch, boxes decoded from the arguments and start scores from the
  labels give an `Image`, and its greedy suppression and selection give the kept boxes, scores and classes.
-/
module

public import proofs.«01_k».proof.Proof.Spec
public import proofs.«01_k».proof.Proof.Picks

@[expose] public section

noncomputable section

namespace Cert.Proof.Spec

open Cert.Proof.Greedy Cert.Proof.Picks

/-- Corner `k` of a box. -/
def corner (q : Quad) : Fin 4 → EReal := ![q.y1, q.x1, q.y2, q.x2]

theorem corner_none (k : Fin 4) : corner Quad.none k = 0 := by
  fin_cases k <;> rfl

/-- Image `b` of a batch of deltas, labels and priors. -/
def whole (D : Fin 8 → Fin 5000 → Fin 4 → EReal) (L : Fin 8 → Fin 5000 → Fin 21 → EReal) (P : Fin 5000 → Fin 4 → EReal) (b : Fin 8) : Image where
  box := fun i => if h : i < 5000 then decode (D b ⟨i, h⟩) (P ⟨i, h⟩) else Quad.none
  score := fun c => if h : c < 21 then row fun l => begin (L b l) ⟨c, h⟩ else fun _ => ⊥

/-- The score a class starts from where every label is zero. -/
theorem begin_zero (c : Fin 21) : begin (fun _ => 0) c = ⊥ := by
  classical
  unfold begin
  refine if_neg fun h => ?_
  rw [if_pos fun _ => le_refl _] at h
  exact absurd (h.trans lit_half_pos) (lt_irrefl _)

end Cert.Proof.Spec

end
-- ==== Proof.KI.Images.lean ====
/-
  The images the kernel's blocks hold are the batch's, and with them the three results of the whole kernel.
-/
module

public import proofs.«01_k».proof.Proof.KI.Tail
public import proofs.«01_k».proof.Proof.KI.Start
public import proofs.«01_k».proof.Proof.KI.Result
public import proofs.«01_k».proof.Proof.Agree
public import proofs.«01_k».proof.Proof.Whole

@[expose] public section

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)
open Cert.Proof.Greedy Cert.Proof.Picks Cert.Proof.Spec

variable (m : (ℓ : Loc nD τ sig) → Buf (Elt Ideal) ℓ) (c : Dev nD)

/-- The image of the arguments. -/
abbrev argImage (b : Fin 8) : Image :=
  whole (fun b l k => (m ((c : Thread nD τ).loc main_arg0) : S8x5000x4.Idx → EReal) (ix3 b l k))
    (fun b l x => (m ((c : Thread nD τ).loc main_arg1) : S8x5000x21.Idx → EReal) (ix3 b l x))
    (fun l k => (m ((c : Thread nD τ).loc main_arg2) : S5000x4.Idx → EReal) (ix2 l k)) b

/-- Image `b` of block `t`. -/
abbrev ofBlock (t : Fin (cfg0 (F := Ideal)).N) (b : Fin 4) : Image := blockImage (iblk m c 0 t) (iblk m c 1 t) (iblk m c 2 t) b

theorem block_score (t : Fin (cfg0 (F := Ideal)).N) (b : Fin 4) (k : ℕ) : (ofBlock m c t b).score k = (argImage m c (img t b)).score k := by
  by_cases hk : k < 21
  · refine (imageOf_score _ _ b ⟨k, hk⟩).trans ?_
    have e2 : (argImage m c (img t b)).score k = row fun l => begin (fun x => (m ((c : Thread nD τ).loc main_arg1) : S8x5000x21.Idx → EReal) (ix3 (img t b) l x)) ⟨k, hk⟩ := dif_pos hk
    rw [e2]
    refine row_ext (fun j hj => row_ends _ j (le_trans (by omega) hj)) fun l => ?_
    refine (start_score (iblk m c 0 t) b ⟨k, hk⟩ l).trans ?_
    by_cases hl : l.val < 5000
    · have e : (fun x => (iblk m c 0 t : S4x21x5120.Idx → EReal) (ix3 b x l)) = fun x => (m ((c : Thread nD τ).loc main_arg1) : S8x5000x21.Idx → EReal) (ix3 (img t b) ⟨l.val, hl⟩ x) :=
        funext fun x => (iblk_lab m c t b x l).trans ((pad_lab m c (img t b) x l).trans (dif_pos hl))
      exact (congrArg (begin · ⟨k, hk⟩) e).trans (row_val (fun l => begin (fun x => (m ((c : Thread nD τ).loc main_arg1) : S8x5000x21.Idx → EReal) (ix3 (img t b) l x)) ⟨k, hk⟩) ⟨l.val, hl⟩).symm
    · have e : (fun x => (iblk m c 0 t : S4x21x5120.Idx → EReal) (ix3 b x l)) = fun _ => (0 : EReal) :=
        funext fun x => (iblk_lab m c t b x l).trans ((pad_lab m c (img t b) x l).trans (dif_neg hl))
      exact ((congrArg (begin · ⟨k, hk⟩) e).trans (begin_zero _)).trans (row_ends (n := 5000) _ l.val (by omega)).symm
  · exact (dif_neg hk).trans (Eq.symm (dif_neg hk))

theorem block_box (t : Fin (cfg0 (F := Ideal)).N) (b : Fin 4) (i : ℕ) (h : i < 5000) : (ofBlock m c t b).box i = (argImage m c (img t b)).box i := by
  refine Eq.trans (corners_box (iblk m c 1 t) (iblk m c 2 t) b ⟨i, by omega⟩) (Eq.trans ?_ (Eq.symm (dif_pos h)))
  have e1 : (fun k => (iblk m c 1 t : S4x4x5120.Idx → EReal) (ix3 b k ⟨i, by omega⟩)) = fun k => (m ((c : Thread nD τ).loc main_arg0) : S8x5000x4.Idx → EReal) (ix3 (img t b) ⟨i, h⟩ k) :=
    funext fun k => (iblk_del m c t b k ⟨i, by omega⟩).trans (pad_del m c (img t b) k ⟨i, by omega⟩ h)
  have e2 : (fun k => (iblk m c 2 t : S1x4x5120.Idx → EReal) (ix3 0 k ⟨i, by omega⟩)) = fun k => (m ((c : Thread nD τ).loc main_arg2) : S5000x4.Idx → EReal) (ix2 ⟨i, h⟩ k) :=
    funext fun k => (iblk_pri m c t 0 k ⟨i, by omega⟩).trans (pad_pri m c 0 k ⟨i, by omega⟩ h)
  exact congrArg₂ decode e1 e2

/-- The two images agree on the 5000 places there are. -/
theorem block_agree (t : Fin (cfg0 (F := Ideal)).N) (b : Fin 4) : Image.Agree 5000 (ofBlock m c t b) (argImage m c (img t b)) where
  score := funext (block_score m c t b)
  ends := fun k => by
    rw [block_score]
    intro j hj
    by_cases hk : k < 21
    · refine Eq.trans (congrFun (dif_pos hk) j) (row_ends (n := 5000) _ j hj)
    · exact congrFun (dif_neg hk) j
  box := block_box m c t b

theorem img_hi (b : Fin 8) : img (pt (hi b)) (lo b) = b := Fin.ext (by show 4 * (b.val / 4) + b.val % 4 = b.val; omega)

theorem agree (b : Fin 8) : Image.Agree 5000 (ofBlock m c (pt (hi b)) (lo b)) (argImage m c b) :=
  Eq.subst (motive := fun i => Image.Agree 5000 (ofBlock m c (pt (hi b)) (lo b)) (argImage m c i)) (img_hi b) (block_agree m c (pt (hi b)) (lo b))

/-- The buffers at the launch's end, and at the program's. -/
abbrev ended : Valuation τ sig (Elt Ideal) :=
  Pipeline.withArrays spec0 c (V0 m c) fun w => (dats m 0 c).arrAt w (cfg0 (F := Ideal)).N

theorem arr_inj : Function.Injective (Pipeline.arrRef spec0) := by decide +kernel

theorem ended_arr (w : Fin 9) : ended m c (Proc.devRef .tc (Pipeline.arrRef spec0 w)) = (dats m 0 c).arrAt w (cfg0 (F := Ideal)).N :=
  Pipeline.withArrays_arr spec0 arr_inj c (V0 m c) _ w

theorem ker_score (b : Fin 8) (j : Fin 200) :
    (after hostOps1 (ended m c) (Proc.devRef .tc main_v12) : S8x200.Idx → EReal) (ix2 b j) = (argImage m c b).outScore j.val := by
  refine (tail_score (ended m c) b j).trans ?_
  refine (congrFun ((ended_arr m c 7).trans (arr7 m c)) (ix3 (hi b) (lo b) j)).trans ?_
  exact (body_score (iblk m c 0 (pt (hi b))) (iblk m c 1 (pt (hi b))) (iblk m c 2 (pt (hi b))) (lo b) j 0).trans ((agree m c b).outScore (by omega) j.val)

theorem ker_class (b : Fin 8) (j : Fin 200) :
    (after hostOps1 (ended m c) (Proc.devRef .tc main_v13) : S8x200.Idx → EReal) (ix2 b j) = (argImage m c b).outClass j.val := by
  refine (tail_class (ended m c) b j).trans ?_
  refine (congrFun ((ended_arr m c 8).trans (arr8 m c)) (ix3 (hi b) (lo b) j)).trans ?_
  exact (body_class (iblk m c 0 (pt (hi b))) (iblk m c 1 (pt (hi b))) (iblk m c 2 (pt (hi b))) (lo b) j 0).trans ((agree m c b).outClass (by omega) j.val)

theorem ker_box (b : Fin 8) (j : Fin 200) (k : Fin 4) :
    (after hostOps1 (ended m c) (Proc.devRef .tc main_v18) : S8x200x4.Idx → EReal) (ix3 b j k) = corner ((argImage m c b).outBox j.val) k := by
  have e := (body_box (iblk m c 0 (pt (hi b))) (iblk m c 1 (pt (hi b))) (iblk m c 2 (pt (hi b))) (lo b) j 0).trans ((agree m c b).outBox (by omega) j.val)
  rw [← e]
  fin_cases k
  · exact (tail_box0 (ended m c) b j).trans (congrFun ((ended_arr m c 3).trans (arr3 m c)) (ix3 (hi b) (lo b) j))
  · exact (tail_box1 (ended m c) b j).trans (congrFun ((ended_arr m c 4).trans (arr4 m c)) (ix3 (hi b) (lo b) j))
  · exact (tail_box2 (ended m c) b j).trans (congrFun ((ended_arr m c 5).trans (arr5 m c)) (ix3 (hi b) (lo b) j))
  · exact (tail_box3 (ended m c) b j).trans (congrFun ((ended_arr m c 6).trans (arr6 m c)) (ix3 (hi b) (lo b) j))

end Cert.Proof.KI

end
-- ==== Proof.Ref.Pure.lean ====
/-
  The reference's two indexing operations at an index: the arg-max over the last axis is the first place of the maximum,
  and a gather at in-range indices reads the operand there.
-/
module

public import proofs.«01_k».proof.Proof.Ref.Ops
public import Idealize.ShloMosaic.PureOps.Ideal.Laws
public import proofs.«01_k».proof.Proof.Spec

@[expose] public section

noncomputable section

namespace Cert.Proof.Ref

open Cert.ReferenceIdeal Cert.ReferenceIdeal.Gen
open Idealize.ShloMosaic Idealize.ShloMosaic.TcCoe Idealize.ShloMosaic.Tactic
open Cert.Proof.Greedy Cert.Proof.Picks

/-! ## Arg-max -/

/-- A left fold of a selecting operation over members that one of them absorbs is that member. -/
theorem foldl_absorb {α : Type*} (op : α → α → α) (D : α → Prop) (P : α) (hD : ∀ a b, D a → D b → D (op a b))
    (h1 : ∀ a, D a → op a P = P) (h2 : ∀ a, D a → op P a = P) (l : List α) (hl : ∀ a ∈ l, D a) (hP : P ∈ l) (e : α) (he : D e) :
    l.foldl op e = P := by
  have stay : ∀ l : List α, (∀ a ∈ l, D a) → l.foldl op P = P := fun l => by
    induction l with
    | nil => intro _; rfl
    | cons a l ih =>
      intro hl
      rw [List.foldl_cons, h2 a (hl a (by simp))]
      exact ih fun x hx => hl x (by simp [hx])
  induction l generalizing e with
  | nil => simp at hP
  | cons a l ih =>
    rw [List.foldl_cons]
    rcases List.mem_cons.mp hP with rfl | h
    · rw [h1 e he]; exact stay l fun x hx => hl x (by simp [hx])
    · exact ih (fun x hx => hl x (by simp [hx])) h _ (hD e a he (hl a (by simp)))

/-- The reference's choice between two pairs: the greater score, and among equal scores the lesser place. -/
theorem reducer_eq (a b : Ideal .f32 × BitVec 32) : reducer_argmax_f32_i32 (F := Ideal) a b
    = (if (b.1 : EReal) < a.1 then a.1 else b.1, if (b.1 : EReal) < a.1 ∨ ((a.1 : EReal) = b.1 ∧ a.2.toInt < b.2.toInt) then a.2 else b.2) := by
  have e1 : FloatOps.cmpf (F := Ideal) .ogt a.1 b.1 = BitVec.ofBool (decide ((b.1 : EReal) < a.1)) := rfl
  have e2 : FloatOps.cmpf (F := Ideal) .une a.1 a.1 = 0#1 := by
    show BitVec.ofBool (decide ((a.1 : EReal) ≠ a.1)) = _; simp
  have e3 : FloatOps.cmpf (F := Ideal) .oeq a.1 b.1 = BitVec.ofBool (decide ((a.1 : EReal) = b.1)) := rfl
  have e4 : IntOp.cmpi .slt a.2 b.2 = BitVec.ofBool (decide (a.2.toInt < b.2.toInt)) := by
    simp only [IntOp.cmpi, BitVec.slt_eq_decide]
  unfold reducer_argmax_f32_i32
  dsimp only
  rw [e1, e2, e3, e4]
  by_cases h1 : (b.1 : EReal) < a.1 <;> by_cases h2 : (a.1 : EReal) = b.1 <;> by_cases h3 : a.2.toInt < b.2.toInt <;>
    simp [h1, h2, h3, Scalar.select, IntOp.ori, IntOp.andi]

/-- The arg-max over the last axis is the first place of the maximum. -/
theorem argmax_apply {n0 n1 n2 : ℕ} (hn : 0 < n2) (hs : n2 < 2 ^ 31) (x : FVec Ideal ⟨3, ![n0, n1, n2]⟩ .f32)
    (h : (⟨3, ![n0, n1, n2]⟩ : Shape).ReducesTo [2] ⟨2, ![n0, n1]⟩) (b : Fin n0) (c : Fin n1) :
    (Host.argReduce reducer_argmax_f32_i32 x (iotaInDim ⟨3, ![n0, n1, n2]⟩ 32 2) (constant S_ .f32 0xFF800000#32) (constantI S_ 32 0#32)
      h h_S_ (ix2 b c)).2 = BitVec.ofNat 32 (pickFin hn fun l => x (ix3 b c l)).val := by
  set f : Fin n2 → EReal := fun l => x (ix3 b c l) with hf
  set p := pickFin hn f with hp
  have hmem : ∀ i, h.drop i = ix2 b c ↔ ∃ l : Fin n2, ix3 b c l = i := fun i => h.fiber_r3_a2 (ix2 b c) i
  have hint : ∀ l : Fin n2, (BitVec.ofNat 32 l.val).toInt = l.val := fun l => word_int (by have := l.isLt; omega)
  rw [Ideal.argReduce_eq_reduce2, Host.reduce2_eq_foldl_fiber]
  have key := foldl_absorb (reducer_argmax_f32_i32 (F := Ideal))
    (fun a => (a.1 : EReal) < f p ∨ ((a.1 : EReal) = f p ∧ (p.val : ℤ) ≤ a.2.toInt)) (f p, BitVec.ofNat 32 p.val)
    (fun a b' ha hb => by
      rw [reducer_eq]; dsimp only
      split_ifs with q1 q2 q2
      · exact ha
      · exact absurd (.inl q1) q2
      · rcases q2 with q2 | ⟨q2, q3⟩
        · exact absurd q2 q1
        · rw [← q2]; exact ha
      · exact hb)
    (fun a ha => by
      rw [reducer_eq]; dsimp only
      rcases ha with ha | ⟨ha, ha2⟩
      · rw [if_neg ha.not_gt, if_neg]
        rintro (q | ⟨q, -⟩)
        · exact ha.not_gt q
        · exact ha.ne q
      · rw [ha, if_neg (lt_irrefl _), if_neg]
        rintro (q | ⟨-, q⟩)
        · exact lt_irrefl _ q
        · rw [hint] at q; omega)
    (fun a ha => by
      rw [reducer_eq]; dsimp only
      rcases ha with ha | ⟨ha, ha2⟩
      · rw [if_pos ha, if_pos (.inl ha)]
      · rw [ha, if_neg (lt_irrefl _)]
        by_cases q : (BitVec.ofNat 32 p.val).toInt < a.2.toInt
        · rw [if_pos (.inr ⟨rfl, q⟩)]
        · rw [if_neg (by rintro (r | ⟨-, r⟩); exacts [lt_irrefl _ r, q r])]
          have : a.2.toInt = (BitVec.ofNat 32 p.val).toInt := by rw [hint] at q ⊢; omega
          rw [BitVec.toInt_inj.mp this])
    (Host.argReduceFiber x (iotaInDim ⟨3, ![n0, n1, n2]⟩ 32 2) h (ix2 b c))
    (fun a ha => by
      obtain ⟨n, hn1, rfl⟩ := List.mem_map.mp ha
      have := (List.mem_filter.mp hn1).2
      obtain ⟨l, hl⟩ := (hmem _).mp (of_decide_eq_true this)
      rw [← hl]
      have e : (iotaInDim ⟨3, ![n0, n1, n2]⟩ 32 2 : IVec _ 32) (ix3 b c l) = BitVec.ofNat 32 l.val := rfl
      dsimp only
      rw [e, hint]
      rcases (pickFin_max hn f l).lt_or_eq with q | q
      · exact .inl q
      · exact .inr ⟨q, by exact_mod_cast pickFin_first hn f l q⟩)
    (by
      refine List.mem_map.mpr ⟨(⟨3, ![n0, n1, n2]⟩ : Shape).rowMajor (ix3 b c p), List.mem_filter.mpr ⟨List.mem_finRange _, ?_⟩, ?_⟩
      · rw [Equiv.symm_apply_apply]; exact decide_eq_true ((hmem _).mpr ⟨p, rfl⟩)
      · rw [Equiv.symm_apply_apply]; rfl)
    (constant (F := Ideal) S_ .f32 0xFF800000#32 (Shape.Idx.first h_S_), constantI S_ 32 0#32 (Shape.Idx.first h_S_))
    (by
      have e : (constant (F := Ideal) S_ .f32 0xFF800000#32 (Shape.Idx.first h_S_) : EReal) = ⊥ := lit_bot
      dsimp only
      rw [e]
      rcases (bot_le (a := f p)).lt_or_eq with q | q
      · exact .inl q
      · refine .inr ⟨q, ?_⟩
        have : p.val ≤ 0 := pickFin_first hn f ⟨0, hn⟩ (le_antisymm (pickFin_max hn f _) (q.symm.trans_le bot_le))
        have e0 : (constantI S_ 32 0#32 (Shape.Idx.first h_S_)).toInt = 0 := rfl
        rw [e0]; omega)
  rw [key]

/-! ## Gathers -/

/-- A word that counts a place below `n` reads as that place, clamped. -/
theorem clamp_word {n i : ℕ} (hn : n < 2 ^ 31) (hi : i < n) : min (BitVec.ofNat 32 i).toInt.toNat (n - 1) = i := by
  rw [word_int (by omega)]; omega

section
variable {α : Type}

/-- Whole boxes at one place per image and class. -/
theorem gather_pick (x : S8x5000x4.Idx → α) (idx : IVec S8x21x1 32) (b : Fin 8) (c : Fin 21) (k : Fin 4) (i : Fin 5000)
    (h : idx (ix3 b c 0) = BitVec.ofNat 32 i.val) :
    Host.gather gather_S8x5000x4_S8x21x1_S8x21x4_2_1_0_0_1_2_114 x idx (ix3 b c k) = x (ix3 b i k) := by
  refine congrArg x (funext fun a => Fin.ext ?_)
  match a with
  | ⟨0, _⟩ => exact Nat.zero_add _
  | ⟨1, _⟩ =>
    have e : (gather_S8x5000x4_S8x21x1_S8x21x4_2_1_0_0_1_2_114.siIdx (ix3 b c k) ⟨0, by decide⟩) = ix3 b c 0 := by
      funext a; fin_cases a <;> rfl
    have : min (idx (ix3 b c 0)).toInt.toNat (5000 - 1) = i.val := by rw [h]; exact clamp_word (by omega) i.isLt
    rw [← e] at this
    exact this
  | ⟨2, _⟩ => exact Nat.zero_add _

/-- Whole boxes at 4200 places per image. -/
theorem gather_boxes (x : S8x5000x4.Idx → α) (idx : IVec S8x4200x1 32) (b : Fin 8) (l : Fin 4200) (k : Fin 4) (i : Fin 5000)
    (h : idx (ix3 b l 0) = BitVec.ofNat 32 i.val) :
    Host.gather gather_S8x5000x4_S8x4200x1_S8x4200x4_2_1_0_0_1_2_114 x idx (ix3 b l k) = x (ix3 b i k) := by
  refine congrArg x (funext fun a => Fin.ext ?_)
  match a with
  | ⟨0, _⟩ => exact Nat.zero_add _
  | ⟨1, _⟩ =>
    have e : (gather_S8x5000x4_S8x4200x1_S8x4200x4_2_1_0_0_1_2_114.siIdx (ix3 b l k) ⟨0, by decide⟩) = ix3 b l 0 := by
      funext a; fin_cases a <;> rfl
    have : min (idx (ix3 b l 0)).toInt.toNat (5000 - 1) = i.val := by rw [h]; exact clamp_word (by omega) i.isLt
    rw [← e] at this
    exact this
  | ⟨2, _⟩ => exact Nat.zero_add _

/-- The rows of the result boxes at 200 places per image. -/
theorem gather_rows (x : S8x4200x4.Idx → α) (idx : IVec S8x200x1 32) (b : Fin 8) (l : Fin 200) (k : Fin 4) (i : Fin 4200)
    (h : idx (ix3 b l 0) = BitVec.ofNat 32 i.val) :
    Host.gather gather_S8x4200x4_S8x200x1_S8x200x4_2_1_0_0_1_2_114 x idx (ix3 b l k) = x (ix3 b i k) := by
  refine congrArg x (funext fun a => Fin.ext ?_)
  match a with
  | ⟨0, _⟩ => exact Nat.zero_add _
  | ⟨1, _⟩ =>
    have e : (gather_S8x4200x4_S8x200x1_S8x200x4_2_1_0_0_1_2_114.siIdx (ix3 b l k) ⟨0, by decide⟩) = ix3 b l 0 := by
      funext a; fin_cases a <;> rfl
    have : min (idx (ix3 b l 0)).toInt.toNat (4200 - 1) = i.val := by rw [h]; exact clamp_word (by omega) i.isLt
    rw [← e] at this
    exact this
  | ⟨2, _⟩ => exact Nat.zero_add _

/-- One entry at 200 places per image. -/
theorem gather_entries (x : S8x4200.Idx → α) (idx : IVec S8x200x1 32) (b : Fin 8) (l : Fin 200) (i : Fin 4200)
    (h : idx (ix3 b l 0) = BitVec.ofNat 32 i.val) :
    Host.gather gather_S8x4200_S8x200x1_S8x200_n_1_0_0_1_2_11 x idx (ix2 b l) = x (ix2 b i) := by
  refine congrArg x (funext fun a => Fin.ext ?_)
  match a with
  | ⟨0, _⟩ => exact Nat.zero_add _
  | ⟨1, _⟩ =>
    have e : (gather_S8x4200_S8x200x1_S8x200_n_1_0_0_1_2_11.siIdx (ix2 b l) ⟨0, by decide⟩) = ix3 b l 0 := by
      funext a; fin_cases a <;> rfl
    have : min (idx (ix3 b l 0)).toInt.toNat (4200 - 1) = i.val := by rw [h]; exact clamp_word (by omega) i.isLt
    rw [← e] at this
    exact this

/-- One entry at 200 places per image and class. -/
theorem gather_scores (x : S8x21x5000.Idx → α) (idx : IVec S8x21x200x1 32) (b : Fin 8) (c : Fin 21) (l : Fin 200) (i : Fin 5000)
    (h : idx (ix4 b c l 0) = BitVec.ofNat 32 i.val) :
    Host.gather gather_S8x21x5000_S8x21x200x1_S8x21x200_n_2_01_01_2_3_111 x idx (ix3 b c l) = x (ix3 b c i) := by
  refine congrArg x (funext fun a => Fin.ext ?_)
  match a with
  | ⟨0, _⟩ => exact Nat.zero_add _
  | ⟨1, _⟩ => exact Nat.zero_add _
  | ⟨2, _⟩ =>
    have e : (gather_S8x21x5000_S8x21x200x1_S8x21x200_n_2_01_01_2_3_111.siIdx (ix3 b c l) ⟨0, by decide⟩) = ix4 b c l 0 := by
      funext a; fin_cases a <;> rfl
    have : min (idx (ix4 b c l 0)).toInt.toNat (5000 - 1) = i.val := by rw [h]; exact clamp_word (by omega) i.isLt
    rw [← e] at this
    exact this

end

end Cert.Proof.Ref

end
-- ==== Proof.Ref.Reads.lean ====
/-
  One trip of the reference's loop, stretch by stretch: what each stretch leaves in the buffers the next ones read.
-/
module

public import proofs.«01_k».proof.Proof.Ref.Loop
public import proofs.«01_k».proof.Proof.Ref.Pure
public import Idealize.ShloMosaic.Lib.Pointwise
public import Idealize.ShloMosaic.Lib.WordCmp

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

/-- The loop's boxes, live scores and picks, as arrays. -/
abbrev xBox : S8x5000x4.Idx → EReal := V (Proc.devRef .tc main_v74_0)
abbrev xLive : S8x21x5000.Idx → EReal := V (Proc.devRef .tc main_v74_2)
abbrev xPick : S200x8x21.Idx → BitVec 32 := V (Proc.devRef .tc main_v74_3)
/-- The place of the best live score, whether it is live, and its box. -/
abbrev xArg : S8x21.Idx → BitVec 32 := V (Proc.devRef .tc main_while0b_v104)
abbrev xOn : S8x21.Idx → BitVec 1 := V (Proc.devRef .tc main_while0b_v107)
abbrev xBest : S8x21x4.Idx → EReal := V (Proc.devRef .tc main_while0b_v109)
/-- What the best box suppresses, and the live scores without those. -/
abbrev xSup : S8x21x5000.Idx → BitVec 1 := V (Proc.devRef .tc main_while0b_v184)
abbrev xCut : S8x21x5000.Idx → EReal := V (Proc.devRef .tc main_while0b_v185)
abbrev xNext : S8x21x5000.Idx → EReal := V (Proc.devRef .tc main_while0b_v187)
abbrev xSet : S8x21.Idx → BitVec 32 := V (Proc.devRef .tc main_while0b_v188)

/-- The best place of a class. -/
abbrev bestOf (X : S8x21x5000.Idx → EReal) (b : Fin 8) (c : Fin 21) : Fin 5000 := pickFin (by omega) fun l => X (ix3 b c l)

/-- A box of an array of boxes. -/
abbrev quadAt (X : S8x5000x4.Idx → EReal) (b : Fin 8) (l : Fin 5000) : Quad := ⟨X (ix3 b l 0), X (ix3 b l 1), X (ix3 b l 2), X (ix3 b l 3)⟩

end Cert.Proof.Ref

end
-- ==== Proof.Ref.StartRead.lean ====
/-
  The reference's start scores, from the labels and the class that wins.
-/
module

public import proofs.«01_k».proof.Proof.Ref.Reads

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

/-- The labels, masked and start scores, and the winning class. -/
abbrev xLab : S8x5000x21.Idx → EReal := V (Proc.devRef .tc main_arg1)
abbrev xWin : S8x5000.Idx → BitVec 32 := V (Proc.devRef .tc main_v64)
abbrev xMask : S8x5000x21.Idx → EReal := V (Proc.devRef .tc main_v68)
abbrev xFlip : S8x21x5000.Idx → EReal := V (Proc.devRef .tc main_v69)
abbrev xStart : S8x21x5000.Idx → EReal := V (Proc.devRef .tc main_v72)

theorem masked_at (win : S8x5000.Idx → BitVec 32) (lab : Vec Ideal S8x5000x21 .f32) (b : Fin 8) (c : Fin 21) (l : Fin 5000) :
    (select (broadcastInDim S8x5000x21 ![0, 1, 2] bcast_S8x5000x1_S8x5000x21_0_1_2
        (cmpi .ne (broadcastInDim S8x5000x1 ![0, 1] bcast_S8x5000_S8x5000x1_0_1 win) (broadcastInDim S8x5000x1 ![] bcast_S_S8x5000x1 (constantI S_ 32 0#32))))
      lab (broadcastInDim S8x5000x21 ![] bcast_S_S8x5000x21 (id (constant (F := Ideal) S_ .f32 0x00000000#32))) (ix3 b l c) : EReal)
      = Scalar.select (IntOp.cmpi .ne (win (ix2 b l)) 0#32) (lab (ix3 b l c)) (0 : EReal) := by
  pointwise
  show Scalar.select _ _ (Ideal.ofBits .f32 0x00000000#32) = _
  rw [show Ideal.ofBits .f32 0x00000000#32 = 0 from by simp [Ideal.ofBits, Ideal.ieee]]

theorem masked_read (b : Fin 8) (c : Fin 21) (l : Fin 5000) :
    xMask (after hostOps0_3 (after hostOps0_2 V)) (ix3 b l c) = Scalar.select (IntOp.cmpi .ne (xWin V (ix2 b l)) 0#32) (xLab V (ix3 b l c)) (0 : EReal) := by
  unfold xMask
  after_reads_simp
  exact masked_at (xWin V) (xLab V) b c l

theorem flip_read (b : Fin 8) (c : Fin 21) (l : Fin 5000) : xFlip (after hostOps0_4 V) (ix3 b c l) = xMask V (ix3 b l c) := by
  unfold xFlip
  after_reads_simp
  pointwise

theorem start_at (mask : Vec Ideal S8x5000x21 .f32) (b : Fin 8) (c : Fin 21) (l : Fin 5000) :
    (select (cmpf .ogt (transpose S8x21x5000 [0, 2, 1] mask transposes_S8x5000x21_S8x21x5000_0_2_1)
        (broadcastInDim S8x21x5000 ![] bcast_S_S8x21x5000 (constant (F := Ideal) S_ .f32 0x3F000000#32)))
      (transpose S8x21x5000 [0, 2, 1] mask transposes_S8x5000x21_S8x21x5000_0_2_1)
      (broadcastInDim S8x21x5000 ![] bcast_S_S8x21x5000 (id (constant (F := Ideal) S_ .f32 0xFF800000#32))) (ix3 b c l) : EReal)
      = Scalar.select (BitVec.ofBool (decide (Ideal.ofBits .f32 0x3F000000#32 < (mask (ix3 b l c) : EReal)))) (mask (ix3 b l c)) (Ideal.ofBits .f32 0xFF800000#32) := by
  pointwise
  rfl

theorem start_read (b : Fin 8) (c : Fin 21) (l : Fin 5000) :
    xStart (after hostOps0_5 (after hostOps0_4 V)) (ix3 b c l)
      = Scalar.select (BitVec.ofBool (decide (Ideal.ofBits .f32 0x3F000000#32 < xMask V (ix3 b l c)))) (xMask V (ix3 b l c)) (⊥ : EReal) := by
  unfold xStart
  after_reads_simp
  rw [← lit_bot]
  exact start_at (xMask V) b c l

end Cert.Proof.Ref

end
-- ==== Proof.Ref.PostReads.lean ====
/-
  The reference after its loop, stretch by stretch: the picks' masks, boxes, scores and classes, laid out class by class.
-/
module

public import proofs.«01_k».proof.Proof.Ref.Reads
public import proofs.«01_k».proof.Proof.Ref.StartRead

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

/-- The class and the slot of a place among class and slot. -/
abbrev cls (l : Fin 4200) : Fin 21 := ⟨l.val / 200, by have := l.isLt; omega⟩
abbrev slot (l : Fin 4200) : Fin 200 := ⟨l.val % 200, by omega⟩

/-- The layout class by class. -/
theorem flat_at {α : Type} (x : S8x21x200.Idx → α) (b : Fin 8) (l : Fin 4200) :
    shapeCast S8x4200 x shapeCasts_S8x21x200_S8x4200 (ix2 b l) = x (ix3 b (cls l) (slot l)) := by
  pointwise

/-- A word in range is its own wrapped index. -/
theorem wrap_small {a : ℕ} (h : a < 2 ^ 31) (y : BitVec 32) :
    Scalar.select (IntOp.cmpi .slt (BitVec.ofNat 32 a) 0#32) y (BitVec.ofNat 32 a) = BitVec.ofNat 32 a := by
  have e0 : (0#32).toInt = 0 := rfl
  simp only [IntOp.cmpi, BitVec.slt_eq_decide]
  rw [e0, word_int (a := a) h, decide_eq_false (by omega)]
  rfl

theorem wrap_any {s : Shape} (w y : IVec s 32) (hb : S_.BroadcastsInDim s (![] : Fin 0 → Fin s.rank)) (i : s.Idx) {a : ℕ} (h : a < 2 ^ 31)
    (hw : w i = BitVec.ofNat 32 a) : select (cmpi .slt w (broadcastInDim s ![] hb (constantI S_ 32 0#32))) y w i = BitVec.ofNat 32 a := by
  show Scalar.select (IntOp.cmpi .slt (w i) 0#32) (y i) (w i) = _
  rw [hw]; exact wrap_small h _

variable (V : Valuation τ sig (Elt Ideal))

abbrev xDec : S8x5000x4.Idx → EReal := V (Proc.devRef .tc main_v63)
abbrev xTurn : S8x21x200.Idx → BitVec 32 := V (Proc.devRef .tc main_v75)
abbrev xOk : S8x4200.Idx → BitVec 1 := V (Proc.devRef .tc main_v78)
abbrev xClip : S8x21x200.Idx → BitVec 32 := V (Proc.devRef .tc main_v79)
abbrev xOkBox : S8x4200x1.Idx → BitVec 1 := V (Proc.devRef .tc main_v80)
abbrev xClipBox : S8x4200x1.Idx → BitVec 32 := V (Proc.devRef .tc main_v82)
abbrev xGot : S8x4200x4.Idx → EReal := V (Proc.devRef .tc main_v83)
abbrev xBoxes : S8x4200x4.Idx → EReal := V (Proc.devRef .tc main_v84)
abbrev xGotScore : S8x21x200.Idx → EReal := V (Proc.devRef .tc main_v85)
abbrev xScores : S8x4200.Idx → EReal := V (Proc.devRef .tc main_v87)
abbrev xClasses : S8x4200.Idx → EReal := V (Proc.devRef .tc main_v93)
abbrev xKeys : S8x4200.Idx → EReal := V (Proc.devRef .tc main_v94)

theorem turn_read (b : Fin 8) (c : Fin 21) (t : Fin 200) : xTurn (after hostOps0_7 V) (ix3 b c t) = xPick V (ix3 t b c) := by
  unfold xTurn
  after_reads_simp
  pointwise

theorem ok_read (b : Fin 8) (l : Fin 4200) : xOk (after hostOps0_7 V) (ix2 b l) = IntOp.cmpi .sge (xPick V (ix3 (slot l) b (cls l))) 0#32 := by
  unfold xOk
  after_reads_simp
  pointwise

theorem clip_read (hc : (V (Proc.devRef .tc main_c_10) : S_.Idx → BitVec 32) = fun _ => 0#32) (b : Fin 8) (c : Fin 21) (t : Fin 200) :
    xClip (after hostOps0_8 V) (ix3 b c t) = IntOp.maxsi 0#32 (xTurn V (ix3 b c t)) := by
  unfold xClip
  after_reads_simp
  rw [hc]
  rfl

theorem zero_read : (after hostOps0_7 V (Proc.devRef .tc main_c_10) : S_.Idx → BitVec 32) = fun _ => 0#32 := by
  after_reads_simp
  rfl

theorem okBox_read (b : Fin 8) (l : Fin 4200) (z : Fin 1) : xOkBox (after hostOps0_9 V) (ix3 b l z) = xOk V (ix2 b l) := by
  unfold xOkBox
  after_reads_simp
  pointwise

theorem clipBox_read (b : Fin 8) (l : Fin 4200) (z : Fin 1) : xClipBox (after hostOps0_9 V) (ix3 b l z) = xClip V (ix3 b (cls l) (slot l)) := by
  unfold xClipBox
  after_reads_simp
  pointwise

theorem wrap_box (w : S8x4200x1.Idx → BitVec 32) (b : Fin 8) (l : Fin 4200) (i : Fin 5000) (h : w (ix3 b l 0) = BitVec.ofNat 32 i.val) :
    select (cmpi .slt w (broadcastInDim S8x4200x1 ![] bcast_S_S8x4200x1 (constantI S_ 32 0#32)))
      (addi w (broadcastInDim S8x4200x1 ![] bcast_S_S8x4200x1 (constantI S_ 32 5000#32))) w (ix3 b l 0) = BitVec.ofNat 32 i.val :=
  wrap_any w _ bcast_S_S8x4200x1 _ (by have := i.isLt; omega) h

theorem got_read (b : Fin 8) (l : Fin 4200) (k : Fin 4) (i : Fin 5000) (h : xClipBox V (ix3 b l 0) = BitVec.ofNat 32 i.val) :
    xGot (after hostOps0_10 V) (ix3 b l k) = xDec V (ix3 b i k) := by
  unfold xGot
  after_reads_simp
  refine gather_boxes (xDec V) _ b l k i ?_
  exact wrap_box (xClipBox V) b l i h

theorem boxes_at (ok : S8x4200x1.Idx → BitVec 1) (x : Vec Ideal S8x4200x4 .f32) (b : Fin 8) (l : Fin 4200) (k : Fin 4) :
    (select (broadcastInDim S8x4200x4 ![0, 1, 2] bcast_S8x4200x1_S8x4200x4_0_1_2 ok) x
      (broadcastInDim S8x4200x4 ![] bcast_S_S8x4200x4 (id (constant (F := Ideal) S_ .f32 0x00000000#32))) (ix3 b l k) : EReal)
      = Scalar.select (ok (ix3 b l 0)) (x (ix3 b l k)) (0 : EReal) := by
  pointwise
  exact congrArg (Scalar.select _ _) Ideal.ofBits_zero_f32

theorem boxes_read (b : Fin 8) (l : Fin 4200) (k : Fin 4) :
    xBoxes (after hostOps0_12 (after hostOps0_11 V)) (ix3 b l k) = Scalar.select (xOkBox V (ix3 b l 0)) (xGot V (ix3 b l k)) (0 : EReal) := by
  unfold xBoxes
  after_reads_simp
  exact boxes_at (xOkBox V) (xGot V) b l k

theorem lift_at (w : S8x21x200.Idx → BitVec 32) (b : Fin 8) (c : Fin 21) (t : Fin 200) (z : Fin 1) :
    shapeCast S8x21x200x1 w shapeCasts_S8x21x200_S8x21x200x1 (ix4 b c t z) = w (ix3 b c t) := by
  pointwise

theorem wrap_score (w : S8x21x200.Idx → BitVec 32) (b : Fin 8) (c : Fin 21) (t : Fin 200) (i : Fin 5000) (h : w (ix3 b c t) = BitVec.ofNat 32 i.val) :
    select (cmpi .slt w (broadcastInDim S8x21x200 ![] bcast_S_S8x21x200 (constantI S_ 32 0#32)))
      (addi w (broadcastInDim S8x21x200 ![] bcast_S_S8x21x200 (constantI S_ 32 5000#32))) w (ix3 b c t) = BitVec.ofNat 32 i.val :=
  wrap_any w _ bcast_S_S8x21x200 _ (by have := i.isLt; omega) h

theorem gotScore_read (b : Fin 8) (c : Fin 21) (t : Fin 200) (i : Fin 5000) (h : xClip V (ix3 b c t) = BitVec.ofNat 32 i.val) :
    xGotScore (after hostOps0_13 V) (ix3 b c t) = xFlip V (ix3 b c i) := by
  unfold xGotScore
  after_reads_simp
  refine gather_scores (xFlip V) _ b c t i ?_
  exact Eq.trans (lift_at (select (cmpi .slt (xClip V) (broadcastInDim S8x21x200 ![] bcast_S_S8x21x200 (constantI S_ 32 0#32)))
    (addi (xClip V) (broadcastInDim S8x21x200 ![] bcast_S_S8x21x200 (constantI S_ 32 5000#32))) (xClip V)) b c t 0)
    (wrap_score (xClip V) b c t i h)

theorem scores_read (b : Fin 8) (l : Fin 4200) :
    xScores (after hostOps0_15 (after hostOps0_14 V)) (ix2 b l)
      = Scalar.select (xOk V (ix2 b l)) (xGotScore V (ix3 b (cls l) (slot l))) (0 : EReal) := by
  unfold xScores
  after_reads_simp
  exact Eq.trans (congrArg (fun y : EReal => Scalar.select (xOk V (ix2 b l)) y (Ideal.ofBits .f32 0x00000000#32)) (flat_at (xGotScore V) b l))
    (congrArg (Scalar.select _ _) Ideal.ofBits_zero_f32)

theorem classes_at (b : Fin 8) (l : Fin 4200) :
    shapeCast S8x4200 (broadcastInDim S8x21x200 ![1, 2] bcast_S21x1_S8x21x200_1_2 (broadcastInDim S21x1 ![0] bcast_S21_S21x1_0 (iotaInDim S21 32 0)))
      shapeCasts_S8x21x200_S8x4200 (ix2 b l) = BitVec.ofNat 32 (l.val / 200) := by
  pointwise

theorem classes_read (b : Fin 8) (l : Fin 4200) :
    xClasses (after hostOps0_18 (after hostOps0_17 (after hostOps0_16 V))) (ix2 b l)
      = FloatOps.sitofp (F := Ideal) .f32 (Scalar.select (xOk V (ix2 b l)) (BitVec.ofNat 32 (l.val / 200)) 0#32) := by
  unfold xClasses
  after_reads_simp
  exact congrArg (fun y : BitVec 32 => FloatOps.sitofp (F := Ideal) .f32 (Scalar.select (xOk V (ix2 b l)) y 0#32)) (classes_at b l)

theorem keys_read (hc : (V (Proc.devRef .tc main_cst_14) : S_.Idx → EReal) = fun _ => (-1 : EReal)) (b : Fin 8) (l : Fin 4200) :
    xKeys (after hostOps0_19 V) (ix2 b l) = Scalar.select (xOk V (ix2 b l)) (xScores V (ix2 b l)) (-1 : EReal) := by
  unfold xKeys
  after_reads_simp
  rw [hc]
  rfl

theorem neg_read : (after hostOps0_18 V (Proc.devRef .tc main_cst_14) : S_.Idx → EReal) = fun _ => (-1 : EReal) := by
  after_reads_simp
  funext i
  exact lit_neg_one

end Cert.Proof.Ref

end
-- ==== Proof.Ref.LastReads.lean ====
/-
  The reference's last stretches: the results gathered at the places the top scores come from.
-/
module

public import proofs.«01_k».proof.Proof.Ref.PostReads

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

abbrev xInd : S8x200.Idx → BitVec 32 := V (Proc.devRef .tc main_indices)
abbrev xOut : S8x200.Idx → BitVec 1 := V (Proc.devRef .tc main_v95)
abbrev xOutBox : S8x200x1.Idx → BitVec 1 := V (Proc.devRef .tc main_v96)
abbrev xIndBox : S8x200x1.Idx → BitVec 32 := V (Proc.devRef .tc main_v97)
abbrev xTopBox : S8x200x4.Idx → EReal := V (Proc.devRef .tc main_v98)
abbrev xRes1 : S8x200x4.Idx → EReal := V (Proc.devRef .tc main_v99)
abbrev xTopScore : S8x200.Idx → EReal := V (Proc.devRef .tc main_v100)
abbrev xRes2 : S8x200.Idx → EReal := V (Proc.devRef .tc main_v101)
abbrev xTopClass : S8x200.Idx → EReal := V (Proc.devRef .tc main_v102)
abbrev xRes3 : S8x200.Idx → EReal := V (Proc.devRef .tc main_v103)

theorem lift_ind (w : S8x200.Idx → BitVec 32) (b : Fin 8) (j : Fin 200) (z : Fin 1) :
    shapeCast S8x200x1 w shapeCasts_S8x200_S8x200x1 (ix3 b j z) = w (ix2 b j) := by
  pointwise

theorem wrap_ind (w : S8x200.Idx → BitVec 32) (b : Fin 8) (j : Fin 200) (i : Fin 4200) (h : w (ix2 b j) = BitVec.ofNat 32 i.val) :
    select (cmpi .slt w (broadcastInDim S8x200 ![] bcast_S_S8x200 (constantI S_ 32 0#32)))
      (addi w (broadcastInDim S8x200 ![] bcast_S_S8x200 (constantI S_ 32 4200#32))) w (ix2 b j) = BitVec.ofNat 32 i.val :=
  wrap_any w _ bcast_S_S8x200 _ (by have := i.isLt; omega) h

theorem wrap_indBox (w : S8x200x1.Idx → BitVec 32) (b : Fin 8) (j : Fin 200) (i : Fin 4200) (h : w (ix3 b j 0) = BitVec.ofNat 32 i.val) :
    select (cmpi .slt w (broadcastInDim S8x200x1 ![] bcast_S_S8x200x1 (constantI S_ 32 0#32)))
      (addi w (broadcastInDim S8x200x1 ![] bcast_S_S8x200x1 (constantI S_ 32 4200#32))) w (ix3 b j 0) = BitVec.ofNat 32 i.val :=
  wrap_any w _ bcast_S_S8x200x1 _ (by have := i.isLt; omega) h

theorem ind_at (w : S8x200.Idx → BitVec 32) (b : Fin 8) (j : Fin 200) (i : Fin 4200) (h : w (ix2 b j) = BitVec.ofNat 32 i.val) :
    shapeCast S8x200x1 (select (cmpi .slt w (broadcastInDim S8x200 ![] bcast_S_S8x200 (constantI S_ 32 0#32)))
      (addi w (broadcastInDim S8x200 ![] bcast_S_S8x200 (constantI S_ 32 4200#32))) w) shapeCasts_S8x200_S8x200x1 (ix3 b j 0) = BitVec.ofNat 32 i.val :=
  (lift_ind _ b j 0).trans (wrap_ind w b j i h)

theorem out_read (b : Fin 8) (j : Fin 200) (i : Fin 4200) (h : xInd V (ix2 b j) = BitVec.ofNat 32 i.val) :
    xOut (after hostOps0_21 V) (ix2 b j) = xOk V (ix2 b i) := by
  unfold xOut
  after_reads_simp
  refine gather_entries (xOk V) _ b j i ?_
  exact ind_at (xInd V) b j i h

theorem outBox_read (b : Fin 8) (j : Fin 200) (z : Fin 1) : xOutBox (after hostOps0_22 V) (ix3 b j z) = xOut V (ix2 b j) := by
  unfold xOutBox
  after_reads_simp
  pointwise

theorem indBox_read (b : Fin 8) (j : Fin 200) (z : Fin 1) : xIndBox (after hostOps0_22 V) (ix3 b j z) = xInd V (ix2 b j) := by
  unfold xIndBox
  after_reads_simp
  pointwise

theorem topBox_read (b : Fin 8) (j : Fin 200) (k : Fin 4) (i : Fin 4200) (h : xIndBox V (ix3 b j 0) = BitVec.ofNat 32 i.val) :
    xTopBox (after hostOps0_23 V) (ix3 b j k) = xBoxes V (ix3 b i k) := by
  unfold xTopBox
  after_reads_simp
  refine gather_rows (xBoxes V) _ b j k i ?_
  exact wrap_indBox (xIndBox V) b j i h

theorem res1_at (ok : S8x200x1.Idx → BitVec 1) (x : Vec Ideal S8x200x4 .f32) (b : Fin 8) (j : Fin 200) (k : Fin 4) :
    (select (broadcastInDim S8x200x4 ![0, 1, 2] bcast_S8x200x1_S8x200x4_0_1_2 ok) x
      (broadcastInDim S8x200x4 ![] bcast_S_S8x200x4 (id (constant (F := Ideal) S_ .f32 0x00000000#32))) (ix3 b j k) : EReal)
      = Scalar.select (ok (ix3 b j 0)) (x (ix3 b j k)) (0 : EReal) := by
  pointwise
  exact congrArg (Scalar.select _ _) Ideal.ofBits_zero_f32

theorem res1_read (b : Fin 8) (j : Fin 200) (k : Fin 4) :
    xRes1 (after hostOps0_25 (after hostOps0_24 V)) (ix3 b j k) = Scalar.select (xOutBox V (ix3 b j 0)) (xTopBox V (ix3 b j k)) (0 : EReal) := by
  unfold xRes1
  after_reads_simp
  exact res1_at (xOutBox V) (xTopBox V) b j k

theorem topScore_read (b : Fin 8) (j : Fin 200) (i : Fin 4200) (h : xInd V (ix2 b j) = BitVec.ofNat 32 i.val) :
    xTopScore (after hostOps0_26 V) (ix2 b j) = xScores V (ix2 b i) := by
  unfold xTopScore
  after_reads_simp
  refine gather_entries (xScores V) _ b j i ?_
  exact ind_at (xInd V) b j i h

theorem res2_read (b : Fin 8) (j : Fin 200) :
    xRes2 (after hostOps0_28 (after hostOps0_27 V)) (ix2 b j) = Scalar.select (xOut V (ix2 b j)) (xTopScore V (ix2 b j)) (0 : EReal) := by
  unfold xRes2
  after_reads_simp
  exact congrArg (Scalar.select _ _) Ideal.ofBits_zero_f32

theorem topClass_read (b : Fin 8) (j : Fin 200) (i : Fin 4200) (h : xInd V (ix2 b j) = BitVec.ofNat 32 i.val) :
    xTopClass (after hostOps0_29 V) (ix2 b j) = xClasses V (ix2 b i) := by
  unfold xTopClass
  after_reads_simp
  refine gather_entries (xClasses V) _ b j i ?_
  exact ind_at (xInd V) b j i h

theorem res3_read (b : Fin 8) (j : Fin 200) :
    xRes3 (after hostOps0_31 (after hostOps0_30 V)) (ix2 b j) = Scalar.select (xOut V (ix2 b j)) (xTopClass V (ix2 b j)) (0 : EReal) := by
  unfold xRes3
  after_reads_simp
  exact congrArg (Scalar.select _ _) Ideal.ofBits_zero_f32

end Cert.Proof.Ref

end
-- ==== Proof.Ref.TopK.lean ====
/-
  The reference's top scores: a stable sort of the keys lists the places that repeated extraction picks.
-/
module

public import proofs.«01_k».proof.Proof.Ref.LastReads
public import Idealize.ShloMosaic.Lib.SortFacts

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

section
variable {n : ℕ} {K : Fin n → EReal} {before : Fin n → Fin n → Bool} (hb : ∀ k k', before k k' = true ↔ K k' < K k)
include hb

/-- Inserting a place before a listing of later places keeps it ordered by falling key, equal keys by rising place. -/
theorem insert_ordered (a : Fin n) (l : List (Fin n)) (ha : ∀ x ∈ l, a < x) (hl : l.Pairwise fun a b => K b < K a ∨ (K b = K a ∧ a < b)) :
    (insertBefore before a l).Pairwise fun a b => K b < K a ∨ (K b = K a ∧ a < b) := by
  induction l with
  | nil => exact List.pairwise_singleton _ _
  | cons b l ih =>
    rw [List.pairwise_cons] at hl
    unfold insertBefore
    split
    · rename_i h
      refine List.pairwise_cons.mpr ⟨fun c hc => ?_, ih (fun x hx => ha x (List.mem_cons_of_mem _ hx)) hl.2⟩
      rcases List.mem_cons.mp ((perm_insertBefore before a l).mem_iff.mp hc) with rfl | hc'
      · exact .inl ((hb b c).mp h)
      · exact hl.1 c hc'
    · rename_i h
      have hab : K b ≤ K a := not_lt.mp fun h' => h ((hb b a).mpr h')
      refine List.pairwise_cons.mpr ⟨fun c hc => ?_, List.pairwise_cons.mpr hl⟩
      have hcb : K c ≤ K b := by
        rcases List.mem_cons.mp hc with rfl | hc'
        · exact le_refl _
        · rcases hl.1 c hc' with h1 | h1
          · exact h1.le
          · exact h1.1.le
      rcases lt_or_eq_of_le (hcb.trans hab) with h1 | h1
      · exact .inl h1
      · exact .inr ⟨h1, ha c hc⟩

theorem sort_ordered (l : List (Fin n)) (hl : l.Pairwise (· < ·)) :
    (stableSort before l).Pairwise fun a b => K b < K a ∨ (K b = K a ∧ a < b) := by
  induction l with
  | nil => exact List.Pairwise.nil
  | cons a l ih =>
    rw [List.pairwise_cons] at hl
    unfold stableSort
    exact insert_ordered hb a _ (fun x hx => hl.1 x ((perm_stableSort before l).mem_iff.mp hx)) (ih hl.2)

/-- The sorted places, in order. -/
theorem sortedFrom_ordered (i j : Fin n) (hij : i < j) :
    K (sortedFrom before j) < K (sortedFrom before i) ∨ (K (sortedFrom before j) = K (sortedFrom before i) ∧ sortedFrom before i < sortedFrom before j) := by
  have hp := List.pairwise_iff_get.mp (sort_ordered hb (List.finRange n) (List.pairwise_lt_finRange n))
  unfold sortedFrom
  exact hp _ _ (Fin.lt_def.mpr (Fin.lt_def.mp hij))

end

/-- Repeated extraction picks the sorted places. -/
theorem sorted_pick {n : ℕ} (hn : 0 < n) {Kf : ℕ → EReal} (hK : Ends n Kf) (hlow : ∀ i, i < n → -2 < Kf i)
    {before : Fin n → Fin n → Bool} (hb : ∀ k k', before k k' = true ↔ Kf k'.val < Kf k.val) (j : Fin n) :
    (sortedFrom before j).val = pick (exts Kf j.val) := by
  have h := (pick_exts_listing hn hK hlow (fun a => if h : a < n then (sortedFrom before ⟨a, h⟩).val else a)
    (fun a ha => by simp only [dif_pos ha]; exact Fin.isLt _)
    (fun i hi => by
      obtain ⟨a, ha⟩ := sortedFrom_surjective before ⟨i, hi⟩
      refine ⟨a.val, a.isLt, ?_⟩
      simp only [dif_pos a.isLt, ha])
    (fun a b hab hbn => by
      have := sortedFrom_ordered (K := fun k => Kf k.val) hb ⟨a, by omega⟩ ⟨b, hbn⟩ hab
      simp only [dif_pos hbn, dif_pos (show a < n by omega)]
      exact this) j.val j.isLt).1
  rw [h, dif_pos j.isLt]

/-- The places of the top keys. -/
theorem topK_place (x : Vec Ideal S8x4200 .f32) (b : Fin 8) (j : Fin 200) {Kf : ℕ → EReal} (hK : Ends 4200 Kf) (hlow : ∀ i, i < 4200 → -2 < Kf i)
    (hx : ∀ l : Fin 4200, x (ix2 b l) = Kf l.val) :
    (Host.topK S8x200 1 (FloatOps.cmpfTotal (F := Ideal) (φ := .f32) .gt) x sliceFits_S8x4200_S8x200).2 (ix2 b j) = BitVec.ofNat 32 (pick (exts Kf j.val)) := by
  have hb : ∀ k k' : Fin 4200, (FloatOps.cmpfTotal (F := Ideal) (φ := .f32) .gt (x (ix2 b k)) (x (ix2 b k')) == 1#1) = true ↔ Kf k'.val < Kf k.val := fun k k' => by
    rw [hx k, hx k']
    show (BitVec.ofBool (decide (Kf k'.val < Kf k.val)) == 1#1) = true ↔ _
    by_cases h : Kf k'.val < Kf k.val <;> simp [h]
  have e := sorted_pick (by omega) hK hlow hb ⟨j.val, by have := j.isLt; omega⟩
  rw [← e]
  unfold Host.topK Host.sort2
  pointwise
  have ea : ∀ k : Fin 4200, ((ix2 b ⟨j.val, by have := j.isLt; omega⟩ : S8x4200.Idx).along 1 k) = ix2 b k := fun k => by
    funext a
    fin_cases a <;> rfl
  simp only [ea]
  rfl

theorem ind_read (b : Fin 8) (j : Fin 200) {Kf : ℕ → EReal} (hK : Ends 4200 Kf) (hlow : ∀ i, i < 4200 → -2 < Kf i)
    (V : Valuation τ sig (Elt Ideal)) (hx : ∀ l : Fin 4200, xKeys V (ix2 b l) = Kf l.val) :
    xInd (after hostOps0_20 V) (ix2 b j) = BitVec.ofNat 32 (pick (exts Kf j.val)) := by
  unfold xInd
  after_reads_simp
  exact topK_place (xKeys V) b j hK hlow hx

end Cert.Proof.Ref

end
-- ==== Proof.Ref.PostPass.lean ====
/-
  The stretches after the loop, one after another, and what each passes on.
-/
module

public import proofs.«01_k».proof.Proof.Ref.TopK

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

/-- The buffers after each stretch that follows the loop. -/
def U7 : Valuation τ sig (Elt Ideal) := after hostOps0_7 V
def U8 : Valuation τ sig (Elt Ideal) := after hostOps0_8 (U7 V)
def U9 : Valuation τ sig (Elt Ideal) := after hostOps0_9 (U8 V)
def U10 : Valuation τ sig (Elt Ideal) := after hostOps0_10 (U9 V)
def U11 : Valuation τ sig (Elt Ideal) := after hostOps0_11 (U10 V)
def U12 : Valuation τ sig (Elt Ideal) := after hostOps0_12 (U11 V)
def U13 : Valuation τ sig (Elt Ideal) := after hostOps0_13 (U12 V)
def U14 : Valuation τ sig (Elt Ideal) := after hostOps0_14 (U13 V)
def U15 : Valuation τ sig (Elt Ideal) := after hostOps0_15 (U14 V)
def U16 : Valuation τ sig (Elt Ideal) := after hostOps0_16 (U15 V)
def U17 : Valuation τ sig (Elt Ideal) := after hostOps0_17 (U16 V)
def U18 : Valuation τ sig (Elt Ideal) := after hostOps0_18 (U17 V)
def U19 : Valuation τ sig (Elt Ideal) := after hostOps0_19 (U18 V)
def U20 : Valuation τ sig (Elt Ideal) := after hostOps0_20 (U19 V)
def U21 : Valuation τ sig (Elt Ideal) := after hostOps0_21 (U20 V)
def U22 : Valuation τ sig (Elt Ideal) := after hostOps0_22 (U21 V)
def U23 : Valuation τ sig (Elt Ideal) := after hostOps0_23 (U22 V)
def U24 : Valuation τ sig (Elt Ideal) := after hostOps0_24 (U23 V)
def U25 : Valuation τ sig (Elt Ideal) := after hostOps0_25 (U24 V)
def U26 : Valuation τ sig (Elt Ideal) := after hostOps0_26 (U25 V)
def U27 : Valuation τ sig (Elt Ideal) := after hostOps0_27 (U26 V)
def U28 : Valuation τ sig (Elt Ideal) := after hostOps0_28 (U27 V)
def U29 : Valuation τ sig (Elt Ideal) := after hostOps0_29 (U28 V)
def U30 : Valuation τ sig (Elt Ideal) := after hostOps0_30 (U29 V)
def U31 : Valuation τ sig (Elt Ideal) := after hostOps0_31 (U30 V)

/-- The whole of them. -/
theorem post_eq : afterL postI V = U31 V := rfl

/-- What each stretch writes; the rest it passes on. -/
abbrev W7 : List (Ref sig .tc) := [main_v75, main_c_9, main_v76, main_v77, main_v78, main_c_10]
theorem p7 {b : Ref sig .tc} (h : b ∉ W7) : U7 V (Proc.devRef .tc b) = V (Proc.devRef .tc b) :=
  after_of_writes_sub hostOps0_7 _ (W := W7) (StableHlo.forall_writes_sub_of_map rfl) h
abbrev W8 : List (Ref sig .tc) := [main_call9_v0, main_call9_v1, main_v79]
theorem p8 {b : Ref sig .tc} (h : b ∉ W8) : U8 V (Proc.devRef .tc b) = U7 V (Proc.devRef .tc b) :=
  after_of_writes_sub hostOps0_8 _ (W := W8) (StableHlo.forall_writes_sub_of_map rfl) h
abbrev W9 : List (Ref sig .tc) := [main_v80, main_v81, main_v82]
theorem p9 {b : Ref sig .tc} (h : b ∉ W9) : U9 V (Proc.devRef .tc b) = U8 V (Proc.devRef .tc b) :=
  after_of_writes_sub hostOps0_9 _ (W := W9) (StableHlo.forall_writes_sub_of_map rfl) h
abbrev W10 : List (Ref sig .tc) := [main_call10_c, main_call10_v0, main_call10_v1, main_call10_c_0, main_call10_v2, main_call10_v3, main_call10_v4, main_v83]
theorem p10 {b : Ref sig .tc} (h : b ∉ W10) : U10 V (Proc.devRef .tc b) = U9 V (Proc.devRef .tc b) :=
  after_of_writes_sub hostOps0_10 _ (W := W10) (StableHlo.forall_writes_sub_of_map rfl) h
abbrev W11 : List (Ref sig .tc) := [main_cst_11]
theorem p11 {b : Ref sig .tc} (h : b ∉ W11) : U11 V (Proc.devRef .tc b) = U10 V (Proc.devRef .tc b) :=
  after_of_writes_sub hostOps0_11 _ (W := W11) (StableHlo.forall_writes_sub_of_map rfl) h
abbrev W12 : List (Ref sig .tc) := [main_call11_v0, main_call11_v1, main_call11_v2, main_v84]
theorem p12 {b : Ref sig .tc} (h : b ∉ W12) : U12 V (Proc.devRef .tc b) = U11 V (Proc.devRef .tc b) :=
  after_of_writes_sub hostOps0_12 _ (W := W12) (StableHlo.forall_writes_sub_of_map rfl) h
abbrev W13 : List (Ref sig .tc) := [main_call12_c, main_call12_v0, main_call12_v1, main_call12_c_0, main_call12_v2, main_call12_v3, main_call12_v4, main_call12_v5, main_v85]
theorem p13 {b : Ref sig .tc} (h : b ∉ W13) : U13 V (Proc.devRef .tc b) = U12 V (Proc.devRef .tc b) :=
  after_of_writes_sub hostOps0_13 _ (W := W13) (StableHlo.forall_writes_sub_of_map rfl) h
abbrev W14 : List (Ref sig .tc) := [main_v86, main_cst_12]
theorem p14 {b : Ref sig .tc} (h : b ∉ W14) : U14 V (Proc.devRef .tc b) = U13 V (Proc.devRef .tc b) :=
  after_of_writes_sub hostOps0_14 _ (W := W14) (StableHlo.forall_writes_sub_of_map rfl) h
abbrev W15 : List (Ref sig .tc) := [main_call13_v0, main_call13_v1, main_v87]
theorem p15 {b : Ref sig .tc} (h : b ∉ W15) : U15 V (Proc.devRef .tc b) = U14 V (Proc.devRef .tc b) :=
  after_of_writes_sub hostOps0_15 _ (W := W15) (StableHlo.forall_writes_sub_of_map rfl) h
abbrev W16 : List (Ref sig .tc) := [main_v88, main_v89, main_v90, main_v91, main_c_13]
theorem p16 {b : Ref sig .tc} (h : b ∉ W16) : U16 V (Proc.devRef .tc b) = U15 V (Proc.devRef .tc b) :=
  after_of_writes_sub hostOps0_16 _ (W := W16) (StableHlo.forall_writes_sub_of_map rfl) h
abbrev W17 : List (Ref sig .tc) := [main_call14_v0, main_call14_v1, main_v92]
theorem p17 {b : Ref sig .tc} (h : b ∉ W17) : U17 V (Proc.devRef .tc b) = U16 V (Proc.devRef .tc b) :=
  after_of_writes_sub hostOps0_17 _ (W := W17) (StableHlo.forall_writes_sub_of_map rfl) h
abbrev W18 : List (Ref sig .tc) := [main_v93, main_cst_14]
theorem p18 {b : Ref sig .tc} (h : b ∉ W18) : U18 V (Proc.devRef .tc b) = U17 V (Proc.devRef .tc b) :=
  after_of_writes_sub hostOps0_18 _ (W := W18) (StableHlo.forall_writes_sub_of_map rfl) h
abbrev W19 : List (Ref sig .tc) := [main_call15_v0, main_call15_v1, main_v94]
theorem p19 {b : Ref sig .tc} (h : b ∉ W19) : U19 V (Proc.devRef .tc b) = U18 V (Proc.devRef .tc b) :=
  after_of_writes_sub hostOps0_19 _ (W := W19) (StableHlo.forall_writes_sub_of_map rfl) h
abbrev W20 : List (Ref sig .tc) := [main_values, main_indices]
theorem p20 {b : Ref sig .tc} (h : b ∉ W20) : U20 V (Proc.devRef .tc b) = U19 V (Proc.devRef .tc b) :=
  after_of_writes_sub hostOps0_20 _ (W := W20) (StableHlo.forall_writes_sub_of_map rfl) h
abbrev W21 : List (Ref sig .tc) := [main_call16_c, main_call16_v0, main_call16_v1, main_call16_c_0, main_call16_v2, main_call16_v3, main_call16_v4, main_call16_v5, main_v95]
theorem p21 {b : Ref sig .tc} (h : b ∉ W21) : U21 V (Proc.devRef .tc b) = U20 V (Proc.devRef .tc b) :=
  after_of_writes_sub hostOps0_21 _ (W := W21) (StableHlo.forall_writes_sub_of_map rfl) h
abbrev W22 : List (Ref sig .tc) := [main_v96, main_v97]
theorem p22 {b : Ref sig .tc} (h : b ∉ W22) : U22 V (Proc.devRef .tc b) = U21 V (Proc.devRef .tc b) :=
  after_of_writes_sub hostOps0_22 _ (W := W22) (StableHlo.forall_writes_sub_of_map rfl) h
abbrev W23 : List (Ref sig .tc) := [main_call17_c, main_call17_v0, main_call17_v1, main_call17_c_0, main_call17_v2, main_call17_v3, main_call17_v4, main_v98]
theorem p23 {b : Ref sig .tc} (h : b ∉ W23) : U23 V (Proc.devRef .tc b) = U22 V (Proc.devRef .tc b) :=
  after_of_writes_sub hostOps0_23 _ (W := W23) (StableHlo.forall_writes_sub_of_map rfl) h
abbrev W24 : List (Ref sig .tc) := [main_cst_15]
theorem p24 {b : Ref sig .tc} (h : b ∉ W24) : U24 V (Proc.devRef .tc b) = U23 V (Proc.devRef .tc b) :=
  after_of_writes_sub hostOps0_24 _ (W := W24) (StableHlo.forall_writes_sub_of_map rfl) h
abbrev W25 : List (Ref sig .tc) := [main_call18_v0, main_call18_v1, main_call18_v2, main_v99]
theorem p25 {b : Ref sig .tc} (h : b ∉ W25) : U25 V (Proc.devRef .tc b) = U24 V (Proc.devRef .tc b) :=
  after_of_writes_sub hostOps0_25 _ (W := W25) (StableHlo.forall_writes_sub_of_map rfl) h
abbrev W26 : List (Ref sig .tc) := [main_call19_c, main_call19_v0, main_call19_v1, main_call19_c_0, main_call19_v2, main_call19_v3, main_call19_v4, main_call19_v5, main_v100]
theorem p26 {b : Ref sig .tc} (h : b ∉ W26) : U26 V (Proc.devRef .tc b) = U25 V (Proc.devRef .tc b) :=
  after_of_writes_sub hostOps0_26 _ (W := W26) (StableHlo.forall_writes_sub_of_map rfl) h
abbrev W27 : List (Ref sig .tc) := [main_cst_16]
theorem p27 {b : Ref sig .tc} (h : b ∉ W27) : U27 V (Proc.devRef .tc b) = U26 V (Proc.devRef .tc b) :=
  after_of_writes_sub hostOps0_27 _ (W := W27) (StableHlo.forall_writes_sub_of_map rfl) h
abbrev W28 : List (Ref sig .tc) := [main_call20_v0, main_call20_v1, main_v101]
theorem p28 {b : Ref sig .tc} (h : b ∉ W28) : U28 V (Proc.devRef .tc b) = U27 V (Proc.devRef .tc b) :=
  after_of_writes_sub hostOps0_28 _ (W := W28) (StableHlo.forall_writes_sub_of_map rfl) h
abbrev W29 : List (Ref sig .tc) := [main_call21_c, main_call21_v0, main_call21_v1, main_call21_c_0, main_call21_v2, main_call21_v3, main_call21_v4, main_call21_v5, main_v102]
theorem p29 {b : Ref sig .tc} (h : b ∉ W29) : U29 V (Proc.devRef .tc b) = U28 V (Proc.devRef .tc b) :=
  after_of_writes_sub hostOps0_29 _ (W := W29) (StableHlo.forall_writes_sub_of_map rfl) h
abbrev W30 : List (Ref sig .tc) := [main_cst_17]
theorem p30 {b : Ref sig .tc} (h : b ∉ W30) : U30 V (Proc.devRef .tc b) = U29 V (Proc.devRef .tc b) :=
  after_of_writes_sub hostOps0_30 _ (W := W30) (StableHlo.forall_writes_sub_of_map rfl) h
abbrev W31 : List (Ref sig .tc) := [main_call22_v0, main_call22_v1, main_v103]
theorem p31 {b : Ref sig .tc} (h : b ∉ W31) : U31 V (Proc.devRef .tc b) = U30 V (Proc.devRef .tc b) :=
  after_of_writes_sub hostOps0_31 _ (W := W31) (StableHlo.forall_writes_sub_of_map rfl) h

/-- What the later stretches read, passed on. -/
theorem xDec_9 : xDec (U9 V) = xDec V :=
  (p9 V (b := main_v63) (by decide +kernel)).trans ((p8 V (b := main_v63) (by decide +kernel)).trans (p7 V (b := main_v63) (by decide +kernel)))
theorem xFlip_12 : xFlip (U12 V) = xFlip V :=
  (p12 V (b := main_v69) (by decide +kernel)).trans ((p11 V (b := main_v69) (by decide +kernel)).trans ((p10 V (b := main_v69) (by decide +kernel)).trans ((p9 V (b := main_v69) (by decide +kernel)).trans ((p8 V (b := main_v69) (by decide +kernel)).trans (p7 V (b := main_v69) (by decide +kernel))))))
theorem xOk_13 : xOk (U13 V) = xOk (U7 V) :=
  (p13 V (b := main_v78) (by decide +kernel)).trans ((p12 V (b := main_v78) (by decide +kernel)).trans ((p11 V (b := main_v78) (by decide +kernel)).trans ((p10 V (b := main_v78) (by decide +kernel)).trans ((p9 V (b := main_v78) (by decide +kernel)).trans (p8 V (b := main_v78) (by decide +kernel))))))
theorem xOk_15 : xOk (U15 V) = xOk (U7 V) :=
  (p15 V (b := main_v78) (by decide +kernel)).trans ((p14 V (b := main_v78) (by decide +kernel)).trans ((p13 V (b := main_v78) (by decide +kernel)).trans ((p12 V (b := main_v78) (by decide +kernel)).trans ((p11 V (b := main_v78) (by decide +kernel)).trans ((p10 V (b := main_v78) (by decide +kernel)).trans ((p9 V (b := main_v78) (by decide +kernel)).trans (p8 V (b := main_v78) (by decide +kernel))))))))
theorem xOk_18 : xOk (U18 V) = xOk (U7 V) :=
  (p18 V (b := main_v78) (by decide +kernel)).trans ((p17 V (b := main_v78) (by decide +kernel)).trans ((p16 V (b := main_v78) (by decide +kernel)).trans ((p15 V (b := main_v78) (by decide +kernel)).trans ((p14 V (b := main_v78) (by decide +kernel)).trans ((p13 V (b := main_v78) (by decide +kernel)).trans ((p12 V (b := main_v78) (by decide +kernel)).trans ((p11 V (b := main_v78) (by decide +kernel)).trans ((p10 V (b := main_v78) (by decide +kernel)).trans ((p9 V (b := main_v78) (by decide +kernel)).trans (p8 V (b := main_v78) (by decide +kernel)))))))))))
theorem xOk_20 : xOk (U20 V) = xOk (U7 V) :=
  (p20 V (b := main_v78) (by decide +kernel)).trans ((p19 V (b := main_v78) (by decide +kernel)).trans ((p18 V (b := main_v78) (by decide +kernel)).trans ((p17 V (b := main_v78) (by decide +kernel)).trans ((p16 V (b := main_v78) (by decide +kernel)).trans ((p15 V (b := main_v78) (by decide +kernel)).trans ((p14 V (b := main_v78) (by decide +kernel)).trans ((p13 V (b := main_v78) (by decide +kernel)).trans ((p12 V (b := main_v78) (by decide +kernel)).trans ((p11 V (b := main_v78) (by decide +kernel)).trans ((p10 V (b := main_v78) (by decide +kernel)).trans ((p9 V (b := main_v78) (by decide +kernel)).trans (p8 V (b := main_v78) (by decide +kernel)))))))))))))
theorem xClip_12 : xClip (U12 V) = xClip (U8 V) :=
  (p12 V (b := main_v79) (by decide +kernel)).trans ((p11 V (b := main_v79) (by decide +kernel)).trans ((p10 V (b := main_v79) (by decide +kernel)).trans (p9 V (b := main_v79) (by decide +kernel))))
theorem xOkBox_10 : xOkBox (U10 V) = xOkBox (U9 V) :=
  p10 V (b := main_v80) (by decide +kernel)
theorem xScores_18 : xScores (U18 V) = xScores (U15 V) :=
  (p18 V (b := main_v87) (by decide +kernel)).trans ((p17 V (b := main_v87) (by decide +kernel)).trans (p16 V (b := main_v87) (by decide +kernel)))
theorem xScores_25 : xScores (U25 V) = xScores (U15 V) :=
  (p25 V (b := main_v87) (by decide +kernel)).trans ((p24 V (b := main_v87) (by decide +kernel)).trans ((p23 V (b := main_v87) (by decide +kernel)).trans ((p22 V (b := main_v87) (by decide +kernel)).trans ((p21 V (b := main_v87) (by decide +kernel)).trans ((p20 V (b := main_v87) (by decide +kernel)).trans ((p19 V (b := main_v87) (by decide +kernel)).trans ((p18 V (b := main_v87) (by decide +kernel)).trans ((p17 V (b := main_v87) (by decide +kernel)).trans (p16 V (b := main_v87) (by decide +kernel))))))))))
theorem xBoxes_22 : xBoxes (U22 V) = xBoxes (U12 V) :=
  (p22 V (b := main_v84) (by decide +kernel)).trans ((p21 V (b := main_v84) (by decide +kernel)).trans ((p20 V (b := main_v84) (by decide +kernel)).trans ((p19 V (b := main_v84) (by decide +kernel)).trans ((p18 V (b := main_v84) (by decide +kernel)).trans ((p17 V (b := main_v84) (by decide +kernel)).trans ((p16 V (b := main_v84) (by decide +kernel)).trans ((p15 V (b := main_v84) (by decide +kernel)).trans ((p14 V (b := main_v84) (by decide +kernel)).trans (p13 V (b := main_v84) (by decide +kernel))))))))))
theorem xInd_25 : xInd (U25 V) = xInd (U20 V) :=
  (p25 V (b := main_indices) (by decide +kernel)).trans ((p24 V (b := main_indices) (by decide +kernel)).trans ((p23 V (b := main_indices) (by decide +kernel)).trans ((p22 V (b := main_indices) (by decide +kernel)).trans (p21 V (b := main_indices) (by decide +kernel)))))
theorem xInd_28 : xInd (U28 V) = xInd (U20 V) :=
  (p28 V (b := main_indices) (by decide +kernel)).trans ((p27 V (b := main_indices) (by decide +kernel)).trans ((p26 V (b := main_indices) (by decide +kernel)).trans ((p25 V (b := main_indices) (by decide +kernel)).trans ((p24 V (b := main_indices) (by decide +kernel)).trans ((p23 V (b := main_indices) (by decide +kernel)).trans ((p22 V (b := main_indices) (by decide +kernel)).trans (p21 V (b := main_indices) (by decide +kernel))))))))
theorem xOut_26 : xOut (U26 V) = xOut (U21 V) :=
  (p26 V (b := main_v95) (by decide +kernel)).trans ((p25 V (b := main_v95) (by decide +kernel)).trans ((p24 V (b := main_v95) (by decide +kernel)).trans ((p23 V (b := main_v95) (by decide +kernel)).trans (p22 V (b := main_v95) (by decide +kernel)))))
theorem xOut_29 : xOut (U29 V) = xOut (U21 V) :=
  (p29 V (b := main_v95) (by decide +kernel)).trans ((p28 V (b := main_v95) (by decide +kernel)).trans ((p27 V (b := main_v95) (by decide +kernel)).trans ((p26 V (b := main_v95) (by decide +kernel)).trans ((p25 V (b := main_v95) (by decide +kernel)).trans ((p24 V (b := main_v95) (by decide +kernel)).trans ((p23 V (b := main_v95) (by decide +kernel)).trans (p22 V (b := main_v95) (by decide +kernel))))))))
theorem xOutBox_23 : xOutBox (U23 V) = xOutBox (U22 V) :=
  p23 V (b := main_v96) (by decide +kernel)
theorem xClasses_28 : xClasses (U28 V) = xClasses (U18 V) :=
  (p28 V (b := main_v93) (by decide +kernel)).trans ((p27 V (b := main_v93) (by decide +kernel)).trans ((p26 V (b := main_v93) (by decide +kernel)).trans ((p25 V (b := main_v93) (by decide +kernel)).trans ((p24 V (b := main_v93) (by decide +kernel)).trans ((p23 V (b := main_v93) (by decide +kernel)).trans ((p22 V (b := main_v93) (by decide +kernel)).trans ((p21 V (b := main_v93) (by decide +kernel)).trans ((p20 V (b := main_v93) (by decide +kernel)).trans (p19 V (b := main_v93) (by decide +kernel))))))))))
theorem xRes1_31 : xRes1 (U31 V) = xRes1 (U25 V) :=
  (p31 V (b := main_v99) (by decide +kernel)).trans ((p30 V (b := main_v99) (by decide +kernel)).trans ((p29 V (b := main_v99) (by decide +kernel)).trans ((p28 V (b := main_v99) (by decide +kernel)).trans ((p27 V (b := main_v99) (by decide +kernel)).trans (p26 V (b := main_v99) (by decide +kernel))))))
theorem xRes2_31 : xRes2 (U31 V) = xRes2 (U28 V) :=
  (p31 V (b := main_v101) (by decide +kernel)).trans ((p30 V (b := main_v101) (by decide +kernel)).trans (p29 V (b := main_v101) (by decide +kernel)))
theorem xInd_21 : xInd (U21 V) = xInd (U20 V) :=
  p21 V (b := main_indices) (by decide +kernel)
theorem xOk_8 : xOk (U8 V) = xOk (U7 V) :=
  p8 V (b := main_v78) (by decide +kernel)

end Cert.Proof.Ref

end
-- ==== Proof.Ref.ReadBest.lean ====
/-
  The reference's trip, first part: the best live place of each class, and whether it is live.
-/
module

public import proofs.«01_k».proof.Proof.Ref.Reads
public import Idealize.ShloMosaic.Lib.Pointwise
public import Idealize.ShloMosaic.Lib.WordCmp

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

theorem read_arg (b : Fin 8) (c : Fin 21) : xArg (after while0Ops0 V) (ix2 b c) = BitVec.ofNat 32 (bestOf (xLive V) b c).val := by
  unfold xArg
  after_reads_simp
  exact argmax_apply (by omega) (by omega) (xLive V) reducesTo_S8x21x5000_S8x21_d2 b c

theorem read_on (b : Fin 8) (c : Fin 21) :
    xOn (after while0Ops0_1 V) (ix2 b c) = BitVec.ofBool (decide (⊥ < xLive V (ix3 b c (bestOf (xLive V) b c)))) := by
  unfold xOn
  after_reads_simp
  pointwise [lit_bot]
  rw [fold_max (fun l : Fin 5000 => xLive V (ix3 b c l)) (bestOf (xLive V) b c) (pickFin_max _ _)]

theorem read_word (b : Fin 8) (c : Fin 21) (z : Fin 1) :
    (after while0Ops0_1 V (Proc.devRef .tc main_while0b_v108) : S8x21x1.Idx → BitVec 32) (ix3 b c z) = xArg V (ix2 b c) := by
  after_reads_simp
  pointwise

end Cert.Proof.Ref

end
-- ==== Proof.Ref.ReadBox.lean ====
/-
  The reference's trip, second part: the box of the best live place of each class.
-/
module

public import proofs.«01_k».proof.Proof.Ref.Reads
public import Idealize.ShloMosaic.Lib.Pointwise
public import Idealize.ShloMosaic.Lib.WordCmp

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

theorem wrap_word {n i : ℕ} (h : i < 2 ^ 31) :
    Scalar.select (IntOp.cmpi .slt (BitVec.ofNat 32 i) 0#32) (IntOp.addi (BitVec.ofNat 32 i) (BitVec.ofNat 32 n)) (BitVec.ofNat 32 i) = BitVec.ofNat 32 i := by
  have e0 : (0#32).toInt = 0 := rfl
  simp only [IntOp.cmpi, BitVec.slt_eq_decide]
  rw [e0, word_int (a := i) h, decide_eq_false (by omega)]
  rfl

theorem wrap_at (w : S8x21x1.Idx → BitVec 32) (b : Fin 8) (c : Fin 21) (i : Fin 5000) (h : w (ix3 b c 0) = BitVec.ofNat 32 i.val) :
    select (cmpi .slt w (broadcastInDim S8x21x1 ![] bcast_S_S8x21x1 (constantI S_ 32 0#32)))
      (addi w (broadcastInDim S8x21x1 ![] bcast_S_S8x21x1 (constantI S_ 32 5000#32))) w (ix3 b c 0) = BitVec.ofNat 32 i.val := by
  pointwise [h]
  exact wrap_word (n := 5000) (by have := i.isLt; omega)

theorem read_best (b : Fin 8) (c : Fin 21) (k : Fin 4) (i : Fin 5000)
    (h : (V (Proc.devRef .tc main_while0b_v108) : S8x21x1.Idx → BitVec 32) (ix3 b c 0) = BitVec.ofNat 32 i.val) :
    xBest (after while0Ops0_2 V) (ix3 b c k) = xBox V (ix3 b i k) := by
  unfold xBest
  after_reads_simp
  refine gather_pick (xBox V) _ b c k i ?_
  exact wrap_at _ b c i h

end Cert.Proof.Ref

end
-- ==== Proof.Ref.Cut.lean ====
/-
  Which live scores the reference's trip cuts: those the best box suppresses, and its own.
-/
module

public import proofs.«01_k».proof.Proof.Ref.Loop
public import proofs.«01_k».proof.Proof.Ref.Reads
public import Idealize.ShloMosaic.Lib.Pointwise
public import Idealize.ShloMosaic.Lib.WordCmp

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

theorem or_bits (p q : Prop) [Decidable p] [Decidable q] [Decidable (p ∨ q)] :
    IntOp.ori (BitVec.ofBool (decide p)) (BitVec.ofBool (decide q)) = BitVec.ofBool (decide (p ∨ q)) := by
  by_cases hp : p <;> by_cases hq : q <;> simp [hp, hq, IntOp.ori]

set_option maxHeartbeats 4000000 in
theorem read_sup (b : Fin 8) (c : Fin 21) (l : Fin 5000) (i : Fin 5000) (hi : xArg V (ix2 b c) = BitVec.ofNat 32 i.val)
    (hq : ∀ k, xBest V (ix3 b c k) = xBox V (ix3 b i k)) [Decidable ((quadAt (xBox V) b i).over (quadAt (xBox V) b l) ∨ l = i)] :
    xSup (after while0Ops0_3 V) (ix3 b c l) = BitVec.ofBool (decide ((quadAt (xBox V) b i).over (quadAt (xBox V) b l) ∨ l = i)) := by
  unfold xSup
  after_reads_simp
  pointwise
  simp only [xBest, xBox] at hq
  simp only [xArg] at hi
  simp only [hq, hi, IntOp.cmpi]
  rw [word_beq (by have := l.isLt; omega) (by have := i.isLt; omega), or_bits]
  congr 1
  refine decide_eq_decide.mpr (or_congr Iff.rfl Fin.ext_iff.symm)

end Cert.Proof.Ref

end
-- ==== Proof.Ref.ReadNext.lean ====
/-
  The reference's trip, last part: what it carries to the next.
-/
module

public import proofs.«01_k».proof.Proof.Ref.Reads
public import Idealize.ShloMosaic.Lib.Pointwise
public import Idealize.ShloMosaic.Lib.WordCmp

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

theorem read_fill : (after while0Ops0_3 V (Proc.devRef .tc main_while0b_cst_27) : S_.Idx → EReal) = fun _ => (⊥ : EReal) := by
  after_reads_simp
  funext i
  exact lit_bot

theorem read_cut (hb : (V (Proc.devRef .tc main_while0b_cst_27) : S_.Idx → EReal) = fun _ => (⊥ : EReal)) (b : Fin 8) (c : Fin 21) (l : Fin 5000) :
    xCut (after while0Ops0_4 V) (ix3 b c l) = Scalar.select (xSup V (ix3 b c l)) ⊥ (xLive V (ix3 b c l)) := by
  unfold xCut
  after_reads_simp
  rw [hb]
  rfl

theorem next_at (on : S8x21.Idx → BitVec 1) (cut old : S8x21x5000.Idx → EReal) (b : Fin 8) (c : Fin 21) (l : Fin 5000) :
    select (broadcastInDim S8x21x5000 ![0, 1, 2] bcast_S8x21x1_S8x21x5000_0_1_2 (broadcastInDim S8x21x1 ![0, 1] bcast_S8x21_S8x21x1_0_1 on))
      cut old (ix3 b c l) = Scalar.select (on (ix2 b c)) (cut (ix3 b c l)) (old (ix3 b c l)) := by
  pointwise

theorem read_next (b : Fin 8) (c : Fin 21) (l : Fin 5000) :
    xNext (after while0Ops0_6 (after while0Ops0_5 V)) (ix3 b c l) = Scalar.select (xOn V (ix2 b c)) (xCut V (ix3 b c l)) (xLive V (ix3 b c l)) := by
  unfold xNext
  after_reads_simp
  exact next_at _ _ _ b c l

theorem read_set (b : Fin 8) (c : Fin 21) :
    xSet (after while0Ops0_8 (after while0Ops0_7 V)) (ix2 b c) = Scalar.select (xOn V (ix2 b c)) (xArg V (ix2 b c)) 4294967295#32 := by
  unfold xSet
  after_reads_simp
  rfl

/-- Writing one layer of an array of layers. -/
theorem layer_at (x : S200x8x21.Idx → BitVec 32) (u : S8x21.Idx → BitVec 32) (start : Fin 3 → ℤ) (t : ℕ) (ht : t < 200)
    (h : ∀ a, start a = ((![t, 0, 0] : Fin 3 → ℕ) a : ℤ)) (σ : Fin 200) (b : Fin 8) (c : Fin 21) :
    Host.dynamicUpdateSlice x (broadcastInDim S1x8x21 ![1, 2] bcast_S8x21_S1x8x21_1_2 u) start updateFits_S200x8x21_S1x8x21 (ix3 σ b c) =
      if σ.val = t then u (ix2 b c) else x (ix3 σ b c) := by
  have hk : S200x8x21.Slices (![t, 0, 0] : Fin 3 → ℕ) S1x8x21 := ⟨rfl, fun a => by
    match a with
    | ⟨0, _⟩ => show t + 1 ≤ 200; omega
    | ⟨1, _⟩ => exact le_refl _
    | ⟨2, _⟩ => exact le_refl _⟩
  rw [WordCmp.dynamicUpdateSlice_eq_update _ _ _ _ (![t, 0, 0] : Fin 3 → ℕ) hk h]
  pointwise
  by_cases e : σ.val = t
  · rw [if_pos e, dif_pos (by omega)]
  · rw [if_neg e, dif_neg (by omega)]

theorem read_picks (t : ℕ) (ht : t < 200) (hk : (V (Proc.devRef .tc main_v74_1) : S_.Idx → BitVec 32) = fun _ => BitVec.ofNat 32 t)
    (σ : Fin 200) (b : Fin 8) (c : Fin 21) :
    xPick (after while0Ops0_10 (after while0Ops0_9 V)) (ix3 σ b c) = if σ.val = t then xSet V (ix2 b c) else xPick V (ix3 σ b c) := by
  unfold xPick
  after_reads_simp
  refine layer_at _ _ _ t ht (fun a => ?_) σ b c
  match a with
  | ⟨0, _⟩ =>
    refine Eq.trans (b := ((V (Proc.devRef .tc main_v74_1) : S_.Idx → BitVec 32) (Shape.Idx.first h_S_)).toInt) ?_ ?_
    · have : (upto while0Ops0_9 V 3 (Proc.devRef .tc main_v74_1)) = V (Proc.devRef .tc main_v74_1) := by after_reads_simp
      exact congrArg (fun f : S_.Idx → BitVec 32 => (f (Shape.Idx.first h_S_)).toInt) this
    · rw [hk, word_int (a := t) (by omega)]; rfl
  | ⟨1, _⟩ =>
    have : (upto while0Ops0_9 V 3 (Proc.devRef .tc main_while0b_call8_c) : S_.Idx → BitVec 32) = fun _ => 0#32 := by after_reads_simp; rfl
    exact congrArg (fun f : S_.Idx → BitVec 32 => (f (Shape.Idx.first h_S_)).toInt) this
  | ⟨2, _⟩ =>
    have : (upto while0Ops0_9 V 3 (Proc.devRef .tc main_while0b_call8_c_0) : S_.Idx → BitVec 32) = fun _ => 0#32 := by after_reads_simp; rfl
    exact congrArg (fun f : S_.Idx → BitVec 32 => (f (Shape.Idx.first h_S_)).toInt) this

theorem read_live : xLive (after while0Ops0_10 V) = xNext V := by
  unfold xLive
  after_reads_simp
  rfl

end Cert.Proof.Ref

end
-- ==== Proof.Ref.Trip.lean ====
/-
  One whole trip of the reference's loop: its live scores, its picks and its counter from those before.
-/
module

public import proofs.«01_k».proof.Proof.Ref.ReadBest
public import proofs.«01_k».proof.Proof.Ref.ReadBox
public import proofs.«01_k».proof.Proof.Ref.Cut
public import proofs.«01_k».proof.Proof.Ref.ReadNext
public import proofs.«01_k».proof.Proof.Ref.Frame

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

/-- What the stretches do not write they pass on. -/
theorem pass_0 {b : Ref sig .tc} (h : b ∉ while0Ops0_W) : after while0Ops0 V (Proc.devRef .tc b) = V (Proc.devRef .tc b) :=
  after_of_writes_sub while0Ops0 V while0Ops0_writes h
theorem pass_1 {b : Ref sig .tc} (h : b ∉ while0Ops0_1_W) : after while0Ops0_1 V (Proc.devRef .tc b) = V (Proc.devRef .tc b) :=
  after_of_writes_sub while0Ops0_1 V while0Ops0_1_writes h
theorem pass_2 {b : Ref sig .tc} (h : b ∉ while0Ops0_2_W) : after while0Ops0_2 V (Proc.devRef .tc b) = V (Proc.devRef .tc b) :=
  after_of_writes_sub while0Ops0_2 V while0Ops0_2_writes h
theorem pass_3 {b : Ref sig .tc} (h : b ∉ while0Ops0_3_W) : after while0Ops0_3 V (Proc.devRef .tc b) = V (Proc.devRef .tc b) :=
  after_of_writes_sub while0Ops0_3 V while0Ops0_3_writes h
theorem pass_4 {b : Ref sig .tc} (h : b ∉ while0Ops0_4_W) : after while0Ops0_4 V (Proc.devRef .tc b) = V (Proc.devRef .tc b) :=
  after_of_writes_sub while0Ops0_4 V while0Ops0_4_writes h
theorem pass_5 {b : Ref sig .tc} (h : b ∉ while0Ops0_5_W) : after while0Ops0_5 V (Proc.devRef .tc b) = V (Proc.devRef .tc b) :=
  after_of_writes_sub while0Ops0_5 V while0Ops0_5_writes h
theorem pass_6 {b : Ref sig .tc} (h : b ∉ while0Ops0_6_W) : after while0Ops0_6 V (Proc.devRef .tc b) = V (Proc.devRef .tc b) :=
  after_of_writes_sub while0Ops0_6 V while0Ops0_6_writes h
theorem pass_7 {b : Ref sig .tc} (h : b ∉ while0Ops0_7_W) : after while0Ops0_7 V (Proc.devRef .tc b) = V (Proc.devRef .tc b) :=
  after_of_writes_sub while0Ops0_7 V while0Ops0_7_writes h
theorem pass_8 {b : Ref sig .tc} (h : b ∉ while0Ops0_8_W) : after while0Ops0_8 V (Proc.devRef .tc b) = V (Proc.devRef .tc b) :=
  after_of_writes_sub while0Ops0_8 V while0Ops0_8_writes h
theorem pass_9 {b : Ref sig .tc} (h : b ∉ while0Ops0_9_W) : after while0Ops0_9 V (Proc.devRef .tc b) = V (Proc.devRef .tc b) :=
  after_of_writes_sub while0Ops0_9 V while0Ops0_9_writes h
theorem pass_10 {b : Ref sig .tc} (h : b ∉ while0Ops0_10_W) : after while0Ops0_10 V (Proc.devRef .tc b) = V (Proc.devRef .tc b) :=
  after_of_writes_sub while0Ops0_10 V while0Ops0_10_writes h

/-- One trip. -/
theorem trip_reads (t : ℕ) (ht : t < 200) (hk : (V (Proc.devRef .tc main_v74_1) : S_.Idx → BitVec 32) = fun _ => BitVec.ofNat 32 t)
    (W : Valuation τ sig (Elt Ideal)) (hW : W = afterL bodyI V) :
    xBox W = xBox V
    ∧ (∀ b c l, xLive W (ix3 b c l) = Scalar.select (BitVec.ofBool (decide (⊥ < xLive V (ix3 b c (bestOf (xLive V) b c)))))
        (Scalar.select (by classical exact BitVec.ofBool (decide ((quadAt (xBox V) b (bestOf (xLive V) b c)).over (quadAt (xBox V) b l) ∨ l = bestOf (xLive V) b c)))
          ⊥ (xLive V (ix3 b c l))) (xLive V (ix3 b c l)))
    ∧ ∀ σ b c, xPick W (ix3 σ b c) = if σ.val = t then
        Scalar.select (BitVec.ofBool (decide (⊥ < xLive V (ix3 b c (bestOf (xLive V) b c))))) (BitVec.ofNat 32 (bestOf (xLive V) b c).val) 4294967295#32
      else xPick V (ix3 σ b c) := by
  classical
  simp only [afterL_cons, afterL_nil] at hW
  obtain ⟨V0, h0⟩ : ∃ V0, V0 = V := ⟨_, rfl⟩
  obtain ⟨V1, h1⟩ : ∃ X, X = after while0Ops0 V0 := ⟨_, rfl⟩
  obtain ⟨V2, h2⟩ : ∃ X, X = after while0Ops0_1 V1 := ⟨_, rfl⟩
  obtain ⟨V3, h3⟩ : ∃ X, X = after while0Ops0_2 V2 := ⟨_, rfl⟩
  obtain ⟨V4, h4⟩ : ∃ X, X = after while0Ops0_3 V3 := ⟨_, rfl⟩
  obtain ⟨V5, h5⟩ : ∃ X, X = after while0Ops0_4 V4 := ⟨_, rfl⟩
  obtain ⟨V6, h6⟩ : ∃ X, X = after while0Ops0_5 V5 := ⟨_, rfl⟩
  obtain ⟨V7, h7⟩ : ∃ X, X = after while0Ops0_6 V6 := ⟨_, rfl⟩
  obtain ⟨V8, h8⟩ : ∃ X, X = after while0Ops0_7 V7 := ⟨_, rfl⟩
  obtain ⟨V9, h9⟩ : ∃ X, X = after while0Ops0_8 V8 := ⟨_, rfl⟩
  obtain ⟨V10, h10⟩ : ∃ X, X = after while0Ops0_9 V9 := ⟨_, rfl⟩
  obtain ⟨V11, h11⟩ : ∃ X, X = after while0Ops0_10 V10 := ⟨_, rfl⟩
  rw [← h0, ← h1, ← h2, ← h3, ← h4, ← h5, ← h6, ← h7, ← h8, ← h9, ← h10, ← h11] at hW
  subst hW
  subst h0
  have box2 : xBox V2 = xBox V0 := (Eq.trans (h2 ▸ pass_1 V1 (b := main_v74_0) (by decide +kernel)) (h1 ▸ pass_0 V0 (b := main_v74_0) (by decide +kernel)))
  have box3 : xBox V3 = xBox V0 := (Eq.trans (h3 ▸ pass_2 V2 (b := main_v74_0) (by decide +kernel)) (Eq.trans (h2 ▸ pass_1 V1 (b := main_v74_0) (by decide +kernel)) (h1 ▸ pass_0 V0 (b := main_v74_0) (by decide +kernel))))
  have boxW : xBox W = xBox V0 := (Eq.trans (h11 ▸ pass_10 V10 (b := main_v74_0) (by decide +kernel)) (Eq.trans (h10 ▸ pass_9 V9 (b := main_v74_0) (by decide +kernel)) (Eq.trans (h9 ▸ pass_8 V8 (b := main_v74_0) (by decide +kernel)) (Eq.trans (h8 ▸ pass_7 V7 (b := main_v74_0) (by decide +kernel)) (Eq.trans (h7 ▸ pass_6 V6 (b := main_v74_0) (by decide +kernel)) (Eq.trans (h6 ▸ pass_5 V5 (b := main_v74_0) (by decide +kernel)) (Eq.trans (h5 ▸ pass_4 V4 (b := main_v74_0) (by decide +kernel)) (Eq.trans (h4 ▸ pass_3 V3 (b := main_v74_0) (by decide +kernel)) (Eq.trans (h3 ▸ pass_2 V2 (b := main_v74_0) (by decide +kernel)) (Eq.trans (h2 ▸ pass_1 V1 (b := main_v74_0) (by decide +kernel)) (h1 ▸ pass_0 V0 (b := main_v74_0) (by decide +kernel))))))))))))
  have live1 : xLive V1 = xLive V0 := (h1 ▸ pass_0 V0 (b := main_v74_2) (by decide +kernel))
  have live4 : xLive V4 = xLive V0 := (Eq.trans (h4 ▸ pass_3 V3 (b := main_v74_2) (by decide +kernel)) (Eq.trans (h3 ▸ pass_2 V2 (b := main_v74_2) (by decide +kernel)) (Eq.trans (h2 ▸ pass_1 V1 (b := main_v74_2) (by decide +kernel)) (h1 ▸ pass_0 V0 (b := main_v74_2) (by decide +kernel)))))
  have live5 : xLive V5 = xLive V0 := (Eq.trans (h5 ▸ pass_4 V4 (b := main_v74_2) (by decide +kernel)) (Eq.trans (h4 ▸ pass_3 V3 (b := main_v74_2) (by decide +kernel)) (Eq.trans (h3 ▸ pass_2 V2 (b := main_v74_2) (by decide +kernel)) (Eq.trans (h2 ▸ pass_1 V1 (b := main_v74_2) (by decide +kernel)) (h1 ▸ pass_0 V0 (b := main_v74_2) (by decide +kernel))))))
  have arg3 : xArg V3 = xArg V1 := (Eq.trans (h3 ▸ pass_2 V2 (b := main_while0b_v104) (by decide +kernel)) (h2 ▸ pass_1 V1 (b := main_while0b_v104) (by decide +kernel)))
  have arg7 : xArg V7 = xArg V1 := (Eq.trans (h7 ▸ pass_6 V6 (b := main_while0b_v104) (by decide +kernel)) (Eq.trans (h6 ▸ pass_5 V5 (b := main_while0b_v104) (by decide +kernel)) (Eq.trans (h5 ▸ pass_4 V4 (b := main_while0b_v104) (by decide +kernel)) (Eq.trans (h4 ▸ pass_3 V3 (b := main_while0b_v104) (by decide +kernel)) (Eq.trans (h3 ▸ pass_2 V2 (b := main_while0b_v104) (by decide +kernel)) (h2 ▸ pass_1 V1 (b := main_while0b_v104) (by decide +kernel)))))))
  have on5 : xOn V5 = xOn V2 := (Eq.trans (h5 ▸ pass_4 V4 (b := main_while0b_v107) (by decide +kernel)) (Eq.trans (h4 ▸ pass_3 V3 (b := main_while0b_v107) (by decide +kernel)) (h3 ▸ pass_2 V2 (b := main_while0b_v107) (by decide +kernel))))
  have on7 : xOn V7 = xOn V2 := (Eq.trans (h7 ▸ pass_6 V6 (b := main_while0b_v107) (by decide +kernel)) (Eq.trans (h6 ▸ pass_5 V5 (b := main_while0b_v107) (by decide +kernel)) (Eq.trans (h5 ▸ pass_4 V4 (b := main_while0b_v107) (by decide +kernel)) (Eq.trans (h4 ▸ pass_3 V3 (b := main_while0b_v107) (by decide +kernel)) (h3 ▸ pass_2 V2 (b := main_while0b_v107) (by decide +kernel))))))
  have next10 : xNext V10 = xNext V7 := (Eq.trans (h10 ▸ pass_9 V9 (b := main_while0b_v187) (by decide +kernel)) (Eq.trans (h9 ▸ pass_8 V8 (b := main_while0b_v187) (by decide +kernel)) (h8 ▸ pass_7 V7 (b := main_while0b_v187) (by decide +kernel))))
  have pick9 : xPick V9 = xPick V0 := (Eq.trans (h9 ▸ pass_8 V8 (b := main_v74_3) (by decide +kernel)) (Eq.trans (h8 ▸ pass_7 V7 (b := main_v74_3) (by decide +kernel)) (Eq.trans (h7 ▸ pass_6 V6 (b := main_v74_3) (by decide +kernel)) (Eq.trans (h6 ▸ pass_5 V5 (b := main_v74_3) (by decide +kernel)) (Eq.trans (h5 ▸ pass_4 V4 (b := main_v74_3) (by decide +kernel)) (Eq.trans (h4 ▸ pass_3 V3 (b := main_v74_3) (by decide +kernel)) (Eq.trans (h3 ▸ pass_2 V2 (b := main_v74_3) (by decide +kernel)) (Eq.trans (h2 ▸ pass_1 V1 (b := main_v74_3) (by decide +kernel)) (h1 ▸ pass_0 V0 (b := main_v74_3) (by decide +kernel))))))))))
  have ctr9 : V9 (Proc.devRef .tc main_v74_1) = V0 (Proc.devRef .tc main_v74_1) := (Eq.trans (h9 ▸ pass_8 V8 (b := main_v74_1) (by decide +kernel)) (Eq.trans (h8 ▸ pass_7 V7 (b := main_v74_1) (by decide +kernel)) (Eq.trans (h7 ▸ pass_6 V6 (b := main_v74_1) (by decide +kernel)) (Eq.trans (h6 ▸ pass_5 V5 (b := main_v74_1) (by decide +kernel)) (Eq.trans (h5 ▸ pass_4 V4 (b := main_v74_1) (by decide +kernel)) (Eq.trans (h4 ▸ pass_3 V3 (b := main_v74_1) (by decide +kernel)) (Eq.trans (h3 ▸ pass_2 V2 (b := main_v74_1) (by decide +kernel)) (Eq.trans (h2 ▸ pass_1 V1 (b := main_v74_1) (by decide +kernel)) (h1 ▸ pass_0 V0 (b := main_v74_1) (by decide +kernel))))))))))
  have harg : ∀ b c, xArg V1 (ix2 b c) = BitVec.ofNat 32 (bestOf (xLive V0) b c).val := fun b c => h1 ▸ read_arg V0 b c
  have hon : ∀ b c, xOn V2 (ix2 b c) = BitVec.ofBool (decide (⊥ < xLive V0 (ix3 b c (bestOf (xLive V0) b c)))) := fun b c => by
    have := read_on V1 b c
    rw [← h2, live1] at this
    exact this
  have hword : ∀ b c, (V2 (Proc.devRef .tc main_while0b_v108) : S8x21x1.Idx → BitVec 32) (ix3 b c 0) = BitVec.ofNat 32 (bestOf (xLive V0) b c).val :=
    fun b c => (h2 ▸ read_word V1 b c 0).trans (harg b c)
  have hbest : ∀ b c k, xBest V3 (ix3 b c k) = xBox V3 (ix3 b (bestOf (xLive V0) b c) k) := fun b c k => by
    have := read_best V2 b c k _ (hword b c)
    rw [← h3, box2, ← box3] at this
    exact this
  have hsup : ∀ b c l, xSup V4 (ix3 b c l) = BitVec.ofBool (decide ((quadAt (xBox V0) b (bestOf (xLive V0) b c)).over (quadAt (xBox V0) b l)
      ∨ l = bestOf (xLive V0) b c)) := fun b c l => by
    have := read_sup V3 b c l _ ((congrFun arg3 _).trans (harg b c)) (hbest b c)
    rw [← h4, box3] at this
    exact this
  have hfill : (V4 (Proc.devRef .tc main_while0b_cst_27) : S_.Idx → EReal) = fun _ => (⊥ : EReal) := h4 ▸ read_fill V3
  have hcut : ∀ b c l, xCut V5 (ix3 b c l) = Scalar.select (xSup V4 (ix3 b c l)) ⊥ (xLive V0 (ix3 b c l)) := fun b c l => by
    have := read_cut V4 hfill b c l
    rw [← h5, live4] at this
    exact this
  refine ⟨boxW, fun b c l => ?_, fun σ b c => ?_⟩
  · have e := read_next V5 b c l
    rw [← h6, ← h7, on5, live5, hon, hcut, hsup] at e
    have e' := read_live V10
    rw [← h11, next10] at e'
    exact (congrFun e' _).trans e
  · have e := read_picks V9 t ht (ctr9.trans hk) σ b c
    rw [← h10, ← h11, pick9] at e
    have e' := read_set V7 b c
    rw [← h8, ← h9, on7, arg7, hon, harg] at e'
    rw [e, e']

end Cert.Proof.Ref

end
-- ==== Proof.Ref.Trips.lean ====
/-
  The reference's loop: after `T` trips the live scores and the picks are those of the specification.
-/
module

public import proofs.«01_k».proof.Proof.Ref.Trip

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

/-- Image `b` of the reference: its boxes and its start scores. -/
def refImage (X : S8x5000x4.Idx → EReal) (S : S8x21x5000.Idx → EReal) (b : Fin 8) : Image where
  box := fun i => if h : i < 5000 then quadAt X b ⟨i, h⟩ else Quad.none
  score := fun c => if h : c < 21 then row fun l => S (ix3 b ⟨c, h⟩ l) else fun _ => ⊥

variable (X : S8x5000x4.Idx → EReal) (S : S8x21x5000.Idx → EReal)

theorem refImage_box (b : Fin 8) (l : Fin 5000) : (refImage X S b).box l.val = quadAt X b l := dif_pos l.isLt

theorem refImage_score (b : Fin 8) (c : Fin 21) : (refImage X S b).score c.val = row fun l => S (ix3 b c l) := dif_pos c.isLt

theorem refImage_ends (b : Fin 8) (c : ℕ) : Ends 5000 ((refImage X S b).score c) := by
  by_cases h : c < 21
  · rw [refImage_score X S b ⟨c, h⟩]; exact row_ends _
  · intro j _
    show (if h : c < 21 then row (fun l => S (ix3 b ⟨c, h⟩ l)) else fun _ => ⊥) j = ⊥
    rw [dif_neg h]

/-- The word a class picks in one slot: the place chosen, or `-1`. -/
def pickWord (I : Image) (c s : ℕ) : BitVec 32 := by
  classical
  exact if ⊥ < I.top c s then BitVec.ofNat 32 (I.at c s) else 4294967295#32

/-- What the loop's buffers hold after `T` trips. -/
structure RefHolds (T : ℕ) (V : Valuation τ sig (Elt Ideal)) : Prop where
  box : xBox V = X
  live : ∀ b c, (row fun l => xLive V (ix3 b c l)) = Greedy.live (sup (refImage X S b).box) ((refImage X S b).score c.val) T
  pick : ∀ (σ : Fin 200) b c, σ.val < T → xPick V (ix3 σ b c) = pickWord (refImage X S b) c.val σ.val

section
variable {X S} {T : ℕ} {V : Valuation τ sig (Elt Ideal)}

theorem RefHolds.place (h : RefHolds X S T V) (b : Fin 8) (c : Fin 21) : (bestOf (xLive V) b c).val = (refImage X S b).at c.val T := by
  unfold Image.at pickAt
  rw [← h.live b c]
  rfl

theorem RefHolds.top (h : RefHolds X S T V) (b : Fin 8) (c : Fin 21) : xLive V (ix3 b c (bestOf (xLive V) b c)) = (refImage X S b).top c.val T := by
  unfold Image.top Greedy.top pickAt
  rw [← h.live b c]
  exact (row_val (fun l => xLive V (ix3 b c l)) (bestOf (xLive V) b c)).symm

theorem select_if {α : Type} (p : Prop) [Decidable p] (a b : α) : Scalar.select (BitVec.ofBool (decide p)) a b = if p then a else b := by
  by_cases hp : p <;> simp [hp, Scalar.select]

/-- One trip more. -/
theorem RefHolds.step (hT : T < 200) (h : RefHolds X S T V) (hk : (V (Proc.devRef .tc main_v74_1) : S_.Idx → BitVec 32) = fun _ => BitVec.ofNat 32 T) :
    RefHolds X S (T + 1) (afterL bodyI V) := by
  classical
  obtain ⟨hb, hl, hp⟩ := trip_reads V T hT hk _ rfl
  refine ⟨hb.trans h.box, fun b c => ?_, fun σ b c hσ => ?_⟩
  · refine row_ext (live_ends (refImage_ends X S b c.val) (T + 1)) fun l => ?_
    rw [hl b c l, select_if, select_if, h.box]
    show _ = nstep (sup (refImage X S b).box) (Greedy.live (sup (refImage X S b).box) ((refImage X S b).score c.val) T) l.val
    rw [← h.live b c, nstep_eq (P := ⊥ < xLive V (ix3 b c (bestOf (xLive V) b c)) ∧ ((quadAt X b (bestOf (xLive V) b c)).over (quadAt X b l) ∨ l = bestOf (xLive V) b c)),
      row_val]
    · by_cases h1 : ⊥ < xLive V (ix3 b c (bestOf (xLive V) b c))
      · rw [if_pos h1]
        exact if_congr ⟨fun h2 => ⟨h1, h2⟩, fun h2 => h2.2⟩ rfl rfl
      · rw [if_neg h1, if_neg (fun h2 => h1 h2.1)]
    · have e : Greedy.pick (row fun l => xLive V (ix3 b c l)) = (bestOf (xLive V) b c).val := rfl
      rw [e, row_val, sup, refImage_box, refImage_box, Fin.ext_iff]
  · rw [hp σ b c, h.top b c, h.place b c, select_if]
    by_cases e : σ.val = T
    · rw [if_pos e, e]; rfl
    · rw [if_neg e]; exact h.pick σ b c (by omega)

end

/-- Before every trip, from what the loop starts with. -/
theorem atK_holds (m : (ℓ : Loc nD τ sig) → Buf (Elt Ideal) ℓ) (c : Dev nD)
    (h0 : RefHolds X S 0 (entryContents preI m c)) : ∀ T, T ≤ 200 → RefHolds X S T (atK m T c)
  | 0, _ => h0
  | T + 1, hT => by
    rw [show atK m (T + 1) c = afterL bodyI (after condOps (atK m T c)) from rfl]
    have ih := atK_holds m c h0 T (by omega)
    have keep : ∀ {b : Ref sig .tc}, b ∉ condOps_W → after condOps (atK m T c) (Proc.devRef .tc b) = atK m T c (Proc.devRef .tc b) :=
      fun hb => after_of_writes_sub _ _ condOps_writes hb
    have e0 : xBox (after condOps (atK m T c)) = xBox (atK m T c) := keep (by decide +kernel)
    have e2 : xLive (after condOps (atK m T c)) = xLive (atK m T c) := keep (by decide +kernel)
    have e3 : xPick (after condOps (atK m T c)) = xPick (atK m T c) := keep (by decide +kernel)
    refine RefHolds.step (by omega) ⟨e0.trans ih.box, fun b c' => e2 ▸ ih.live b c', fun σ b c' hσ => e3 ▸ ih.pick σ b c' hσ⟩ ?_
    refine (keep (by decide +kernel)).trans ((atK_ctr m c T).trans (funext fun _ => ?_))
    simp [Scf.iv]

end Cert.Proof.Ref

end
-- ==== Proof.Ref.Results.lean ====
/-
  The reference's three results from what its loop leaves: in order, the kept boxes, scores and classes of the image.
-/
module

public import proofs.«01_k».proof.Proof.Ref.PostPass
public import proofs.«01_k».proof.Proof.Ref.Trips
public import proofs.«01_k».proof.Proof.Stop
public import proofs.«01_k».proof.Proof.Whole

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

theorem corner_quadAt (X : S8x5000x4.Idx → EReal) (b : Fin 8) (l : Fin 5000) (k : Fin 4) : corner (quadAt X b l) k = X (ix3 b l k) := by
  fin_cases k <;> rfl
/-- What the stretches after the loop start from: the decoded boxes, the scores where a class starts, and the picks. -/
structure PostHolds (X : S8x5000x4.Idx → EReal) (S : S8x21x5000.Idx → EReal) (V : Valuation τ sig (Elt Ideal)) : Prop where
  dec : xDec V = X
  flip : ∀ b c l, ⊥ < S (ix3 b c l) → xFlip V (ix3 b c l) = S (ix3 b c l)
  pick : ∀ (σ : Fin 200) b c, xPick V (ix3 σ b c) = pickWord (refImage X S b) c.val σ.val
  pos : ∀ b c l, S (ix3 b c l) = ⊥ ∨ 0 < S (ix3 b c l)

variable {X : S8x5000x4.Idx → EReal} {S : S8x21x5000.Idx → EReal} {V : Valuation τ sig (Elt Ideal)}

theorem PostHolds.good (h : PostHolds X S V) (b : Fin 8) : (refImage X S b).Good 5000 where
  ends := refImage_ends X S b
  pos := fun c i => by
    by_cases hc : c < 21
    · rw [refImage_score X S b ⟨c, hc⟩]
      unfold row
      split
      · exact h.pos b _ _
      · exact .inl rfl
    · refine .inl ?_
      show (if h : c < 21 then row (fun l => S (ix3 b ⟨c, h⟩ l)) else fun _ => ⊥) i = ⊥
      rw [dif_neg hc]

/-- Whether a place among class and slot is kept. -/
def On (X : S8x5000x4.Idx → EReal) (S : S8x21x5000.Idx → EReal) (b : Fin 8) (l : Fin 4200) : Prop := ⊥ < (refImage X S b).top (l.val / 200) (l.val % 200)

theorem at_lt (X : S8x5000x4.Idx → EReal) (S : S8x21x5000.Idx → EReal) (b : Fin 8) (c s : ℕ) : (refImage X S b).at c s < 5000 :=
  pick_lt (by omega) (live_ends (refImage_ends X S b c) s)

open Classical in
/-- The place read at one slot: the one picked, or place 0. -/
def spot (X : S8x5000x4.Idx → EReal) (S : S8x21x5000.Idx → EReal) (b : Fin 8) (c s : ℕ) : Fin 5000 :=
  if ⊥ < (refImage X S b).top c s then ⟨(refImage X S b).at c s, at_lt X S b c s⟩ else 0

theorem pickWord_sge (I : Image) (c s : ℕ) [Decidable (⊥ < I.top c s)] (h : I.at c s < 5000) : IntOp.cmpi .sge (pickWord I c s) 0#32 = BitVec.ofBool (decide (⊥ < I.top c s)) := by
  unfold pickWord
  by_cases hp : ⊥ < I.top c s
  · rw [if_pos hp, decide_eq_true hp]
    simp only [IntOp.cmpi, BitVec.sle_eq_decide]
    rw [show (0#32).toInt = 0 from rfl, word_int (a := I.at c s) (by omega), decide_eq_true (by omega)]
  · rw [if_neg hp, decide_eq_false hp]
    rfl

open Classical in
theorem pickWord_max (X : S8x5000x4.Idx → EReal) (S : S8x21x5000.Idx → EReal) (b : Fin 8) (c s : ℕ) :
    IntOp.maxsi 0#32 (pickWord (refImage X S b) c s) = BitVec.ofNat 32 (spot X S b c s).val := by
  unfold pickWord spot
  by_cases hp : ⊥ < (refImage X S b).top c s
  · rw [if_pos hp, if_pos hp]
    have := at_lt X S b c s
    unfold IntOp.maxsi
    refine if_neg ?_
    rw [BitVec.slt_eq_decide, show (0#32).toInt = 0 from rfl, word_int (a := (refImage X S b).at c s) (by omega), decide_eq_true_eq]
    omega
  · rw [if_neg hp, if_neg hp]
    rfl

open Classical in
theorem PostHolds.ok (h : PostHolds X S V) (b : Fin 8) (l : Fin 4200) : xOk (U7 V) (ix2 b l) = BitVec.ofBool (decide (On X S b l)) := by
  unfold U7
  rw [ok_read V b l, h.pick]
  exact @pickWord_sge (refImage X S b) (l.val / 200) (l.val % 200) (Classical.propDecidable _) (at_lt X S b _ _)

theorem PostHolds.clip (h : PostHolds X S V) (b : Fin 8) (c : Fin 21) (t : Fin 200) :
    xClip (U8 V) (ix3 b c t) = BitVec.ofNat 32 (spot X S b c.val t.val).val := by
  have e := clip_read (U7 V) (zero_read V) b c t
  have e2 : xTurn (U7 V) (ix3 b c t) = xPick V (ix3 t b c) := turn_read V b c t
  rw [e2, h.pick, pickWord_max] at e
  exact e

/-- The boxes laid out class by class. -/
theorem PostHolds.boxes (h : PostHolds X S V) (b : Fin 8) (l : Fin 4200) (k : Fin 4) :
    xBoxes (U12 V) (ix3 b l k) = corner ((refImage X S b).kbox 200 (l.val / 200) (l.val % 200)) k := by
  classical
  have e1 : xClipBox (U9 V) (ix3 b l 0) = BitVec.ofNat 32 (spot X S b (l.val / 200) (l.val % 200)).val :=
    (clipBox_read (U8 V) b l 0).trans (h.clip b (cls l) (slot l))
  have e2 : xGot (U10 V) (ix3 b l k) = X (ix3 b (spot X S b (l.val / 200) (l.val % 200)) k) := by
    have e := got_read (U9 V) b l k _ e1
    rw [xDec_9, h.dec] at e
    exact e
  have e3 : xOkBox (U10 V) (ix3 b l 0) = BitVec.ofBool (decide (On X S b l)) := by
    rw [xOkBox_10]
    refine (okBox_read (U8 V) b l 0).trans ?_
    rw [xOk_8]
    exact h.ok b l
  have e4 := boxes_read (U10 V) b l k
  rw [e2, e3, select_if] at e4
  refine Eq.trans e4 ?_
  unfold Image.kbox On spot
  have hs : l.val % 200 < 200 := by omega
  by_cases hp : ⊥ < (refImage X S b).top (l.val / 200) (l.val % 200)
  · rw [if_pos hp, if_pos hp, if_pos ⟨hs, hp⟩]
    exact ((congrArg (corner · k) (refImage_box X S b ⟨_, at_lt X S b (l.val / 200) (l.val % 200)⟩)).trans (corner_quadAt X b _ k)).symm
  · rw [if_neg hp, if_neg (fun h' => hp h'.2), corner_none]

/-- The scores laid out class by class. -/
theorem PostHolds.scores (h : PostHolds X S V) (b : Fin 8) (l : Fin 4200) :
    xScores (U15 V) (ix2 b l) = (by classical exact if On X S b l then (refImage X S b).top (l.val / 200) (l.val % 200) else 0) := by
  classical
  have e1 : xGotScore (U13 V) (ix3 b (cls l) (slot l)) = xFlip V (ix3 b (cls l) (spot X S b (l.val / 200) (l.val % 200))) := by
    have e := gotScore_read (U12 V) b (cls l) (slot l) (spot X S b (l.val / 200) (l.val % 200)) (by rw [xClip_12]; exact h.clip b (cls l) (slot l))
    rw [xFlip_12] at e
    exact e
  have e2 := scores_read (U13 V) b l
  rw [xOk_13, h.ok b l, e1, select_if] at e2
  refine Eq.trans e2 ?_
  by_cases hp : On X S b l
  · rw [if_pos hp, if_pos hp]
    have hp' : ⊥ < (refImage X S b).top (l.val / 200) (l.val % 200) := hp
    have et : (refImage X S b).top (l.val / 200) (l.val % 200) = S (ix3 b (cls l) (spot X S b (l.val / 200) (l.val % 200))) := by
      have e := top_eq hp'
      unfold spot
      rw [if_pos hp']
      exact Eq.trans e ((congrFun (refImage_score X S b (cls l)) _).trans (row_val (fun l' => S (ix3 b (cls l) l')) ⟨(refImage X S b).at (l.val / 200) (l.val % 200), at_lt X S b _ _⟩))
    rw [et]
    exact h.flip _ _ _ (by rw [← et]; exact hp')
  · rw [if_neg hp, if_neg hp]

/-- The keys are the image's. -/
theorem PostHolds.keys (h : PostHolds X S V) (b : Fin 8) (l : Fin 4200) : xKeys (U19 V) (ix2 b l) = (refImage X S b).keys 200 l.val := by
  classical
  have e := keys_read (U18 V) (neg_read (U17 V)) b l
  rw [xOk_18, h.ok b l, xScores_18, h.scores b l, select_if] at e
  refine Eq.trans e ?_
  rw [Image.keys_lt 200 l.val l.isLt]
  have hs : l.val % 200 < 200 := by omega
  by_cases hp : On X S b l
  · rw [if_pos hp, if_pos hp]
    exact (kept_pos ⟨hs, hp⟩).symm
  · rw [if_neg hp]
    exact (kept_neg fun h' => hp h'.2).symm

/-- A key is above zero where its place is kept. -/
theorem PostHolds.key_pos (h : PostHolds X S V) (b : Fin 8) (l : Fin 4200) : 0 < (refImage X S b).keys 200 l.val ↔ On X S b l := by
  rw [Image.keys_lt 200 l.val l.isLt]
  have hs : l.val % 200 < 200 := by omega
  by_cases hp : On X S b l
  · rw [kept_pos ⟨hs, hp⟩]
    have hp' : ⊥ < (refImage X S b).top (l.val / 200) (l.val % 200) := hp
    exact ⟨fun _ => hp, fun _ => ((h.good b).top_pos (l.val / 200) (l.val % 200)).resolve_left (ne_of_gt hp')⟩
  · rw [kept_neg fun h' => hp h'.2]
    exact ⟨fun h' => absurd (h'.trans neg_one_lt_zero) (lt_irrefl _), fun h' => absurd h' hp⟩

theorem PostHolds.classes (h : PostHolds X S V) (b : Fin 8) (l : Fin 4200) (hp : On X S b l) :
    xClasses (U18 V) (ix2 b l) = FloatOps.sitofp (F := Ideal) .f32 (BitVec.ofNat 32 (l.val / 200)) := by
  classical
  have e := classes_read (U15 V) b l
  rw [xOk_15, h.ok b l, select_if, if_pos hp] at e
  exact e

/-- The place result `j` comes from. -/
abbrev from' (X : S8x5000x4.Idx → EReal) (S : S8x21x5000.Idx → EReal) (b : Fin 8) (j : Fin 200) : Fin 4200 :=
  ⟨(refImage X S b).place j.val, Image.place_lt j.val⟩

theorem PostHolds.ind (h : PostHolds X S V) (b : Fin 8) (j : Fin 200) : xInd (U20 V) (ix2 b j) = BitVec.ofNat 32 (from' X S b j).val :=
  ind_read b j (Image.keys_ends 200) (fun i hi => (h.good b).key_low 200 i hi) (U19 V) (h.keys b)

theorem PostHolds.out (h : PostHolds X S V) (b : Fin 8) (j : Fin 200) : xOut (U21 V) (ix2 b j) = (by classical exact BitVec.ofBool (decide (On X S b (from' X S b j)))) := by
  classical
  have e := out_read (U20 V) b j _ (h.ind b j)
  rw [xOk_20, h.ok] at e
  exact e

/-- The first result. -/
theorem PostHolds.res1 (h : PostHolds X S V) (b : Fin 8) (j : Fin 200) (k : Fin 4) :
    xRes1 (U31 V) (ix3 b j k) = corner ((refImage X S b).outBox j.val) k := by
  classical
  rw [xRes1_31]
  have e1 : xIndBox (U22 V) (ix3 b j 0) = BitVec.ofNat 32 (from' X S b j).val := by
    refine (indBox_read (U21 V) b j 0).trans ?_
    rw [xInd_21]
    exact h.ind b j
  have e2 := topBox_read (U22 V) b j k _ e1
  rw [xBoxes_22, h.boxes] at e2
  have e3 : xOutBox (U23 V) (ix3 b j 0) = BitVec.ofBool (decide (On X S b (from' X S b j))) := by
    rw [xOutBox_23]
    exact (outBox_read (U21 V) b j 0).trans (h.out b j)
  have e4 := res1_read (U23 V) b j k
  have e2' : xTopBox (U23 V) (ix3 b j k) = _ := e2
  rw [e3, e2', select_if] at e4
  refine Eq.trans e4 ?_
  by_cases hp : On X S b (from' X S b j)
  · rw [if_pos hp]; rfl
  · rw [if_neg hp]
    unfold Image.outBox Image.kbox
    rw [if_neg (fun h' => hp h'.2), corner_none]

/-- The second result. -/
theorem PostHolds.res2 (h : PostHolds X S V) (b : Fin 8) (j : Fin 200) : xRes2 (U31 V) (ix2 b j) = (refImage X S b).outScore j.val := by
  classical
  rw [xRes2_31]
  have e1 := topScore_read (U25 V) b j (from' X S b j) (by rw [xInd_25]; exact h.ind b j)
  rw [xScores_25, h.scores] at e1
  have e2 := res2_read (U26 V) b j
  have e1' : xTopScore (U26 V) (ix2 b j) = _ := e1
  rw [xOut_26, h.out, e1', select_if] at e2
  refine Eq.trans e2 ?_
  unfold Image.outScore Image.key
  by_cases hp : On X S b (from' X S b j)
  · rw [if_pos hp, if_pos hp, if_pos ((h.key_pos b (from' X S b j)).mpr hp), Image.keys_lt 200 _ (from' X S b j).isLt]
    exact (kept_pos ⟨by omega, hp⟩).symm
  · rw [if_neg hp, if_neg fun h' => hp ((h.key_pos b (from' X S b j)).mp h')]

/-- The third result. -/
theorem PostHolds.res3 (h : PostHolds X S V) (b : Fin 8) (j : Fin 200) : xRes3 (U31 V) (ix2 b j) = (refImage X S b).outClass j.val := by
  classical
  have e1 := topClass_read (U28 V) b j (from' X S b j) (by rw [xInd_28]; exact h.ind b j)
  rw [xClasses_28] at e1
  have e2 := res3_read (U29 V) b j
  have e1' : xTopClass (U29 V) (ix2 b j) = _ := e1
  rw [xOut_29, h.out, e1', select_if] at e2
  refine Eq.trans e2 ?_
  unfold Image.outClass Image.key
  by_cases hp : On X S b (from' X S b j)
  · rw [if_pos hp, if_pos ((h.key_pos b (from' X S b j)).mpr hp)]
    exact h.classes b _ hp
  · rw [if_neg hp, if_neg fun h' => hp ((h.key_pos b (from' X S b j)).mp h')]

end Cert.Proof.Ref

end
-- ==== Proof.Ref.StartArg.lean ====
/-
  The reference's start scores, from the labels: those of the places where class 0 does not win, above the threshold.
-/
module

public import proofs.«01_k».proof.Proof.Ref.StartRead

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

/-- The class with the largest label. -/
theorem start_arg (b : Fin 8) (l : Fin 5000) : xWin (after hostOps0_1 V) (ix2 b l)
    = BitVec.ofNat 32 (pickFin (n := 21) (by omega) fun x => xLab V (ix3 b l x)).val := by
  unfold xWin
  after_reads_simp
  exact argmax_apply (by omega) (by omega) (xLab V) reducesTo_S8x5000x21_S8x5000_d2 b l

end Cert.Proof.Ref

end
-- ==== Proof.Ref.Decode.lean ====
/-
  The reference's boxes and start scores, from its arguments: the decoded boxes, and the labels of the places where class 0 does not win.
-/
module

public import proofs.«01_k».proof.Proof.Ref.Reads
public import proofs.«01_k».proof.Proof.Ref.ReadBox

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

variable (V : Valuation τ sig (Elt Ideal))

set_option maxHeartbeats 4000000 in
theorem decode_y1 (b : Fin 8) (l : Fin 5000) : (after hostOps0 V (Proc.devRef .tc main_v63) : S8x5000x4.Idx → EReal) (ix3 b l 0)
    = (decode (fun k => (V (Proc.devRef .tc main_arg0) : S8x5000x4.Idx → EReal) (ix3 b l k))
        (fun k => (V (Proc.devRef .tc main_arg2) : S5000x4.Idx → EReal) (ix2 l k))).y1 := by
  after_reads_simp
  pointwise
  after_reads_simp
  pointwise
  rfl

set_option maxHeartbeats 4000000 in
theorem decode_x1 (b : Fin 8) (l : Fin 5000) : (after hostOps0 V (Proc.devRef .tc main_v63) : S8x5000x4.Idx → EReal) (ix3 b l 1)
    = (decode (fun k => (V (Proc.devRef .tc main_arg0) : S8x5000x4.Idx → EReal) (ix3 b l k))
        (fun k => (V (Proc.devRef .tc main_arg2) : S5000x4.Idx → EReal) (ix2 l k))).x1 := by
  after_reads_simp
  pointwise
  after_reads_simp
  pointwise
  rfl

set_option maxHeartbeats 4000000 in
theorem decode_y2 (b : Fin 8) (l : Fin 5000) : (after hostOps0 V (Proc.devRef .tc main_v63) : S8x5000x4.Idx → EReal) (ix3 b l 2)
    = (decode (fun k => (V (Proc.devRef .tc main_arg0) : S8x5000x4.Idx → EReal) (ix3 b l k))
        (fun k => (V (Proc.devRef .tc main_arg2) : S5000x4.Idx → EReal) (ix2 l k))).y2 := by
  after_reads_simp
  pointwise
  after_reads_simp
  pointwise
  rfl

set_option maxHeartbeats 4000000 in
theorem decode_x2 (b : Fin 8) (l : Fin 5000) : (after hostOps0 V (Proc.devRef .tc main_v63) : S8x5000x4.Idx → EReal) (ix3 b l 3)
    = (decode (fun k => (V (Proc.devRef .tc main_arg0) : S8x5000x4.Idx → EReal) (ix3 b l k))
        (fun k => (V (Proc.devRef .tc main_arg2) : S5000x4.Idx → EReal) (ix2 l k))).x2 := by
  after_reads_simp
  pointwise
  after_reads_simp
  pointwise
  rfl

/-- The reference's boxes are decoded from the deltas and the priors. -/
theorem decode_box (b : Fin 8) (l : Fin 5000) : quadAt (after hostOps0 V (Proc.devRef .tc main_v63)) b l
    = decode (fun k => (V (Proc.devRef .tc main_arg0) : S8x5000x4.Idx → EReal) (ix3 b l k))
        (fun k => (V (Proc.devRef .tc main_arg2) : S5000x4.Idx → EReal) (ix2 l k)) :=
  Quad.ext (decode_y1 V b l) (decode_x1 V b l) (decode_y2 V b l) (decode_x2 V b l)

end Cert.Proof.Ref

end
-- ==== Proof.Ref.Entry.lean ====
/-
  What the reference's loop starts from, and with it the three results of the whole reference.
-/
module

public import proofs.«01_k».proof.Proof.Ref.Results
public import proofs.«01_k».proof.Proof.Ref.StartRead
public import proofs.«01_k».proof.Proof.Ref.StartArg
public import proofs.«01_k».proof.Proof.Ref.Decode
public import proofs.«01_k».proof.Proof.Ref.Frame

@[expose] public section

noncomputable section

namespace Cert.Proof.Ref

open Cert.ReferenceIdeal Cert.ReferenceIdeal.Gen
open Idealize.ShloMosaic Idealize.ShloMosaic.TcCoe Idealize.ShloMosaic.Tactic Idealize.ShloMosaic.StableHlo
open Cert.Proof.Greedy Cert.Proof.Picks Cert.Proof.Spec

/-- The start scores of a batch of labels. -/
def startOf (L : S8x5000x21.Idx → EReal) : S8x21x5000.Idx → EReal := fun i => begin (fun x => L (ix3 (i 0) (i 2) x)) (i 1)

/-- Class 0 wins where no label is above its own. -/
theorem win_zero (r : Fin 21 → EReal) :
    IntOp.cmpi .ne (BitVec.ofNat 32 (pickFin (n := 21) (by omega) r).val) 0#32 = BitVec.ofBool (decide ¬ ((pickFin (n := 21) (by omega) r).val = 0)) := by
  have h := (pickFin (n := 21) (by omega) r).isLt
  generalize (pickFin (n := 21) (by omega) r).val = p at h ⊢
  interval_cases p <;> rfl

theorem win_iff (r : Fin 21 → EReal) : (pickFin (n := 21) (by omega) r).val = 0 ↔ ∀ x, r x ≤ r 0 := by
  constructor
  · intro h x
    have e : pickFin (n := 21) (by omega) r = 0 := Fin.ext h
    exact (pickFin_max (by omega) r x).trans_eq (congrArg r e)
  · intro h
    have e := pickFin_first (n := 21) (by omega) r 0 (le_antisymm (pickFin_max (by omega) r 0) (h _))
    exact Nat.le_zero.mp e

variable (V : Valuation τ sig (Elt Ideal))

/-- The buffers after each stretch before the loop. -/
def E0 : Valuation τ sig (Elt Ideal) := after hostOps0 V
def E1 : Valuation τ sig (Elt Ideal) := after hostOps0_1 (E0 V)
def E2 : Valuation τ sig (Elt Ideal) := after hostOps0_2 (E1 V)
def E3 : Valuation τ sig (Elt Ideal) := after hostOps0_3 (E2 V)
def E4 : Valuation τ sig (Elt Ideal) := after hostOps0_4 (E3 V)
def E5 : Valuation τ sig (Elt Ideal) := after hostOps0_5 (E4 V)
def E6 : Valuation τ sig (Elt Ideal) := after hostOps0_6 (E5 V)

theorem pre_eq : afterL preI V = E6 V := rfl

theorem e0 {b : Ref sig .tc} (h : b ∉ hostOps0_W) : E0 V (Proc.devRef .tc b) = V (Proc.devRef .tc b) :=
  after_of_writes_sub hostOps0 _ (W := hostOps0_W) (StableHlo.forall_writes_sub_of_map rfl) h
theorem e1 {b : Ref sig .tc} (h : b ∉ hostOps0_1_W) : E1 V (Proc.devRef .tc b) = (E0 V) (Proc.devRef .tc b) :=
  after_of_writes_sub hostOps0_1 _ (W := hostOps0_1_W) (StableHlo.forall_writes_sub_of_map rfl) h
theorem e2 {b : Ref sig .tc} (h : b ∉ hostOps0_2_W) : E2 V (Proc.devRef .tc b) = (E1 V) (Proc.devRef .tc b) :=
  after_of_writes_sub hostOps0_2 _ (W := hostOps0_2_W) (StableHlo.forall_writes_sub_of_map rfl) h
theorem e3 {b : Ref sig .tc} (h : b ∉ hostOps0_3_W) : E3 V (Proc.devRef .tc b) = (E2 V) (Proc.devRef .tc b) :=
  after_of_writes_sub hostOps0_3 _ (W := hostOps0_3_W) (StableHlo.forall_writes_sub_of_map rfl) h
theorem e4 {b : Ref sig .tc} (h : b ∉ hostOps0_4_W) : E4 V (Proc.devRef .tc b) = (E3 V) (Proc.devRef .tc b) :=
  after_of_writes_sub hostOps0_4 _ (W := hostOps0_4_W) (StableHlo.forall_writes_sub_of_map rfl) h
theorem e5 {b : Ref sig .tc} (h : b ∉ hostOps0_5_W) : E5 V (Proc.devRef .tc b) = (E4 V) (Proc.devRef .tc b) :=
  after_of_writes_sub hostOps0_5 _ (W := hostOps0_5_W) (StableHlo.forall_writes_sub_of_map rfl) h
theorem e6 {b : Ref sig .tc} (h : b ∉ hostOps0_6_W) : E6 V (Proc.devRef .tc b) = (E5 V) (Proc.devRef .tc b) :=
  after_of_writes_sub hostOps0_6 _ (W := hostOps0_6_W) (StableHlo.forall_writes_sub_of_map rfl) h

theorem xLab_1 : xLab (E1 V) = xLab V := (e1 V (b := main_arg1) (by decide +kernel)).trans (e0 V (b := main_arg1) (by decide +kernel))
theorem xLab_0 : xLab (E0 V) = xLab V := e0 V (b := main_arg1) (by decide +kernel)
theorem xDec_6 : xDec (E6 V) = xDec (E0 V) := (e6 V (b := main_v63) (by decide +kernel)).trans ((e5 V (b := main_v63) (by decide +kernel)).trans ((e4 V (b := main_v63) (by decide +kernel)).trans ((e3 V (b := main_v63) (by decide +kernel)).trans ((e2 V (b := main_v63) (by decide +kernel)).trans (e1 V (b := main_v63) (by decide +kernel))))))
theorem xDec_5 : xDec (E5 V) = xDec (E0 V) := (e5 V (b := main_v63) (by decide +kernel)).trans ((e4 V (b := main_v63) (by decide +kernel)).trans ((e3 V (b := main_v63) (by decide +kernel)).trans ((e2 V (b := main_v63) (by decide +kernel)).trans (e1 V (b := main_v63) (by decide +kernel)))))
theorem xFlip_6 : xFlip (E6 V) = xFlip (E4 V) := (e6 V (b := main_v69) (by decide +kernel)).trans (e5 V (b := main_v69) (by decide +kernel))

/-- The decoded boxes and the start scores, from the arguments. -/
abbrev boxesOf : S8x5000x4.Idx → EReal := xDec (E0 V)
abbrev scoresOf : S8x21x5000.Idx → EReal := startOf (xLab V)

open Classical in
/-- The masked labels. -/
theorem mask_eq (b : Fin 8) (c : Fin 21) (l : Fin 5000) :
    xMask (E3 V) (ix3 b l c) = if ∀ x, xLab V (ix3 b l x) ≤ xLab V (ix3 b l 0) then 0 else xLab V (ix3 b l c) := by
  have e := masked_read (E1 V) b c l
  have e1 : xWin (E1 V) (ix2 b l) = _ := start_arg (E0 V) b l
  rw [e1, xLab_0, xLab_1, win_zero, select_if] at e
  refine Eq.trans e ?_
  have hw := win_iff fun x => xLab V (ix3 b l x)
  by_cases h : ∀ x, xLab V (ix3 b l x) ≤ xLab V (ix3 b l 0)
  · rw [if_neg (not_not.mpr (hw.mpr h)), if_pos h]
  · rw [if_pos (fun h' => h (hw.mp h')), if_neg h]

theorem flip_eq (b : Fin 8) (c : Fin 21) (l : Fin 5000) (h : ⊥ < scoresOf V (ix3 b c l)) :
    xFlip (E6 V) (ix3 b c l) = scoresOf V (ix3 b c l) := by
  classical
  rw [xFlip_6]
  refine (flip_read (E3 V) b c l).trans ?_
  rw [mask_eq]
  change ⊥ < begin (fun x => xLab V (ix3 b l x)) c at h
  show _ = begin (fun x => xLab V (ix3 b l x)) c
  unfold begin at h ⊢
  by_cases hh : Ideal.ofBits .f32 0x3F000000#32 < (if ∀ x, xLab V (ix3 b l x) ≤ xLab V (ix3 b l 0) then 0 else xLab V (ix3 b l c))
  · rw [if_pos hh]
    by_cases hw : ∀ x, xLab V (ix3 b l x) ≤ xLab V (ix3 b l 0)
    · rw [if_pos hw] at hh
      exact absurd (hh.trans lit_half_pos) (lt_irrefl _)
    · rw [if_neg hw]
  · rw [if_neg hh] at h
    exact absurd h (lt_irrefl _)

theorem start_eq (b : Fin 8) (c : Fin 21) (l : Fin 5000) : xStart (E5 V) (ix3 b c l) = scoresOf V (ix3 b c l) := by
  classical
  refine (start_read (E3 V) b c l).trans ?_
  rw [mask_eq, select_if]
  show _ = begin (fun x => xLab V (ix3 b l x)) c
  unfold begin
  by_cases hh : Ideal.ofBits .f32 0x3F000000#32 < (if ∀ x, xLab V (ix3 b l x) ≤ xLab V (ix3 b l 0) then 0 else xLab V (ix3 b l c))
  · rw [if_pos hh, if_pos hh]
    by_cases hw : ∀ x, xLab V (ix3 b l x) ≤ xLab V (ix3 b l 0)
    · rw [if_pos hw] at hh
      exact absurd (hh.trans lit_half_pos) (lt_irrefl _)
    · rw [if_neg hw]
  · rw [if_neg hh, if_neg hh]

/-- A start score is above zero or absent. -/
theorem begin_pos (r : Fin 21 → EReal) (c : Fin 21) : begin r c = ⊥ ∨ 0 < begin r c := by
  classical
  unfold begin
  by_cases hh : Ideal.ofBits .f32 0x3F000000#32 < (if ∀ x, r x ≤ r 0 then 0 else r c)
  · rw [if_pos hh]
    by_cases hw : ∀ x, r x ≤ r 0
    · rw [if_pos hw] at hh
      exact absurd (hh.trans lit_half_pos) (lt_irrefl _)
    · rw [if_neg hw] at hh
      exact .inr (lit_half_pos.trans hh)
  · rw [if_neg hh]; exact .inl rfl

/-- The loop's buffers at its entry. -/
theorem enter_box : xBox (E6 V) = xDec (E5 V) := by
  unfold xBox E6
  after_reads_simp
  rfl
theorem enter_live : xLive (E6 V) = xStart (E5 V) := by
  unfold xLive E6
  after_reads_simp
  rfl

theorem entry_holds : RefHolds (boxesOf V) (scoresOf V) 0 (E6 V) where
  box := (enter_box V).trans (xDec_5 V)
  live := fun b c => by
    rw [enter_live]
    refine Eq.trans (congrArg row (funext fun l => start_eq V b c l)) ?_
    exact (refImage_score (boxesOf V) (scoresOf V) b c).symm
  pick := fun σ b c hσ => absurd hσ (Nat.not_lt_zero _)

variable (m : (ℓ : Loc nD τ sig) → Buf (Elt Ideal) ℓ) (c : Dev nD)

/-- The arguments, as buffers. -/
abbrev args : Valuation τ sig (Elt Ideal) := fun r => m ⟨c, r⟩

theorem entry_eq : entryContents preI m c = E6 (args m c) := rfl

/-- What the loop leaves. -/
theorem post_holds : PostHolds (boxesOf (args m c)) (scoresOf (args m c)) (after condOps (atK m 200 c)) := by
  have keep : ∀ {b : Ref sig .tc}, b ∉ condOps_W → after condOps (atK m 200 c) (Proc.devRef .tc b) = atK m 200 c (Proc.devRef .tc b) :=
    fun hb => after_of_writes_sub _ _ condOps_writes hb
  have h := atK_holds (boxesOf (args m c)) (scoresOf (args m c)) m c (by rw [entry_eq]; exact entry_holds (args m c)) 200 (le_refl _)
  have e1 : xDec (after condOps (atK m 200 c)) = xDec (E6 (args m c)) :=
    (keep (b := main_v63) (by decide +kernel)).trans (atK_keep m c (b := main_v63) (by decide +kernel) (by decide +kernel) 200)
  have e2 : xFlip (after condOps (atK m 200 c)) = xFlip (E6 (args m c)) :=
    (keep (b := main_v69) (by decide +kernel)).trans (atK_keep m c (b := main_v69) (by decide +kernel) (by decide +kernel) 200)
  have e3 : xPick (after condOps (atK m 200 c)) = xPick (atK m 200 c) := keep (b := main_v74_3) (by decide +kernel)
  refine ⟨e1.trans (xDec_6 _), fun b k l hl => ?_, fun σ b k => ?_, fun b k l => begin_pos _ _⟩
  · rw [e2]; exact flip_eq _ b k l hl
  · rw [e3]; exact h.pick σ b k σ.isLt

/-- The image of the arguments. -/
abbrev argImage (b : Fin 8) : Image :=
  whole (fun b l k => (m ((c : Thread nD τ).loc main_arg0) : S8x5000x4.Idx → EReal) (ix3 b l k))
    (fun b l x => (m ((c : Thread nD τ).loc main_arg1) : S8x5000x21.Idx → EReal) (ix3 b l x))
    (fun l k => (m ((c : Thread nD τ).loc main_arg2) : S5000x4.Idx → EReal) (ix2 l k)) b

/-- It is the one the reference works on. -/
theorem refImage_args (b : Fin 8) : refImage (boxesOf (args m c)) (scoresOf (args m c)) b = argImage m c b := by
  refine (congrArg (fun f => Image.mk f _) (funext fun i => ?_))
  by_cases h : i < 5000
  · rw [dif_pos h, dif_pos h]
    exact decode_box (args m c) b ⟨i, h⟩
  · rw [dif_neg h, dif_neg h]

/-- The reference's results. -/
theorem ref_res1 (b : Fin 8) (j : Fin 200) (k : Fin 4) :
    xRes1 (finalContents condOps preI bodyI postI 200 m c) (ix3 b j k) = corner ((argImage m c b).outBox j.val) k :=
  refImage_args m c b ▸ (post_holds m c).res1 b j k
theorem ref_res2 (b : Fin 8) (j : Fin 200) :
    xRes2 (finalContents condOps preI bodyI postI 200 m c) (ix2 b j) = (argImage m c b).outScore j.val :=
  refImage_args m c b ▸ (post_holds m c).res2 b j
theorem ref_res3 (b : Fin 8) (j : Fin 200) :
    xRes3 (finalContents condOps preI bodyI postI 200 m c) (ix2 b j) = (argImage m c b).outClass j.val :=
  refImage_args m c b ▸ (post_holds m c).res3 b j

end Cert.Proof.Ref

end
-- ==== Proof.Equal.lean ====
/-
  The equation: from arguments that agree, the kernel and the reference end with the same three results, those of the
  batch's images.
-/
module

public import proofs.«01_k».proof.Defs
public import proofs.«01_k».proof.Proof.KI.Images
public import proofs.«01_k».proof.Proof.Ref.Entry

@[expose] public section

set_option maxRecDepth 16384

noncomputable section

namespace Cert.Proof

open Idealize.ShloMosaic Idealize.ShloMosaic.TcCoe Idealize.ShloMosaic.StableHlo Idealize.SL.Sem
open Cert.Proof.Spec

/-- The three results of a batch's images. -/
def boxesOut (I : Fin 8 → Image) : KernelIdeal.S8x200x4.Idx → EReal := fun i => corner ((I (i 0)).outBox (i 1).val) (i 2)
def scoresOut (I : Fin 8 → Image) : KernelIdeal.S8x200.Idx → EReal := fun i => (I (i 0)).outScore (i 1).val
def classesOut (I : Fin 8 → Image) : KernelIdeal.S8x200.Idx → EReal := fun i => (I (i 0)).outClass (i 1).val

theorem eq_boxes {f : KernelIdeal.S8x200x4.Idx → EReal} {I : Fin 8 → Image}
    (h : ∀ b j k, f (ix3 b j k) = corner ((I b).outBox j.val) k) : f = boxesOut I := funext fun i => by
  have e : i = ix3 (i 0) (i 1) (i 2) := funext fun a => by fin_cases a <;> rfl
  exact (congrArg f e).trans (h (i 0) (i 1) (i 2))
theorem eq_pairs {f : KernelIdeal.S8x200.Idx → EReal} {g : Fin 8 → ℕ → EReal}
    (h : ∀ (b : Fin 8) (j : Fin 200), f (ix2 b j) = g b j.val) : f = fun i => g (i 0) (i 1).val := funext fun i => by
  have e : i = ix2 (i 0) (i 1) := funext fun a => by fin_cases a <;> rfl
  exact (congrArg f e).trans (h (i 0) (i 1))

section
open Cert.KernelIdeal Cert.KernelIdeal.Gen

/-- What the kernel ends with. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18) = boxesOut (KI.argImage m c)
      ∧ r.2.mem ((c.tc : Thread nD τ).loc main_v12) = scoresOut (KI.argImage m c)
      ∧ r.2.mem ((c.tc : Thread nD τ).loc main_v13) = classesOut (KI.argImage m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have rest := (h.1 c).2
    refine ⟨?_, ?_, ?_, KI.frame_of m (KI.dats m) r c h.1⟩
    · exact (rest main_v18 (Pipeline.mem_restRefs_of main_v18 (by decide) (by decide))).trans (eq_boxes (KI.ker_box m c))
    · exact (rest main_v12 (Pipeline.mem_restRefs_of main_v12 (by decide) (by decide))).trans (eq_pairs (KI.ker_score m c))
    · exact (rest main_v13 (Pipeline.mem_restRefs_of main_v13 (by decide) (by decide))).trans (eq_pairs (KI.ker_class m c)))
    (KI.run_main m ρ)

end

section
open Cert.ReferenceIdeal Cert.ReferenceIdeal.Gen

/-- What the reference ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v99) = boxesOut (Ref.argImage m c)
      ∧ r.2.mem ((c.tc : Thread nD τ).loc main_v101) = scoresOut (Ref.argImage m c)
      ∧ r.2.mem ((c.tc : Thread nD τ).loc main_v103) = classesOut (Ref.argImage m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_v99 rfl).trans (eq_boxes (Ref.ref_res1 m c)),
     (h c main_v101 rfl).trans (eq_pairs (Ref.ref_res2 m c)),
     (h c main_v103 rfl).trans (eq_pairs (Ref.ref_res3 m c)),
     (h c main_arg0 rfl).trans (Ref.final_args m c (by simp)), (h c main_arg1 rfl).trans (Ref.final_args m c (by simp)),
     (h c main_arg2 rfl).trans (Ref.final_args m c (by simp))⟩) (Ref.run_fold m ρ)

end

/-- Equal arguments give equal images. -/
theorem whole_congr {D D' : Fin 8 → Fin 5000 → Fin 4 → EReal} {L L' : Fin 8 → Fin 5000 → Fin 21 → EReal} {P P' : Fin 5000 → Fin 4 → EReal} (b : Fin 8)
    (hD : ∀ b l k, D b l k = D' b l k) (hL : ∀ b l x, L b l x = L' b l x) (hP : ∀ l k, P l k = P' l k) : whole D L P b = whole D' L' P' b := by
  rw [show D = D' from funext fun b => funext fun l => funext (hD b l), show L = L' from funext fun b => funext fun l => funext (hL b l),
    show P = P' from funext fun l => funext (hP l)]

/-- The value claim: the two agree on all three results. -/
theorem equal_claim [hKernelIdeal : Cert.KernelIdeal.Facts] [hReferenceIdeal : Cert.ReferenceIdeal.Facts] :
    Cert.algebraic_KernelIdeal_ReferenceIdeal := by
  intro m g m' g' _ hm
  have e : ∀ c, Ref.argImage m' c = KI.argImage m c := fun c => by
    obtain ⟨h0, h1, h2⟩ := hm c
    funext b
    exact whole_congr b (fun b l k => congrFun h0 (ix3 b l k)) (fun b l x => congrFun h1 (ix3 b l x)) (fun l k => congrFun h2 (ix2 l k))
  refine ⟨fun c => boxesOut (KI.argImage m c), fun c => scoresOut (KI.argImage m c), fun c => classesOut (KI.argImage m c), kernel_run m g, ?_⟩
  refine (θ_run _ _ _).mono (fun r h c => ?_) (reference_run m' g')
  obtain ⟨h0, h1, h2, h3⟩ := h c
  rw [e c] at h0 h1 h2
  exact ⟨h0, h1, h2, h3⟩

end Cert.Proof

end
-- ==== Proof.lean ====
/-
  The certificate: each claim, from the files that prove it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.K.Frame
public import proofs.«01_k».proof.Proof.KI.Frame
public import proofs.«01_k».proof.Proof.Ref.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => K.frame_claim m ρ, fun m ρ _ => KI.frame_claim m ρ, fun m ρ _ => Ref.frame_claim m ρ, trivial,
  equal_claim⟩

end Cert.Proof

end
